-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel25 [hPre_on_chip25 : Cert.Pre_on_chip25.Facts] (m : (ℓ : Loc Cert.Kernel25.nD Cert.Kernel25.τ Cert.Kernel25.sig) → Buf (Elt Bits) ℓ) : Prop :=
  ∀ c : Dev Cert.Kernel25.nD,
    (Cert.Pre_on_chip25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4))).1 = (fun _ => 1#1)
    ∧ (Cert.Pre_on_chip25.fn (F := Bits) (m ((c.tc : Thread Cert.Kernel25.nD Cert.Kernel25.τ).loc Cert.Kernel25.main_arg0)) (m ((c.tc : Thread Cert.Kernel25.nD Cert.Kernel25.τ).loc Cert.Kernel25.main_arg1)) (m ((c.tc : Thread Cert.Kernel25.nD Cert.Kernel25.τ).loc Cert.Kernel25.main_arg2)) (m ((c.tc : Thread Cert.Kernel25.nD Cert.Kernel25.τ).loc Cert.Kernel25.main_arg3)) (m ((c.tc : Thread Cert.Kernel25.nD Cert.Kernel25.τ).loc Cert.Kernel25.main_arg4))).2 = (fun _ => 1#1)

def Pre_Kernel25Ideal [hPre_on_chip25 : Cert.Pre_on_chip25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_on_chip25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).1 = (fun _ => 1#1)
    ∧ (Cert.Pre_on_chip25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))).2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_on_chip25 [hPre_on_chip25 : Cert.Pre_on_chip25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_on_chip25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).1 = (fun _ => 1#1)
    ∧ (Cert.Pre_on_chip25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))).2 = (fun _ => 1#1)

def Pre_Kernel24 [hPre_on_core : Cert.Pre_on_core.Facts] (m : (ℓ : Loc Cert.Kernel24.nD Cert.Kernel24.τ Cert.Kernel24.sig) → Buf (Elt Bits) ℓ) : Prop :=
  ∀ c : Dev Cert.Kernel24.nD,
    (Cert.Pre_on_core.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2))).1 = (fun _ => 1#1)
    ∧ (Cert.Pre_on_core.fn (F := Bits) (m ((c.tc : Thread Cert.Kernel24.nD Cert.Kernel24.τ).loc Cert.Kernel24.main_arg0)) (m ((c.tc : Thread Cert.Kernel24.nD Cert.Kernel24.τ).loc Cert.Kernel24.main_arg1)) (m ((c.tc : Thread Cert.Kernel24.nD Cert.Kernel24.τ).loc Cert.Kernel24.main_arg2))).2 = (fun _ => 1#1)

def Pre_Kernel24Ideal [hPre_on_core : Cert.Pre_on_core.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_on_core.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))).1 = (fun _ => 1#1)
    ∧ (Cert.Pre_on_core.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2))).2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_on_core [hPre_on_core : Cert.Pre_on_core.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_on_core.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))).1 = (fun _ => 1#1)
    ∧ (Cert.Pre_on_core.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2))).2 = (fun _ => 1#1)

def Pre_Kernel22 [hPre_on_chip : Cert.Pre_on_chip.Facts] (m : (ℓ : Loc Cert.Kernel22.nD Cert.Kernel22.τ Cert.Kernel22.sig) → Buf (Elt Bits) ℓ) : Prop :=
  ∀ c : Dev Cert.Kernel22.nD,
    (Cert.Pre_on_chip.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8)) (m ((c.tc : Thread Cert.Kernel22.nD Cert.Kernel22.τ).loc Cert.Kernel22.main_arg9)) (m ((c.tc : Thread Cert.Kernel22.nD Cert.Kernel22.τ).loc Cert.Kernel22.main_arg10)) (m ((c.tc : Thread Cert.Kernel22.nD Cert.Kernel22.τ).loc Cert.Kernel22.main_arg11))).1 = (fun _ => 1#1)
    ∧ (Cert.Pre_on_chip.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2)) (m ((c.tc : Thread Cert.Kernel22.nD Cert.Kernel22.τ).loc Cert.Kernel22.main_arg3)) (m ((c.tc : Thread Cert.Kernel22.nD Cert.Kernel22.τ).loc Cert.Kernel22.main_arg4)) (m ((c.tc : Thread Cert.Kernel22.nD Cert.Kernel22.τ).loc Cert.Kernel22.main_arg5)) (m ((c.tc : Thread Cert.Kernel22.nD Cert.Kernel22.τ).loc Cert.Kernel22.main_arg6)) (m ((c.tc : Thread Cert.Kernel22.nD Cert.Kernel22.τ).loc Cert.Kernel22.main_arg7)) (m ((c.tc : Thread Cert.Kernel22.nD Cert.Kernel22.τ).loc Cert.Kernel22.main_arg8)) (m ((c.tc : Thread Cert.Kernel22.nD Cert.Kernel22.τ).loc Cert.Kernel22.main_arg9)) (m ((c.tc : Thread Cert.Kernel22.nD Cert.Kernel22.τ).loc Cert.Kernel22.main_arg10)) (m ((c.tc : Thread Cert.Kernel22.nD Cert.Kernel22.τ).loc Cert.Kernel22.main_arg11))).2 = (fun _ => 1#1)

def Pre_Kernel22Ideal [hPre_on_chip : Cert.Pre_on_chip.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_on_chip.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8)) (m ((c.tc : Thread Cert.Kernel22Ideal.nD Cert.Kernel22Ideal.τ).loc Cert.Kernel22Ideal.main_arg9)) (m ((c.tc : Thread Cert.Kernel22Ideal.nD Cert.Kernel22Ideal.τ).loc Cert.Kernel22Ideal.main_arg10)) (m ((c.tc : Thread Cert.Kernel22Ideal.nD Cert.Kernel22Ideal.τ).loc Cert.Kernel22Ideal.main_arg11))).1 = (fun _ => 1#1)
    ∧ (Cert.Pre_on_chip.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5)) (m ((c.tc : Thread Cert.Kernel22Ideal.nD Cert.Kernel22Ideal.τ).loc Cert.Kernel22Ideal.main_arg6)) (m ((c.tc : Thread Cert.Kernel22Ideal.nD Cert.Kernel22Ideal.τ).loc Cert.Kernel22Ideal.main_arg7)) (m ((c.tc : Thread Cert.Kernel22Ideal.nD Cert.Kernel22Ideal.τ).loc Cert.Kernel22Ideal.main_arg8)) (m ((c.tc : Thread Cert.Kernel22Ideal.nD Cert.Kernel22Ideal.τ).loc Cert.Kernel22Ideal.main_arg9)) (m ((c.tc : Thread Cert.Kernel22Ideal.nD Cert.Kernel22Ideal.τ).loc Cert.Kernel22Ideal.main_arg10)) (m ((c.tc : Thread Cert.Kernel22Ideal.nD Cert.Kernel22Ideal.τ).loc Cert.Kernel22Ideal.main_arg11))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_on_chip [hPre_on_chip : Cert.Pre_on_chip.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_on_chip.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8)) (m ((c.tc : Thread Cert.Reference22Ideal.nD Cert.Reference22Ideal.τ).loc Cert.Reference22Ideal.main_arg9)) (m ((c.tc : Thread Cert.Reference22Ideal.nD Cert.Reference22Ideal.τ).loc Cert.Reference22Ideal.main_arg10)) (m ((c.tc : Thread Cert.Reference22Ideal.nD Cert.Reference22Ideal.τ).loc Cert.Reference22Ideal.main_arg11))).1 = (fun _ => 1#1)
    ∧ (Cert.Pre_on_chip.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5)) (m ((c.tc : Thread Cert.Reference22Ideal.nD Cert.Reference22Ideal.τ).loc Cert.Reference22Ideal.main_arg6)) (m ((c.tc : Thread Cert.Reference22Ideal.nD Cert.Reference22Ideal.τ).loc Cert.Reference22Ideal.main_arg7)) (m ((c.tc : Thread Cert.Reference22Ideal.nD Cert.Reference22Ideal.τ).loc Cert.Reference22Ideal.main_arg8)) (m ((c.tc : Thread Cert.Reference22Ideal.nD Cert.Reference22Ideal.τ).loc Cert.Reference22Ideal.main_arg9)) (m ((c.tc : Thread Cert.Reference22Ideal.nD Cert.Reference22Ideal.τ).loc Cert.Reference22Ideal.main_arg10)) (m ((c.tc : Thread Cert.Reference22Ideal.nD Cert.Reference22Ideal.τ).loc Cert.Reference22Ideal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Kernel25 [hKernel25 : Cert.Kernel25.Facts] [hPre_on_chip25 : Cert.Pre_on_chip25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] [hPre_on_chip25 : Cert.Pre_on_chip25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_on_chip25 [hReference25Ideal : Cert.Reference25Ideal.Facts] [hPre_on_chip25 : Cert.Pre_on_chip25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_on_chip25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel24 [hKernel24 : Cert.Kernel24.Facts] [hPre_on_core : Cert.Pre_on_core.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] [hPre_on_core : Cert.Pre_on_core.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Reference24Ideal_pre_on_core [hReference24Ideal : Cert.Reference24Ideal.Facts] [hPre_on_core : Cert.Pre_on_core.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_on_core m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel22 [hKernel22 : Cert.Kernel22.Facts] [hPre_on_chip : Cert.Pre_on_chip.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11))
      ∧ r.2.sem = fun _ => 0)

def quiescent_Kernel22Ideal [hKernel22Ideal : Cert.Kernel22Ideal.Facts] [hPre_on_chip : Cert.Pre_on_chip.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11))
      ∧ r.2.sem = fun _ => 0)

def quiescent_Reference22Ideal_pre_on_chip [hReference22Ideal : Cert.Reference22Ideal.Facts] [hPre_on_chip : Cert.Pre_on_chip.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_on_chip m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v146) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v150) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v29) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v1) = v1 c
          ∧ r.2.mem ((c.tc : Thread Cert.Reference16Ideal.nD Cert.Reference16Ideal.τ).loc Cert.Reference16Ideal.main_v14) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v59) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v15) = v0 c
          ∧ r.2.mem ((c.tc : Thread Cert.Reference20Ideal.nD Cert.Reference20Ideal.τ).loc Cert.Reference20Ideal.main_v14) = v1 c
          ∧ r.2.mem ((c.tc : Thread Cert.Reference20Ideal.nD Cert.Reference20Ideal.τ).loc Cert.Reference20Ideal.main_v16) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel26_Kernel26Ideal : Prop :=
  True

def preserves_Kernel25_Kernel25Ideal : Prop :=
  True

def algebraic_Kernel25Ideal_Reference25Ideal [hKernel25Ideal : Cert.Kernel25Ideal.Facts] [hReference25Ideal : Cert.Reference25Ideal.Facts] [hPre_on_chip25 : Cert.Pre_on_chip25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v16) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel24_Kernel24Ideal : Prop :=
  True

def algebraic_Kernel24Ideal_Reference24Ideal [hKernel24Ideal : Cert.Kernel24Ideal.Facts] [hReference24Ideal : Cert.Reference24Ideal.Facts] [hPre_on_core : Cert.Pre_on_core.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v11) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel22_Kernel22Ideal : Prop :=
  True

def algebraic_Kernel22Ideal_Reference22Ideal [hKernel22Ideal : Cert.Kernel22Ideal.Facts] [hReference22Ideal : Cert.Reference22Ideal.Facts] [hPre_on_chip : Cert.Pre_on_chip.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v33) = v0 c
          ∧ r.2.mem ((c.tc : Thread Cert.Reference22Ideal.nD Cert.Reference22Ideal.τ).loc Cert.Reference22Ideal.main_v57) = v1 c
          ∧ r.2.mem ((c.tc : Thread Cert.Reference22Ideal.nD Cert.Reference22Ideal.τ).loc Cert.Reference22Ideal.main_v38) = v2 c
          ∧ r.2.mem ((c.tc : Thread Cert.Reference22Ideal.nD Cert.Reference22Ideal.τ).loc Cert.Reference22Ideal.main_v44) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel26 : Cert.Kernel26.Facts) (hKernel26Ideal : Cert.Kernel26Ideal.Facts) (hKernel25 : Cert.Kernel25.Facts) (hKernel25Ideal : Cert.Kernel25Ideal.Facts) (hReference25Ideal : Cert.Reference25Ideal.Facts) (hKernel24 : Cert.Kernel24.Facts) (hKernel24Ideal : Cert.Kernel24Ideal.Facts) (hReference24Ideal : Cert.Reference24Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite12 : Cert.Pre_finite12.Facts) (hPre_on_chip25 : Cert.Pre_on_chip25.Facts) (hPre_on_core : Cert.Pre_on_core.Facts) (hPre_on_chip : Cert.Pre_on_chip.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel26 (hKernel26 := hKernel26)
    ∧ quiescent_Kernel26Ideal (hKernel26Ideal := hKernel26Ideal)
    ∧ quiescent_Kernel25 (hKernel25 := hKernel25) (hPre_on_chip25 := hPre_on_chip25)
    ∧ quiescent_Kernel25Ideal (hKernel25Ideal := hKernel25Ideal) (hPre_on_chip25 := hPre_on_chip25)
    ∧ quiescent_Reference25Ideal (hReference25Ideal := hReference25Ideal)
    ∧ quiescent_Reference25Ideal_pre_on_chip25 (hReference25Ideal := hReference25Ideal) (hPre_on_chip25 := hPre_on_chip25)
    ∧ quiescent_Kernel24 (hKernel24 := hKernel24) (hPre_on_core := hPre_on_core)
    ∧ quiescent_Kernel24Ideal (hKernel24Ideal := hKernel24Ideal) (hPre_on_core := hPre_on_core)
    ∧ quiescent_Reference24Ideal (hReference24Ideal := hReference24Ideal)
    ∧ quiescent_Reference24Ideal_pre_on_core (hReference24Ideal := hReference24Ideal) (hPre_on_core := hPre_on_core)
    ∧ quiescent_Kernel22 (hKernel22 := hKernel22) (hPre_on_chip := hPre_on_chip)
    ∧ quiescent_Kernel22Ideal (hKernel22Ideal := hKernel22Ideal) (hPre_on_chip := hPre_on_chip)
    ∧ quiescent_Reference22Ideal (hReference22Ideal := hReference22Ideal)
    ∧ quiescent_Reference22Ideal_pre_on_chip (hReference22Ideal := hReference22Ideal) (hPre_on_chip := hPre_on_chip)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel26_Kernel26Ideal
    ∧ preserves_Kernel25_Kernel25Ideal
    ∧ algebraic_Kernel25Ideal_Reference25Ideal (hKernel25Ideal := hKernel25Ideal) (hReference25Ideal := hReference25Ideal) (hPre_on_chip25 := hPre_on_chip25)
    ∧ preserves_Kernel24_Kernel24Ideal
    ∧ algebraic_Kernel24Ideal_Reference24Ideal (hKernel24Ideal := hKernel24Ideal) (hReference24Ideal := hReference24Ideal) (hPre_on_core := hPre_on_core)
    ∧ preserves_Kernel22_Kernel22Ideal
    ∧ algebraic_Kernel22Ideal_Reference22Ideal (hKernel22Ideal := hKernel22Ideal) (hReference22Ideal := hReference22Ideal) (hPre_on_chip := hPre_on_chip)
-- ==== Pre_finite.lean ====
abbrev S2048x7680 : Shape := ⟨2, ![2048, 7680]⟩
abbrev S2048x1024 : Shape := ⟨2, ![2048, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S2048x7680 : S_.BroadcastsInDim S2048x7680 (![] : Fin 0 → Fin S2048x7680.rank)
  bcast_S_S2048x1024 : S_.BroadcastsInDim S2048x1024 (![] : Fin 0 → Fin S2048x1024.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S2048x7680 .f32) (main_arg1 : FVec F S2048x1024 .f32) (main_arg2 : FVec F S1024 .f32) (main_arg3 : FVec F S1024 .f32) (main_arg4 : FVec F S8x128x128 .f32) (main_arg5 : FVec F S8x128 .f32) : IVec S2048x7680 1 × IVec S2048x1024 1 × IVec S1024 1 × IVec S1024 1 × IVec S8x128x128 1 × IVec S8x128 1 :=
  let main_v0 : FVec F S2048x7680 .f32 := Host.absf main_arg0
  let main_cst : FVec F S_ .f32 := constant S_ .f32 0x7F800000#32
  let main_v1 : FVec F S2048x7680 .f32 := broadcastInDim S2048x7680 ![] bcast_S_S2048x7680 main_cst
  let main_v2 : IVec S2048x7680 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Pre_finite12.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048 .f32) (main_arg2 : FVec F S2048x2048 .f32) (main_arg3 : FVec F S2048x2048 .f32) : IVec S2048x2048 1 × IVec S2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_finite2.lean ====
abbrev S2048x2048 : Shape := ⟨2, ![2048, 2048]⟩
abbrev S5632x2048 : Shape := ⟨2, ![5632, 2048]⟩
abbrev S2x2048x5632 : Shape := ⟨3, ![2, 2048, 5632]⟩
abbrev S_ : Shape := ⟨0, ![]⟩

class Facts : Prop where
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2x2048x5632 : S_.BroadcastsInDim S2x2048x5632 (![] : Fin 0 → Fin S2x2048x5632.rank)

variable [Facts]

def fn {F : FTy → Type} [FloatOps F] (main_arg0 : FVec F S2048x2048 .f32) (main_arg1 : FVec F S5632x2048 .f32) (main_arg2 : FVec F S2x2048x5632 .f32) : IVec S2048x2048 1 × IVec S5632x2048 1 × IVec S2x2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2x2048x5632 .f32 := Host.absf main_arg2
  let main_cst_1 : FVec F S_ .f32 := constant S_ .f32 0x7F800000#32
  let main_v7 : FVec F S2x2048x5632 .f32 := broadcastInDim S2x2048x5632 ![] bcast_S_S2x2048x5632 main_cst_1
  let main_v8 : IVec S2x2048x5632 1 := cmpf .olt main_v6 main_v7
  (main_v2, main_v5, main_v8)
-- ==== Pre_on_chip.lean ====
abbrev S1 : Shape := ⟨1, ![1]⟩
abbrev S2x704x2048 : Shape := ⟨3, ![2, 704, 2048]⟩
abbrev S1x4x704x2048 : Shape := ⟨4, ![1, 4, 704, 2048]⟩
abbrev S1x1x704x2048 : Shape := ⟨4, ![1, 1, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x704x2048 .f32) (main_arg2 : FVec F S2x704x2048 .f32) (main_arg3 : FVec F S2x704x2048 .f32) (main_arg4 : FVec F S1x4x704x2048 .bf16) (main_arg5 : FVec F S1x1x704x2048 .bf16) (main_arg6 : FVec F S1x1x704x2048 .bf16) (main_arg7 : FVec F S1x1x704x2048 .bf16) (main_arg8 : FVec F S1x4x704x2048 .bf16) (main_arg9 : FVec F S1x1x704x2048 .bf16) (main_arg10 : FVec F S1x1x704x2048 .bf16) (main_arg11 : FVec F S1x1x704x2048 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_on_chip25.lean ====
abbrev S1 : Shape := ⟨1, ![1]⟩
abbrev S1x4x256x1024 : Shape := ⟨4, ![1, 4, 256, 1024]⟩
abbrev S1x1x256x1024 : Shape := ⟨4, ![1, 1, 256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x4x256x1024 .bf16) (main_arg2 : FVec F S1x1x256x1024 .bf16) (main_arg3 : FVec F S1x1x256x1024 .bf16) (main_arg4 : FVec F S1x1x256x1024 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  (main_v1, main_v3)
-- ==== Pre_on_core.lean ====
abbrev S1 : Shape := ⟨1, ![1]⟩
abbrev S1x4x2x704x2048 : Shape := ⟨5, ![1, 4, 2, 704, 2048]⟩
abbrev S1x4x1x704x2048 : Shape := ⟨5, ![1, 4, 1, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x4x2x704x2048 .bf16) (main_arg2 : FVec F S1x4x1x704x2048 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  (main_v1, main_v3)
-- ==== Kernel.lean ====
abbrev S2048x7680 : Shape := ⟨2, ![2048, 7680]⟩
abbrev S2048x1024 : Shape := ⟨2, ![2048, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S8x1024 : Shape := ⟨2, ![8, 1024]⟩
abbrev S8x8x128 : Shape := ⟨3, ![8, 8, 128]⟩
abbrev S128x512 : Shape := ⟨2, ![128, 512]⟩
abbrev S1x512 : Shape := ⟨2, ![1, 512]⟩
abbrev S4x128x128 : Shape := ⟨3, ![4, 128, 128]⟩
abbrev S8x512 : Shape := ⟨2, ![8, 512]⟩
abbrev S4x8x128 : Shape := ⟨3, ![4, 8, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1x8x128 : Shape := ⟨3, ![1, 8, 128]⟩

abbrev nBuf : Space → Nat
  | .hbm => 15
  | .vmem => 26
  | .smem => 0
  | _ => 0

abbrev bufTy : (tb : Table) → Fin (tcTables nBuf tb) → BufTy
  | .hbm, ⟨0, _⟩ => ⟨S2048x7680, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S128x8, .f32⟩
  | .hbm, ⟨9, _⟩ => ⟨S2048x1024, .bf16⟩
  | .hbm, ⟨10, _⟩ => ⟨S2048x1024, .bf16⟩
  | .hbm, ⟨11, _⟩ => ⟨S8x1024, .f32⟩
  | .hbm, ⟨12, _⟩ => ⟨S8x1024, .f32⟩
  | .hbm, ⟨13, _⟩ => ⟨S8x128x128, .f32⟩
  | .hbm, ⟨14, _⟩ => ⟨S8x8x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S128x8, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S4x128x128, .f32⟩
  | .local _ .vmem, ⟨22, _⟩ => ⟨S4x128x128, .f32⟩
  | .local _ .vmem, ⟨23, _⟩ => ⟨S4x8x128, .f32⟩
  | .local _ .vmem, ⟨24, _⟩ => ⟨S4x8x128, .f32⟩
  | .local _ .vmem, ⟨25, _⟩ => ⟨S4x128x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v695 : BitVec 1 := Scalar.cmpi .eq arg1 c15_i32
  let v696 : BitVec 32 := Scalar.extui v695
  let c0_i32_313 : BitVec 32 := 0#32
  let v697 : BitVec 1 := Scalar.cmpi .ne v696 c0_i32_313
  v697

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S2048x7680 : Shape := ⟨2, ![2048, 7680]⟩
abbrev S2048x1024 : Shape := ⟨2, ![2048, 1024]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S1x2048x2048 : Shape := ⟨3, ![1, 2048, 2048]⟩
abbrev S_ : Shape := ⟨0, ![]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x8x128 : Shape := ⟨3, ![1, 8, 128]⟩
abbrev S2048x8 : Shape := ⟨2, ![2048, 8]⟩
abbrev S1x1024 : Shape := ⟨2, ![1, 1024]⟩
abbrev S8x1024 : Shape := ⟨2, ![8, 1024]⟩
abbrev S8x1x128 : Shape := ⟨3, ![8, 1, 128]⟩
abbrev S8x8x128 : Shape := ⟨3, ![8, 8, 128]⟩

abbrev nBuf : Space → Nat
  | .hbm => 204
  | .vmem => 0
  | .smem => 0
  | _ => 0

abbrev hbmTy0_0 (i : Nat) : BufTy := match i % 128 with
  | 0 => ⟨S2048x7680, .f32⟩
  | 1 => ⟨S2048x1024, .f32⟩
  | 2 => ⟨S1024, .f32⟩
  | 3 => ⟨S1024, .f32⟩
  | 4 => ⟨S8x128x128, .f32⟩
  | 5 => ⟨S8x128, .f32⟩
  | 6 => ⟨S2048x2048, .f32⟩
  | 7 => ⟨S1x2048x2048, .f32⟩
  | 8 => ⟨S_, .f32⟩
  | 9 => ⟨S_, .f32⟩
  | 10 => ⟨S_, .f32⟩
  | 11 => ⟨S1x2048x2048, .f32⟩
  | 12 => ⟨S1x2048x2048, .f32⟩
  | 13 => ⟨S1x2048x2048, .f32⟩
  | 14 => ⟨S_, .f32⟩
  | 15 => ⟨S1x2048x2048, .f32⟩
  | 16 => ⟨S1x2048x2048, .f32⟩
  | 17 => ⟨S1x2048x2048, .f32⟩
  | 18 => ⟨S1x2048x2048, .f32⟩
  | 19 => ⟨S1x2048x2048, .f32⟩
  | 20 => ⟨S_, .f32⟩
  | 21 => ⟨S1x2048x2048, .f32⟩
  | 22 => ⟨S1x2048x2048, .f32⟩
  | 23 => ⟨S1x2048x2048, .f32⟩
  | 24 => ⟨S_, .f32⟩
  | 25 => ⟨S1x2048x2048, .f32⟩
  | 26 => ⟨S1x2048x2048, .f32⟩
  | 27 => ⟨S_, .f32⟩
  | 28 => ⟨S1x2048x2048, .f32⟩
  | 29 => ⟨S1x2048x2048, .f32⟩
  | 30 => ⟨S1x2048x2048, .f32⟩
  | 31 => ⟨S_, .f32⟩
  | 32 => ⟨S1x2048x2048, .f32⟩
  | 33 => ⟨S1x2048x2048, .f32⟩
  | 34 => ⟨S_, .f32⟩
  | 35 => ⟨S1x2048x2048, .f32⟩
  | 36 => ⟨S1x2048x2048, .f32⟩
  | 37 => ⟨S1x2048x2048, .f32⟩
  | 38 => ⟨S1x2048x1024, .f32⟩
  | 39 => ⟨S1x2048x1024, .f32⟩
  | 40 => ⟨S1x2048x8x128, .f32⟩
  | 41 => ⟨S_, .f32⟩
  | 42 => ⟨S1x2048x8, .f32⟩
  | 43 => ⟨S1x2048x8x1, .f32⟩
  | 44 => ⟨S_, .f32⟩
  | 45 => ⟨S1x2048x8x1, .f32⟩
  | 46 => ⟨S1x2048x8x1, .f32⟩
  | 47 => ⟨S1x2048x8x128, .f32⟩
  | 48 => ⟨S1x2048x8x128, .f32⟩
  | 49 => ⟨S1x2048x8x128, .f32⟩
  | 50 => ⟨S_, .f32⟩
  | 51 => ⟨S1x2048x8x128, .f32⟩
  | 52 => ⟨S1x2048x8x128, .f32⟩
  | 53 => ⟨S_, .f32⟩
  | 54 => ⟨S1x2048x8, .f32⟩
  | 55 => ⟨S1x2048x8x1, .f32⟩
  | 56 => ⟨S_, .f32⟩
  | 57 => ⟨S1x2048x8x1, .f32⟩
  | 58 => ⟨S1x2048x8x1, .f32⟩
  | 59 => ⟨S1x2048x8x128, .f32⟩
  | 60 => ⟨S1x2048x8x128, .f32⟩
  | 61 => ⟨S_, .f32⟩
  | 62 => ⟨S1x2048x8x1, .f32⟩
  | 63 => ⟨S1x2048x8x1, .f32⟩
  | 64 => ⟨S1x2048x8x1, .f32⟩
  | 65 => ⟨S1x2048x8x1, .f32⟩
  | 66 => ⟨S_, .f32⟩
  | 67 => ⟨S1x2048x8x1, .f32⟩
  | 68 => ⟨S1x2048x8x1, .f32⟩
  | 69 => ⟨S1x2048x8x128, .f32⟩
  | 70 => ⟨S1x2048x8x128, .f32⟩
  | 71 => ⟨S8x128, .f32⟩
  | 72 => ⟨S1x1x8x128, .f32⟩
  | 73 => ⟨S1x2048x8x128, .f32⟩
  | 74 => ⟨S1x2048x8x128, .f32⟩
  | 75 => ⟨S8x128, .f32⟩
  | 76 => ⟨S1x1x8x128, .f32⟩
  | 77 => ⟨S1x2048x8x128, .f32⟩
  | 78 => ⟨S1x2048x8x128, .f32⟩
  | 79 => ⟨S1x16x128x8x128, .f32⟩
  | 80 => ⟨S_, .i1⟩
  | 81 => ⟨S128x128, .i1⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .i1⟩
  | 89 => ⟨S128x128, .i1⟩
  | 90 => ⟨S128x128, .i1⟩
  | 91 => ⟨S1x128x128, .i1⟩
  | 92 => ⟨S_, .f32⟩
  | 93 => ⟨S8x128x128, .f32⟩
  | 94 => ⟨S8x128x128, .i1⟩
  | 95 => ⟨S8x128x128, .f32⟩
  | 96 => ⟨S_, .f32⟩
  | 97 => ⟨S8x128x128, .f32⟩
  | 98 => ⟨S8x1x16x128x128, .f32⟩
  | 99 => ⟨S1x16x128x8x128, .f32⟩
  | 100 => ⟨S128x8, .f32⟩
  | 101 => ⟨S1x1x128x8x1, .f32⟩
  | 102 => ⟨S1x16x128x8x128, .f32⟩
  | 103 => ⟨S1x16x128x8x128, .f32⟩
  | 104 => ⟨S1x2048x1024, .f32⟩
  | 105 => ⟨S1x2048x1024, .f32⟩
  | 106 => ⟨S1x2048x1024, .f32⟩
  | 107 => ⟨S1x2048x1024, .f32⟩
  | 108 => ⟨S1x2048x1024, .f32⟩
  | 109 => ⟨S1x16x128x8x128, .f32⟩
  | 110 => ⟨S_, .f32⟩
  | 111 => ⟨S1x128x8, .f32⟩
  | 112 => ⟨S1x1x128x8x1, .f32⟩
  | 113 => ⟨S_, .f32⟩
  | 114 => ⟨S128x8, .f32⟩
  | 115 => ⟨S8x128, .f32⟩
  | 116 => ⟨S8x1x16x128x128, .f32⟩
  | 117 => ⟨S8x128x128, .f32⟩
  | 118 => ⟨S8x1x16x128x128, .f32⟩
  | 119 => ⟨S1x16x128x8x128, .f32⟩
  | 120 => ⟨S_, .f32⟩
  | 121 => ⟨S8x128x128, .f32⟩
  | 122 => ⟨S8x128x128, .f32⟩
  | 123 => ⟨S1x2048x8x128, .f32⟩
  | 124 => ⟨S_, .f32⟩
  | 125 => ⟨S1x8x128, .f32⟩
  | 126 => ⟨S1x1x8x128, .f32⟩
  | 127 => ⟨S_, .f32⟩
  | _ => ⟨S2048x7680, .f32⟩

abbrev hbmTy0_1 (i : Nat) : BufTy := match i % 128 with
  | 0 => ⟨S8x128, .f32⟩
  | 1 => ⟨S1024, .f32⟩
  | 2 => ⟨S1x2048x8x128, .f32⟩
  | 3 => ⟨S_, .f32⟩
  | 4 => ⟨S1x8x128, .f32⟩
  | 5 => ⟨S1x1x8x128, .f32⟩
  | 6 => ⟨S1x2048x8x128, .f32⟩
  | 7 => ⟨S1x2048x8x128, .f32⟩
  | 8 => ⟨S_, .f32⟩
  | 9 => ⟨S8x128, .f32⟩
  | 10 => ⟨S1024, .f32⟩
  | 11 => ⟨S1x2048x8x128, .f32⟩
  | 12 => ⟨S_, .f32⟩
  | 13 => ⟨S1x2048x8, .f32⟩
  | 14 => ⟨S1x2048x8x1, .f32⟩
  | 15 => ⟨S1x2048x8x128, .f32⟩
  | 16 => ⟨S1x2048x8x128, .f32⟩
  | 17 => ⟨S1x2048x8x1, .f32⟩
  | 18 => ⟨S1x2048x8x128, .f32⟩
  | 19 => ⟨S_, .f32⟩
  | 20 => ⟨S1x2048x8, .f32⟩
  | 21 => ⟨S1x2048x8x1, .f32⟩
  | 22 => ⟨S_, .f32⟩
  | 23 => ⟨S1x2048x8x1, .f32⟩
  | 24 => ⟨S1x2048x8x1, .f32⟩
  | 25 => ⟨S_, .f32⟩
  | 26 => ⟨S2048x8, .f32⟩
  | 27 => ⟨S1x2048x8, .f32⟩
  | 28 => ⟨S1x2048x8x128, .f32⟩
  | 29 => ⟨S1x2048x8x128, .f32⟩
  | 30 => ⟨S1x2048x8x128, .f32⟩
  | 31 => ⟨S_, .f32⟩
  | 32 => ⟨S1x2048x8, .f32⟩
  | 33 => ⟨S1x2048x8x1, .f32⟩
  | 34 => ⟨S1x2048x8x128, .f32⟩
  | 35 => ⟨S1x2048x8x1, .f32⟩
  | 36 => ⟨S_, .f32⟩
  | 37 => ⟨S1x2048x8x1, .f32⟩
  | 38 => ⟨S1x2048x8x1, .f32⟩
  | 39 => ⟨S_, .f32⟩
  | 40 => ⟨S2048x8, .f32⟩
  | 41 => ⟨S1x2048x8, .f32⟩
  | 42 => ⟨S1x2048x8x128, .f32⟩
  | 43 => ⟨S1x2048x8x128, .f32⟩
  | 44 => ⟨S1x2048x1024, .f32⟩
  | 45 => ⟨S_, .f32⟩
  | 46 => ⟨S1x2048x2048, .f32⟩
  | 47 => ⟨S_, .f32⟩
  | 48 => ⟨S1x2048x2048, .f32⟩
  | 49 => ⟨S1x2048x2048, .f32⟩
  | 50 => ⟨S1x2048x2048, .f32⟩
  | 51 => ⟨S1x2048x2048, .f32⟩
  | 52 => ⟨S_, .f32⟩
  | 53 => ⟨S1x2048x2048, .f32⟩
  | 54 => ⟨S1x2048x2048, .f32⟩
  | 55 => ⟨S1x2048x2048, .f32⟩
  | 56 => ⟨S_, .f32⟩
  | 57 => ⟨S1x2048x2048, .f32⟩
  | 58 => ⟨S1x2048x2048, .f32⟩
  | 59 => ⟨S1x2048x2048, .f32⟩
  | 60 => ⟨S1x2048x2048, .f32⟩
  | 61 => ⟨S1x2048x2048, .f32⟩
  | 62 => ⟨S1x2048x2048, .f32⟩
  | 63 => ⟨S1x2048x2048, .f32⟩
  | 64 => ⟨S1x2048x1024, .f32⟩
  | 65 => ⟨S2048x1024, .f32⟩
  | 66 => ⟨S2048x1024, .bf16⟩
  | 67 => ⟨S1x2048x1024, .f32⟩
  | 68 => ⟨S2048x1024, .f32⟩
  | 69 => ⟨S2048x1024, .bf16⟩
  | 70 => ⟨S1x1024, .f32⟩
  | 71 => ⟨S8x1024, .f32⟩
  | 72 => ⟨S1x1024, .f32⟩
  | 73 => ⟨S8x1024, .f32⟩
  | 74 => ⟨S8x1x128, .f32⟩
  | 75 => ⟨S8x8x128, .f32⟩
  | _ => ⟨S2048x7680, .f32⟩

abbrev hbmTy (i : Nat) : BufTy := match i / 128 with
  | 0 => hbmTy0_0 i
  | 1 => hbmTy0_1 i
  | _ => ⟨S2048x7680, .f32⟩

abbrev bufTy : (tb : Table) → Fin (tcTables nBuf tb) → BufTy
  | .hbm, ⟨i, _⟩ => hbmTy i
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c : Ref sig .tc := ⟨.hbm, 80, rfl⟩
abbrev main_v59 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63_1 : Ref sig .tc := ⟨.hbm, 94, rfl⟩
abbrev main_v63_0 : Ref sig .tc := ⟨.hbm, 95, rfl⟩
abbrev main_call1_cst : Ref sig .tc := ⟨.hbm, 96, rfl⟩
abbrev main_v63_2 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call2_cst : Ref sig .tc := ⟨.hbm, 120, rfl⟩
abbrev main_call2_v0 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_cst_18 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_22 : Ref sig .tc := ⟨.hbm, 147, rfl⟩
abbrev main_v104 : Ref sig .tc := ⟨.hbm, 148, rfl⟩
abbrev main_v105 : Ref sig .tc := ⟨.hbm, 149, rfl⟩
abbrev main_cst_23 : Ref sig .tc := ⟨.hbm, 150, rfl⟩
abbrev main_v106 : Ref sig .tc := ⟨.hbm, 151, rfl⟩
abbrev main_v107 : Ref sig .tc := ⟨.hbm, 152, rfl⟩
abbrev main_cst_24 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_26 : Ref sig .tc := ⟨.hbm, 164, rfl⟩
abbrev main_v117 : Ref sig .tc := ⟨.hbm, 165, rfl⟩
abbrev main_v118 : Ref sig .tc := ⟨.hbm, 166, rfl⟩
abbrev main_cst_27 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_28 : Ref sig .tc := ⟨.hbm, 173, rfl⟩
abbrev main_v124 : Ref sig .tc := ⟨.hbm, 174, rfl⟩
abbrev main_cst_29 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_30 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_31 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩

abbrev nD : Nat := 1
abbrev τ : Topo := Topo.v7x

variable {F : FTy → Type} [FloatOps F]
-- ==== Kernel2.lean ====
abbrev S2048x2048 : Shape := ⟨2, ![2048, 2048]⟩
abbrev S5632x2048 : Shape := ⟨2, ![5632, 2048]⟩
abbrev S2x2048x5632 : Shape := ⟨3, ![2, 2048, 5632]⟩
abbrev S1024x2048 : Shape := ⟨2, ![1024, 2048]⟩
abbrev S512x2048 : Shape := ⟨2, ![512, 2048]⟩
abbrev S2x1024x512 : Shape := ⟨3, ![2, 1024, 512]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2x2048x5632, .f32⟩
  | .hbm, ⟨3, _⟩ => ⟨S2048x2048, .bf16⟩
  | .hbm, ⟨4, _⟩ => ⟨S5632x2048, .bf16⟩
  | .hbm, ⟨5, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .f32⟩
  | .local _ .vmem, ⟨5, _⟩ => ⟨S2x1024x512, .f32⟩
  | .local _ .vmem, ⟨6, _⟩ => ⟨S2x1024x512, .bf16⟩
  | .local _ .vmem, ⟨7, _⟩ => ⟨S2x1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S1x2048x5632, .f32⟩
  | .hbm, ⟨30, _⟩ => ⟨S1x2048x5632, .f32⟩
  | .hbm, ⟨31, _⟩ => ⟨S2x2048x5632, .f32⟩
  | .hbm, ⟨32, _⟩ => ⟨S2x2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Kernel3.lean ====
abbrev S2x2048x5632 : Shape := ⟨3, ![2, 2048, 5632]⟩
abbrev S2048x5632 : Shape := ⟨2, ![2048, 5632]⟩
abbrev S5632x2048 : Shape := ⟨2, ![5632, 2048]⟩
abbrev S11264x2048 : Shape := ⟨2, ![11264, 2048]⟩
abbrev S2048x2048 : Shape := ⟨2, ![2048, 2048]⟩
abbrev S1x1024x2816 : Shape := ⟨3, ![1, 1024, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x5632, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .f32⟩
  | .hbm, ⟨5, _⟩ => ⟨S11264x2048, .f32⟩
  | .hbm, ⟨6, _⟩ => ⟨S11264x2048, .bf16⟩
  | .hbm, ⟨7, _⟩ => ⟨S2x2048x5632, .bf16⟩
  | .hbm, ⟨8, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x5632 : Shape := ⟨3, ![2, 2048, 5632]⟩
abbrev S2048x5632 : Shape := ⟨2, ![2048, 5632]⟩
abbrev S_ : Shape := ⟨0, ![]⟩
abbrev S2048x2048 : Shape := ⟨2, ![2048, 2048]⟩
abbrev S1x2048x5632 : Shape := ⟨3, ![1, 2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2048x5632, .f32⟩
  | .hbm, ⟨2, _⟩ => ⟨S2048x5632, .f32⟩
  | .hbm, ⟨3, _⟩ => ⟨S_, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S2048x5632, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S2x2048x5632 : Shape := ⟨3, ![2, 2048, 5632]⟩
abbrev S2048x2048 : Shape := ⟨2, ![2048, 2048]⟩
abbrev S11264x2048 : Shape := ⟨2, ![11264, 2048]⟩
abbrev S1x2048x512 : Shape := ⟨3, ![1, 2048, 512]⟩
abbrev S512x2048 : Shape := ⟨2, ![512, 2048]⟩
abbrev S8x128 : Shape := ⟨2, ![8, 128]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x5632, .f32⟩
  | .hbm, ⟨1, _⟩ => ⟨S2048x2048, .f32⟩
  | .hbm, ⟨2, _⟩ => ⟨S2x2048x5632, .bf16⟩
  | .hbm, ⟨3, _⟩ => ⟨S2048x2048, .bf16⟩
  | .hbm, ⟨4, _⟩ => ⟨S11264x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2048x5632 : Shape := ⟨3, ![2, 2048, 5632]⟩
abbrev S2048x2048 : Shape := ⟨2, ![2048, 2048]⟩
abbrev S_ : Shape := ⟨0, ![]⟩
abbrev S2048x5632 : Shape := ⟨2, ![2048, 5632]⟩
abbrev S1x2048x5632 : Shape := ⟨3, ![1, 2048, 5632]⟩
abbrev S5632x2048 : Shape := ⟨2, ![5632, 2048]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2048x2048, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S1x2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S5632x2048, .f32⟩
  | .hbm, ⟨15, _⟩ => ⟨S5632x2048, .f32⟩
  | .hbm, ⟨16, _⟩ => ⟨S11264x2048, .f32⟩
  | .hbm, ⟨17, _⟩ => ⟨S11264x2048, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2048 : Shape := ⟨2, ![2048, 2048]⟩
abbrev S2048x7680 : Shape := ⟨2, ![2048, 7680]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 11
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x7680, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S2048x2048 : Shape := ⟨2, ![2048, 2048]⟩
abbrev S2048x7680 : Shape := ⟨2, ![2048, 7680]⟩
abbrev S2048x4096 : Shape := ⟨2, ![2048, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x7680, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x4096, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S2048x2048, .f32⟩
  | .hbm, ⟨36, _⟩ => ⟨S2048x2048, .f32⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel7.lean ====
abbrev S2048x2048 : Shape := ⟨2, ![2048, 2048]⟩
abbrev S2048x512 : Shape := ⟨2, ![2048, 512]⟩
abbrev S512x2048 : Shape := ⟨2, ![512, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S2048x2048, .bf16⟩
  | .hbm, ⟨3, _⟩ => ⟨S2048x1024, .f32⟩
  | .hbm, ⟨4, _⟩ => ⟨S2048x1024, .bf16⟩
  | .hbm, ⟨5, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048x1024 : Shape := ⟨2, ![2048, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x2048, .bf16⟩
  | .hbm, ⟨3, _⟩ => ⟨S2048x1024, .bf16⟩
  | .hbm, ⟨4, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x7680 : Shape := ⟨2, ![2048, 7680]⟩
abbrev S7680x2048 : Shape := ⟨2, ![7680, 2048]⟩
abbrev S2048x2048 : Shape := ⟨2, ![2048, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x7680, .f32⟩
  | .hbm, ⟨1, _⟩ => ⟨S2048x7680, .f32⟩
  | .hbm, ⟨2, _⟩ => ⟨S2048x7680, .bf16⟩
  | .hbm, ⟨3, _⟩ => ⟨S7680x2048, .f32⟩
  | .hbm, ⟨4, _⟩ => ⟨S7680x2048, .bf16⟩
  | .hbm, ⟨5, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x7680 : Shape := ⟨2, ![2048, 7680]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S2048x7680, .f32⟩
  | .hbm, ⟨2, _⟩ => ⟨S_, .f32⟩
  | .hbm, ⟨3, _⟩ => ⟨S2048x2048, .f32⟩
  | .hbm, ⟨4, _⟩ => ⟨S2048x7680, .f32⟩
  | .hbm, ⟨5, _⟩ => ⟨S2048x2048, .f32⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x7680 : Shape := ⟨2, ![2048, 7680]⟩
abbrev S2048x2048 : Shape := ⟨2, ![2048, 2048]⟩
abbrev S7680x2048 : Shape := ⟨2, ![7680, 2048]⟩
abbrev S2048x512 : Shape := ⟨2, ![2048, 512]⟩
abbrev S512x2048 : Shape := ⟨2, ![512, 2048]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x7680, .f32⟩
  | .hbm, ⟨1, _⟩ => ⟨S2048x2048, .f32⟩
  | .hbm, ⟨2, _⟩ => ⟨S2048x7680, .bf16⟩
  | .hbm, ⟨3, _⟩ => ⟨S2048x2048, .bf16⟩
  | .hbm, ⟨4, _⟩ => ⟨S7680x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S8x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![15, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x7680 : Shape := ⟨2, ![2048, 7680]⟩
abbrev S2048x2048 : Shape := ⟨2, ![2048, 2048]⟩
abbrev S_ : Shape := ⟨0, ![]⟩
abbrev S7680x2048 : Shape := ⟨2, ![7680, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S2048x2048, .f32⟩
  | .hbm, ⟨2, _⟩ => ⟨S_, .f32⟩
  | .hbm, ⟨3, _⟩ => ⟨S2048x7680, .f32⟩
  | .hbm, ⟨4, _⟩ => ⟨S2048x7680, .f32⟩
  | .hbm, ⟨5, _⟩ => ⟨S7680x2048, .f32⟩
  | .hbm, ⟨6, _⟩ => ⟨S2048x7680, .f32⟩
  | .hbm, ⟨7, _⟩ => ⟨S7680x2048, .f32⟩
  | .hbm, ⟨8, _⟩ => ⟨S7680x2048, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_16 : BitVec 32 := 0#32
  let v38 : BitVec 1 := Scalar.cmpi .ne v37 c0_i32_16
  v38

def k0_cond2 (i : grid0.Coords) : BitVec 1 :=
  let arg0 : BitVec 32 := BitVec.ofNat 32 (i 0).val
  let c0_i32_17 : BitVec 32 := 0#32
  let v39 : BitVec 1 := Scalar.cmpi .sgt arg0 c0_i32_17
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x2048 : Shape := ⟨2, ![8, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | .hbm, ⟨52, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel13.lean ====
abbrev S2048x2048 : Shape := ⟨2, ![2048, 2048]⟩
abbrev S2048x5632 : Shape := ⟨2, ![2048, 5632]⟩
abbrev S5632x2048 : Shape := ⟨2, ![5632, 2048]⟩
abbrev S11264x2048 : Shape := ⟨2, ![11264, 2048]⟩
abbrev S2x2048x5632 : Shape := ⟨3, ![2, 2048, 5632]⟩
abbrev S1024x2048 : Shape := ⟨2, ![1024, 2048]⟩
abbrev S512x2048 : Shape := ⟨2, ![512, 2048]⟩
abbrev S2x1024x512 : Shape := ⟨3, ![2, 1024, 512]⟩
abbrev S1024x512 : Shape := ⟨2, ![1024, 512]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .f32⟩
  | .hbm, ⟨5, _⟩ => ⟨S11264x2048, .f32⟩
  | .hbm, ⟨6, _⟩ => ⟨S11264x2048, .bf16⟩
  | .hbm, ⟨7, _⟩ => ⟨S2048x2048, .bf16⟩
  | .hbm, ⟨8, _⟩ => ⟨S2x2048x5632, .f32⟩
  | .hbm, ⟨9, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2x1024x512, .f32⟩
  | .local _ .vmem, ⟨7, _⟩ => ⟨S2x1024x512, .f32⟩
  | .local _ .vmem, ⟨8, _⟩ => ⟨S1024x512, .bf16⟩
  | .local _ .vmem, ⟨9, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S2048x2048 : Shape := ⟨2, ![2048, 2048]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S1x2048x5632, .f32⟩
  | .hbm, ⟨6, _⟩ => ⟨S1x2048x5632, .f32⟩
  | .hbm, ⟨7, _⟩ => ⟨S2x2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel14.lean ====
abbrev S2048x2048 : Shape := ⟨2, ![2048, 2048]⟩
abbrev S2048x7680 : Shape := ⟨2, ![2048, 7680]⟩
abbrev S7680x2048 : Shape := ⟨2, ![7680, 2048]⟩
abbrev S1024x2048 : Shape := ⟨2, ![1024, 2048]⟩
abbrev S768x2048 : Shape := ⟨2, ![768, 2048]⟩
abbrev S1024x768 : Shape := ⟨2, ![1024, 768]⟩
abbrev S8x128 : Shape := ⟨2, ![8, 128]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x2048, .bf16⟩
  | .hbm, ⟨3, _⟩ => ⟨S7680x2048, .f32⟩
  | .hbm, ⟨4, _⟩ => ⟨S7680x2048, .bf16⟩
  | .hbm, ⟨5, _⟩ => ⟨S2048x7680, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S2048x7680 : Shape := ⟨2, ![2048, 7680]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7680, .f32⟩
  | .hbm, ⟨2, _⟩ => ⟨S2048x7680, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S2048x1024 : Shape := ⟨2, ![2048, 1024]⟩
abbrev S1024x2048 : Shape := ⟨2, ![1024, 2048]⟩
abbrev S2048x7680 : Shape := ⟨2, ![2048, 7680]⟩
abbrev S2048x2048 : Shape := ⟨2, ![2048, 2048]⟩
abbrev S1024x1024 : Shape := ⟨2, ![1024, 1024]⟩
abbrev S512x1024 : Shape := ⟨2, ![512, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 14
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x7680, .f32⟩
  | .hbm, ⟨5, _⟩ => ⟨S2048x1024, .bf16⟩
  | .hbm, ⟨6, _⟩ => ⟨S2048x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x2048, .f32⟩
  | .hbm, ⟨12, _⟩ => ⟨S2048x2048, .f32⟩
  | .hbm, ⟨13, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2048x1024 : Shape := ⟨2, ![2048, 1024]⟩
abbrev S1024x2048 : Shape := ⟨2, ![1024, 2048]⟩
abbrev S2048x7680 : Shape := ⟨2, ![2048, 7680]⟩
abbrev S2048x2048 : Shape := ⟨2, ![2048, 2048]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x7680, .f32⟩
  | .hbm, ⟨5, _⟩ => ⟨S2048x2048, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel17.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel18.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S2048x1024 : Shape := ⟨2, ![2048, 1024]⟩
abbrev S128x512 : Shape := ⟨2, ![128, 512]⟩
abbrev S1x512 : Shape := ⟨2, ![1, 512]⟩
abbrev S4x128x128 : Shape := ⟨3, ![4, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 9
  | .vmem => 13
  | .smem => 0
  | _ => 0

abbrev bufTy : (tb : Table) → Fin (tcTables nBuf tb) → BufTy
  | .hbm, ⟨0, _⟩ => ⟨S2048x7680, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S2048x1024, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S128x8, .f32⟩
  | .local _ .vmem, ⟨11, _⟩ => ⟨S128x512, .bf16⟩
  | .local _ .vmem, ⟨12, _⟩ => ⟨S128x512, .bf16⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2048x7680 : Shape := ⟨2, ![2048, 7680]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S1x2048x2048 : Shape := ⟨3, ![1, 2048, 2048]⟩
abbrev S_ : Shape := ⟨0, ![]⟩
abbrev S1x2048x1024 : Shape := ⟨3, ![1, 2048, 1024]⟩
abbrev S1x2048x8x128 : Shape := ⟨4, ![1, 2048, 8, 128]⟩
abbrev S1x2048x8 : Shape := ⟨3, ![1, 2048, 8]⟩
abbrev S1x2048x8x1 : Shape := ⟨4, ![1, 2048, 8, 1]⟩
abbrev S1x1x8x128 : Shape := ⟨4, ![1, 1, 8, 128]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S2048x1024 : Shape := ⟨2, ![2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x7680, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S1x2048x1024, .f32⟩
  | .hbm, ⟨25, _⟩ => ⟨S1x2048x1024, .f32⟩
  | .hbm, ⟨26, _⟩ => ⟨S1x2048x8x128, .f32⟩
  | .hbm, ⟨27, _⟩ => ⟨S_, .f32⟩
  | .hbm, ⟨28, _⟩ => ⟨S1x2048x8, .f32⟩
  | .hbm, ⟨29, _⟩ => ⟨S1x2048x8x1, .f32⟩
  | .hbm, ⟨30, _⟩ => ⟨S_, .f32⟩
  | .hbm, ⟨31, _⟩ => ⟨S1x2048x8x1, .f32⟩
  | .hbm, ⟨32, _⟩ => ⟨S1x2048x8x1, .f32⟩
  | .hbm, ⟨33, _⟩ => ⟨S1x2048x8x128, .f32⟩
  | .hbm, ⟨34, _⟩ => ⟨S1x2048x8x128, .f32⟩
  | .hbm, ⟨35, _⟩ => ⟨S1x2048x8x128, .f32⟩
  | .hbm, ⟨36, _⟩ => ⟨S_, .f32⟩
  | .hbm, ⟨37, _⟩ => ⟨S1x2048x8, .f32⟩
  | .hbm, ⟨38, _⟩ => ⟨S1x2048x8x1, .f32⟩
  | .hbm, ⟨39, _⟩ => ⟨S_, .f32⟩
  | .hbm, ⟨40, _⟩ => ⟨S1x2048x8x1, .f32⟩
  | .hbm, ⟨41, _⟩ => ⟨S1x2048x8x1, .f32⟩
  | .hbm, ⟨42, _⟩ => ⟨S1x2048x8x128, .f32⟩
  | .hbm, ⟨43, _⟩ => ⟨S1x2048x8x128, .f32⟩
  | .hbm, ⟨44, _⟩ => ⟨S_, .f32⟩
  | .hbm, ⟨45, _⟩ => ⟨S1x2048x8x1, .f32⟩
  | .hbm, ⟨46, _⟩ => ⟨S1x2048x8x1, .f32⟩
  | .hbm, ⟨47, _⟩ => ⟨S1x2048x8x1, .f32⟩
  | .hbm, ⟨48, _⟩ => ⟨S1x2048x8x128, .f32⟩
  | .hbm, ⟨49, _⟩ => ⟨S1x2048x8x128, .f32⟩
  | .hbm, ⟨50, _⟩ => ⟨S8x128, .f32⟩
  | .hbm, ⟨51, _⟩ => ⟨S1x1x8x128, .f32⟩
  | .hbm, ⟨52, _⟩ => ⟨S1x2048x8x128, .f32⟩
  | .hbm, ⟨53, _⟩ => ⟨S1x2048x8x128, .f32⟩
  | .hbm, ⟨54, _⟩ => ⟨S8x128, .f32⟩
  | .hbm, ⟨55, _⟩ => ⟨S1x1x8x128, .f32⟩
  | .hbm, ⟨56, _⟩ => ⟨S1x2048x8x128, .f32⟩
  | .hbm, ⟨57, _⟩ => ⟨S1x2048x8x128, .f32⟩
  | .hbm, ⟨58, _⟩ => ⟨S1x16x128x8x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S8x128x128, .f32⟩
  | .hbm, ⟨73, _⟩ => ⟨S8x128x128, .i1⟩
  | .hbm, ⟨74, _⟩ => ⟨S8x128x128, .f32⟩
  | .hbm, ⟨75, _⟩ => ⟨S8x1x16x128x128, .f32⟩
  | .hbm, ⟨76, _⟩ => ⟨S1x16x128x8x128, .f32⟩
  | .hbm, ⟨77, _⟩ => ⟨S128x8, .f32⟩
  | .hbm, ⟨78, _⟩ => ⟨S1x1x128x8x1, .f32⟩
  | .hbm, ⟨79, _⟩ => ⟨S1x16x128x8x128, .f32⟩
  | .hbm, ⟨80, _⟩ => ⟨S1x16x128x8x128, .f32⟩
  | .hbm, ⟨81, _⟩ => ⟨S1x2048x1024, .f32⟩
  | .hbm, ⟨82, _⟩ => ⟨S1x2048x1024, .f32⟩
  | .hbm, ⟨83, _⟩ => ⟨S2048x1024, .f32⟩
  | .hbm, ⟨84, _⟩ => ⟨S2048x1024, .bf16⟩
  | _, _ => ⟨S2048x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c : Ref sig .tc := ⟨.hbm, 59, rfl⟩
abbrev main_v45 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== Kernel19.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel20.lean ====
abbrev S2048x2048 : Shape := ⟨2, ![2048, 2048]⟩
abbrev S8x128 : Shape := ⟨2, ![8, 128]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .f32⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x128, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32_12 : BitVec 32 := 0#32
  let v21 : BitVec 1 := Scalar.cmpi .sgt arg0 c0_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel21.lean ====
abbrev S8x2176x128 : Shape := ⟨3, ![8, 2176, 128]⟩
abbrev S2176x128 : Shape := ⟨2, ![2176, 128]⟩
abbrev S1x2176x128 : Shape := ⟨3, ![1, 2176, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2176x128, .f32⟩
  | .hbm, ⟨1, _⟩ => ⟨S2176x128, .f32⟩
  | .hbm, ⟨2, _⟩ => ⟨S2176x128, .f32⟩
  | .hbm, ⟨3, _⟩ => ⟨S2176x128, .f32⟩
  | .hbm, ⟨4, _⟩ => ⟨S2176x128, .f32⟩
  | .hbm, ⟨5, _⟩ => ⟨S2176x128, .f32⟩
  | .hbm, ⟨6, _⟩ => ⟨S2176x128, .f32⟩
  | .hbm, ⟨7, _⟩ => ⟨S2176x128, .f32⟩
  | .local _ .vmem, ⟨0, _⟩ => ⟨S8x2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | _, _ => ⟨S8x2176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x2176x128 : Shape := ⟨3, ![8, 2176, 128]⟩
abbrev S2176x128 : Shape := ⟨2, ![2176, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2176x128, .f32⟩
  | .hbm, ⟨1, _⟩ => ⟨S2176x128, .f32⟩
  | .hbm, ⟨2, _⟩ => ⟨S2176x128, .f32⟩
  | .hbm, ⟨3, _⟩ => ⟨S2176x128, .f32⟩
  | .hbm, ⟨4, _⟩ => ⟨S_, .f32⟩
  | .hbm, ⟨5, _⟩ => ⟨S2176x128, .f32⟩
  | .hbm, ⟨6, _⟩ => ⟨S_, .f32⟩
  | .hbm, ⟨7, _⟩ => ⟨S2176x128, .f32⟩
  | .hbm, ⟨8, _⟩ => ⟨S2176x128, .f32⟩
  | .hbm, ⟨9, _⟩ => ⟨S_, .f32⟩
  | .hbm, ⟨10, _⟩ => ⟨S2176x128, .f32⟩
  | .hbm, ⟨11, _⟩ => ⟨S2176x128, .f32⟩
  | .hbm, ⟨12, _⟩ => ⟨S2176x128, .f32⟩
  | .hbm, ⟨13, _⟩ => ⟨S_, .f32⟩
  | .hbm, ⟨14, _⟩ => ⟨S2176x128, .f32⟩
  | .hbm, ⟨15, _⟩ => ⟨S2176x128, .f32⟩
  | .hbm, ⟨16, _⟩ => ⟨S2176x128, .f32⟩
  | .hbm, ⟨17, _⟩ => ⟨S_, .f32⟩
  | .hbm, ⟨18, _⟩ => ⟨S2176x128, .f32⟩
  | .hbm, ⟨19, _⟩ => ⟨S2176x128, .f32⟩
  | .hbm, ⟨20, _⟩ => ⟨S2176x128, .f32⟩
  | .hbm, ⟨21, _⟩ => ⟨S_, .f32⟩
  | .hbm, ⟨22, _⟩ => ⟨S2176x128, .f32⟩
  | .hbm, ⟨23, _⟩ => ⟨S2176x128, .f32⟩
  | .hbm, ⟨24, _⟩ => ⟨S_, .f32⟩
  | .hbm, ⟨25, _⟩ => ⟨S2176x128, .f32⟩
  | .hbm, ⟨26, _⟩ => ⟨S2176x128, .f32⟩
  | .hbm, ⟨27, _⟩ => ⟨S2176x128, .f32⟩
  | .hbm, ⟨28, _⟩ => ⟨S_, .f32⟩
  | .hbm, ⟨29, _⟩ => ⟨S2176x128, .f32⟩
  | .hbm, ⟨30, _⟩ => ⟨S2176x128, .f32⟩
  | .hbm, ⟨31, _⟩ => ⟨S2176x128, .f32⟩
  | .hbm, ⟨32, _⟩ => ⟨S_, .f32⟩
  | .hbm, ⟨33, _⟩ => ⟨S2176x128, .f32⟩
  | .hbm, ⟨34, _⟩ => ⟨S2176x128, .f32⟩
  | .hbm, ⟨35, _⟩ => ⟨S2176x128, .f32⟩
  | .hbm, ⟨36, _⟩ => ⟨S_, .f32⟩
  | .hbm, ⟨37, _⟩ => ⟨S2176x128, .f32⟩
  | .hbm, ⟨38, _⟩ => ⟨S2176x128, .f32⟩
  | _, _ => ⟨S8x2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S2048x7680 : Shape := ⟨2, ![2048, 7680]⟩
abbrev S64 : Shape := ⟨1, ![64]⟩
abbrev S16 : Shape := ⟨1, ![16]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x16x64 : Shape := ⟨4, ![1, 2048, 16, 64]⟩
abbrev S2048x1024 : Shape := ⟨2, ![2048, 1024]⟩
abbrev S1x2048x4x64 : Shape := ⟨4, ![1, 2048, 4, 64]⟩
abbrev S2048x256 : Shape := ⟨2, ![2048, 256]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S4x64 : Shape := ⟨2, ![4, 64]⟩
abbrev S256 : Shape := ⟨1, ![256]⟩
abbrev S1x256 : Shape := ⟨2, ![1, 256]⟩
abbrev S128x1024 : Shape := ⟨2, ![128, 1024]⟩
abbrev S128x256 : Shape := ⟨2, ![128, 256]⟩
abbrev S128x128 : Shape := ⟨2, ![128, 128]⟩
abbrev S512x128 : Shape := ⟨2, ![512, 128]⟩
abbrev S512x1 : Shape := ⟨2, ![512, 1]⟩
abbrev S1 : Shape := ⟨1, ![1]⟩
abbrev S512 : Shape := ⟨1, ![512]⟩

abbrev nBuf : Space → Nat
  | .hbm => 50
  | .vmem => 22
  | .smem => 1
  | _ => 0

abbrev bufTy : (tb : Table) → Fin (tcTables nBuf tb) → BufTy
  | .hbm, ⟨0, _⟩ => ⟨S2048x7680, .f32⟩
  | .hbm, ⟨1, _⟩ => ⟨S64, .f32⟩
  | .hbm, ⟨2, _⟩ => ⟨S64, .f32⟩
  | .hbm, ⟨3, _⟩ => ⟨S16, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x64, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x16x64, .f32⟩
  | .hbm, ⟨31, _⟩ => ⟨S2048x1024, .f32⟩
  | .hbm, ⟨32, _⟩ => ⟨S1x2048x1x64, .f32⟩
  | .hbm, ⟨33, _⟩ => ⟨S1x2048x16x64, .f32⟩
  | .hbm, ⟨34, _⟩ => ⟨S2048x1024, .f32⟩
  | .hbm, ⟨35, _⟩ => ⟨S1x2048x1x64, .f32⟩
  | .hbm, ⟨36, _⟩ => ⟨S1x2048x4x64, .f32⟩
  | .hbm, ⟨37, _⟩ => ⟨S2048x256, .f32⟩
  | .hbm, ⟨38, _⟩ => ⟨S1x2048x1x64, .f32⟩
  | .hbm, ⟨39, _⟩ => ⟨S1x2048x4x64, .f32⟩
  | .hbm, ⟨40, _⟩ => ⟨S2048x256, .f32⟩
  | .hbm, ⟨41, _⟩ => ⟨S1x64, .f32⟩
  | .hbm, ⟨42, _⟩ => ⟨S16x64, .f32⟩
  | .hbm, ⟨43, _⟩ => ⟨S1024, .f32⟩
  | .hbm, ⟨44, _⟩ => ⟨S1x1024, .f32⟩
  | .hbm, ⟨45, _⟩ => ⟨S1x64, .f32⟩
  | .hbm, ⟨46, _⟩ => ⟨S4x64, .f32⟩
  | .hbm, ⟨47, _⟩ => ⟨S256, .f32⟩
  | .hbm, ⟨48, _⟩ => ⟨S1x256, .f32⟩
  | .hbm, ⟨49, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S1x1024, .f32⟩
  | .local _ .vmem, ⟨19, _⟩ => ⟨S1x256, .f32⟩
  | .local _ .vmem, ⟨20, _⟩ => ⟨S128x1024, .bf16⟩
  | .local _ .vmem, ⟨21, _⟩ => ⟨S128x1024, .bf16⟩
  | .local _ .smem, ⟨0, _⟩ => ⟨S16, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel25.lean ====
abbrev S1 : Shape := ⟨1, ![1]⟩
abbrev S1x4x256x1024 : Shape := ⟨4, ![1, 4, 256, 1024]⟩
abbrev S1x1x256x1024 : Shape := ⟨4, ![1, 1, 256, 1024]⟩
abbrev S1x256x1024 : Shape := ⟨3, ![1, 256, 1024]⟩
abbrev S256x1024 : Shape := ⟨2, ![256, 1024]⟩

abbrev nBuf : Space → Nat
  | .hbm => 5
  | .vmem => 5
  | .smem => 1
  | _ => 0

abbrev bufTy : (tb : Table) → Fin (tcTables nBuf tb) → BufTy
  | .hbm, ⟨0, _⟩ => ⟨S1x4x256x1024, .bf16⟩
  | .hbm, ⟨1, _⟩ => ⟨S1x1x256x1024, .bf16⟩
  | .hbm, ⟨2, _⟩ => ⟨S1x1x256x1024, .bf16⟩
  | .hbm, ⟨3, _⟩ => ⟨S1x1x256x1024, .bf16⟩
  | .hbm, ⟨4, _⟩ => ⟨S1x256x1024, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x256x1024, .f32⟩
  | .local _ .smem, ⟨0, _⟩ => ⟨S1, .i32⟩
  | _, _ => ⟨S1x4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference25Ideal.lean ====
abbrev S1 : Shape := ⟨1, ![1]⟩
abbrev S1x4x256x1024 : Shape := ⟨4, ![1, 4, 256, 1024]⟩
abbrev S1x1x256x1024 : Shape := ⟨4, ![1, 1, 256, 1024]⟩
abbrev S4 : Shape := ⟨1, ![4]⟩
abbrev S_ : Shape := ⟨0, ![]⟩
abbrev S4x1x1 : Shape := ⟨3, ![4, 1, 1]⟩
abbrev S1x256x1024 : Shape := ⟨3, ![1, 256, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x4x256x1024, .bf16⟩
  | .hbm, ⟨2, _⟩ => ⟨S1x1x256x1024, .bf16⟩
  | .hbm, ⟨3, _⟩ => ⟨S1x1x256x1024, .bf16⟩
  | .hbm, ⟨4, _⟩ => ⟨S1x1x256x1024, .bf16⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S1x4x256x1024, .f32⟩
  | .hbm, ⟨11, _⟩ => ⟨S_, .f32⟩
  | .hbm, ⟨12, _⟩ => ⟨S_, .f32⟩
  | .hbm, ⟨13, _⟩ => ⟨S1x4x256x1024, .i1⟩
  | .hbm, ⟨14, _⟩ => ⟨S1x4x256x1024, .f32⟩
  | .hbm, ⟨15, _⟩ => ⟨S1x4x256x1024, .f32⟩
  | .hbm, ⟨16, _⟩ => ⟨S_, .f32⟩
  | .hbm, ⟨17, _⟩ => ⟨S1x256x1024, .f32⟩
  | .hbm, ⟨18, _⟩ => ⟨S1x256x1024, .bf16⟩
  | .hbm, ⟨19, _⟩ => ⟨S1x256x1024, .f32⟩
  | .hbm, ⟨20, _⟩ => ⟨S1x256x1024, .f32⟩
  | .hbm, ⟨21, _⟩ => ⟨S1x256x1024, .bf16⟩
  | .hbm, ⟨22, _⟩ => ⟨S1x256x1024, .f32⟩
  | .hbm, ⟨23, _⟩ => ⟨S1x256x1024, .f32⟩
  | .hbm, ⟨24, _⟩ => ⟨S1x256x1024, .bf16⟩
  | .hbm, ⟨25, _⟩ => ⟨S1x256x1024, .f32⟩
  | .hbm, ⟨26, _⟩ => ⟨S1x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel24.lean ====
abbrev S1 : Shape := ⟨1, ![1]⟩
abbrev S1x4x2x704x2048 : Shape := ⟨5, ![1, 4, 2, 704, 2048]⟩
abbrev S1x4x1x704x2048 : Shape := ⟨5, ![1, 4, 1, 704, 2048]⟩
abbrev S1x4x704x2048 : Shape := ⟨4, ![1, 4, 704, 2048]⟩
abbrev S1x1x1x352x2048 : Shape := ⟨5, ![1, 1, 1, 352, 2048]⟩
abbrev S1x1x352x2048 : Shape := ⟨4, ![1, 1, 352, 2048]⟩
abbrev S352x2048 : Shape := ⟨2, ![352, 2048]⟩

abbrev nBuf : Space → Nat
  | .hbm => 3
  | .vmem => 6
  | .smem => 1
  | _ => 0

abbrev bufTy : (tb : Table) → Fin (tcTables nBuf tb) → BufTy
  | .hbm, ⟨0, _⟩ => ⟨S1x4x2x704x2048, .bf16⟩
  | .hbm, ⟨1, _⟩ => ⟨S1x4x1x704x2048, .bf16⟩
  | .hbm, ⟨2, _⟩ => ⟨S1x4x704x2048, .bf16⟩
  | .local _ .vmem, ⟨0, _⟩ => ⟨S1x1x1x352x2048, .bf16⟩
  | .local _ .vmem, ⟨1, _⟩ => ⟨S1x1x1x352x2048, .bf16⟩
  | .local _ .vmem, ⟨2, _⟩ => ⟨S1x1x1x352x2048, .bf16⟩
  | .local _ .vmem, ⟨3, _⟩ => ⟨S1x1x1x352x2048, .bf16⟩
  | .local _ .vmem, ⟨4, _⟩ => ⟨S1x1x352x2048, .bf16⟩
  | .local _ .vmem, ⟨5, _⟩ => ⟨S1x1x352x2048, .bf16⟩
  | .local _ .smem, ⟨0, _⟩ => ⟨S1, .i32⟩
  | _, _ => ⟨S1x4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, arg1.toNat, v0.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1x352x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x352x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference24Ideal.lean ====
abbrev S1 : Shape := ⟨1, ![1]⟩
abbrev S1x4x2x704x2048 : Shape := ⟨5, ![1, 4, 2, 704, 2048]⟩
abbrev S1x4x1x704x2048 : Shape := ⟨5, ![1, 4, 1, 704, 2048]⟩
abbrev S2 : Shape := ⟨1, ![2]⟩
abbrev S_ : Shape := ⟨0, ![]⟩
abbrev S2x1x1 : Shape := ⟨3, ![2, 1, 1]⟩
abbrev S1x4x704x2048 : Shape := ⟨4, ![1, 4, 704, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x4x2x704x2048, .bf16⟩
  | .hbm, ⟨2, _⟩ => ⟨S1x4x1x704x2048, .bf16⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S2x1x1, .i1⟩
  | .hbm, ⟨8, _⟩ => ⟨S1x4x2x704x2048, .f32⟩
  | .hbm, ⟨9, _⟩ => ⟨S_, .f32⟩
  | .hbm, ⟨10, _⟩ => ⟨S_, .f32⟩
  | .hbm, ⟨11, _⟩ => ⟨S1x4x2x704x2048, .i1⟩
  | .hbm, ⟨12, _⟩ => ⟨S1x4x2x704x2048, .f32⟩
  | .hbm, ⟨13, _⟩ => ⟨S1x4x2x704x2048, .f32⟩
  | .hbm, ⟨14, _⟩ => ⟨S_, .f32⟩
  | .hbm, ⟨15, _⟩ => ⟨S1x4x704x2048, .f32⟩
  | .hbm, ⟨16, _⟩ => ⟨S1x4x704x2048, .bf16⟩
  | .hbm, ⟨17, _⟩ => ⟨S1x4x704x2048, .f32⟩
  | .hbm, ⟨18, _⟩ => ⟨S1x4x704x2048, .f32⟩
  | .hbm, ⟨19, _⟩ => ⟨S1x4x704x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel22.lean ====
abbrev S1 : Shape := ⟨1, ![1]⟩
abbrev S2x704x2048 : Shape := ⟨3, ![2, 704, 2048]⟩
abbrev S1x4x704x2048 : Shape := ⟨4, ![1, 4, 704, 2048]⟩
abbrev S1x1x704x2048 : Shape := ⟨4, ![1, 1, 704, 2048]⟩
abbrev S1x176x2048 : Shape := ⟨3, ![1, 176, 2048]⟩
abbrev S1x1x176x2048 : Shape := ⟨4, ![1, 1, 176, 2048]⟩
abbrev S176x2048 : Shape := ⟨2, ![176, 2048]⟩

abbrev nBuf : Space → Nat
  | .hbm => 15
  | .vmem => 30
  | .smem => 1
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S1x4x704x2048, .bf16⟩
  | .hbm, ⟨4, _⟩ => ⟨S1x1x704x2048, .bf16⟩
  | .hbm, ⟨5, _⟩ => ⟨S1x1x704x2048, .bf16⟩
  | .hbm, ⟨6, _⟩ => ⟨S1x1x704x2048, .bf16⟩
  | .hbm, ⟨7, _⟩ => ⟨S1x4x704x2048, .bf16⟩
  | .hbm, ⟨8, _⟩ => ⟨S1x1x704x2048, .bf16⟩
  | .hbm, ⟨9, _⟩ => ⟨S1x1x704x2048, .bf16⟩
  | .hbm, ⟨10, _⟩ => ⟨S1x1x704x2048, .bf16⟩
  | .hbm, ⟨11, _⟩ => ⟨S2x704x2048, .f32⟩
  | .hbm, ⟨12, _⟩ => ⟨S2x704x2048, .f32⟩
  | .hbm, ⟨13, _⟩ => ⟨S2x704x2048, .f32⟩
  | .hbm, ⟨14, _⟩ => ⟨S2x704x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x1x176x2048, .bf16⟩
  | .local _ .vmem, ⟨7, _⟩ => ⟨S1x1x176x2048, .bf16⟩
  | .local _ .vmem, ⟨8, _⟩ => ⟨S1x1x176x2048, .bf16⟩
  | .local _ .vmem, ⟨9, _⟩ => ⟨S1x1x176x2048, .bf16⟩
  | .local _ .vmem, ⟨10, _⟩ => ⟨S1x1x176x2048, .bf16⟩
  | .local _ .vmem, ⟨11, _⟩ => ⟨S1x1x176x2048, .bf16⟩
  | .local _ .vmem, ⟨12, _⟩ => ⟨S1x1x176x2048, .bf16⟩
  | .local _ .vmem, ⟨13, _⟩ => ⟨S1x1x176x2048, .bf16⟩
  | .local _ .vmem, ⟨14, _⟩ => ⟨S1x1x176x2048, .bf16⟩
  | .local _ .vmem, ⟨15, _⟩ => ⟨S1x1x176x2048, .bf16⟩
  | .local _ .vmem, ⟨16, _⟩ => ⟨S1x1x176x2048, .bf16⟩
  | .local _ .vmem, ⟨17, _⟩ => ⟨S1x1x176x2048, .bf16⟩
  | .local _ .vmem, ⟨18, _⟩ => ⟨S1x1x176x2048, .bf16⟩
  | .local _ .vmem, ⟨19, _⟩ => ⟨S1x1x176x2048, .bf16⟩
  | .local _ .vmem, ⟨20, _⟩ => ⟨S1x1x176x2048, .bf16⟩
  | .local _ .vmem, ⟨21, _⟩ => ⟨S1x1x176x2048, .bf16⟩
  | .local _ .vmem, ⟨22, _⟩ => ⟨S1x176x2048, .f32⟩
  | .local _ .vmem, ⟨23, _⟩ => ⟨S1x176x2048, .f32⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .smem, ⟨0, _⟩ => ⟨S1, .i32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c0 : Index := 0#32
  let v4 : BitVec 32 := pf.at 0 (Rect.unit (s := S1) ![0] S1.size inb_S1_S1_0) numel1_S1
  let c0_i32_2 : BitVec 32 := 0#32
  let c0_i32_3 : BitVec 32 := 0#32
  let c0_i32_4 : BitVec 32 := 0#32
  ![c0_i32_2.toNat, v4.toNat, v3.toNat, c0_i32_3.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c0_i32_2 : BitVec 32 := 0#32
  let c0_i32_3 : BitVec 32 := 0#32
  let c0_i32_4 : BitVec 32 := 0#32
  let c0_i32_5 : BitVec 32 := 0#32
  ![c0_i32_2.toNat, c0_i32_3.toNat, v3.toNat, c0_i32_4.toNat]

def cc0_transform_7 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c3_i32 : BitVec 32 := 3#32
  let v2 : BitVec 32 := Scalar.select v1 c3_i32 arg1
  let c0_i32 : BitVec 32 := 0#32
  let v3 : BitVec 32 := Scalar.select v0 c0_i32 v2
  let c0 : Index := 0#32
  let v4 : BitVec 32 := pf.at 0 (Rect.unit (s := S1) ![0] S1.size inb_S1_S1_0) numel1_S1
  let c0_i32_1 : BitVec 32 := 0#32
  let c0_i32_2 : BitVec 32 := 0#32
  let c0_i32_3 : BitVec 32 := 0#32
  ![c0_i32_1.toNat, v4.toNat, v3.toNat, c0_i32_2.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c3_i32 : BitVec 32 := 3#32
  let v2 : BitVec 32 := Scalar.select v1 c3_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c3_i32 : BitVec 32 := 3#32
  let v2 : BitVec 32 := Scalar.select v1 c3_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c3_i32 : BitVec 32 := 3#32
  let v2 : BitVec 32 := Scalar.select v1 c3_i32 arg1
  let c0_i32 : BitVec 32 := 0#32
  let v3 : BitVec 32 := Scalar.select v0 c0_i32 v2
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v3.toNat, c0_i32_3.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x176x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x176x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x176x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x176x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x176x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x176x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x176x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x176x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x176x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference22Ideal.lean ====
abbrev S1 : Shape := ⟨1, ![1]⟩
abbrev S2x704x2048 : Shape := ⟨3, ![2, 704, 2048]⟩
abbrev S1x4x704x2048 : Shape := ⟨4, ![1, 4, 704, 2048]⟩
abbrev S1x1x704x2048 : Shape := ⟨4, ![1, 1, 704, 2048]⟩
abbrev S4 : Shape := ⟨1, ![4]⟩
abbrev S_ : Shape := ⟨0, ![]⟩
abbrev S4x1x1 : Shape := ⟨3, ![4, 1, 1]⟩
abbrev S4x704x2048 : Shape := ⟨3, ![4, 704, 2048]⟩
abbrev S704x2048 : Shape := ⟨2, ![704, 2048]⟩
abbrev S1x704x2048 : Shape := ⟨3, ![1, 704, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S1x4x704x2048, .bf16⟩
  | .hbm, ⟨5, _⟩ => ⟨S1x1x704x2048, .bf16⟩
  | .hbm, ⟨6, _⟩ => ⟨S1x1x704x2048, .bf16⟩
  | .hbm, ⟨7, _⟩ => ⟨S1x1x704x2048, .bf16⟩
  | .hbm, ⟨8, _⟩ => ⟨S1x4x704x2048, .bf16⟩
  | .hbm, ⟨9, _⟩ => ⟨S1x1x704x2048, .bf16⟩
  | .hbm, ⟨10, _⟩ => ⟨S1x1x704x2048, .bf16⟩
  | .hbm, ⟨11, _⟩ => ⟨S1x1x704x2048, .bf16⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4x1x1, .i1⟩
  | .hbm, ⟨17, _⟩ => ⟨S4x704x2048, .bf16⟩
  | .hbm, ⟨18, _⟩ => ⟨S4x704x2048, .f32⟩
  | .hbm, ⟨19, _⟩ => ⟨S_, .f32⟩
  | .hbm, ⟨20, _⟩ => ⟨S_, .f32⟩
  | .hbm, ⟨21, _⟩ => ⟨S4x704x2048, .i1⟩
  | .hbm, ⟨22, _⟩ => ⟨S4x704x2048, .f32⟩
  | .hbm, ⟨23, _⟩ => ⟨S4x704x2048, .f32⟩
  | .hbm, ⟨24, _⟩ => ⟨S_, .f32⟩
  | .hbm, ⟨25, _⟩ => ⟨S704x2048, .f32⟩
  | .hbm, ⟨26, _⟩ => ⟨S704x2048, .bf16⟩
  | .hbm, ⟨27, _⟩ => ⟨S704x2048, .f32⟩
  | .hbm, ⟨28, _⟩ => ⟨S704x2048, .f32⟩
  | .hbm, ⟨29, _⟩ => ⟨S704x2048, .bf16⟩
  | .hbm, ⟨30, _⟩ => ⟨S704x2048, .f32⟩
  | .hbm, ⟨31, _⟩ => ⟨S704x2048, .f32⟩
  | .hbm, ⟨32, _⟩ => ⟨S704x2048, .bf16⟩
  | .hbm, ⟨33, _⟩ => ⟨S704x2048, .f32⟩
  | .hbm, ⟨34, _⟩ => ⟨S704x2048, .f32⟩
  | .hbm, ⟨35, _⟩ => ⟨S4x704x2048, .bf16⟩
  | .hbm, ⟨36, _⟩ => ⟨S4x704x2048, .f32⟩
  | .hbm, ⟨37, _⟩ => ⟨S_, .f32⟩
  | .hbm, ⟨38, _⟩ => ⟨S_, .f32⟩
  | .hbm, ⟨39, _⟩ => ⟨S4x704x2048, .i1⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S704x2048, .f32⟩
  | .hbm, ⟨44, _⟩ => ⟨S704x2048, .bf16⟩
  | .hbm, ⟨45, _⟩ => ⟨S704x2048, .f32⟩
  | .hbm, ⟨46, _⟩ => ⟨S704x2048, .f32⟩
  | .hbm, ⟨47, _⟩ => ⟨S704x2048, .bf16⟩
  | .hbm, ⟨48, _⟩ => ⟨S704x2048, .f32⟩
  | .hbm, ⟨49, _⟩ => ⟨S704x2048, .f32⟩
  | .hbm, ⟨50, _⟩ => ⟨S704x2048, .bf16⟩
  | .hbm, ⟨51, _⟩ => ⟨S704x2048, .f32⟩
  | .hbm, ⟨52, _⟩ => ⟨S704x2048, .f32⟩
  | .hbm, ⟨53, _⟩ => ⟨S1x704x2048, .f32⟩
  | .hbm, ⟨54, _⟩ => ⟨S1x704x2048, .f32⟩
  | .hbm, ⟨55, _⟩ => ⟨S2x704x2048, .f32⟩
  | .hbm, ⟨56, _⟩ => ⟨S_, .f32⟩
  | .hbm, ⟨57, _⟩ => ⟨S2x704x2048, .f32⟩
  | .hbm, ⟨58, _⟩ => ⟨S2x704x2048, .f32⟩
  | .hbm, ⟨59, _⟩ => ⟨S_, .f32⟩
  | .hbm, ⟨60, _⟩ => ⟨S2x704x2048, .f32⟩
  | .hbm, ⟨61, _⟩ => ⟨S2x704x2048, .f32⟩
  | .hbm, ⟨62, _⟩ => ⟨S2x704x2048, .f32⟩
  | .hbm, ⟨63, _⟩ => ⟨S_, .f32⟩
  | .hbm, ⟨64, _⟩ => ⟨S2x704x2048, .f32⟩
  | .hbm, ⟨65, _⟩ => ⟨S2x704x2048, .f32⟩
  | .hbm, ⟨66, _⟩ => ⟨S2x704x2048, .f32⟩
  | .hbm, ⟨67, _⟩ => ⟨S_, .f32⟩
  | .hbm, ⟨68, _⟩ => ⟨S2x704x2048, .f32⟩
  | .hbm, ⟨69, _⟩ => ⟨S2x704x2048, .f32⟩
  | .hbm, ⟨70, _⟩ => ⟨S2x704x2048, .f32⟩
  | .hbm, ⟨71, _⟩ => ⟨S_, .f32⟩
  | .hbm, ⟨72, _⟩ => ⟨S2x704x2048, .f32⟩
  | .hbm, ⟨73, _⟩ => ⟨S2x704x2048, .f32⟩
  | .hbm, ⟨74, _⟩ => ⟨S_, .f32⟩
  | .hbm, ⟨75, _⟩ => ⟨S2x704x2048, .f32⟩
  | .hbm, ⟨76, _⟩ => ⟨S2x704x2048, .f32⟩
  | .hbm, ⟨77, _⟩ => ⟨S2x704x2048, .f32⟩
  | .hbm, ⟨78, _⟩ => ⟨S_, .f32⟩
  | .hbm, ⟨79, _⟩ => ⟨S2x704x2048, .f32⟩
  | .hbm, ⟨80, _⟩ => ⟨S2x704x2048, .f32⟩
  | .hbm, ⟨81, _⟩ => ⟨S2x704x2048, .f32⟩
  | .hbm, ⟨82, _⟩ => ⟨S_, .f32⟩
  | .hbm, ⟨83, _⟩ => ⟨S2x704x2048, .f32⟩
  | .hbm, ⟨84, _⟩ => ⟨S2x704x2048, .f32⟩
  | .hbm, ⟨85, _⟩ => ⟨S2x704x2048, .f32⟩
  | .hbm, ⟨86, _⟩ => ⟨S_, .f32⟩
  | .hbm, ⟨87, _⟩ => ⟨S2x704x2048, .f32⟩
  | .hbm, ⟨88, _⟩ => ⟨S2x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== Proof.Sgu.Spec.lean ====
/- The block of the spatial gating unit and its gradient over the real numbers: the functions that both programs are
   read at. Rows run over the 2048 rows of the step, groups `q` over the eight groups of 128 lanes, chunks are 128 rows. -/
module

public import Idealize.ShloMosaic.Lib.Pointwise
public import Idealize.ShloMosaic.Lib.IdealHost

@[expose] public section

noncomputable section

namespace Cert.Sgu

open Idealize.ShloMosaic

/-- The printed single-precision number next to the square root of `2 / π`. -/
def kap : ℝ := 13386282 / 2 ^ 24
/-- The printed single-precision number next to one millionth. -/
def eps : ℝ := 8796093 / 2 ^ 43
/-- The coefficient 0.044715 of the tanh form of GELU. -/
def alf : ℝ := 8943 / 200000

theorem eps_pos : 0 < eps := by unfold eps; norm_num

/-- The hyperbolic tangent inside GELU. -/
def th (x : ℝ) : ℝ := Real.tanh (kap * (x + alf * (x * x * x)))
/-- GELU in its tanh form. -/
def act (x : ℝ) : ℝ := x * (1 / 2 * (1 + th x))
/-- The derivative of GELU in its tanh form. -/
def slope (x : ℝ) : ℝ :=
  1 / 2 * (1 + th x) + 1 / 2 * x * (1 - th x * th x) * (kap * (1 + 3 * alf * x * x))

section Row
/-! One group of one row: 128 lanes `a`. -/
variable (a : Fin 128 → ℝ)
/-- The mean of the lanes. -/
def mean : ℝ := (∑ k : Fin 128, a k) * (1 / 128)
/-- A lane less the mean. -/
def cen (l : Fin 128) : ℝ := a l - mean a
/-- The mean square of the centred lanes. -/
def var : ℝ := mean fun k => cen a k * cen a k
/-- The reciprocal root of the variance with its guard. -/
def rs : ℝ := (Real.sqrt (var a + eps))⁻¹
/-- A normalised lane. -/
def xh (l : Fin 128) : ℝ := cen a l * rs a

theorem var_nonneg : 0 ≤ var a := by
  unfold var mean
  exact mul_nonneg (Finset.sum_nonneg fun k _ => mul_self_nonneg _) (by norm_num)

theorem guard_pos : 0 < var a + eps := add_pos_of_nonneg_of_pos (var_nonneg a) eps_pos

/-- The gradient of the normalisation: `d` is the gradient of the normalised lanes. -/
def lnBack (d : Fin 128 → ℝ) (l : Fin 128) : ℝ :=
  rs a * (d l - mean d - xh a l * mean fun k => d k * xh a k)
end Row

section Tile
/-! One group of one chunk: `u`, `v` the two halves of the projection, `d` the gradient of the product, `g`, `b` the
    scale and the offset of the normalisation, `w` and `c` the mixing matrix and its bias. -/
variable (u v d w : Fin 128 → Fin 128 → ℝ) (g b c : Fin 128 → ℝ)
/-- The normalised half. -/
def xhT (r l : Fin 128) : ℝ := xh (fun k => act (v r k)) l
/-- The normalised half, scaled and shifted. -/
def vnT (r l : Fin 128) : ℝ := xhT v r l * g l + b l
/-- The lower triangle of the mixing matrix. -/
def wT (i j : Fin 128) : ℝ := if j ≤ i then w i j else 0
/-- The mixed rows. -/
def sT (i l : Fin 128) : ℝ := (∑ k : Fin 128, wT w i k * vnT v g b k l) + c i
/-- The gradient of the left half. -/
def duT (r l : Fin 128) : ℝ := d r l * sT v w g b c r l * slope (u r l)
/-- The gradient of the mixed rows. -/
def dsT (r l : Fin 128) : ℝ := d r l * act (u r l)
/-- The gradient of the normalised, scaled half. -/
def dvnT (r l : Fin 128) : ℝ := ∑ k : Fin 128, wT w k r * dsT u d k l
/-- The gradient of the right half. -/
def dvT (r l : Fin 128) : ℝ :=
  lnBack (fun k => act (v r k)) (fun k => dvnT u d w r k * g k) l * slope (v r l)
/-- A chunk's part of the gradient of the scale. -/
def dgT (l : Fin 128) : ℝ := ∑ r : Fin 128, dvnT u d w r l * xhT v r l
/-- A chunk's part of the gradient of the offset. -/
def dbT (l : Fin 128) : ℝ := ∑ r : Fin 128, dvnT u d w r l
/-- A chunk's part of the gradient of the mixing matrix. -/
def dwT (i j : Fin 128) : ℝ := if j ≤ i then ∑ l : Fin 128, dsT u d i l * vnT v g b j l else 0
end Tile

/-! Sums and constants as real numbers. -/

/-- A sum of real numbers, taken among the extended ones. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_kap : Ideal.ofBits .f32 0x3F4C422A#32 = ((kap : ℝ) : EReal) := by
  unfold kap; simp [Ideal.ofBits, Ideal.ieee, -EReal.coe_mul]; norm_num
theorem ofBits_eps : Ideal.ofBits .f32 0x358637BD#32 = ((eps : ℝ) : EReal) := by
  unfold eps; simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_mhalf : Ideal.ofBits .f32 0xBF000000#32 = ((-1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_num : Ideal.ofBits .f32 0x460BBC00#32 = ((8943 : ℝ) : EReal) := by
  simp [Ideal.ofBits, Ideal.ieee, -EReal.coe_mul]; norm_num
theorem ofBits_den : Ideal.ofBits .f32 0x48435000#32 = ((200000 : ℝ) : EReal) := by
  simp [Ideal.ofBits, Ideal.ieee, -EReal.coe_mul]; norm_num

/-- A mean of real numbers, taken among the extended ones. -/
theorem div128 (x : ℝ) : Ideal.div ((x : ℝ) : EReal) ((128 : ℝ) : EReal) = ((x * (1 / 128) : ℝ) : EReal) := by
  rw [Ideal.div_coe (by norm_num)]; exact (EReal.coe_mul _ _).symm

/-- The reciprocal root of a positive real number. -/
theorem rsqrt_pos {x : ℝ} (h : 0 < x) : Ideal.rsqrt ((x : ℝ) : EReal) = (((Real.sqrt x)⁻¹ : ℝ) : EReal) := by
  rw [Ideal.rsqrt_coe, if_neg (not_lt.mpr h.le), if_neg h.ne']

end Cert.Sgu
-- ==== Proof.Sgu.Stages.lean ====
/- What the kernel computes for one group of one chunk, as named stages, and each stage read over the real numbers. -/
module

public import proofs.«01_k».proof.Proof.Sgu.Spec
public import proofs.«01_k».proof.Proof.Gen.KernelIdeal.Skeleton
public import Idealize.ShloMosaic.Lib.WordCmp

@[expose] public section

set_option maxRecDepth 16384

noncomputable section

namespace Cert.Sgu

open Cert.KernelIdeal Cert.KernelIdeal.Gen Idealize.ShloMosaic Idealize.ShloMosaic.TcCoe Idealize.SL.Sem

/-- A tile of one group of one chunk. -/
abbrev Tile := FVec Ideal S128x128 .f32
/-- A column of one number per row. -/
abbrev Col := FVec Ideal S128x1 .f32

/-- A tile of one number. -/
def bc (b : BitVec 32) : Tile := broadcast S128x128 (Scalar.ofBits .f32 b)
/-- A tile of one named number. -/
def bcN (n : String) (b : BitVec 32) : Tile := broadcast S128x128 (Named.named (F := Ideal) κ n (φ := .f32) b)

/-- The hyperbolic tangent inside GELU. -/
def kTh (x : Tile) : Tile :=
  tanh (mulf (bc 0x3F4C422A#32) (addf x (mulf (mulf (mulf (bcN "gelu_a" 0x3D372713#32) x) x) x)))
/-- GELU. -/
def kAct (x : Tile) : Tile := mulf (mulf (bc 0x3F000000#32) x) (addf (bc 0x3F800000#32) (kTh x))
/-- The derivative of GELU. -/
def kSlope (x : Tile) : Tile :=
  addf (mulf (bc 0x3F000000#32) (addf (bc 0x3F800000#32) (kTh x)))
    (mulf (mulf (mulf (bc 0x3F000000#32) x) (subf (bc 0x3F800000#32) (mulf (kTh x) (kTh x))))
      (mulf (bc 0x3F4C422A#32) (addf (bc 0x3F800000#32) (mulf (mulf (bcN "gelu_3a" 0x3E095D4F#32) x) x))))
/-- The row means of a tile. -/
def kMean (a : Tile) : Col :=
  divf (shapeCast S128x1 (multiReduction .add [1] S128 a 0x00000000#32 reduces_S128x128_S128 (.inl rfl) rfl)
    shapeCasts_S128_S128x1) (broadcast S128x1 (Scalar.ofBits .f32 0x43000000#32))
/-- A column repeated along the lanes. -/
def kSpread (a : Col) : Tile := broadcastTo S128x128 a broadcasts_S128x1_S128x128
/-- A tile less its row means. -/
def kCen (a : Tile) : Tile := subf a (kSpread (kMean a))
/-- The reciprocal root of the guarded row variances. -/
def kRs (a : Tile) : Col :=
  rsqrt (addf (kMean (mulf (kCen a) (kCen a))) (broadcast S128x1 (Scalar.ofBits .f32 0x358637BD#32)))
/-- The normalised tile. -/
def kXh (a : Tile) : Tile := mulf (kCen a) (kSpread (kRs a))
/-- A row repeated along the rows. -/
def kRow (g : Vec Ideal S1x128 .f32) : Tile :=
  broadcastTo S128x128 (shapeCast S1x128 g shapeCasts_S1x128_S1x128) broadcasts_S1x128_S128x128
/-- The normalised tile, scaled and shifted. -/
def kVn (a : Tile) (g b : Vec Ideal S1x128 .f32) : FVec Ideal S128x128 .bf16 :=
  truncf .bf16 (addf (mulf (kXh a) (kRow g)) (kRow b)) bitsLt_bf16_f32
/-- The lower triangle. -/
def kTri : IVec S128x128 1 :=
  cmpi .sge (iota .tc S128x128 32 [0] iota_S128x128_d0_w32) (iota .tc S128x128 32 [1] iota_S128x128_d1_w32)
/-- The lower triangle of a mixing matrix. -/
def kW (w : Vec Ideal S1x128x128 .f32) : Tile :=
  select kTri (shapeCast S128x128 w shapeCasts_S1x128x128_S128x128) (bc 0x00000000#32)
/-- The bias of group `q`. -/
def kBias (q : BitVec 32) (c : Vec Ideal S128x8 .f32) : Col :=
  shapeCast S128x1 (multiReduction .add [1] S128
    (select (cmpi .eq (iota .tc S128x8 32 [1] iota_S128x8_d1_w32) (broadcast S128x8 q))
      (shapeCast S128x8 c shapeCasts_S128x8_S128x8) (broadcast S128x8 (Scalar.ofBits .f32 0x00000000#32)))
    0x00000000#32 reduces_S128x8_S128 (.inl rfl) rfl) shapeCasts_S128_S128x1
/-- The mixed rows. -/
def kS (a : Tile) (g b : Vec Ideal S1x128 .f32) (w : Vec Ideal S1x128x128 .f32) (q : BitVec 32)
    (c : Vec Ideal S128x8 .f32) : Tile :=
  addf (matmul dot_S128x128_S128x128_S128x128_1_0_0_1_n_n none (truncf .bf16 (kW w) bitsLt_bf16_f32) (kVn a g b)
    (constant S128x128 .f32 0x00000000#32)) (kSpread (kBias q c))
/-- The gradient of the left half. -/
def kDu (u v d : Tile) (g b : Vec Ideal S1x128 .f32) (w : Vec Ideal S1x128x128 .f32) (q : BitVec 32)
    (c : Vec Ideal S128x8 .f32) : FVec Ideal S128x128 .bf16 :=
  truncf .bf16 (mulf (mulf d (kS (kAct v) g b w q c)) (kSlope u)) bitsLt_bf16_f32
/-- The gradient of the mixed rows. -/
def kDs (u d : Tile) : Tile := mulf d (kAct u)
/-- The gradient of the scaled half. -/
def kDvn (u d : Tile) (w : Vec Ideal S1x128x128 .f32) : Tile :=
  matmul dot_S128x128_S128x128_S128x128_1_0_0_1_n_n none
    (truncf .bf16 (transpose S128x128 [1, 0] (kW w) transposes_S128x128_p1_0_S128x128) bitsLt_bf16_f32)
    (truncf .bf16 (kDs u d) bitsLt_bf16_f32) (constant S128x128 .f32 0x00000000#32)
/-- The gradient of the right half. -/
def kDv (u v d : Tile) (g : Vec Ideal S1x128 .f32) (w : Vec Ideal S1x128x128 .f32) : FVec Ideal S128x128 .bf16 :=
  let dxh := mulf (kDvn u d w) (kRow g)
  truncf .bf16 (mulf (mulf (kSpread (kRs (kAct v))) (subf (subf dxh (kSpread (kMean dxh)))
    (mulf (kXh (kAct v)) (kSpread (kMean (mulf dxh (kXh (kAct v)))))))) (kSlope v)) bitsLt_bf16_f32
/-- Column sums repeated over eight rows, added to what is there. -/
def kAcc8 (o : Vec Ideal S8x128 .f32) (a : Tile) : FVec Ideal S8x128 .f32 :=
  addf (shapeCast S8x128 o shapeCasts_S8x128_S8x128)
    (broadcastTo S8x128 (shapeCast S1x128 (shapeCast S1x128
      (multiReduction .add [0] S128 a 0x00000000#32 reduces_S128x128_S128_2 (.inl rfl) rfl) shapeCasts_S128_S1x128)
      shapeCasts_S1x128_S1x128) broadcasts_S1x128_S8x128)
/-- A chunk's part of the gradient of the mixing matrix, added to what is there. -/
def kDw (o : Vec Ideal S1x128x128 .f32) (u v d : Tile) (g b : Vec Ideal S1x128 .f32) : FVec Ideal S1x128x128 .f32 :=
  shapeCast S1x128x128 (addf (shapeCast S128x128 o shapeCasts_S1x128x128_S128x128)
    (select kTri (matmul dot_S128x128_S128x128_S128x128_1_1_0_0_n_n none (truncf .bf16 (kDs u d) bitsLt_bf16_f32)
      (kVn (kAct v) g b) (constant S128x128 .f32 0x00000000#32)) (bc 0x00000000#32))) shapeCasts_S128x128_S1x128x128
/-- The gradient of the mixed rows, added to what is there. -/
def kAccS (o : Vec Ideal S1x128x128 .f32) (u d : Tile) : FVec Ideal S1x128x128 .f32 :=
  shapeCast S1x128x128 (addf (shapeCast S128x128 o shapeCasts_S1x128x128_S128x128) (kDs u d))
    shapeCasts_S128x128_S1x128x128

/-! Each stage at an index, over the real numbers. -/

theorem bc_at (b : BitVec 32) (r l : Fin 128) : bc b (ix2 r l) = Ideal.ofBits .f32 b := rfl

theorem bcA_at (r l : Fin 128) : bcN "gelu_a" 0x3D372713#32 (ix2 r l) = ((alf : ℝ) : EReal) := by
  show Named.named (F := Ideal) κ "gelu_a" (φ := .f32) 0x3D372713#32 = _
  rw [IdealRules.named_const.ideal_named_scalar _ _ _ _ rfl]; unfold alf; push_cast; norm_num

theorem bc3A_at (r l : Fin 128) : bcN "gelu_3a" 0x3E095D4F#32 (ix2 r l) = ((3 * alf : ℝ) : EReal) := by
  show Named.named (F := Ideal) κ "gelu_3a" (φ := .f32) 0x3E095D4F#32 = _
  rw [IdealRules.named_const.ideal_named_scalar _ _ _ _ rfl]; unfold alf
  exact congrArg _ (by norm_num)

section At
variable {x u v d : Tile} {X U V D : Fin 128 → Fin 128 → ℝ}
  {g b : Vec Ideal S1x128 .f32} {G B : Fin 128 → ℝ}
  {w : Vec Ideal S1x128x128 .f32} {W : Fin 128 → Fin 128 → ℝ}

theorem kTh_at (hx : ∀ r l, x (ix2 r l) = ((X r l : ℝ) : EReal)) (r l : Fin 128) :
    kTh x (ix2 r l) = ((th (X r l) : ℝ) : EReal) := by
  pointwise [kTh, bc_at, bcA_at, hx]
  simp only [ofBits_kap, ← EReal.coe_mul, ← EReal.coe_add, Ideal.tanh_coe]
  refine congrArg _ (congrArg _ ?_); ring

theorem kAct_at (hx : ∀ r l, x (ix2 r l) = ((X r l : ℝ) : EReal)) (r l : Fin 128) :
    kAct x (ix2 r l) = ((act (X r l) : ℝ) : EReal) := by
  pointwise [kAct, bc_at, hx, kTh_at hx]
  simp only [ofBits_half, ← EReal.coe_one, ← EReal.coe_mul, ← EReal.coe_add]
  refine congrArg _ ?_; unfold act; ring

theorem kSlope_at (hx : ∀ r l, x (ix2 r l) = ((X r l : ℝ) : EReal)) (r l : Fin 128) :
    kSlope x (ix2 r l) = ((slope (X r l) : ℝ) : EReal) := by
  pointwise [kSlope, bc_at, bc3A_at, hx, kTh_at hx]
  simp only [ofBits_half, ← EReal.coe_one, ofBits_kap, ← EReal.coe_mul, ← EReal.coe_add, ← EReal.coe_sub]
  refine congrArg _ ?_; unfold slope; ring

theorem kMean_at (hx : ∀ r l, x (ix2 r l) = ((X r l : ℝ) : EReal)) (r : Fin 128) :
    kMean x (ix2 r (0 : Fin 1)) = ((mean (X r) : ℝ) : EReal) := by
  pointwise [kMean, hx]
  simp only [ofBits_128, coe_sum, div128]
  rfl

theorem kSpread_at (a : Col) (r l : Fin 128) : kSpread a (ix2 r l) = a (ix2 r (0 : Fin 1)) := by
  pointwise [kSpread]

theorem kCen_at (hx : ∀ r l, x (ix2 r l) = ((X r l : ℝ) : EReal)) (r l : Fin 128) :
    kCen x (ix2 r l) = ((cen (X r) l : ℝ) : EReal) := by
  pointwise [kCen, kSpread_at, kMean_at hx, hx]
  exact (EReal.coe_sub _ _).symm

theorem kRs_at (hx : ∀ r l, x (ix2 r l) = ((X r l : ℝ) : EReal)) (r : Fin 128) :
    kRs x (ix2 r (0 : Fin 1)) = ((rs (X r) : ℝ) : EReal) := by
  have hm := kMean_at (x := mulf (kCen x) (kCen x)) (X := fun r k => cen (X r) k * cen (X r) k)
    (fun r l => by pointwise [kCen_at hx]; exact (EReal.coe_mul _ _).symm) r
  pointwise [kRs, hm]
  simp only [ofBits_eps, ← EReal.coe_add]
  exact rsqrt_pos (guard_pos (X r))

theorem kXh_at (hx : ∀ r l, x (ix2 r l) = ((X r l : ℝ) : EReal)) (r l : Fin 128) :
    kXh x (ix2 r l) = ((xh (X r) l : ℝ) : EReal) := by
  pointwise [kXh, kSpread_at, kRs_at hx, kCen_at hx]
  exact (EReal.coe_mul _ _).symm

theorem kRow_at (hg : ∀ l, g (ix2 (0 : Fin 1) l) = ((G l : ℝ) : EReal)) (r l : Fin 128) :
    kRow g (ix2 r l) = ((G l : ℝ) : EReal) := by
  pointwise [kRow, hg]

theorem kVn_at (hv : ∀ r l, v (ix2 r l) = ((V r l : ℝ) : EReal)) (hg : ∀ l, g (ix2 (0 : Fin 1) l) = ((G l : ℝ) : EReal))
    (hb : ∀ l, b (ix2 (0 : Fin 1) l) = ((B l : ℝ) : EReal)) (r l : Fin 128) :
    kVn (kAct v) g b (ix2 r l) = ((vnT V G B r l : ℝ) : EReal) := by
  pointwise [kVn, kXh_at (kAct_at hv), kRow_at hg, kRow_at hb]
  simp only [← EReal.coe_mul, ← EReal.coe_add]; rfl

theorem kTri_at (r l : Fin 128) : kTri (ix2 r l) = if l ≤ r then 1#1 else 0#1 := by
  pointwise [kTri]
  rw [WordCmp.cmpi_sge_ofNat (by omega) (by omega)]
  by_cases h : l ≤ r
  · rw [if_pos h, decide_eq_true (Fin.le_def.mp h)]; rfl
  · rw [if_neg h, decide_eq_false (fun h' => h (Fin.le_def.mpr h'))]; rfl

theorem kW_at (hw : ∀ r l, w (ix3 (0 : Fin 1) r l) = ((W r l : ℝ) : EReal)) (r l : Fin 128) :
    kW w (ix2 r l) = ((wT W r l : ℝ) : EReal) := by
  pointwise [kW, kTri_at, hw, bc_at]
  unfold wT
  split_ifs <;> rfl

theorem kDs_at (hu : ∀ r l, u (ix2 r l) = ((U r l : ℝ) : EReal)) (hd : ∀ r l, d (ix2 r l) = ((D r l : ℝ) : EReal))
    (r l : Fin 128) : kDs u d (ix2 r l) = ((dsT U D r l : ℝ) : EReal) := by
  pointwise [kDs, hd, kAct_at hu]
  exact (EReal.coe_mul _ _).symm

theorem kDvn_at (hu : ∀ r l, u (ix2 r l) = ((U r l : ℝ) : EReal)) (hd : ∀ r l, d (ix2 r l) = ((D r l : ℝ) : EReal))
    (hw : ∀ r l, w (ix3 (0 : Fin 1) r l) = ((W r l : ℝ) : EReal)) (r l : Fin 128) :
    kDvn u d w (ix2 r l) = ((dvnT U D W r l : ℝ) : EReal) := by
  pointwise [kDvn, kDs_at hu hd, kW_at hw]
  simp only [← EReal.coe_mul, coe_sum]
  rfl

theorem kDv_at (hu : ∀ r l, u (ix2 r l) = ((U r l : ℝ) : EReal)) (hv : ∀ r l, v (ix2 r l) = ((V r l : ℝ) : EReal))
    (hd : ∀ r l, d (ix2 r l) = ((D r l : ℝ) : EReal)) (hg : ∀ l, g (ix2 (0 : Fin 1) l) = ((G l : ℝ) : EReal))
    (hw : ∀ r l, w (ix3 (0 : Fin 1) r l) = ((W r l : ℝ) : EReal)) (r l : Fin 128) :
    kDv u v d g w (ix2 r l) = ((dvT U V D W G r l : ℝ) : EReal) := by
  have h1 : ∀ r l, mulf (kDvn u d w) (kRow g) (ix2 r l) = ((dvnT U D W r l * G l : ℝ) : EReal) := fun r l => by
    pointwise [kDvn_at hu hd hw, kRow_at hg]; exact (EReal.coe_mul _ _).symm
  have h2 := kMean_at h1 r
  have h3 := kMean_at (x := mulf (mulf (kDvn u d w) (kRow g)) (kXh (kAct v)))
    (X := fun r k => dvnT U D W r k * G k * xh (fun k => act (V r k)) k) (fun r l => by
      pointwise [kDvn_at hu hd hw, kRow_at hg, kXh_at (kAct_at hv)]; simp only [← EReal.coe_mul]) r
  pointwise [kDv, kSpread_at, kRs_at (kAct_at hv), kXh_at (kAct_at hv), kSlope_at hv, h2, h3, kDvn_at hu hd hw, kRow_at hg]
  simp only [← EReal.coe_mul, ← EReal.coe_sub]
  rfl

theorem kBias_at {c : Vec Ideal S128x8 .f32} {C : Fin 128 → Fin 8 → ℝ}
    (hc : ∀ r q, c (ix2 r q) = ((C r q : ℝ) : EReal)) (q : Fin 8) (r : Fin 128) :
    kBias (BitVec.ofNat 32 q.val) c (ix2 r (0 : Fin 1)) = ((C r q : ℝ) : EReal) := by
  pointwise [kBias, hc]
  rw [Finset.sum_eq_single q]
  · rw [WordCmp.cmpi_eq_ofNat (by omega) (by omega)]; simp; rfl
  · intro k _ hk
    rw [WordCmp.cmpi_eq_ofNat (by omega) (by omega), decide_eq_false (fun h => hk (Fin.ext h))]; rfl
  · intro h; exact absurd (Finset.mem_univ q) h

theorem kS_at {c : Vec Ideal S128x8 .f32} {C : Fin 128 → Fin 8 → ℝ}
    (hv : ∀ r l, v (ix2 r l) = ((V r l : ℝ) : EReal)) (hg : ∀ l, g (ix2 (0 : Fin 1) l) = ((G l : ℝ) : EReal))
    (hb : ∀ l, b (ix2 (0 : Fin 1) l) = ((B l : ℝ) : EReal)) (hw : ∀ r l, w (ix3 (0 : Fin 1) r l) = ((W r l : ℝ) : EReal))
    (hc : ∀ r q, c (ix2 r q) = ((C r q : ℝ) : EReal)) (q : Fin 8) (r l : Fin 128) :
    kS (kAct v) g b w (BitVec.ofNat 32 q.val) c (ix2 r l) = ((sT V W G B (fun r => C r q) r l : ℝ) : EReal) := by
  pointwise [kS, kSpread_at, kBias_at hc, kVn_at hv hg hb, kW_at hw]
  simp only [← EReal.coe_mul, coe_sum, ← EReal.coe_add]
  rfl

theorem kDu_at {c : Vec Ideal S128x8 .f32} {C : Fin 128 → Fin 8 → ℝ} (hu : ∀ r l, u (ix2 r l) = ((U r l : ℝ) : EReal))
    (hv : ∀ r l, v (ix2 r l) = ((V r l : ℝ) : EReal)) (hd : ∀ r l, d (ix2 r l) = ((D r l : ℝ) : EReal))
    (hg : ∀ l, g (ix2 (0 : Fin 1) l) = ((G l : ℝ) : EReal))
    (hb : ∀ l, b (ix2 (0 : Fin 1) l) = ((B l : ℝ) : EReal)) (hw : ∀ r l, w (ix3 (0 : Fin 1) r l) = ((W r l : ℝ) : EReal))
    (hc : ∀ r q, c (ix2 r q) = ((C r q : ℝ) : EReal)) (q : Fin 8) (r l : Fin 128) :
    kDu u v d g b w (BitVec.ofNat 32 q.val) c (ix2 r l) = ((duT U V D W G B (fun r => C r q) r l : ℝ) : EReal) := by
  pointwise [kDu, hd, kS_at hv hg hb hw hc, kSlope_at hu]
  simp only [← EReal.coe_mul]
  rfl

/-- Eight rows of column sums: each is the row that was there plus the sum over the tile's rows. -/
theorem kAcc8_at (o : Vec Ideal S8x128 .f32) (hx : ∀ r l, x (ix2 r l) = ((X r l : ℝ) : EReal)) (s : Fin 8) (l : Fin 128) :
    kAcc8 o x (ix2 s l) = o (ix2 s l) + ((∑ r : Fin 128, X r l : ℝ) : EReal) := by
  pointwise [kAcc8, hx]
  rw [coe_sum]

theorem kDg_at (hu : ∀ r l, u (ix2 r l) = ((U r l : ℝ) : EReal)) (hv : ∀ r l, v (ix2 r l) = ((V r l : ℝ) : EReal))
    (hd : ∀ r l, d (ix2 r l) = ((D r l : ℝ) : EReal)) (hw : ∀ r l, w (ix3 (0 : Fin 1) r l) = ((W r l : ℝ) : EReal))
    (o : Vec Ideal S8x128 .f32) (s : Fin 8) (l : Fin 128) :
    kAcc8 o (mulf (kDvn u d w) (kXh (kAct v))) (ix2 s l) = o (ix2 s l) + ((dgT U V D W l : ℝ) : EReal) :=
  kAcc8_at o (X := fun r l => dvnT U D W r l * xhT V r l) (fun r l => by
    pointwise [kDvn_at hu hd hw, kXh_at (kAct_at hv)]; exact (EReal.coe_mul _ _).symm) s l

theorem kDb_at (hu : ∀ r l, u (ix2 r l) = ((U r l : ℝ) : EReal)) (hd : ∀ r l, d (ix2 r l) = ((D r l : ℝ) : EReal))
    (hw : ∀ r l, w (ix3 (0 : Fin 1) r l) = ((W r l : ℝ) : EReal))
    (o : Vec Ideal S8x128 .f32) (s : Fin 8) (l : Fin 128) :
    kAcc8 o (kDvn u d w) (ix2 s l) = o (ix2 s l) + ((dbT U D W l : ℝ) : EReal) :=
  kAcc8_at o (kDvn_at hu hd hw) s l

theorem kDw_at (hu : ∀ r l, u (ix2 r l) = ((U r l : ℝ) : EReal)) (hv : ∀ r l, v (ix2 r l) = ((V r l : ℝ) : EReal))
    (hd : ∀ r l, d (ix2 r l) = ((D r l : ℝ) : EReal)) (hg : ∀ l, g (ix2 (0 : Fin 1) l) = ((G l : ℝ) : EReal))
    (hb : ∀ l, b (ix2 (0 : Fin 1) l) = ((B l : ℝ) : EReal)) (o : Vec Ideal S1x128x128 .f32) (r l : Fin 128) :
    kDw o u v d g b (ix3 (0 : Fin 1) r l) = o (ix3 (0 : Fin 1) r l) + ((dwT U V D G B r l : ℝ) : EReal) := by
  pointwise [kDw, kTri_at, bc_at, kDs_at hu hd, kVn_at hv hg hb]
  simp only [← EReal.coe_mul, coe_sum]
  unfold dwT
  split_ifs <;> rfl

theorem kAccS_at (hu : ∀ r l, u (ix2 r l) = ((U r l : ℝ) : EReal)) (hd : ∀ r l, d (ix2 r l) = ((D r l : ℝ) : EReal))
    (o : Vec Ideal S1x128x128 .f32) (r l : Fin 128) :
    kAccS o u d (ix3 (0 : Fin 1) r l) = o (ix3 (0 : Fin 1) r l) + ((dsT U D r l : ℝ) : EReal) := by
  pointwise [kAccS, kDs_at hu hd]

end At

end Cert.Sgu
-- ==== Proof.Sgu.Blocks.lean ====
/- What the blocks that the kernel reads hold, over the real numbers. -/
module

public import proofs.«01_k».proof.Proof.Sgu.Stages
public import proofs.«01_k».proof.Proof.Gen.KernelIdeal.Value
public import Idealize.ShloMosaic.Lib.Pipeline.ValueKit
public import Idealize.ShloMosaic.Lib.Pipeline.ReadBack
public import Idealize.ShloMosaic.Lib.StableHlo.Run

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

/-- The six arguments as real functions of natural indices. -/
structure Reals where
  /-- The input projection, all 7680 columns. -/
  P : ℕ → ℕ → ℝ
  /-- The gradient of the block's result. -/
  D : ℕ → ℕ → ℝ
  /-- The scale of the normalisation. -/
  g : ℕ → ℝ
  /-- Its offset. -/
  b : ℕ → ℝ
  /-- The mixing matrices. -/
  W : ℕ → ℕ → ℕ → ℝ
  /-- Their biases. -/
  C : ℕ → ℕ → ℝ

namespace Reals
variable (A : Reals) (i q : ℕ)
/-- Chunk `i` of group `q` of the left half. -/
def u (r l : Fin 128) : ℝ := A.P (128 * i + r) (1536 + 128 * q + l)
/-- Chunk `i` of group `q` of the right half. -/
def v (r l : Fin 128) : ℝ := A.P (128 * i + r) (2560 + 128 * q + l)
/-- Chunk `i` of group `q` of the result's gradient. -/
def d (r l : Fin 128) : ℝ := A.D (128 * i + r) (128 * q + l)
/-- Group `q` of the scale. -/
def gg (l : Fin 128) : ℝ := A.g (128 * q + l)
/-- Group `q` of the offset. -/
def bb (l : Fin 128) : ℝ := A.b (128 * q + l)
/-- The mixing matrix of group `q`. -/
def w (r l : Fin 128) : ℝ := A.W q r l
/-- The bias of group `q`. -/
def c (r : Fin 128) : ℝ := A.C q r

/-- The gradient of the left half in chunk `i` and group `q`. -/
def du : Fin 128 → Fin 128 → ℝ := duT (A.u i q) (A.v i q) (A.d i q) (A.w q) (A.gg q) (A.bb q) (A.c q)
/-- The gradient of the right half. -/
def dv : Fin 128 → Fin 128 → ℝ := dvT (A.u i q) (A.v i q) (A.d i q) (A.w q) (A.gg q)
/-- A chunk's part of the gradient of the scale. -/
def dg : Fin 128 → ℝ := dgT (A.u i q) (A.v i q) (A.d i q) (A.w q)
/-- A chunk's part of the gradient of the offset. -/
def db : Fin 128 → ℝ := dbT (A.u i q) (A.d i q) (A.w q)
/-- A chunk's part of the gradient of the mixing matrix. -/
def dw : Fin 128 → Fin 128 → ℝ := dwT (A.u i q) (A.v i q) (A.d i q) (A.gg q) (A.bb q)
/-- The gradient of the mixed rows. -/
def ds : Fin 128 → Fin 128 → ℝ := dsT (A.u i q) (A.d i q)
end Reals

variable (m : (ℓ : Loc nD τ sig) → Buf (Elt Ideal) ℓ) (c : Dev nD)

/-- The arguments on device `c` are these real functions. -/
structure Holds (A : Reals) : Prop where
  P : ∀ (r : Fin 2048) (l : Fin 7680), m ((c : Thread nD τ).loc main_arg0) (ix2 r l) = ((A.P r l : ℝ) : EReal)
  D : ∀ (r : Fin 2048) (l : Fin 1024), m ((c : Thread nD τ).loc main_arg1) (ix2 r l) = ((A.D r l : ℝ) : EReal)
  g : ∀ l : Fin 1024, m ((c : Thread nD τ).loc main_arg2) (ix1 l) = ((A.g l : ℝ) : EReal)
  b : ∀ l : Fin 1024, m ((c : Thread nD τ).loc main_arg3) (ix1 l) = ((A.b l : ℝ) : EReal)
  W : ∀ (q : Fin 8) (r l : Fin 128), m ((c : Thread nD τ).loc main_arg4) (ix3 q r l) = ((A.W q r l : ℝ) : EReal)
  C : ∀ (q : Fin 8) (r : Fin 128), m ((c : Thread nD τ).loc main_arg5) (ix2 q r) = ((A.C q r : ℝ) : EReal)

/-! The block each window reads at point `t`: chunk `t % 16` of the lanes of half `t / 16`. -/
theorem idx0 : ∀ t : Fin cfg0.N, win0_0.index t (0 : Fin 2) = t.val % 16 ∧ win0_0.index t (1 : Fin 2) = 3 + t.val / 16 :=
  (by decide +kernel : ∀ t : Fin grid0.N, _)
theorem idx1 : ∀ t : Fin cfg0.N, win0_1.index t (0 : Fin 2) = t.val % 16 ∧ win0_1.index t (1 : Fin 2) = 5 + t.val / 16 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)
theorem idx3 : ∀ t : Fin cfg0.N, win0_3.index t (0 : Fin 2) = 0 ∧ win0_3.index t (1 : Fin 2) = t.val / 16 :=
  (by decide +kernel : ∀ t : Fin grid0.N, _)
theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = t.val / 16 :=
  (by decide +kernel : ∀ t : Fin grid0.N, _)

theorem lt32 (t : Fin cfg0.N) : t.val < 32 := lt_of_lt_of_eq t.isLt (show cfg0.N = 32 from N_0)

/-- The group word of a point: groups `4 (t / 16) + k`. -/
theorem coord0 : ∀ t : Fin cfg0.N, ((grid0.coords t 0 : Fin _) : ℕ) = t.val / 16 :=
  (by decide +kernel : ∀ t : Fin grid0.N, _)

theorem V_v0 : V m c main_v0 = broadcastInDim S1x1024 ![1] bcast_S1024_S1x1024_1 (m ((c : Thread nD τ).loc main_arg2)) := by
  show StableHlo.after hostOps0 _ (Proc.devRef .tc main_v0) = _
  after_results
  try rfl
theorem V_v1 : V m c main_v1 = broadcastInDim S1x1024 ![1] bcast_S1024_S1x1024_1 (m ((c : Thread nD τ).loc main_arg3)) := by
  show StableHlo.after hostOps0 _ (Proc.devRef .tc main_v1) = _
  after_results
  try rfl
theorem V_v2 : V m c main_v2 = transpose S128x8 [1, 0] (m ((c : Thread nD τ).loc main_arg5)) transposes_S8x128_S128x8_1_0 := by
  show StableHlo.after hostOps0 _ (Proc.devRef .tc main_v2) = _
  after_results
  try rfl

section Loads
variable {m c} {A : Reals} (H : Holds m c A) (t : Fin cfg0.N) (k : ℕ) (hk : k < 4)
include H hk

theorem ld_u (inb) (r l : Fin 128) :
    View.ld (iblk m c 0 t) (Rect.unit ![0, 128 * k] ![128, 128] inb) (ix2 r l)
      = ((A.u (t.val % 16) (4 * (t.val / 16) + k) r l : ℝ) : EReal) := by
  have hx := idx0 t
  have ht := lt32 t
  rw [View.ld_unit_apply_of _ _ _ _ _ (ix2 r (⟨128 * k + l, by omega⟩ : Fin 512)) (fun a => by fin_cases a <;> simp)]
  have e : iblk m c 0 t (ix2 r (⟨128 * k + l, by omega⟩ : Fin 512))
      = m ((c : Thread nD τ).loc main_arg0) (ix2 (⟨128 * (t.val % 16) + r, by omega⟩ : Fin 2048)
          (⟨1536 + 128 * (4 * (t.val / 16) + k) + l, by omega⟩ : Fin 7680)) := by
    blk_ext [iblk, V_main_arg0, hx]
  rw [e, H.P]; rfl

theorem ld_v (inb) (r l : Fin 128) :
    View.ld (iblk m c 1 t) (Rect.unit ![0, 128 * k] ![128, 128] inb) (ix2 r l)
      = ((A.v (t.val % 16) (4 * (t.val / 16) + k) r l : ℝ) : EReal) := by
  have hx := idx1 t
  have ht := lt32 t
  rw [View.ld_unit_apply_of _ _ _ _ _ (ix2 r (⟨128 * k + l, by omega⟩ : Fin 512)) (fun a => by fin_cases a <;> simp)]
  have e : iblk m c 1 t (ix2 r (⟨128 * k + l, by omega⟩ : Fin 512))
      = m ((c : Thread nD τ).loc main_arg0) (ix2 (⟨128 * (t.val % 16) + r, by omega⟩ : Fin 2048)
          (⟨2560 + 128 * (4 * (t.val / 16) + k) + l, by omega⟩ : Fin 7680)) := by
    blk_ext [iblk, V_main_arg0, hx]
  rw [e, H.P]; rfl

theorem ld_d (inb) (r l : Fin 128) :
    View.ld (iblk m c 6 t) (Rect.unit ![0, 128 * k] ![128, 128] inb) (ix2 r l)
      = ((A.d (t.val % 16) (4 * (t.val / 16) + k) r l : ℝ) : EReal) := by
  have hx := idx6 t
  have ht := lt32 t
  rw [View.ld_unit_apply_of _ _ _ _ _ (ix2 r (⟨128 * k + l, by omega⟩ : Fin 512)) (fun a => by fin_cases a <;> simp)]
  have e : iblk m c 6 t (ix2 r (⟨128 * k + l, by omega⟩ : Fin 512))
      = m ((c : Thread nD τ).loc main_arg1) (ix2 (⟨128 * (t.val % 16) + r, by omega⟩ : Fin 2048)
          (⟨128 * (4 * (t.val / 16) + k) + l, by omega⟩ : Fin 1024)) := by
    blk_ext [iblk, V_main_arg1, hx]
  rw [e, H.D]; rfl

theorem ld_g (inb) (l : Fin 128) :
    View.ld (iblk m c 2 t) (Rect.unit ![0, 128 * k] ![1, 128] inb) (ix2 (0 : Fin 1) l)
      = ((A.gg (4 * (t.val / 16) + k) l : ℝ) : EReal) := by
  have hx := idx2 t
  have ht := lt32 t
  rw [View.ld_unit_apply_of _ _ _ _ _ (ix2 (0 : Fin 1) (⟨128 * k + l, by omega⟩ : Fin 512)) (fun a => by fin_cases a <;> simp)]
  have e : iblk m c 2 t (ix2 (0 : Fin 1) (⟨128 * k + l, by omega⟩ : Fin 512))
      = V m c main_v0 (ix2 (0 : Fin 1) (⟨128 * (4 * (t.val / 16) + k) + l, by omega⟩ : Fin 1024)) := by
    blk_ext [iblk, hx]
  rw [e, V_v0]; pointwise []; rw [H.g]; rfl

theorem ld_b (inb) (l : Fin 128) :
    View.ld (iblk m c 3 t) (Rect.unit ![0, 128 * k] ![1, 128] inb) (ix2 (0 : Fin 1) l)
      = ((A.bb (4 * (t.val / 16) + k) l : ℝ) : EReal) := by
  have hx := idx3 t
  have ht := lt32 t
  rw [View.ld_unit_apply_of _ _ _ _ _ (ix2 (0 : Fin 1) (⟨128 * k + l, by omega⟩ : Fin 512)) (fun a => by fin_cases a <;> simp)]
  have e : iblk m c 3 t (ix2 (0 : Fin 1) (⟨128 * k + l, by omega⟩ : Fin 512))
      = V m c main_v1 (ix2 (0 : Fin 1) (⟨128 * (4 * (t.val / 16) + k) + l, by omega⟩ : Fin 1024)) := by
    blk_ext [iblk, hx]
  rw [e, V_v1]; pointwise []; rw [H.b]; rfl

theorem ld_w (inb) (r l : Fin 128) :
    View.ld (iblk m c 4 t) (Rect.unit ![k, 0, 0] ![1, 128, 128] inb) (ix3 (0 : Fin 1) r l)
      = ((A.w (4 * (t.val / 16) + k) r l : ℝ) : EReal) := by
  have hx := idx4 t
  have ht := lt32 t
  rw [View.ld_unit_apply_of _ _ _ _ _ (ix3 (⟨k, hk⟩ : Fin 4) r l) (fun a => by fin_cases a <;> simp)]
  have e : iblk m c 4 t (ix3 (⟨k, hk⟩ : Fin 4) r l)
      = m ((c : Thread nD τ).loc main_arg4) (ix3 (⟨4 * (t.val / 16) + k, by omega⟩ : Fin 8) r l) := by
    blk_ext [iblk, V_main_arg4, hx]
  rw [e, H.W]; rfl

omit hk in
theorem at_c (r : Fin 128) (q : Fin 8) : iblk m c 5 t (ix2 r q) = ((A.c q r : ℝ) : EReal) := by
  have hx := idx5 t
  have ht := lt32 t
  have e : iblk m c 5 t (ix2 r q) = V m c main_v2 (ix2 r q) := by
    blk_ext [iblk, hx]
  rw [e, V_v2]; pointwise []; rw [H.C]; rfl

end Loads

/-- The group word of a point. -/
theorem group_word (t : Fin cfg0.N) (k : ℕ) (hk : k < 4) :
    Scalar.addi (Scalar.muli (BitVec.ofNat 32 ((grid0.coords t 0 : Fin _) : ℕ)) 4#32) (BitVec.ofNat 32 k)
      = BitVec.ofNat 32 (4 * (t.val / 16) + k) := by
  have ht := lt32 t
  rw [coord0 t]
  have h : t.val / 16 = 0 ∨ t.val / 16 = 1 := by omega
  rcases h with h | h <;> rw [h] <;> interval_cases k <;> rfl

end Cert.Sgu
-- ==== Proof.Sgu.Points.lean ====
/- One group at one point: each stage of the kernel over the blocks that the point reads. -/
module

public import proofs.«01_k».proof.Proof.Sgu.Blocks

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

/-- Where an index of a block of four tiles side by side lies. -/
theorem tile2 {n : ℕ} {x : (Shape.mk 2 ![n, 128]).Idx} {k K : ℕ} {r : Fin n} {l : Fin 128} (h0 : r.val = (x 0).val)
    (h1 : 128 * k + l.val = 128 * K + (x 1).val) : k = K ∧ x = ix2 r l := by
  have hl : (x 1).val < 128 := (x 1).isLt
  refine ⟨by omega, funext fun a => Fin.ext ?_⟩
  fin_cases a
  · exact h0.symm
  · show (x 1).val = l.val; omega

/-- Where an index of a block of four matrices lies. -/
theorem tile3 {n : ℕ} {x : (Shape.mk 3 ![1, n, 128]).Idx} {k K : ℕ} {r : Fin n} {l : Fin 128} (h0 : k = K + (x 0).val)
    (h1 : r.val = (x 1).val) (h2 : l.val = (x 2).val) : k = K ∧ x = ix3 (0 : Fin 1) r l := by
  have hl : (x 0).val < 1 := (x 0).isLt
  refine ⟨by omega, funext fun a => Fin.ext ?_⟩
  fin_cases a
  · show (x 0).val = 0; omega
  · exact h1.symm
  · exact h2.symm

/-- Stores that cover an index hide what was stored before them. -/
theorem canon_hide {Val : EltTy → Type} [∀ e, Nonempty (Val e)] {S : Shape} {e : EltTy} (p : View.Piece Val S e) (y : S.Idx) :
    ∀ L : List (View.Piece Val S e), (∃ o ∈ L, y ∈ o.1.set) → View.canon (L ++ [p]) y = View.canon L y
  | [], h => by obtain ⟨o, ho, _⟩ := h; simp at ho
  | a :: L, h => by
    by_cases hm : y ∈ a.1.set
    · obtain ⟨x, rfl⟩ := a.1.exists_idx_of_mem hm
      exact (View.canon_cons_emb a.1 a.2 (L ++ [p]) x).trans (View.canon_cons_emb a.1 a.2 L x).symm
    · refine (View.canon_cons_of_not_mem a (L ++ [p]) hm).trans ((canon_hide p y L ?_).trans (View.canon_cons_of_not_mem a L hm).symm)
      obtain ⟨o, ho, hy⟩ := h
      rcases List.mem_cons.mp ho with rfl | ho
      · exact absurd hy hm
      · exact ⟨o, ho, hy⟩

/-- Four stores over a fill of the whole buffer. -/
theorem canon_hide4 {Val : EltTy → Type} [∀ e, Nonempty (Val e)] {S : Shape} {e : EltTy} (a b c d p : View.Piece Val S e) (y : S.Idx)
    (h : ∃ o ∈ [a, b, c, d], y ∈ o.1.set) : View.canon [a, b, c, d, p] y = View.canon [a, b, c, d] y :=
  canon_hide p y [a, b, c, d] h

/-- The lane sums of a matrix, repeated over eight rows. -/
def kDbs (a : Vec Ideal S1x128x128 .f32) : FVec Ideal S1x8x128 .f32 :=
  shapeCast S1x8x128 (broadcastTo S8x128 (shapeCast S1x128 (shapeCast S1x128
    (multiReduction .add [0] S128 (transpose S128x128 [1, 0] (shapeCast S128x128 a shapeCasts_S1x128x128_S128x128)
      transposes_S128x128_p1_0_S128x128) 0x00000000#32 reduces_S128x128_S128_2 (.inl rfl) rfl) shapeCasts_S128_S1x128)
      shapeCasts_S1x128_S1x128) broadcasts_S1x128_S8x128) shapeCasts_S8x128_S1x8x128

theorem kDbs_at {a : Vec Ideal S1x128x128 .f32} {X : Fin 128 → Fin 128 → ℝ}
    (ha : ∀ r l, a (ix3 (0 : Fin 1) r l) = ((X r l : ℝ) : EReal)) (s : Fin 8) (r : Fin 128) :
    kDbs a (ix3 (0 : Fin 1) s r) = ((∑ l : Fin 128, X r l : ℝ) : EReal) := by
  pointwise [kDbs, ha]
  rw [coe_sum]

variable {m : (ℓ : Loc nD τ sig) → Buf (Elt Ideal) ℓ} {c : Dev nD} {A : Reals} (H : Holds m c A) (t : Fin cfg0.N)
include H

variable (k : ℕ) (hk : k < 4)
include hk

theorem pt_du (r l : Fin 128) (i0 i1 i2 i3 i4 i5) :
    kDu (View.ld (iblk m c 0 t) (Rect.unit ![0, 128 * k] ![128, 128] i0))
      (View.ld (iblk m c 1 t) (Rect.unit ![0, 128 * k] ![128, 128] i1))
      (View.ld (iblk m c 6 t) (Rect.unit ![0, 128 * k] ![128, 128] i2))
      (View.ld (iblk m c 2 t) (Rect.unit ![0, 128 * k] ![1, 128] i3))
      (View.ld (iblk m c 3 t) (Rect.unit ![0, 128 * k] ![1, 128] i4))
      (View.ld (iblk m c 4 t) (Rect.unit ![k, 0, 0] ![1, 128, 128] i5))
      (Scalar.addi (Scalar.muli (BitVec.ofNat 32 ((grid0.coords t 0 : Fin _) : ℕ)) 4#32) (BitVec.ofNat 32 k))
      (iblk m c 5 t) (ix2 r l) = ((A.du (t.val % 16) (4 * (t.val / 16) + k) r l : ℝ) : EReal) := by
  have ht := lt32 t
  rw [group_word t k hk]
  exact kDu_at (ld_u H t k hk i0) (ld_v H t k hk i1) (ld_d H t k hk i2) (ld_g H t k hk i3) (ld_b H t k hk i4)
    (ld_w H t k hk i5) (at_c H t) ⟨4 * (t.val / 16) + k, by omega⟩ r l

theorem pt_dv (r l : Fin 128) (i0 i1 i2 i3 i5) :
    kDv (View.ld (iblk m c 0 t) (Rect.unit ![0, 128 * k] ![128, 128] i0))
      (View.ld (iblk m c 1 t) (Rect.unit ![0, 128 * k] ![128, 128] i1))
      (View.ld (iblk m c 6 t) (Rect.unit ![0, 128 * k] ![128, 128] i2))
      (View.ld (iblk m c 2 t) (Rect.unit ![0, 128 * k] ![1, 128] i3))
      (View.ld (iblk m c 4 t) (Rect.unit ![k, 0, 0] ![1, 128, 128] i5))
      (ix2 r l) = ((A.dv (t.val % 16) (4 * (t.val / 16) + k) r l : ℝ) : EReal) :=
  kDv_at (ld_u H t k hk i0) (ld_v H t k hk i1) (ld_d H t k hk i2) (ld_g H t k hk i3) (ld_w H t k hk i5) r l

theorem pt_dg (o : Vec Ideal S8x128 .f32) (s : Fin 8) (l : Fin 128) (i0 i1 i2 i5) :
    kAcc8 o (mulf (kDvn (View.ld (iblk m c 0 t) (Rect.unit ![0, 128 * k] ![128, 128] i0))
      (View.ld (iblk m c 6 t) (Rect.unit ![0, 128 * k] ![128, 128] i2))
      (View.ld (iblk m c 4 t) (Rect.unit ![k, 0, 0] ![1, 128, 128] i5)))
      (kXh (kAct (View.ld (iblk m c 1 t) (Rect.unit ![0, 128 * k] ![128, 128] i1))))) (ix2 s l)
      = o (ix2 s l) + ((A.dg (t.val % 16) (4 * (t.val / 16) + k) l : ℝ) : EReal) :=
  kDg_at (ld_u H t k hk i0) (ld_v H t k hk i1) (ld_d H t k hk i2) (ld_w H t k hk i5) o s l

theorem pt_db (o : Vec Ideal S8x128 .f32) (s : Fin 8) (l : Fin 128) (i0 i2 i5) :
    kAcc8 o (kDvn (View.ld (iblk m c 0 t) (Rect.unit ![0, 128 * k] ![128, 128] i0))
      (View.ld (iblk m c 6 t) (Rect.unit ![0, 128 * k] ![128, 128] i2))
      (View.ld (iblk m c 4 t) (Rect.unit ![k, 0, 0] ![1, 128, 128] i5))) (ix2 s l)
      = o (ix2 s l) + ((A.db (t.val % 16) (4 * (t.val / 16) + k) l : ℝ) : EReal) :=
  kDb_at (ld_u H t k hk i0) (ld_d H t k hk i2) (ld_w H t k hk i5) o s l

theorem pt_dw (o : Vec Ideal S1x128x128 .f32) (r l : Fin 128) (i0 i1 i2 i3 i4) :
    kDw o (View.ld (iblk m c 0 t) (Rect.unit ![0, 128 * k] ![128, 128] i0))
      (View.ld (iblk m c 1 t) (Rect.unit ![0, 128 * k] ![128, 128] i1))
      (View.ld (iblk m c 6 t) (Rect.unit ![0, 128 * k] ![128, 128] i2))
      (View.ld (iblk m c 2 t) (Rect.unit ![0, 128 * k] ![1, 128] i3))
      (View.ld (iblk m c 3 t) (Rect.unit ![0, 128 * k] ![1, 128] i4)) (ix3 (0 : Fin 1) r l)
      = o (ix3 (0 : Fin 1) r l) + ((A.dw (t.val % 16) (4 * (t.val / 16) + k) r l : ℝ) : EReal) :=
  kDw_at (ld_u H t k hk i0) (ld_v H t k hk i1) (ld_d H t k hk i2) (ld_g H t k hk i3) (ld_b H t k hk i4) o r l

theorem pt_ds (o : Vec Ideal S1x128x128 .f32) (r l : Fin 128) (i0 i2) :
    kAccS o (View.ld (iblk m c 0 t) (Rect.unit ![0, 128 * k] ![128, 128] i0))
      (View.ld (iblk m c 6 t) (Rect.unit ![0, 128 * k] ![128, 128] i2)) (ix3 (0 : Fin 1) r l)
      = o (ix3 (0 : Fin 1) r l) + ((A.ds (t.val % 16) (4 * (t.val / 16) + k) r l : ℝ) : EReal) :=
  kAccS_at (ld_u H t k hk i0) (ld_d H t k hk i2) o r l

end Cert.Sgu
-- ==== Proof.Sgu.Halves.lean ====
/- What each point leaves of the gradients of the two halves. -/
module

public import proofs.«01_k».proof.Proof.Sgu.Points

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

variable {m : (ℓ : Loc nD τ sig) → Buf (Elt Ideal) ℓ} {c : Dev nD} {A : Reals} (H : Holds m c A) (t : Fin cfg0.N)
include H

/-- What the point of a first chunk leaves of the gradient of the left half. -/
theorem du_A (h0 : t.val % 16 = 0) (h1 : ¬t.val % 16 = 15) (k : ℕ) (hk : k < 4) (r l : Fin 128) :
    (outsAt0 m c t.val t.isLt).1 (ix2 r (⟨128 * k + l, by omega⟩ : Fin 512))
      = ((A.du (t.val % 16) (4 * (t.val / 16) + k) r l : ℝ) : EReal) := by
  rw [outsAt0_A m c t h0 h1]
  frame_out
  canon_tiles x h
  case piece0 =>
    obtain ⟨rfl, rfl⟩ := tile2 (k := k) (K := 3) (r := r) (l := l) h0 h1
    refine Eq.trans ?_ (pt_du H t 3 hk r l inb_S128x512_S128x128_0_384 inb_S128x512_S128x128_0_384 inb_S128x512_S128x128_0_384 inb_S1x512_S1x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_du H t 2 hk r l inb_S128x512_S128x128_0_256 inb_S128x512_S128x128_0_256 inb_S128x512_S128x128_0_256 inb_S1x512_S1x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_du H t 1 hk r l inb_S128x512_S128x128_0_128 inb_S128x512_S128x128_0_128 inb_S128x512_S128x128_0_128 inb_S1x512_S1x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_du H t 0 hk r l inb_S128x512_S128x128_0_0 inb_S128x512_S128x128_0_0 inb_S128x512_S128x128_0_0 inb_S1x512_S1x128_0_0 inb_S1x512_S1x128_0_0 inb_S4x128x128_S1x128x128_0_0_0)
    sl_kernel_rfl

/-- What the point of a middle chunk leaves of the gradient of the left half. -/
theorem du_B (h0 : ¬t.val % 16 = 0) (h1 : ¬t.val % 16 = 15) (k : ℕ) (hk : k < 4) (r l : Fin 128) :
    (outsAt0 m c t.val t.isLt).1 (ix2 r (⟨128 * k + l, by omega⟩ : Fin 512))
      = ((A.du (t.val % 16) (4 * (t.val / 16) + k) r l : ℝ) : EReal) := by
  rw [outsAt0_B m c t h0 h1]
  frame_out
  canon_tiles x h
  case piece0 =>
    obtain ⟨rfl, rfl⟩ := tile2 (k := k) (K := 3) (r := r) (l := l) h0 h1
    refine Eq.trans ?_ (pt_du H t 3 hk r l inb_S128x512_S128x128_0_384 inb_S128x512_S128x128_0_384 inb_S128x512_S128x128_0_384 inb_S1x512_S1x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_du H t 2 hk r l inb_S128x512_S128x128_0_256 inb_S128x512_S128x128_0_256 inb_S128x512_S128x128_0_256 inb_S1x512_S1x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_du H t 1 hk r l inb_S128x512_S128x128_0_128 inb_S128x512_S128x128_0_128 inb_S128x512_S128x128_0_128 inb_S1x512_S1x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_du H t 0 hk r l inb_S128x512_S128x128_0_0 inb_S128x512_S128x128_0_0 inb_S128x512_S128x128_0_0 inb_S1x512_S1x128_0_0 inb_S1x512_S1x128_0_0 inb_S4x128x128_S1x128x128_0_0_0)
    sl_kernel_rfl

/-- What the point of a last chunk leaves of the gradient of the left half. -/
theorem du_C (h0 : ¬t.val % 16 = 0) (h1 : t.val % 16 = 15) (k : ℕ) (hk : k < 4) (r l : Fin 128) :
    (outsAt0 m c t.val t.isLt).1 (ix2 r (⟨128 * k + l, by omega⟩ : Fin 512))
      = ((A.du (t.val % 16) (4 * (t.val / 16) + k) r l : ℝ) : EReal) := by
  rw [outsAt0_C m c t h0 h1]
  frame_out
  canon_tiles x h
  case piece0 =>
    obtain ⟨rfl, rfl⟩ := tile2 (k := k) (K := 3) (r := r) (l := l) h0 h1
    refine Eq.trans ?_ (pt_du H t 3 hk r l inb_S128x512_S128x128_0_384 inb_S128x512_S128x128_0_384 inb_S128x512_S128x128_0_384 inb_S1x512_S1x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_du H t 2 hk r l inb_S128x512_S128x128_0_256 inb_S128x512_S128x128_0_256 inb_S128x512_S128x128_0_256 inb_S1x512_S1x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_du H t 1 hk r l inb_S128x512_S128x128_0_128 inb_S128x512_S128x128_0_128 inb_S128x512_S128x128_0_128 inb_S1x512_S1x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_du H t 0 hk r l inb_S128x512_S128x128_0_0 inb_S128x512_S128x128_0_0 inb_S128x512_S128x128_0_0 inb_S1x512_S1x128_0_0 inb_S1x512_S1x128_0_0 inb_S4x128x128_S1x128x128_0_0_0)
    sl_kernel_rfl

/-- What the point of a first chunk leaves of the gradient of the right half. -/
theorem dv_A (h0 : t.val % 16 = 0) (h1 : ¬t.val % 16 = 15) (k : ℕ) (hk : k < 4) (r l : Fin 128) :
    (outsAt0 m c t.val t.isLt).2.1 (ix2 r (⟨128 * k + l, by omega⟩ : Fin 512))
      = ((A.dv (t.val % 16) (4 * (t.val / 16) + k) r l : ℝ) : EReal) := by
  rw [outsAt0_A m c t h0 h1]
  frame_out
  canon_tiles x h
  case piece0 =>
    obtain ⟨rfl, rfl⟩ := tile2 (k := k) (K := 3) (r := r) (l := l) h0 h1
    refine Eq.trans ?_ (pt_dv H t 3 hk r l inb_S128x512_S128x128_0_384 inb_S128x512_S128x128_0_384 inb_S128x512_S128x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_dv H t 2 hk r l inb_S128x512_S128x128_0_256 inb_S128x512_S128x128_0_256 inb_S128x512_S128x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_dv H t 1 hk r l inb_S128x512_S128x128_0_128 inb_S128x512_S128x128_0_128 inb_S128x512_S128x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_dv H t 0 hk r l inb_S128x512_S128x128_0_0 inb_S128x512_S128x128_0_0 inb_S128x512_S128x128_0_0 inb_S1x512_S1x128_0_0 inb_S4x128x128_S1x128x128_0_0_0)
    sl_kernel_rfl

/-- What the point of a middle chunk leaves of the gradient of the right half. -/
theorem dv_B (h0 : ¬t.val % 16 = 0) (h1 : ¬t.val % 16 = 15) (k : ℕ) (hk : k < 4) (r l : Fin 128) :
    (outsAt0 m c t.val t.isLt).2.1 (ix2 r (⟨128 * k + l, by omega⟩ : Fin 512))
      = ((A.dv (t.val % 16) (4 * (t.val / 16) + k) r l : ℝ) : EReal) := by
  rw [outsAt0_B m c t h0 h1]
  frame_out
  canon_tiles x h
  case piece0 =>
    obtain ⟨rfl, rfl⟩ := tile2 (k := k) (K := 3) (r := r) (l := l) h0 h1
    refine Eq.trans ?_ (pt_dv H t 3 hk r l inb_S128x512_S128x128_0_384 inb_S128x512_S128x128_0_384 inb_S128x512_S128x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_dv H t 2 hk r l inb_S128x512_S128x128_0_256 inb_S128x512_S128x128_0_256 inb_S128x512_S128x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_dv H t 1 hk r l inb_S128x512_S128x128_0_128 inb_S128x512_S128x128_0_128 inb_S128x512_S128x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_dv H t 0 hk r l inb_S128x512_S128x128_0_0 inb_S128x512_S128x128_0_0 inb_S128x512_S128x128_0_0 inb_S1x512_S1x128_0_0 inb_S4x128x128_S1x128x128_0_0_0)
    sl_kernel_rfl

/-- What the point of a last chunk leaves of the gradient of the right half. -/
theorem dv_C (h0 : ¬t.val % 16 = 0) (h1 : t.val % 16 = 15) (k : ℕ) (hk : k < 4) (r l : Fin 128) :
    (outsAt0 m c t.val t.isLt).2.1 (ix2 r (⟨128 * k + l, by omega⟩ : Fin 512))
      = ((A.dv (t.val % 16) (4 * (t.val / 16) + k) r l : ℝ) : EReal) := by
  rw [outsAt0_C m c t h0 h1]
  frame_out
  canon_tiles x h
  case piece0 =>
    obtain ⟨rfl, rfl⟩ := tile2 (k := k) (K := 3) (r := r) (l := l) h0 h1
    refine Eq.trans ?_ (pt_dv H t 3 hk r l inb_S128x512_S128x128_0_384 inb_S128x512_S128x128_0_384 inb_S128x512_S128x128_0_384 inb_S1x512_S1x128_0_384 inb_S4x128x128_S1x128x128_3_0_0)
    sl_kernel_rfl
  case piece1 =>
    obtain ⟨rfl, rfl⟩ := tile2 (k := k) (K := 2) (r := r) (l := l) h0 h1
    refine Eq.trans ?_ (pt_dv H t 2 hk r l inb_S128x512_S128x128_0_256 inb_S128x512_S128x128_0_256 inb_S128x512_S128x128_0_256 inb_S1x512_S1x128_0_256 inb_S4x128x128_S1x128x128_2_0_0)
    sl_kernel_rfl
  case piece2 =>
    obtain ⟨rfl, rfl⟩ := tile2 (k := k) (K := 1) (r := r) (l := l) h0 h1
    refine Eq.trans ?_ (pt_dv H t 1 hk r l inb_S128x512_S128x128_0_128 inb_S128x512_S128x128_0_128 inb_S128x512_S128x128_0_128 inb_S1x512_S1x128_0_128 inb_S4x128x128_S1x128x128_1_0_0)
    sl_kernel_rfl
  case piece3 =>
    obtain ⟨rfl, rfl⟩ := tile2 (k := k) (K := 0) (r := r) (l := l) h0 (h1.trans (Nat.zero_add _).symm)
    refine Eq.trans ?_ (pt_dv H t 0 hk r l inb_S128x512_S128x128_0_0 inb_S128x512_S128x128_0_0 inb_S128x512_S128x128_0_0 inb_S1x512_S1x128_0_0 inb_S4x128x128_S1x128x128_0_0_0)
    sl_kernel_rfl

end Cert.Sgu
-- ==== Proof.Sgu.Sums.lean ====
/- What each point leaves of the gradients of the scale and the offset. -/
module

public import proofs.«01_k».proof.Proof.Sgu.Points

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

variable {m : (ℓ : Loc nD τ sig) → Buf (Elt Ideal) ℓ} {c : Dev nD} {A : Reals} (H : Holds m c A) (t : Fin cfg0.N)
include H

/-- What the point of a first chunk leaves of the gradient of the scale. -/
theorem dg_A (h0 : t.val % 16 = 0) (h1 : ¬t.val % 16 = 15) (k : ℕ) (hk : k < 4) (s : Fin 8) (l : Fin 128) :
    (outsAt0 m c t.val t.isLt).2.2.1 (ix2 s (⟨128 * k + l, by omega⟩ : Fin 512))
      = ((A.dg (t.val % 16) (4 * (t.val / 16) + k) l : ℝ) : EReal) := by
  rw [outsAt0_A m c t h0 h1]
  frame_open
  simp (disch := decide) only [↓ View.readCov_skip, ↓ View.readCov_cons_toLoadRect, ↓ View.readCov_fill]
  frame_out
  try simp only [read_unread_whole]
  refine (canon_hide4 _ _ _ _ _ _ ?_).trans ?_
  · exact View.cover_of_tiledL (s := S8x512) _ ![8, 128] (by sl_kernel_rfl) _
  canon_tiles x h
  case piece0 =>
    obtain ⟨rfl, rfl⟩ := tile2 (k := k) (K := 3) (r := s) (l := l) h0 h1
    refine Eq.trans ?_ ((pt_dg H t 3 hk (View.ld (Val := Elt Ideal) (e' := .f32) (k0_pay8 (F := Ideal)) (Rect.unit ![0, 384] ![8, 128] inb_S8x512_S8x128_0_384)) s l inb_S128x512_S128x128_0_384 inb_S128x512_S128x128_0_384 inb_S128x512_S128x128_0_384 inb_S4x128x128_S1x128x128_3_0_0).trans ?_)
    · sl_kernel_rfl
    · exact (congrArg (· + _) (Ideal.ofBits_zero_f32)).trans (zero_add _)
  case piece1 =>
    obtain ⟨rfl, rfl⟩ := tile2 (k := k) (K := 2) (r := s) (l := l) h0 h1
    refine Eq.trans ?_ ((pt_dg H t 2 hk (View.ld (Val := Elt Ideal) (e' := .f32) (k0_pay8 (F := Ideal)) (Rect.unit ![0, 256] ![8, 128] inb_S8x512_S8x128_0_256)) s l inb_S128x512_S128x128_0_256 inb_S128x512_S128x128_0_256 inb_S128x512_S128x128_0_256 inb_S4x128x128_S1x128x128_2_0_0).trans ?_)
    · sl_kernel_rfl
    · exact (congrArg (· + _) (Ideal.ofBits_zero_f32)).trans (zero_add _)
  case piece2 =>
    obtain ⟨rfl, rfl⟩ := tile2 (k := k) (K := 1) (r := s) (l := l) h0 h1
    refine Eq.trans ?_ ((pt_dg H t 1 hk (View.ld (Val := Elt Ideal) (e' := .f32) (k0_pay8 (F := Ideal)) (Rect.unit ![0, 128] ![8, 128] inb_S8x512_S8x128_0_128)) s l inb_S128x512_S128x128_0_128 inb_S128x512_S128x128_0_128 inb_S128x512_S128x128_0_128 inb_S4x128x128_S1x128x128_1_0_0).trans ?_)
    · sl_kernel_rfl
    · exact (congrArg (· + _) (Ideal.ofBits_zero_f32)).trans (zero_add _)
  case piece3 =>
    obtain ⟨rfl, rfl⟩ := tile2 (k := k) (K := 0) (r := s) (l := l) h0 (h1.trans (Nat.zero_add _).symm)
    refine Eq.trans ?_ ((pt_dg H t 0 hk (View.ld (Val := Elt Ideal) (e' := .f32) (k0_pay8 (F := Ideal)) (Rect.unit ![0, 0] ![8, 128] inb_S8x512_S8x128_0_0)) s l inb_S128x512_S128x128_0_0 inb_S128x512_S128x128_0_0 inb_S128x512_S128x128_0_0 inb_S4x128x128_S1x128x128_0_0_0).trans ?_)
    · sl_kernel_rfl
    · exact (congrArg (· + _) (Ideal.ofBits_zero_f32)).trans (zero_add _)

/-- What the point of a middle chunk leaves of the gradient of the scale. -/
theorem dg_B (h0 : ¬t.val % 16 = 0) (h1 : ¬t.val % 16 = 15) (k : ℕ) (hk : k < 4) (s : Fin 8) (l : Fin 128) :
    (outsAt0 m c t.val t.isLt).2.2.1 (ix2 s (⟨128 * k + l, by omega⟩ : Fin 512))
      = (outsAt0 m c (t.val - 1) (by have := t.isLt; omega)).2.2.1 (ix2 s (⟨128 * k + l, by omega⟩ : Fin 512)) + ((A.dg (t.val % 16) (4 * (t.val / 16) + k) l : ℝ) : EReal) := by
  rw [outsAt0_B m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile2 (k := k) (K := 3) (r := s) (l := l) h0 h1
    refine Eq.trans ?_ ((pt_dg H t 3 hk (View.ld (Val := Elt Ideal) (e' := .f32) (outsAt0 m c (t.val - 1) (by have := t.isLt; omega)).2.2.1 (Rect.unit ![0, 384] ![8, 128] inb_S8x512_S8x128_0_384)) s l inb_S128x512_S128x128_0_384 inb_S128x512_S128x128_0_384 inb_S128x512_S128x128_0_384 inb_S4x128x128_S1x128x128_3_0_0).trans ?_)
    · sl_kernel_rfl
    · exact congrArg (· + _) (View.ld_unit_apply_of _ _ _ _ _ _ fun a => by fin_cases a <;> simp)
  case piece1 =>
    obtain ⟨rfl, rfl⟩ := tile2 (k := k) (K := 2) (r := s) (l := l) h0 h1
    refine Eq.trans ?_ ((pt_dg H t 2 hk (View.ld (Val := Elt Ideal) (e' := .f32) (outsAt0 m c (t.val - 1) (by have := t.isLt; omega)).2.2.1 (Rect.unit ![0, 256] ![8, 128] inb_S8x512_S8x128_0_256)) s l inb_S128x512_S128x128_0_256 inb_S128x512_S128x128_0_256 inb_S128x512_S128x128_0_256 inb_S4x128x128_S1x128x128_2_0_0).trans ?_)
    · sl_kernel_rfl
    · exact congrArg (· + _) (View.ld_unit_apply_of _ _ _ _ _ _ fun a => by fin_cases a <;> simp)
  case piece2 =>
    obtain ⟨rfl, rfl⟩ := tile2 (k := k) (K := 1) (r := s) (l := l) h0 h1
    refine Eq.trans ?_ ((pt_dg H t 1 hk (View.ld (Val := Elt Ideal) (e' := .f32) (outsAt0 m c (t.val - 1) (by have := t.isLt; omega)).2.2.1 (Rect.unit ![0, 128] ![8, 128] inb_S8x512_S8x128_0_128)) s l inb_S128x512_S128x128_0_128 inb_S128x512_S128x128_0_128 inb_S128x512_S128x128_0_128 inb_S4x128x128_S1x128x128_1_0_0).trans ?_)
    · sl_kernel_rfl
    · exact congrArg (· + _) (View.ld_unit_apply_of _ _ _ _ _ _ fun a => by fin_cases a <;> simp)
  case piece3 =>
    obtain ⟨rfl, rfl⟩ := tile2 (k := k) (K := 0) (r := s) (l := l) h0 (h1.trans (Nat.zero_add _).symm)
    refine Eq.trans ?_ ((pt_dg H t 0 hk (View.ld (Val := Elt Ideal) (e' := .f32) (outsAt0 m c (t.val - 1) (by have := t.isLt; omega)).2.2.1 (Rect.unit ![0, 0] ![8, 128] inb_S8x512_S8x128_0_0)) s l inb_S128x512_S128x128_0_0 inb_S128x512_S128x128_0_0 inb_S128x512_S128x128_0_0 inb_S4x128x128_S1x128x128_0_0_0).trans ?_)
    · sl_kernel_rfl
    · exact congrArg (· + _) (View.ld_unit_apply_of _ _ _ _ _ _ fun a => by fin_cases a <;> simp)

/-- What the point of a last chunk leaves of the gradient of the scale. -/
theorem dg_C (h0 : ¬t.val % 16 = 0) (h1 : t.val % 16 = 15) (k : ℕ) (hk : k < 4) (s : Fin 8) (l : Fin 128) :
    (outsAt0 m c t.val t.isLt).2.2.1 (ix2 s (⟨128 * k + l, by omega⟩ : Fin 512))
      = (outsAt0 m c (t.val - 1) (by have := t.isLt; omega)).2.2.1 (ix2 s (⟨128 * k + l, by omega⟩ : Fin 512)) + ((A.dg (t.val % 16) (4 * (t.val / 16) + k) l : ℝ) : EReal) := by
  rw [outsAt0_C m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile2 (k := k) (K := 3) (r := s) (l := l) h0 h1
    refine Eq.trans ?_ ((pt_dg H t 3 hk (View.ld (Val := Elt Ideal) (e' := .f32) (outsAt0 m c (t.val - 1) (by have := t.isLt; omega)).2.2.1 (Rect.unit ![0, 384] ![8, 128] inb_S8x512_S8x128_0_384)) s l inb_S128x512_S128x128_0_384 inb_S128x512_S128x128_0_384 inb_S128x512_S128x128_0_384 inb_S4x128x128_S1x128x128_3_0_0).trans ?_)
    · sl_kernel_rfl
    · exact congrArg (· + _) (View.ld_unit_apply_of _ _ _ _ _ _ fun a => by fin_cases a <;> simp)
  case piece1 =>
    obtain ⟨rfl, rfl⟩ := tile2 (k := k) (K := 2) (r := s) (l := l) h0 h1
    refine Eq.trans ?_ ((pt_dg H t 2 hk (View.ld (Val := Elt Ideal) (e' := .f32) (outsAt0 m c (t.val - 1) (by have := t.isLt; omega)).2.2.1 (Rect.unit ![0, 256] ![8, 128] inb_S8x512_S8x128_0_256)) s l inb_S128x512_S128x128_0_256 inb_S128x512_S128x128_0_256 inb_S128x512_S128x128_0_256 inb_S4x128x128_S1x128x128_2_0_0).trans ?_)
    · sl_kernel_rfl
    · exact congrArg (· + _) (View.ld_unit_apply_of _ _ _ _ _ _ fun a => by fin_cases a <;> simp)
  case piece2 =>
    obtain ⟨rfl, rfl⟩ := tile2 (k := k) (K := 1) (r := s) (l := l) h0 h1
    refine Eq.trans ?_ ((pt_dg H t 1 hk (View.ld (Val := Elt Ideal) (e' := .f32) (outsAt0 m c (t.val - 1) (by have := t.isLt; omega)).2.2.1 (Rect.unit ![0, 128] ![8, 128] inb_S8x512_S8x128_0_128)) s l inb_S128x512_S128x128_0_128 inb_S128x512_S128x128_0_128 inb_S128x512_S128x128_0_128 inb_S4x128x128_S1x128x128_1_0_0).trans ?_)
    · sl_kernel_rfl
    · exact congrArg (· + _) (View.ld_unit_apply_of _ _ _ _ _ _ fun a => by fin_cases a <;> simp)
  case piece3 =>
    obtain ⟨rfl, rfl⟩ := tile2 (k := k) (K := 0) (r := s) (l := l) h0 (h1.trans (Nat.zero_add _).symm)
    refine Eq.trans ?_ ((pt_dg H t 0 hk (View.ld (Val := Elt Ideal) (e' := .f32) (outsAt0 m c (t.val - 1) (by have := t.isLt; omega)).2.2.1 (Rect.unit ![0, 0] ![8, 128] inb_S8x512_S8x128_0_0)) s l inb_S128x512_S128x128_0_0 inb_S128x512_S128x128_0_0 inb_S128x512_S128x128_0_0 inb_S4x128x128_S1x128x128_0_0_0).trans ?_)
    · sl_kernel_rfl
    · exact congrArg (· + _) (View.ld_unit_apply_of _ _ _ _ _ _ fun a => by fin_cases a <;> simp)

/-- What the point of a first chunk leaves of the gradient of the offset. -/
theorem db_A (h0 : t.val % 16 = 0) (h1 : ¬t.val % 16 = 15) (k : ℕ) (hk : k < 4) (s : Fin 8) (l : Fin 128) :
    (outsAt0 m c t.val t.isLt).2.2.2.1 (ix2 s (⟨128 * k + l, by omega⟩ : Fin 512))
      = ((A.db (t.val % 16) (4 * (t.val / 16) + k) l : ℝ) : EReal) := by
  rw [outsAt0_A m c t h0 h1]
  frame_open
  simp (disch := decide) only [↓ View.readCov_skip, ↓ View.readCov_cons_toLoadRect, ↓ View.readCov_fill]
  frame_out
  try simp only [read_unread_whole]
  refine (canon_hide4 _ _ _ _ _ _ ?_).trans ?_
  · exact View.cover_of_tiledL (s := S8x512) _ ![8, 128] (by sl_kernel_rfl) _
  canon_tiles x h
  case piece0 =>
    obtain ⟨rfl, rfl⟩ := tile2 (k := k) (K := 3) (r := s) (l := l) h0 h1
    refine Eq.trans ?_ ((pt_db H t 3 hk (View.ld (Val := Elt Ideal) (e' := .f32) (k0_pay9 (F := Ideal)) (Rect.unit ![0, 384] ![8, 128] inb_S8x512_S8x128_0_384)) s l inb_S128x512_S128x128_0_384 inb_S128x512_S128x128_0_384 inb_S4x128x128_S1x128x128_3_0_0).trans ?_)
    · sl_kernel_rfl
    · exact (congrArg (· + _) (Ideal.ofBits_zero_f32)).trans (zero_add _)
  case piece1 =>
    obtain ⟨rfl, rfl⟩ := tile2 (k := k) (K := 2) (r := s) (l := l) h0 h1
    refine Eq.trans ?_ ((pt_db H t 2 hk (View.ld (Val := Elt Ideal) (e' := .f32) (k0_pay9 (F := Ideal)) (Rect.unit ![0, 256] ![8, 128] inb_S8x512_S8x128_0_256)) s l inb_S128x512_S128x128_0_256 inb_S128x512_S128x128_0_256 inb_S4x128x128_S1x128x128_2_0_0).trans ?_)
    · sl_kernel_rfl
    · exact (congrArg (· + _) (Ideal.ofBits_zero_f32)).trans (zero_add _)
  case piece2 =>
    obtain ⟨rfl, rfl⟩ := tile2 (k := k) (K := 1) (r := s) (l := l) h0 h1
    refine Eq.trans ?_ ((pt_db H t 1 hk (View.ld (Val := Elt Ideal) (e' := .f32) (k0_pay9 (F := Ideal)) (Rect.unit ![0, 128] ![8, 128] inb_S8x512_S8x128_0_128)) s l inb_S128x512_S128x128_0_128 inb_S128x512_S128x128_0_128 inb_S4x128x128_S1x128x128_1_0_0).trans ?_)
    · sl_kernel_rfl
    · exact (congrArg (· + _) (Ideal.ofBits_zero_f32)).trans (zero_add _)
  case piece3 =>
    obtain ⟨rfl, rfl⟩ := tile2 (k := k) (K := 0) (r := s) (l := l) h0 (h1.trans (Nat.zero_add _).symm)
    refine Eq.trans ?_ ((pt_db H t 0 hk (View.ld (Val := Elt Ideal) (e' := .f32) (k0_pay9 (F := Ideal)) (Rect.unit ![0, 0] ![8, 128] inb_S8x512_S8x128_0_0)) s l inb_S128x512_S128x128_0_0 inb_S128x512_S128x128_0_0 inb_S4x128x128_S1x128x128_0_0_0).trans ?_)
    · sl_kernel_rfl
    · exact (congrArg (· + _) (Ideal.ofBits_zero_f32)).trans (zero_add _)

/-- What the point of a middle chunk leaves of the gradient of the offset. -/
theorem db_B (h0 : ¬t.val % 16 = 0) (h1 : ¬t.val % 16 = 15) (k : ℕ) (hk : k < 4) (s : Fin 8) (l : Fin 128) :
    (outsAt0 m c t.val t.isLt).2.2.2.1 (ix2 s (⟨128 * k + l, by omega⟩ : Fin 512))
      = (outsAt0 m c (t.val - 1) (by have := t.isLt; omega)).2.2.2.1 (ix2 s (⟨128 * k + l, by omega⟩ : Fin 512)) + ((A.db (t.val % 16) (4 * (t.val / 16) + k) l : ℝ) : EReal) := by
  rw [outsAt0_B m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile2 (k := k) (K := 3) (r := s) (l := l) h0 h1
    refine Eq.trans ?_ ((pt_db H t 3 hk (View.ld (Val := Elt Ideal) (e' := .f32) (outsAt0 m c (t.val - 1) (by have := t.isLt; omega)).2.2.2.1 (Rect.unit ![0, 384] ![8, 128] inb_S8x512_S8x128_0_384)) s l inb_S128x512_S128x128_0_384 inb_S128x512_S128x128_0_384 inb_S4x128x128_S1x128x128_3_0_0).trans ?_)
    · sl_kernel_rfl
    · exact congrArg (· + _) (View.ld_unit_apply_of _ _ _ _ _ _ fun a => by fin_cases a <;> simp)
  case piece1 =>
    obtain ⟨rfl, rfl⟩ := tile2 (k := k) (K := 2) (r := s) (l := l) h0 h1
    refine Eq.trans ?_ ((pt_db H t 2 hk (View.ld (Val := Elt Ideal) (e' := .f32) (outsAt0 m c (t.val - 1) (by have := t.isLt; omega)).2.2.2.1 (Rect.unit ![0, 256] ![8, 128] inb_S8x512_S8x128_0_256)) s l inb_S128x512_S128x128_0_256 inb_S128x512_S128x128_0_256 inb_S4x128x128_S1x128x128_2_0_0).trans ?_)
    · sl_kernel_rfl
    · exact congrArg (· + _) (View.ld_unit_apply_of _ _ _ _ _ _ fun a => by fin_cases a <;> simp)
  case piece2 =>
    obtain ⟨rfl, rfl⟩ := tile2 (k := k) (K := 1) (r := s) (l := l) h0 h1
    refine Eq.trans ?_ ((pt_db H t 1 hk (View.ld (Val := Elt Ideal) (e' := .f32) (outsAt0 m c (t.val - 1) (by have := t.isLt; omega)).2.2.2.1 (Rect.unit ![0, 128] ![8, 128] inb_S8x512_S8x128_0_128)) s l inb_S128x512_S128x128_0_128 inb_S128x512_S128x128_0_128 inb_S4x128x128_S1x128x128_1_0_0).trans ?_)
    · sl_kernel_rfl
    · exact congrArg (· + _) (View.ld_unit_apply_of _ _ _ _ _ _ fun a => by fin_cases a <;> simp)
  case piece3 =>
    obtain ⟨rfl, rfl⟩ := tile2 (k := k) (K := 0) (r := s) (l := l) h0 (h1.trans (Nat.zero_add _).symm)
    refine Eq.trans ?_ ((pt_db H t 0 hk (View.ld (Val := Elt Ideal) (e' := .f32) (outsAt0 m c (t.val - 1) (by have := t.isLt; omega)).2.2.2.1 (Rect.unit ![0, 0] ![8, 128] inb_S8x512_S8x128_0_0)) s l inb_S128x512_S128x128_0_0 inb_S128x512_S128x128_0_0 inb_S4x128x128_S1x128x128_0_0_0).trans ?_)
    · sl_kernel_rfl
    · exact congrArg (· + _) (View.ld_unit_apply_of _ _ _ _ _ _ fun a => by fin_cases a <;> simp)

/-- What the point of a last chunk leaves of the gradient of the offset. -/
theorem db_C (h0 : ¬t.val % 16 = 0) (h1 : t.val % 16 = 15) (k : ℕ) (hk : k < 4) (s : Fin 8) (l : Fin 128) :
    (outsAt0 m c t.val t.isLt).2.2.2.1 (ix2 s (⟨128 * k + l, by omega⟩ : Fin 512))
      = (outsAt0 m c (t.val - 1) (by have := t.isLt; omega)).2.2.2.1 (ix2 s (⟨128 * k + l, by omega⟩ : Fin 512)) + ((A.db (t.val % 16) (4 * (t.val / 16) + k) l : ℝ) : EReal) := by
  rw [outsAt0_C m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile2 (k := k) (K := 3) (r := s) (l := l) h0 h1
    refine Eq.trans ?_ ((pt_db H t 3 hk (View.ld (Val := Elt Ideal) (e' := .f32) (outsAt0 m c (t.val - 1) (by have := t.isLt; omega)).2.2.2.1 (Rect.unit ![0, 384] ![8, 128] inb_S8x512_S8x128_0_384)) s l inb_S128x512_S128x128_0_384 inb_S128x512_S128x128_0_384 inb_S4x128x128_S1x128x128_3_0_0).trans ?_)
    · sl_kernel_rfl
    · exact congrArg (· + _) (View.ld_unit_apply_of _ _ _ _ _ _ fun a => by fin_cases a <;> simp)
  case piece1 =>
    obtain ⟨rfl, rfl⟩ := tile2 (k := k) (K := 2) (r := s) (l := l) h0 h1
    refine Eq.trans ?_ ((pt_db H t 2 hk (View.ld (Val := Elt Ideal) (e' := .f32) (outsAt0 m c (t.val - 1) (by have := t.isLt; omega)).2.2.2.1 (Rect.unit ![0, 256] ![8, 128] inb_S8x512_S8x128_0_256)) s l inb_S128x512_S128x128_0_256 inb_S128x512_S128x128_0_256 inb_S4x128x128_S1x128x128_2_0_0).trans ?_)
    · sl_kernel_rfl
    · exact congrArg (· + _) (View.ld_unit_apply_of _ _ _ _ _ _ fun a => by fin_cases a <;> simp)
  case piece2 =>
    obtain ⟨rfl, rfl⟩ := tile2 (k := k) (K := 1) (r := s) (l := l) h0 h1
    refine Eq.trans ?_ ((pt_db H t 1 hk (View.ld (Val := Elt Ideal) (e' := .f32) (outsAt0 m c (t.val - 1) (by have := t.isLt; omega)).2.2.2.1 (Rect.unit ![0, 128] ![8, 128] inb_S8x512_S8x128_0_128)) s l inb_S128x512_S128x128_0_128 inb_S128x512_S128x128_0_128 inb_S4x128x128_S1x128x128_1_0_0).trans ?_)
    · sl_kernel_rfl
    · exact congrArg (· + _) (View.ld_unit_apply_of _ _ _ _ _ _ fun a => by fin_cases a <;> simp)
  case piece3 =>
    obtain ⟨rfl, rfl⟩ := tile2 (k := k) (K := 0) (r := s) (l := l) h0 (h1.trans (Nat.zero_add _).symm)
    refine Eq.trans ?_ ((pt_db H t 0 hk (View.ld (Val := Elt Ideal) (e' := .f32) (outsAt0 m c (t.val - 1) (by have := t.isLt; omega)).2.2.2.1 (Rect.unit ![0, 0] ![8, 128] inb_S8x512_S8x128_0_0)) s l inb_S128x512_S128x128_0_0 inb_S128x512_S128x128_0_0 inb_S4x128x128_S1x128x128_0_0_0).trans ?_)
    · sl_kernel_rfl
    · exact congrArg (· + _) (View.ld_unit_apply_of _ _ _ _ _ _ fun a => by fin_cases a <;> simp)

end Cert.Sgu
-- ==== Proof.Sgu.Mats.lean ====
/- What each point leaves of the gradients of the mixing matrix and of its bias. -/
module

public import proofs.«01_k».proof.Proof.Sgu.Points

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

variable {m : (ℓ : Loc nD τ sig) → Buf (Elt Ideal) ℓ} {c : Dev nD} {A : Reals} (H : Holds m c A) (t : Fin cfg0.N)
include H

/-- What the point of a first chunk leaves of the gradient of the mixing matrix. -/
theorem dw_A (h0 : t.val % 16 = 0) (h1 : ¬t.val % 16 = 15) (k : ℕ) (hk : k < 4) (r l : Fin 128) :
    (outsAt0 m c t.val t.isLt).2.2.2.2.1 (ix3 (⟨k, hk⟩ : Fin 4) r l)
      = ((A.dw (t.val % 16) (4 * (t.val / 16) + k) r l : ℝ) : EReal) := by
  rw [outsAt0_A m c t h0 h1]
  frame_open
  simp (disch := decide) only [↓ View.readCov_skip, ↓ View.readCov_cons_toLoadRect, ↓ View.readCov_fill]
  frame_out
  try simp only [read_unread_whole]
  refine (canon_hide4 _ _ _ _ _ _ ?_).trans ?_
  · exact View.cover_of_tiledL (s := S4x128x128) _ ![1, 128, 128] (by sl_kernel_rfl) _
  canon_tiles x h
  case piece0 =>
    obtain ⟨rfl, rfl⟩ := tile3 (k := k) (K := 3) (r := r) (l := l) h0 h1 h2
    refine Eq.trans ?_ ((pt_dw H t 3 hk (View.ld (Val := Elt Ideal) (e' := .f32) (k0_pay10 (F := Ideal)) (Rect.unit ![3, 0, 0] ![1, 128, 128] inb_S4x128x128_S1x128x128_3_0_0)) r l inb_S128x512_S128x128_0_384 inb_S128x512_S128x128_0_384 inb_S128x512_S128x128_0_384 inb_S1x512_S1x128_0_384 inb_S1x512_S1x128_0_384).trans ?_)
    · sl_kernel_rfl
    · exact (congrArg (· + _) (Ideal.ofBits_zero_f32)).trans (zero_add _)
  case piece1 =>
    obtain ⟨rfl, rfl⟩ := tile3 (k := k) (K := 2) (r := r) (l := l) h0 h1 h2
    refine Eq.trans ?_ ((pt_dw H t 2 hk (View.ld (Val := Elt Ideal) (e' := .f32) (k0_pay10 (F := Ideal)) (Rect.unit ![2, 0, 0] ![1, 128, 128] inb_S4x128x128_S1x128x128_2_0_0)) r l inb_S128x512_S128x128_0_256 inb_S128x512_S128x128_0_256 inb_S128x512_S128x128_0_256 inb_S1x512_S1x128_0_256 inb_S1x512_S1x128_0_256).trans ?_)
    · sl_kernel_rfl
    · exact (congrArg (· + _) (Ideal.ofBits_zero_f32)).trans (zero_add _)
  case piece2 =>
    obtain ⟨rfl, rfl⟩ := tile3 (k := k) (K := 1) (r := r) (l := l) h0 h1 h2
    refine Eq.trans ?_ ((pt_dw H t 1 hk (View.ld (Val := Elt Ideal) (e' := .f32) (k0_pay10 (F := Ideal)) (Rect.unit ![1, 0, 0] ![1, 128, 128] inb_S4x128x128_S1x128x128_1_0_0)) r l inb_S128x512_S128x128_0_128 inb_S128x512_S128x128_0_128 inb_S128x512_S128x128_0_128 inb_S1x512_S1x128_0_128 inb_S1x512_S1x128_0_128).trans ?_)
    · sl_kernel_rfl
    · exact (congrArg (· + _) (Ideal.ofBits_zero_f32)).trans (zero_add _)
  case piece3 =>
    obtain ⟨rfl, rfl⟩ := tile3 (k := k) (K := 0) (r := r) (l := l) (h0.trans (Nat.zero_add _).symm) h1 h2
    refine Eq.trans ?_ ((pt_dw H t 0 hk (View.ld (Val := Elt Ideal) (e' := .f32) (k0_pay10 (F := Ideal)) (Rect.unit ![0, 0, 0] ![1, 128, 128] inb_S4x128x128_S1x128x128_0_0_0)) r l inb_S128x512_S128x128_0_0 inb_S128x512_S128x128_0_0 inb_S128x512_S128x128_0_0 inb_S1x512_S1x128_0_0 inb_S1x512_S1x128_0_0).trans ?_)
    · sl_kernel_rfl
    · exact (congrArg (· + _) (Ideal.ofBits_zero_f32)).trans (zero_add _)

/-- What the point of a middle chunk leaves of the gradient of the mixing matrix. -/
theorem dw_B (h0 : ¬t.val % 16 = 0) (h1 : ¬t.val % 16 = 15) (k : ℕ) (hk : k < 4) (r l : Fin 128) :
    (outsAt0 m c t.val t.isLt).2.2.2.2.1 (ix3 (⟨k, hk⟩ : Fin 4) r l)
      = (outsAt0 m c (t.val - 1) (by have := t.isLt; omega)).2.2.2.2.1 (ix3 (⟨k, hk⟩ : Fin 4) r l) + ((A.dw (t.val % 16) (4 * (t.val / 16) + k) r l : ℝ) : EReal) := by
  rw [outsAt0_B m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile3 (k := k) (K := 3) (r := r) (l := l) h0 h1 h2
    refine Eq.trans ?_ ((pt_dw H t 3 hk (View.ld (Val := Elt Ideal) (e' := .f32) (outsAt0 m c (t.val - 1) (by have := t.isLt; omega)).2.2.2.2.1 (Rect.unit ![3, 0, 0] ![1, 128, 128] inb_S4x128x128_S1x128x128_3_0_0)) r l inb_S128x512_S128x128_0_384 inb_S128x512_S128x128_0_384 inb_S128x512_S128x128_0_384 inb_S1x512_S1x128_0_384 inb_S1x512_S1x128_0_384).trans ?_)
    · sl_kernel_rfl
    · exact congrArg (· + _) (View.ld_unit_apply_of _ _ _ _ _ _ fun a => by fin_cases a <;> simp)
  case piece1 =>
    obtain ⟨rfl, rfl⟩ := tile3 (k := k) (K := 2) (r := r) (l := l) h0 h1 h2
    refine Eq.trans ?_ ((pt_dw H t 2 hk (View.ld (Val := Elt Ideal) (e' := .f32) (outsAt0 m c (t.val - 1) (by have := t.isLt; omega)).2.2.2.2.1 (Rect.unit ![2, 0, 0] ![1, 128, 128] inb_S4x128x128_S1x128x128_2_0_0)) r l inb_S128x512_S128x128_0_256 inb_S128x512_S128x128_0_256 inb_S128x512_S128x128_0_256 inb_S1x512_S1x128_0_256 inb_S1x512_S1x128_0_256).trans ?_)
    · sl_kernel_rfl
    · exact congrArg (· + _) (View.ld_unit_apply_of _ _ _ _ _ _ fun a => by fin_cases a <;> simp)
  case piece2 =>
    obtain ⟨rfl, rfl⟩ := tile3 (k := k) (K := 1) (r := r) (l := l) h0 h1 h2
    refine Eq.trans ?_ ((pt_dw H t 1 hk (View.ld (Val := Elt Ideal) (e' := .f32) (outsAt0 m c (t.val - 1) (by have := t.isLt; omega)).2.2.2.2.1 (Rect.unit ![1, 0, 0] ![1, 128, 128] inb_S4x128x128_S1x128x128_1_0_0)) r l inb_S128x512_S128x128_0_128 inb_S128x512_S128x128_0_128 inb_S128x512_S128x128_0_128 inb_S1x512_S1x128_0_128 inb_S1x512_S1x128_0_128).trans ?_)
    · sl_kernel_rfl
    · exact congrArg (· + _) (View.ld_unit_apply_of _ _ _ _ _ _ fun a => by fin_cases a <;> simp)
  case piece3 =>
    obtain ⟨rfl, rfl⟩ := tile3 (k := k) (K := 0) (r := r) (l := l) (h0.trans (Nat.zero_add _).symm) h1 h2
    refine Eq.trans ?_ ((pt_dw H t 0 hk (View.ld (Val := Elt Ideal) (e' := .f32) (outsAt0 m c (t.val - 1) (by have := t.isLt; omega)).2.2.2.2.1 (Rect.unit ![0, 0, 0] ![1, 128, 128] inb_S4x128x128_S1x128x128_0_0_0)) r l inb_S128x512_S128x128_0_0 inb_S128x512_S128x128_0_0 inb_S128x512_S128x128_0_0 inb_S1x512_S1x128_0_0 inb_S1x512_S1x128_0_0).trans ?_)
    · sl_kernel_rfl
    · exact congrArg (· + _) (View.ld_unit_apply_of _ _ _ _ _ _ fun a => by fin_cases a <;> simp)

/-- What the point of a last chunk leaves of the gradient of the mixing matrix. -/
theorem dw_C (h0 : ¬t.val % 16 = 0) (h1 : t.val % 16 = 15) (k : ℕ) (hk : k < 4) (r l : Fin 128) :
    (outsAt0 m c t.val t.isLt).2.2.2.2.1 (ix3 (⟨k, hk⟩ : Fin 4) r l)
      = (outsAt0 m c (t.val - 1) (by have := t.isLt; omega)).2.2.2.2.1 (ix3 (⟨k, hk⟩ : Fin 4) r l) + ((A.dw (t.val % 16) (4 * (t.val / 16) + k) r l : ℝ) : EReal) := by
  rw [outsAt0_C m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile3 (k := k) (K := 3) (r := r) (l := l) h0 h1 h2
    refine Eq.trans ?_ ((pt_dw H t 3 hk (View.ld (Val := Elt Ideal) (e' := .f32) (outsAt0 m c (t.val - 1) (by have := t.isLt; omega)).2.2.2.2.1 (Rect.unit ![3, 0, 0] ![1, 128, 128] inb_S4x128x128_S1x128x128_3_0_0)) r l inb_S128x512_S128x128_0_384 inb_S128x512_S128x128_0_384 inb_S128x512_S128x128_0_384 inb_S1x512_S1x128_0_384 inb_S1x512_S1x128_0_384).trans ?_)
    · sl_kernel_rfl
    · exact congrArg (· + _) (View.ld_unit_apply_of _ _ _ _ _ _ fun a => by fin_cases a <;> simp)
  case piece1 =>
    obtain ⟨rfl, rfl⟩ := tile3 (k := k) (K := 2) (r := r) (l := l) h0 h1 h2
    refine Eq.trans ?_ ((pt_dw H t 2 hk (View.ld (Val := Elt Ideal) (e' := .f32) (outsAt0 m c (t.val - 1) (by have := t.isLt; omega)).2.2.2.2.1 (Rect.unit ![2, 0, 0] ![1, 128, 128] inb_S4x128x128_S1x128x128_2_0_0)) r l inb_S128x512_S128x128_0_256 inb_S128x512_S128x128_0_256 inb_S128x512_S128x128_0_256 inb_S1x512_S1x128_0_256 inb_S1x512_S1x128_0_256).trans ?_)
    · sl_kernel_rfl
    · exact congrArg (· + _) (View.ld_unit_apply_of _ _ _ _ _ _ fun a => by fin_cases a <;> simp)
  case piece2 =>
    obtain ⟨rfl, rfl⟩ := tile3 (k := k) (K := 1) (r := r) (l := l) h0 h1 h2
    refine Eq.trans ?_ ((pt_dw H t 1 hk (View.ld (Val := Elt Ideal) (e' := .f32) (outsAt0 m c (t.val - 1) (by have := t.isLt; omega)).2.2.2.2.1 (Rect.unit ![1, 0, 0] ![1, 128, 128] inb_S4x128x128_S1x128x128_1_0_0)) r l inb_S128x512_S128x128_0_128 inb_S128x512_S128x128_0_128 inb_S128x512_S128x128_0_128 inb_S1x512_S1x128_0_128 inb_S1x512_S1x128_0_128).trans ?_)
    · sl_kernel_rfl
    · exact congrArg (· + _) (View.ld_unit_apply_of _ _ _ _ _ _ fun a => by fin_cases a <;> simp)
  case piece3 =>
    obtain ⟨rfl, rfl⟩ := tile3 (k := k) (K := 0) (r := r) (l := l) (h0.trans (Nat.zero_add _).symm) h1 h2
    refine Eq.trans ?_ ((pt_dw H t 0 hk (View.ld (Val := Elt Ideal) (e' := .f32) (outsAt0 m c (t.val - 1) (by have := t.isLt; omega)).2.2.2.2.1 (Rect.unit ![0, 0, 0] ![1, 128, 128] inb_S4x128x128_S1x128x128_0_0_0)) r l inb_S128x512_S128x128_0_0 inb_S128x512_S128x128_0_0 inb_S128x512_S128x128_0_0 inb_S1x512_S1x128_0_0 inb_S1x512_S1x128_0_0).trans ?_)
    · sl_kernel_rfl
    · exact congrArg (· + _) (View.ld_unit_apply_of _ _ _ _ _ _ fun a => by fin_cases a <;> simp)

/-- What the point of a first chunk leaves of the gradient of the mixed rows. -/
theorem ds_A (h0 : t.val % 16 = 0) (h1 : ¬t.val % 16 = 15) (k : ℕ) (hk : k < 4) (r l : Fin 128) :
    (outsAt0 m c t.val t.isLt).2.2.2.2.2.2 (ix3 (⟨k, hk⟩ : Fin 4) r l)
      = ((A.ds (t.val % 16) (4 * (t.val / 16) + k) r l : ℝ) : EReal) := by
  rw [outsAt0_A m c t h0 h1]
  frame_open
  simp (disch := decide) only [↓ View.readCov_skip, ↓ View.readCov_cons_toLoadRect, ↓ View.readCov_fill]
  frame_out
  try simp only [read_unread_whole]
  refine (canon_hide4 _ _ _ _ _ _ ?_).trans ?_
  · exact View.cover_of_tiledL (s := S4x128x128) _ ![1, 128, 128] (by sl_kernel_rfl) _
  canon_tiles x h
  case piece0 =>
    obtain ⟨rfl, rfl⟩ := tile3 (k := k) (K := 3) (r := r) (l := l) h0 h1 h2
    refine Eq.trans ?_ ((pt_ds H t 3 hk (View.ld (Val := Elt Ideal) (e' := .f32) (k0_pay11 (F := Ideal)) (Rect.unit ![3, 0, 0] ![1, 128, 128] inb_S4x128x128_S1x128x128_3_0_0)) r l inb_S128x512_S128x128_0_384 inb_S128x512_S128x128_0_384).trans ?_)
    · sl_kernel_rfl
    · exact (congrArg (· + _) (Ideal.ofBits_zero_f32)).trans (zero_add _)
  case piece1 =>
    obtain ⟨rfl, rfl⟩ := tile3 (k := k) (K := 2) (r := r) (l := l) h0 h1 h2
    refine Eq.trans ?_ ((pt_ds H t 2 hk (View.ld (Val := Elt Ideal) (e' := .f32) (k0_pay11 (F := Ideal)) (Rect.unit ![2, 0, 0] ![1, 128, 128] inb_S4x128x128_S1x128x128_2_0_0)) r l inb_S128x512_S128x128_0_256 inb_S128x512_S128x128_0_256).trans ?_)
    · sl_kernel_rfl
    · exact (congrArg (· + _) (Ideal.ofBits_zero_f32)).trans (zero_add _)
  case piece2 =>
    obtain ⟨rfl, rfl⟩ := tile3 (k := k) (K := 1) (r := r) (l := l) h0 h1 h2
    refine Eq.trans ?_ ((pt_ds H t 1 hk (View.ld (Val := Elt Ideal) (e' := .f32) (k0_pay11 (F := Ideal)) (Rect.unit ![1, 0, 0] ![1, 128, 128] inb_S4x128x128_S1x128x128_1_0_0)) r l inb_S128x512_S128x128_0_128 inb_S128x512_S128x128_0_128).trans ?_)
    · sl_kernel_rfl
    · exact (congrArg (· + _) (Ideal.ofBits_zero_f32)).trans (zero_add _)
  case piece3 =>
    obtain ⟨rfl, rfl⟩ := tile3 (k := k) (K := 0) (r := r) (l := l) (h0.trans (Nat.zero_add _).symm) h1 h2
    refine Eq.trans ?_ ((pt_ds H t 0 hk (View.ld (Val := Elt Ideal) (e' := .f32) (k0_pay11 (F := Ideal)) (Rect.unit ![0, 0, 0] ![1, 128, 128] inb_S4x128x128_S1x128x128_0_0_0)) r l inb_S128x512_S128x128_0_0 inb_S128x512_S128x128_0_0).trans ?_)
    · sl_kernel_rfl
    · exact (congrArg (· + _) (Ideal.ofBits_zero_f32)).trans (zero_add _)

/-- What the point of a middle chunk leaves of the gradient of the mixed rows. -/
theorem ds_B (h0 : ¬t.val % 16 = 0) (h1 : ¬t.val % 16 = 15) (k : ℕ) (hk : k < 4) (r l : Fin 128) :
    (outsAt0 m c t.val t.isLt).2.2.2.2.2.2 (ix3 (⟨k, hk⟩ : Fin 4) r l)
      = (outsAt0 m c (t.val - 1) (by have := t.isLt; omega)).2.2.2.2.2.2 (ix3 (⟨k, hk⟩ : Fin 4) r l) + ((A.ds (t.val % 16) (4 * (t.val / 16) + k) r l : ℝ) : EReal) := by
  rw [outsAt0_B m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile3 (k := k) (K := 3) (r := r) (l := l) h0 h1 h2
    refine Eq.trans ?_ ((pt_ds H t 3 hk (View.ld (Val := Elt Ideal) (e' := .f32) (outsAt0 m c (t.val - 1) (by have := t.isLt; omega)).2.2.2.2.2.2 (Rect.unit ![3, 0, 0] ![1, 128, 128] inb_S4x128x128_S1x128x128_3_0_0)) r l inb_S128x512_S128x128_0_384 inb_S128x512_S128x128_0_384).trans ?_)
    · sl_kernel_rfl
    · exact congrArg (· + _) (View.ld_unit_apply_of _ _ _ _ _ _ fun a => by fin_cases a <;> simp)
  case piece1 =>
    obtain ⟨rfl, rfl⟩ := tile3 (k := k) (K := 2) (r := r) (l := l) h0 h1 h2
    refine Eq.trans ?_ ((pt_ds H t 2 hk (View.ld (Val := Elt Ideal) (e' := .f32) (outsAt0 m c (t.val - 1) (by have := t.isLt; omega)).2.2.2.2.2.2 (Rect.unit ![2, 0, 0] ![1, 128, 128] inb_S4x128x128_S1x128x128_2_0_0)) r l inb_S128x512_S128x128_0_256 inb_S128x512_S128x128_0_256).trans ?_)
    · sl_kernel_rfl
    · exact congrArg (· + _) (View.ld_unit_apply_of _ _ _ _ _ _ fun a => by fin_cases a <;> simp)
  case piece2 =>
    obtain ⟨rfl, rfl⟩ := tile3 (k := k) (K := 1) (r := r) (l := l) h0 h1 h2
    refine Eq.trans ?_ ((pt_ds H t 1 hk (View.ld (Val := Elt Ideal) (e' := .f32) (outsAt0 m c (t.val - 1) (by have := t.isLt; omega)).2.2.2.2.2.2 (Rect.unit ![1, 0, 0] ![1, 128, 128] inb_S4x128x128_S1x128x128_1_0_0)) r l inb_S128x512_S128x128_0_128 inb_S128x512_S128x128_0_128).trans ?_)
    · sl_kernel_rfl
    · exact congrArg (· + _) (View.ld_unit_apply_of _ _ _ _ _ _ fun a => by fin_cases a <;> simp)
  case piece3 =>
    obtain ⟨rfl, rfl⟩ := tile3 (k := k) (K := 0) (r := r) (l := l) (h0.trans (Nat.zero_add _).symm) h1 h2
    refine Eq.trans ?_ ((pt_ds H t 0 hk (View.ld (Val := Elt Ideal) (e' := .f32) (outsAt0 m c (t.val - 1) (by have := t.isLt; omega)).2.2.2.2.2.2 (Rect.unit ![0, 0, 0] ![1, 128, 128] inb_S4x128x128_S1x128x128_0_0_0)) r l inb_S128x512_S128x128_0_0 inb_S128x512_S128x128_0_0).trans ?_)
    · sl_kernel_rfl
    · exact congrArg (· + _) (View.ld_unit_apply_of _ _ _ _ _ _ fun a => by fin_cases a <;> simp)

/-- What the point of a last chunk leaves of the gradient of the bias. -/
theorem dbs_C (h0 : ¬t.val % 16 = 0) (h1 : t.val % 16 = 15) (k : ℕ) (hk : k < 4) (X : Fin 128 → Fin 128 → ℝ)
    (hX : ∀ r l : Fin 128, (outsAt0 m c (t.val - 1) (by have := t.isLt; omega)).2.2.2.2.2.2 (ix3 (⟨k, hk⟩ : Fin 4) r l) = ((X r l : ℝ) : EReal))
    (s : Fin 8) (r : Fin 128) :
    (outsAt0 m c t.val t.isLt).2.2.2.2.2.1 (ix3 (⟨k, hk⟩ : Fin 4) s r)
      = ((∑ l : Fin 128, (X r l + A.ds (t.val % 16) (4 * (t.val / 16) + k) r l) : ℝ) : EReal) := by
  rw [outsAt0_C m c t h0 h1]
  frame_open
  simp (disch := decide) only [↓ View.readCov_skip, ↓ View.readCov_cons_toLoadRect, ↓ View.readCov_fill]
  frame_out
  try simp only [read_unread_whole]
  canon_tiles x h
  case piece0 =>
    obtain ⟨rfl, rfl⟩ := tile3 (k := k) (K := 3) (r := s) (l := r) h0 h1 h2
    refine Eq.trans ?_ (kDbs_at (X := fun r l => X r l + A.ds (t.val % 16) (4 * (t.val / 16) + 3) r l) (a := kAccS (View.ld (outsAt0 m c (t.val - 1) (by have := t.isLt; omega)).2.2.2.2.2.2 (Rect.unit ![3, 0, 0] ![1, 128, 128] inb_S4x128x128_S1x128x128_3_0_0))
      (View.ld (iblk m c 0 t) (Rect.unit ![0, 384] ![128, 128] inb_S128x512_S128x128_0_384))
      (View.ld (iblk m c 6 t) (Rect.unit ![0, 384] ![128, 128] inb_S128x512_S128x128_0_384))) (fun r l =>
        (pt_ds H t 3 hk _ r l inb_S128x512_S128x128_0_384 inb_S128x512_S128x128_0_384).trans ?_) s r)
    · sl_kernel_rfl
    · rw [EReal.coe_add, ← hX r l]
      exact congrArg (· + _) (View.ld_unit_apply_of _ _ _ _ _ _ fun a => by fin_cases a <;> simp)
  case piece1 =>
    obtain ⟨rfl, rfl⟩ := tile3 (k := k) (K := 2) (r := s) (l := r) h0 h1 h2
    refine Eq.trans ?_ (kDbs_at (X := fun r l => X r l + A.ds (t.val % 16) (4 * (t.val / 16) + 2) r l) (a := kAccS (View.ld (outsAt0 m c (t.val - 1) (by have := t.isLt; omega)).2.2.2.2.2.2 (Rect.unit ![2, 0, 0] ![1, 128, 128] inb_S4x128x128_S1x128x128_2_0_0))
      (View.ld (iblk m c 0 t) (Rect.unit ![0, 256] ![128, 128] inb_S128x512_S128x128_0_256))
      (View.ld (iblk m c 6 t) (Rect.unit ![0, 256] ![128, 128] inb_S128x512_S128x128_0_256))) (fun r l =>
        (pt_ds H t 2 hk _ r l inb_S128x512_S128x128_0_256 inb_S128x512_S128x128_0_256).trans ?_) s r)
    · sl_kernel_rfl
    · rw [EReal.coe_add, ← hX r l]
      exact congrArg (· + _) (View.ld_unit_apply_of _ _ _ _ _ _ fun a => by fin_cases a <;> simp)
  case piece2 =>
    obtain ⟨rfl, rfl⟩ := tile3 (k := k) (K := 1) (r := s) (l := r) h0 h1 h2
    refine Eq.trans ?_ (kDbs_at (X := fun r l => X r l + A.ds (t.val % 16) (4 * (t.val / 16) + 1) r l) (a := kAccS (View.ld (outsAt0 m c (t.val - 1) (by have := t.isLt; omega)).2.2.2.2.2.2 (Rect.unit ![1, 0, 0] ![1, 128, 128] inb_S4x128x128_S1x128x128_1_0_0))
      (View.ld (iblk m c 0 t) (Rect.unit ![0, 128] ![128, 128] inb_S128x512_S128x128_0_128))
      (View.ld (iblk m c 6 t) (Rect.unit ![0, 128] ![128, 128] inb_S128x512_S128x128_0_128))) (fun r l =>
        (pt_ds H t 1 hk _ r l inb_S128x512_S128x128_0_128 inb_S128x512_S128x128_0_128).trans ?_) s r)
    · sl_kernel_rfl
    · rw [EReal.coe_add, ← hX r l]
      exact congrArg (· + _) (View.ld_unit_apply_of _ _ _ _ _ _ fun a => by fin_cases a <;> simp)
  case piece3 =>
    obtain ⟨rfl, rfl⟩ := tile3 (k := k) (K := 0) (r := s) (l := r) (h0.trans (Nat.zero_add _).symm) h1 h2
    refine Eq.trans ?_ (kDbs_at (X := fun r l => X r l + A.ds (t.val % 16) (4 * (t.val / 16) + 0) r l) (a := kAccS (View.ld (outsAt0 m c (t.val - 1) (by have := t.isLt; omega)).2.2.2.2.2.2 (Rect.unit ![0, 0, 0] ![1, 128, 128] inb_S4x128x128_S1x128x128_0_0_0))
      (View.ld (iblk m c 0 t) (Rect.unit ![0, 0] ![128, 128] inb_S128x512_S128x128_0_0))
      (View.ld (iblk m c 6 t) (Rect.unit ![0, 0] ![128, 128] inb_S128x512_S128x128_0_0))) (fun r l =>
        (pt_ds H t 0 hk _ r l inb_S128x512_S128x128_0_0 inb_S128x512_S128x128_0_0).trans ?_) s r)
    · sl_kernel_rfl
    · rw [EReal.coe_add, ← hX r l]
      exact congrArg (· + _) (View.ld_unit_apply_of _ _ _ _ _ _ fun a => by fin_cases a <;> simp)

end Cert.Sgu
-- ==== Proof.Sgu.Arrays.lean ====
/- The kernel's six result arrays over the real numbers. -/
module

public import proofs.«01_k».proof.Proof.Sgu.Halves
public import proofs.«01_k».proof.Proof.Sgu.Sums
public import proofs.«01_k».proof.Proof.Sgu.Mats

@[expose] public section

set_option maxRecDepth 16384

noncomputable section

namespace Cert.Sgu

open Cert.KernelIdeal Cert.KernelIdeal.Gen Cert.KernelIdeal.Value Idealize.ShloMosaic Idealize.ShloMosaic.TcCoe Idealize.SL.Sem

namespace Reals
variable (A : Reals)
/-- The gradient of the left half, all rows and lanes. -/
def Du (y : (Shape.mk 2 ![2048, 1024]).Idx) : EReal :=
  ((A.du ((y 0).val / 128) ((y 1).val / 128) ⟨(y 0).val % 128, Nat.mod_lt _ (by decide)⟩ ⟨(y 1).val % 128, Nat.mod_lt _ (by decide)⟩ : ℝ) : EReal)
/-- The gradient of the right half. -/
def Dv (y : (Shape.mk 2 ![2048, 1024]).Idx) : EReal :=
  ((A.dv ((y 0).val / 128) ((y 1).val / 128) ⟨(y 0).val % 128, Nat.mod_lt _ (by decide)⟩ ⟨(y 1).val % 128, Nat.mod_lt _ (by decide)⟩ : ℝ) : EReal)
/-- The gradient of the scale, repeated over eight rows. -/
def Dg (y : (Shape.mk 2 ![8, 1024]).Idx) : EReal :=
  ((∑ i ∈ Finset.range 16, A.dg i ((y 1).val / 128) ⟨(y 1).val % 128, Nat.mod_lt _ (by decide)⟩ : ℝ) : EReal)
/-- The gradient of the offset, repeated over eight rows. -/
def Db (y : (Shape.mk 2 ![8, 1024]).Idx) : EReal :=
  ((∑ i ∈ Finset.range 16, A.db i ((y 1).val / 128) ⟨(y 1).val % 128, Nat.mod_lt _ (by decide)⟩ : ℝ) : EReal)
/-- The gradient of the mixing matrices. -/
def Dw (y : (Shape.mk 3 ![8, 128, 128]).Idx) : EReal :=
  ((∑ i ∈ Finset.range 16, A.dw i (y 0).val (y 1) (y 2) : ℝ) : EReal)
/-- The gradient of their biases, repeated over eight rows. -/
def Dbs (y : (Shape.mk 3 ![8, 8, 128]).Idx) : EReal :=
  ((∑ l : Fin 128, ∑ i ∈ Finset.range 16, A.ds i (y 0).val (y 2) l : ℝ) : EReal)
end Reals

/-- A running sum that starts anew at every sixteenth point. -/
theorem run16 {N : ℕ} (f : ∀ n, n < N → EReal) (term : ℕ → ℕ → ℝ)
    (hA : ∀ n h, n % 16 = 0 → f n h = ((term 0 (n / 16) : ℝ) : EReal))
    (hB : ∀ n h, ¬n % 16 = 0 → f n h = f (n - 1) (by omega) + ((term (n % 16) (n / 16) : ℝ) : EReal)) :
    ∀ n h, f n h = ((∑ i ∈ Finset.range (n % 16 + 1), term i (n / 16) : ℝ) : EReal) := by
  intro n
  induction n with
  | zero => intro h; rw [hA 0 h rfl]; simp
  | succ n ih =>
    intro h
    by_cases h0 : (n + 1) % 16 = 0
    · rw [hA _ h h0, h0]; simp
    · rw [hB _ h h0, Finset.sum_range_succ, EReal.coe_add]
      refine congrArg (· + _) ((ih (by omega)).trans ?_)
      have e1 : n % 16 + 1 = (n + 1) % 16 := by omega
      have e2 : n / 16 = (n + 1) / 16 := by omega
      rw [e1, e2]

/-- The same over the points before the last chunk's. -/
theorem run15 {N : ℕ} (f : ∀ n, n < N → EReal) (term : ℕ → ℕ → ℝ)
    (hA : ∀ n h, n % 16 = 0 → f n h = ((term 0 (n / 16) : ℝ) : EReal))
    (hB : ∀ n h, ¬n % 16 = 0 → ¬n % 16 = 15 → f n h = f (n - 1) (by omega) + ((term (n % 16) (n / 16) : ℝ) : EReal)) :
    ∀ n h, ¬n % 16 = 15 → f n h = ((∑ i ∈ Finset.range (n % 16 + 1), term i (n / 16) : ℝ) : EReal) := by
  intro n
  induction n with
  | zero => intro h _; rw [hA 0 h rfl]; simp
  | succ n ih =>
    intro h h15
    by_cases h0 : (n + 1) % 16 = 0
    · rw [hA _ h h0, h0]; simp
    · rw [hB _ h h0 h15, Finset.sum_range_succ, EReal.coe_add]
      refine congrArg (· + _) ((ih (by omega) (by omega)).trans ?_)
      have e1 : n % 16 + 1 = (n + 1) % 16 := by omega
      have e2 : n / 16 = (n + 1) / 16 := by omega
      rw [e1, e2]

theorem cong4 (f : ℕ → ℕ → Fin 128 → Fin 128 → ℝ) {i i' q q' : ℕ} {r r' l l' : Fin 128} (h1 : i = i') (h2 : q = q')
    (h3 : r.val = r'.val) (h4 : l.val = l'.val) : ((f i q r l : ℝ) : EReal) = ((f i' q' r' l' : ℝ) : EReal) := by
  obtain rfl := Fin.ext h3; obtain rfl := Fin.ext h4; subst h1 h2; rfl

theorem cong2 (f : ℕ → Fin 128 → ℝ) {q q' : ℕ} {l l' : Fin 128} (h2 : q = q')
    (h4 : l.val = l'.val) : ((f q l : ℝ) : EReal) = ((f q' l' : ℝ) : EReal) := by
  obtain rfl := Fin.ext h4; subst h2; rfl

theorem cong3 (f : ℕ → Fin 128 → Fin 128 → ℝ) {q q' : ℕ} {r r' l l' : Fin 128} (h2 : q = q')
    (h3 : r.val = r'.val) (h4 : l.val = l'.val) : ((f q r l : ℝ) : EReal) = ((f q' r' l' : ℝ) : EReal) := by
  obtain rfl := Fin.ext h3; obtain rfl := Fin.ext h4; subst h2; rfl

/-- An index of a block of 512 lanes, its lane split into tile and lane. -/
theorem split512 {n : ℕ} (y : (Shape.mk 2 ![n, 512]).Idx) (h) :
    y = ix2 (y 0 : Fin n) (⟨128 * ((y 1).val / 128) + (⟨(y 1).val % 128, Nat.mod_lt _ (by decide)⟩ : Fin 128).val, h⟩ : Fin 512) := by
  funext a; fin_cases a
  · rfl
  · exact Fin.ext (Nat.div_add_mod _ _).symm

/-! The block each result window writes. -/
theorem idx7 : ∀ t : Fin cfg0.N, win0_7.index t (0 : Fin 2) = t.val % 16 ∧ win0_7.index t (1 : Fin 2) = t.val / 16 :=
  (by decide +kernel : ∀ t : Fin grid0.N, _)
theorem idx8 : ∀ t : Fin cfg0.N, win0_8.index t (0 : Fin 2) = t.val % 16 ∧ win0_8.index t (1 : Fin 2) = t.val / 16 :=
  (by decide +kernel : ∀ t : Fin grid0.N, _)
theorem idx9 : ∀ t : Fin cfg0.N, win0_9.index t (0 : Fin 2) = 0 ∧ win0_9.index t (1 : Fin 2) = t.val / 16 :=
  (by decide +kernel : ∀ t : Fin grid0.N, _)
theorem idx10 : ∀ t : Fin cfg0.N, win0_10.index t (0 : Fin 2) = 0 ∧ win0_10.index t (1 : Fin 2) = t.val / 16 :=
  (by decide +kernel : ∀ t : Fin grid0.N, _)
theorem idx11 : ∀ t : Fin cfg0.N, win0_11.index t (0 : Fin 3) = t.val / 16 ∧ win0_11.index t (1 : Fin 3) = 0
    ∧ win0_11.index t (2 : Fin 3) = 0 :=
  (by decide +kernel : ∀ t : Fin grid0.N, _)
theorem idx12 : ∀ t : Fin cfg0.N, win0_12.index t (0 : Fin 3) = t.val / 16 ∧ win0_12.index t (1 : Fin 3) = 0
    ∧ win0_12.index t (2 : Fin 3) = 0 :=
  (by decide +kernel : ∀ t : Fin grid0.N, _)

variable {m : (ℓ : Loc nD τ sig) → Buf (Elt Ideal) ℓ} {c : Dev nD} {A : Reals} (H : Holds m c A)
include H

/-- The kernel's result 0. -/
theorem arr_du : (dats m 0 c).arrAt 7 cfg0.N = A.Du := by
  refine (dats m 0 c).arrAt_eq_of_covers 7 _ (by decide +kernel) fun t hf y => ?_
  blk_simp
  rw [after0_7]
  have hx := idx7 t
  have ht := lt32 t
  have y0 : (y 0).val < 128 := (y 0).isLt
  have y1 : (y 1).val < 512 := (y 1).isLt
  have key : (outsAt0 m c t.val t.isLt).1 y = ((A.du (t.val % 16) (4 * (t.val / 16) + (y 1).val / 128) (y 0) ⟨(y 1).val % 128, Nat.mod_lt _ (by decide)⟩ : ℝ) : EReal) := by
    conv_lhs => rw [split512 (n := 128) y (by dsimp only; omega)]
    by_cases h0 : t.val % 16 = 0
    · exact du_A H t h0 (by omega) _ (by omega) _ _
    · by_cases h1 : t.val % 16 = 15
      · exact du_C H t h0 h1 _ (by omega) _ _
      · exact du_B H t h0 h1 _ (by omega) _ _
  refine Eq.trans key ?_
  unfold Reals.Du
  blk_simp
  exact cong4 A.du (by omega) (by omega) (by dsimp only; omega) (by dsimp only; omega)

/-- The kernel's result 1. -/
theorem arr_dv : (dats m 0 c).arrAt 8 cfg0.N = A.Dv := by
  refine (dats m 0 c).arrAt_eq_of_covers 8 _ (by decide +kernel) fun t hf y => ?_
  blk_simp
  rw [after0_8]
  have hx := idx8 t
  have ht := lt32 t
  have y0 : (y 0).val < 128 := (y 0).isLt
  have y1 : (y 1).val < 512 := (y 1).isLt
  have key : (outsAt0 m c t.val t.isLt).2.1 y = ((A.dv (t.val % 16) (4 * (t.val / 16) + (y 1).val / 128) (y 0) ⟨(y 1).val % 128, Nat.mod_lt _ (by decide)⟩ : ℝ) : EReal) := by
    conv_lhs => rw [split512 (n := 128) y (by dsimp only; omega)]
    by_cases h0 : t.val % 16 = 0
    · exact dv_A H t h0 (by omega) _ (by omega) _ _
    · by_cases h1 : t.val % 16 = 15
      · exact dv_C H t h0 h1 _ (by omega) _ _
      · exact dv_B H t h0 h1 _ (by omega) _ _
  refine Eq.trans key ?_
  unfold Reals.Dv
  blk_simp
  exact cong4 A.dv (by omega) (by omega) (by dsimp only; omega) (by dsimp only; omega)

theorem dg_run (k : ℕ) (hk : k < 4) (s : Fin 8) (l : Fin 128) (n : ℕ) (h : n < cfg0.N) :
    (outsAt0 m c n h).2.2.1 (ix2 s (⟨128 * k + l, by omega⟩ : Fin 512))
      = ((∑ i ∈ Finset.range (n % 16 + 1), A.dg i (4 * (n / 16) + k) l : ℝ) : EReal) := by
  refine run16 (fun n h => (outsAt0 m c n h).2.2.1 (ix2 s (⟨128 * k + l, by omega⟩ : Fin 512)))
    (fun i j => A.dg i (4 * j + k) l) (fun n h h0 => ?_) (fun n h h0 => ?_) n h
  · have e := dg_A H ⟨n, h⟩ h0 (by dsimp only; omega) k hk s l
    dsimp only at e; rw [h0] at e; exact e
  · by_cases h1 : n % 16 = 15
    · exact dg_C H ⟨n, h⟩ h0 h1 k hk s l
    · exact dg_B H ⟨n, h⟩ h0 h1 k hk s l

/-- The kernel's result 2. -/
theorem arr_dg : (dats m 0 c).arrAt 9 cfg0.N = A.Dg := by
  refine (dats m 0 c).arrAt_eq_of_covers 9 _ (by decide +kernel) fun t hf y => ?_
  have h15 := (flush0_9 t).mp hf
  blk_simp
  rw [after0_9]
  have hx := idx9 t
  have ht := lt32 t
  have y1 : (y 1).val < 512 := (y 1).isLt
  have key : (outsAt0 m c t.val t.isLt).2.2.1 y = ((∑ i ∈ Finset.range 16, A.dg i (4 * (t.val / 16) + (y 1).val / 128) ⟨(y 1).val % 128, Nat.mod_lt _ (by decide)⟩ : ℝ) : EReal) := by
    conv_lhs => rw [split512 (n := 8) y (by dsimp only; omega)]
    refine (dg_run H _ (by omega) (y 0) _ t.val t.isLt).trans ?_
    rw [h15]
  refine Eq.trans key ?_
  unfold Reals.Dg
  blk_simp
  exact cong2 (fun q l => ∑ i ∈ Finset.range 16, A.dg i q l) (by omega) (by dsimp only; omega)

theorem db_run (k : ℕ) (hk : k < 4) (s : Fin 8) (l : Fin 128) (n : ℕ) (h : n < cfg0.N) :
    (outsAt0 m c n h).2.2.2.1 (ix2 s (⟨128 * k + l, by omega⟩ : Fin 512))
      = ((∑ i ∈ Finset.range (n % 16 + 1), A.db i (4 * (n / 16) + k) l : ℝ) : EReal) := by
  refine run16 (fun n h => (outsAt0 m c n h).2.2.2.1 (ix2 s (⟨128 * k + l, by omega⟩ : Fin 512)))
    (fun i j => A.db i (4 * j + k) l) (fun n h h0 => ?_) (fun n h h0 => ?_) n h
  · have e := db_A H ⟨n, h⟩ h0 (by dsimp only; omega) k hk s l
    dsimp only at e; rw [h0] at e; exact e
  · by_cases h1 : n % 16 = 15
    · exact db_C H ⟨n, h⟩ h0 h1 k hk s l
    · exact db_B H ⟨n, h⟩ h0 h1 k hk s l

/-- The kernel's result 3. -/
theorem arr_db : (dats m 0 c).arrAt 10 cfg0.N = A.Db := by
  refine (dats m 0 c).arrAt_eq_of_covers 10 _ (by decide +kernel) fun t hf y => ?_
  have h15 := (flush0_10 t).mp hf
  blk_simp
  rw [after0_10]
  have hx := idx10 t
  have ht := lt32 t
  have y1 : (y 1).val < 512 := (y 1).isLt
  have key : (outsAt0 m c t.val t.isLt).2.2.2.1 y = ((∑ i ∈ Finset.range 16, A.db i (4 * (t.val / 16) + (y 1).val / 128) ⟨(y 1).val % 128, Nat.mod_lt _ (by decide)⟩ : ℝ) : EReal) := by
    conv_lhs => rw [split512 (n := 8) y (by dsimp only; omega)]
    refine (db_run H _ (by omega) (y 0) _ t.val t.isLt).trans ?_
    rw [h15]
  refine Eq.trans key ?_
  unfold Reals.Db
  blk_simp
  exact cong2 (fun q l => ∑ i ∈ Finset.range 16, A.db i q l) (by omega) (by dsimp only; omega)

theorem dw_run (k : ℕ) (hk : k < 4) (r l : Fin 128) (n : ℕ) (h : n < cfg0.N) :
    (outsAt0 m c n h).2.2.2.2.1 (ix3 (⟨k, hk⟩ : Fin 4) r l)
      = ((∑ i ∈ Finset.range (n % 16 + 1), A.dw i (4 * (n / 16) + k) r l : ℝ) : EReal) := by
  refine run16 (fun n h => (outsAt0 m c n h).2.2.2.2.1 (ix3 (⟨k, hk⟩ : Fin 4) r l))
    (fun i j => A.dw i (4 * j + k) r l) (fun n h h0 => ?_) (fun n h h0 => ?_) n h
  · have e := dw_A H ⟨n, h⟩ h0 (by dsimp only; omega) k hk r l
    dsimp only at e; rw [h0] at e; exact e
  · by_cases h1 : n % 16 = 15
    · exact dw_C H ⟨n, h⟩ h0 h1 k hk r l
    · exact dw_B H ⟨n, h⟩ h0 h1 k hk r l

theorem ds_run (k : ℕ) (hk : k < 4) (r l : Fin 128) (n : ℕ) (h : n < cfg0.N) (h15 : ¬n % 16 = 15) :
    (outsAt0 m c n h).2.2.2.2.2.2 (ix3 (⟨k, hk⟩ : Fin 4) r l)
      = ((∑ i ∈ Finset.range (n % 16 + 1), A.ds i (4 * (n / 16) + k) r l : ℝ) : EReal) := by
  refine run15 (fun n h => (outsAt0 m c n h).2.2.2.2.2.2 (ix3 (⟨k, hk⟩ : Fin 4) r l))
    (fun i j => A.ds i (4 * j + k) r l) (fun n h h0 => ?_) (fun n h h0 h1 => ?_) n h h15
  · have e := ds_A H ⟨n, h⟩ h0 (by dsimp only; omega) k hk r l
    dsimp only at e; rw [h0] at e; exact e
  · exact ds_B H ⟨n, h⟩ h0 h1 k hk r l

/-- The kernel's result 4. -/
theorem arr_dw : (dats m 0 c).arrAt 11 cfg0.N = A.Dw := by
  refine (dats m 0 c).arrAt_eq_of_covers 11 _ (by decide +kernel) fun t hf y => ?_
  have h15 := (flush0_11 t).mp hf
  blk_simp
  rw [after0_11]
  have hx := idx11 t
  have ht := lt32 t
  have y0 : (y 0).val < 4 := (y 0).isLt
  have key : (outsAt0 m c t.val t.isLt).2.2.2.2.1 y = ((∑ i ∈ Finset.range 16, A.dw i (4 * (t.val / 16) + (y 0).val) (y 1) (y 2) : ℝ) : EReal) := by
    conv_lhs => rw [show y = ix3 (⟨(y 0).val, y0⟩ : Fin 4) (y 1) (y 2) from by funext a; fin_cases a <;> rfl]
    refine (dw_run H _ y0 (y 1) (y 2) t.val t.isLt).trans ?_
    rw [h15]
  refine Eq.trans key ?_
  unfold Reals.Dw
  refine cong3 (fun q r l => ∑ i ∈ Finset.range 16, A.dw i q r l) ?_ ?_ ?_ <;> blk_simp <;> omega

/-- The kernel's result 5. -/
theorem arr_dbs : (dats m 0 c).arrAt 12 cfg0.N = A.Dbs := by
  refine (dats m 0 c).arrAt_eq_of_covers 12 _ (by decide +kernel) fun t hf y => ?_
  have h15 := (flush0_12 t).mp hf
  blk_simp
  rw [after0_12]
  have hx := idx12 t
  have ht := lt32 t
  have y0 : (y 0).val < 4 := (y 0).isLt
  have key : (outsAt0 m c t.val t.isLt).2.2.2.2.2.1 y = ((∑ l : Fin 128, ∑ i ∈ Finset.range 16, A.ds i (4 * (t.val / 16) + (y 0).val) (y 2) l : ℝ) : EReal) := by
    conv_lhs => rw [show y = ix3 (⟨(y 0).val, y0⟩ : Fin 4) (y 1) (y 2) from by funext a; fin_cases a <;> rfl]
    refine (dbs_C H t (by omega) h15 _ y0 (fun r l => ∑ i ∈ Finset.range 15, A.ds i (4 * (t.val / 16) + (y 0).val) r l)
      (fun r l => ?_) (y 1) (y 2)).trans ?_
    · refine (ds_run H _ y0 r l (t.val - 1) _ (by omega)).trans ?_
      have e1 : (t.val - 1) % 16 + 1 = 15 := by omega
      have e2 : (t.val - 1) / 16 = t.val / 16 := by omega
      rw [e1, e2]
    · rw [h15]
      refine congrArg _ (Finset.sum_congr rfl fun l _ => (Finset.sum_range_succ _ _).symm)
  refine Eq.trans key ?_
  unfold Reals.Dbs
  refine cong2 (fun q r => ∑ l : Fin 128, ∑ i ∈ Finset.range 16, A.ds i q r l) ?_ ?_ <;> blk_simp <;> omega

end Cert.Sgu
-- ==== Proof.Sgu.Ref.lean ====
/- The reference's stages over the real numbers: each named stage of its run, read at an index. -/
module

public import proofs.«01_k».proof.Proof.Gen.ReferenceIdeal.Run
public import proofs.«01_k».proof.Proof.Sgu.Arrays
public import Idealize.ShloMosaic.Lib.Pointwise
public import Idealize.ShloMosaic.Lib.WordCmp
public import Idealize.ShloMosaic.Lib.Tactic.CleanTypes

@[expose] public section

set_option maxRecDepth 16384

noncomputable section

namespace Cert.Sgu.Ref

open Idealize.ShloMosaic Cert.ReferenceIdeal Cert.ReferenceIdeal.Gen Cert.ReferenceIdeal.Value Cert.Sgu

/-- The arguments a device holds are the real arrays `A`. -/
structure Args (V : Valuation τ sig (Elt Ideal)) (A : Reals) : Prop where
  P : ∀ (r : Fin 2048) (l : Fin 7680), V (Proc.devRef .tc main_arg0) (ix2 r l) = ((A.P r.val l.val : ℝ) : EReal)
  D : ∀ (r : Fin 2048) (l : Fin 1024), V (Proc.devRef .tc main_arg1) (ix2 r l) = ((A.D r.val l.val : ℝ) : EReal)
  g : ∀ l : Fin 1024, V (Proc.devRef .tc main_arg2) (ix1 l) = ((A.g l.val : ℝ) : EReal)
  b : ∀ l : Fin 1024, V (Proc.devRef .tc main_arg3) (ix1 l) = ((A.b l.val : ℝ) : EReal)
  W : ∀ (q : Fin 8) (r l : Fin 128), V (Proc.devRef .tc main_arg4) (ix3 q r l) = ((A.W q.val r.val l.val : ℝ) : EReal)
  C : ∀ (q : Fin 8) (r : Fin 128), V (Proc.devRef .tc main_arg5) (ix2 q r) = ((A.C q.val r.val : ℝ) : EReal)

variable {V : Valuation τ sig (Elt Ideal)} {A : Reals} (H : Args V A)
include H

omit H in
/-- A sum over the axes 0, 3 of 4. -/
theorem sum_r4_03 {n0 n1 n2 n3 : ℕ} (h : Shape.ReducesTo ⟨4, ![n0, n1, n2, n3]⟩ [0, 3] ⟨2, ![n1, n2]⟩)
    (v : Shape.Idx ⟨4, ![n0, n1, n2, n3]⟩ → EReal) (init : EReal) (b : Fin n1) (c : Fin n2) :
    Ideal.hostReduceAdd h v init (ix2 b c) = init + ∑ a : Fin n0, ∑ d : Fin n3, v (ix4 a b c d) := by
  have hf : ∀ i : Shape.Idx ⟨4, ![n0, n1, n2, n3]⟩, h.drop i = (ix2 b c) ↔ ∃ k : Fin n0 × Fin n3, ix4 k.1 b c k.2 = i := by
    intro i
    constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext x; apply Fin.ext
      match x with
      | ⟨0, _⟩ => rfl
      | ⟨1, _⟩ => rfl
  refine congrArg (init + ·) ((Finset.sum_filter_eq_sum_of_fiber _ (fun k : Fin n0 × Fin n3 => ix4 k.1 b c k.2)
    (fun _ _ e => Prod.ext (congrFun e 0) (congrFun e 3)) hf v).trans ?_)
  simp only [Fintype.sum_prod_type]

omit H in
/-- A sum over the axes 0, 1 of 4. -/
theorem sum_r4_01 {n0 n1 n2 n3 : ℕ} (h : Shape.ReducesTo ⟨4, ![n0, n1, n2, n3]⟩ [0, 1] ⟨2, ![n2, n3]⟩)
    (v : Shape.Idx ⟨4, ![n0, n1, n2, n3]⟩ → EReal) (init : EReal) (c : Fin n2) (d : Fin n3) :
    Ideal.hostReduceAdd h v init (ix2 c d) = init + ∑ a : Fin n0, ∑ b : Fin n1, v (ix4 a b c d) := by
  have hf : ∀ i : Shape.Idx ⟨4, ![n0, n1, n2, n3]⟩, h.drop i = (ix2 c d) ↔ ∃ k : Fin n0 × Fin n1, ix4 k.1 k.2 c d = i := by
    intro i
    constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext x; apply Fin.ext
      match x with
      | ⟨0, _⟩ => rfl
      | ⟨1, _⟩ => rfl
  refine congrArg (init + ·) ((Finset.sum_filter_eq_sum_of_fiber _ (fun k : Fin n0 × Fin n1 => ix4 k.1 k.2 c d)
    (fun _ _ e => Prod.ext (congrFun e 0) (congrFun e 1)) hf v).trans ?_)
  simp only [Fintype.sum_prod_type]

omit H in
/-- A sum over the axes 1, 4 of 5. -/
theorem sum_r5_14 {n0 n1 n2 n3 n4 : ℕ} (h : Shape.ReducesTo ⟨5, ![n0, n1, n2, n3, n4]⟩ [1, 4] ⟨3, ![n0, n2, n3]⟩)
    (v : Shape.Idx ⟨5, ![n0, n1, n2, n3, n4]⟩ → EReal) (init : EReal) (a : Fin n0) (c : Fin n2) (d : Fin n3) :
    Ideal.hostReduceAdd h v init (ix3 a c d) = init + ∑ b : Fin n1, ∑ e : Fin n4, v (ix5 a b c d e) := by
  have hf : ∀ i : Shape.Idx ⟨5, ![n0, n1, n2, n3, n4]⟩, h.drop i = (ix3 a c d) ↔ ∃ k : Fin n1 × Fin n4, ix5 a k.1 c d k.2 = i := by
    intro i
    constructor
    · intro e
      refine ⟨(i 1, i 4), ?_⟩
      funext x; apply Fin.ext
      match x with
      | ⟨0, _⟩ => exact (congrArg Fin.val (congrFun e 0)).symm
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext x; apply Fin.ext
      match x with
      | ⟨0, _⟩ => rfl
      | ⟨1, _⟩ => rfl
      | ⟨2, _⟩ => rfl
  refine congrArg (init + ·) ((Finset.sum_filter_eq_sum_of_fiber _ (fun k : Fin n1 × Fin n4 => ix5 a k.1 c d k.2)
    (fun _ _ e => Prod.ext (congrFun e 1) (congrFun e 4)) hf v).trans ?_)
  simp only [Fintype.sum_prod_type]

omit H in
/-- A sum over the axes 0, 1, 4 of 5. -/
theorem sum_r5_014 {n0 n1 n2 n3 n4 : ℕ} (h : Shape.ReducesTo ⟨5, ![n0, n1, n2, n3, n4]⟩ [0, 1, 4] ⟨2, ![n2, n3]⟩)
    (v : Shape.Idx ⟨5, ![n0, n1, n2, n3, n4]⟩ → EReal) (init : EReal) (c : Fin n2) (d : Fin n3) :
    Ideal.hostReduceAdd h v init (ix2 c d) = init + ∑ a : Fin n0, ∑ b : Fin n1, ∑ e : Fin n4, v (ix5 a b c d e) := by
  have hf : ∀ i : Shape.Idx ⟨5, ![n0, n1, n2, n3, n4]⟩, h.drop i = (ix2 c d) ↔ ∃ k : Fin n0 × Fin n1 × Fin n4, ix5 k.1 k.2.1 c d k.2.2 = i := by
    intro i
    constructor
    · intro e
      refine ⟨(i 0, i 1, i 4), ?_⟩
      funext x; apply Fin.ext
      match x with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨k, rfl⟩
      funext x; apply Fin.ext
      match x with
      | ⟨0, _⟩ => rfl
      | ⟨1, _⟩ => rfl
  refine congrArg (init + ·) ((Finset.sum_filter_eq_sum_of_fiber _ (fun k : Fin n0 × Fin n1 × Fin n4 => ix5 k.1 k.2.1 c d k.2.2)
    (fun _ _ e => Prod.ext (congrFun e 0) (Prod.ext (congrFun e 1) (congrFun e 4))) hf v).trans ?_)
  simp only [Fintype.sum_prod_type]

theorem v1_at (r l : Fin 2048) : res_main_v1 V (ix3 (0 : Fin 1) r l) = ((A.P r.val (1536 + l.val) : ℝ) : EReal) := by

  pointwise [res_main_v1, H.P]

omit H in
theorem v2_at : res_main_v2 V ix0 = ((alf : ℝ) : EReal) := by

  pointwise [res_main_v2]
  rw [ofBits_num, ofBits_den, Ideal.div_coe (by norm_num), ← EReal.coe_mul]
  exact congrArg _ (by unfold alf; norm_num)

theorem v13_at (r l : Fin 2048) : res_main_v13 V (ix3 (0 : Fin 1) r l) = ((th (A.P r.val (1536 + l.val)) : ℝ) : EReal) := by

  pointwise [res_main_v13, v1_at H, v2_at]
  simp only [ofBits_kap, ← EReal.coe_mul, ← EReal.coe_add, Ideal.tanh_coe]
  rfl

theorem v22_at (r l : Fin 2048) : res_main_v22 V (ix3 (0 : Fin 1) r l) = ((1 / 2 * (1 + th (A.P r.val (1536 + l.val))) : ℝ) : EReal) := by

  pointwise [res_main_v22, v13_at H]
  simp only [ofBits_half, ofBits_one, ← EReal.coe_one, ← EReal.coe_mul, ← EReal.coe_add]

theorem v23_at (r l : Fin 2048) : res_main_v23 V (ix3 (0 : Fin 1) r l) = ((act (A.P r.val (1536 + l.val)) : ℝ) : EReal) := by

  pointwise [res_main_v23, v22_at H, v1_at H]
  simp only [← EReal.coe_mul]; rfl

/-- One group of one row of the right half, after GELU. -/
def aR (A : Reals) (R q : ℕ) (l : Fin 128) : ℝ := act (A.P R (2560 + 128 * q + l.val))

theorem v24_at (r : Fin 2048) (l : Fin 1024) :
    res_main_v24 V (ix3 (0 : Fin 1) r l) = ((act (A.P r.val (1536 + l.val)) : ℝ) : EReal) := by
  pointwise [res_main_v24, v23_at H]

theorem v26_at (r : Fin 2048) (q : Fin 8) (l : Fin 128) :
    res_main_v26 V (ix4 (0 : Fin 1) r q l) = ((aR A r.val q.val l : ℝ) : EReal) := by
  pointwise [res_main_v26, v23_at H]
  unfold aR
  rw [show 1536 + (1024 + (q.val * 128 + l.val)) = 2560 + 128 * q.val + l.val by omega]

theorem v30_at (r : Fin 2048) (q : Fin 8) :
    res_main_v30 V (ix4 (0 : Fin 1) r q (0 : Fin 1)) = ((mean (aR A r.val q.val) : ℝ) : EReal) := by
  pointwise [res_main_v30, v26_at H]
  rw [ofBits_128, coe_sum, div128]; rfl

theorem v32_at (r : Fin 2048) (q : Fin 8) (l : Fin 128) :
    res_main_v32 V (ix4 (0 : Fin 1) r q l) = ((cen (aR A r.val q.val) l : ℝ) : EReal) := by
  pointwise [res_main_v32, v26_at H, v30_at H]
  exact (EReal.coe_sub _ _).symm

theorem v41_at (r : Fin 2048) (q : Fin 8) (l : Fin 128) :
    res_main_v41 V (ix4 (0 : Fin 1) r q l) = ((cen (aR A r.val q.val) l : ℝ) : EReal) := by
  pointwise [res_main_v41, v26_at H, v30_at H]
  exact (EReal.coe_sub _ _).symm

theorem v43_at (r : Fin 2048) (q : Fin 8) :
    res_main_v43 V (ix4 (0 : Fin 1) r q (0 : Fin 1)) = ((var (aR A r.val q.val) + eps : ℝ) : EReal) := by
  pointwise [res_main_v43, v32_at H]
  simp only [ofBits_128, ofBits_eps, ← EReal.coe_mul, coe_sum, div128, ← EReal.coe_add]; rfl

theorem v44_at (r : Fin 2048) (q : Fin 8) :
    res_main_v44 V (ix4 (0 : Fin 1) r q (0 : Fin 1)) = ((rs (aR A r.val q.val) : ℝ) : EReal) := by
  pointwise [res_main_v44, v43_at H]
  exact rsqrt_pos (guard_pos _)

theorem v49_at (r : Fin 2048) (q : Fin 8) (l : Fin 128) :
    res_main_v49 V (ix4 (0 : Fin 1) r q l) = ((xh (aR A r.val q.val) l : ℝ) : EReal) := by
  pointwise [res_main_v49, v41_at H, v44_at H]
  exact (EReal.coe_mul _ _).symm

theorem v51_at (q : Fin 8) (l : Fin 128) :
    res_main_v51 V (ix4 (0 : Fin 1) (0 : Fin 1) q l) = ((A.gg q.val l : ℝ) : EReal) := by
  pointwise [res_main_v51, H.g]
  unfold Reals.gg
  rw [Nat.mul_comm]

theorem v58_at (i : Fin 16) (r : Fin 128) (q : Fin 8) (l : Fin 128) :
    res_main_v58 V (ix5 (0 : Fin 1) i r q l)
      = ((vnT (A.v i.val q.val) (A.gg q.val) (A.bb q.val) r l : ℝ) : EReal) := by
  pointwise [res_main_v58, v49_at H, v51_at H, H.b]
  rw [Nat.mul_comm i.val, Nat.mul_comm q.val, ← EReal.coe_mul, ← EReal.coe_add]; rfl

omit H in
theorem tri_at (q : Fin 8) (r l : Fin 128) :
    res_main_v63_1 V (ix3 q r l) = if l ≤ r then 1#1 else 0#1 := by
  pointwise [res_main_v63_1]
  rw [show IntOp.addi (BitVec.ofNat 32 r.val) 0#32 = BitVec.ofNat 32 r.val from BitVec.add_zero _,
    WordCmp.cmpi_sge_ofNat (by omega) (by omega)]
  by_cases h : l ≤ r
  · rw [if_pos h, decide_eq_true (Fin.le_def.mp h)]; rfl
  · rw [if_neg h, decide_eq_false (fun h' => h (Fin.le_def.mpr h'))]; rfl

theorem v63_at (q : Fin 8) (r l : Fin 128) :
    res_main_v63_0 V (ix3 q r l) = ((wT (A.w q.val) r l : ℝ) : EReal) := by
  pointwise [res_main_v63_0, tri_at, H.W]
  unfold wT
  split_ifs <;> rfl

theorem v70_at (r : Fin 2048) (l : Fin 1024) :
    res_main_v70 V (ix3 (0 : Fin 1) r l)
      = ((sT (A.v (r.val / 128) (l.val / 128)) (A.w (l.val / 128)) (A.gg (l.val / 128)) (A.bb (l.val / 128)) (A.c (l.val / 128))
          ⟨r.val % 128, Nat.mod_lt _ (by decide)⟩ ⟨l.val % 128, Nat.mod_lt _ (by decide)⟩ : ℝ) : EReal) := by
  pointwise [res_main_v70, v58_at H, v63_at H, H.C]
  simp only [← EReal.coe_mul, coe_sum, ← EReal.coe_add]
  refine congrArg _ ?_
  unfold sT
  refine congrArg (· + _) (Finset.sum_congr rfl fun k _ => mul_comm _ _)

theorem v75_at (i : Fin 16) (r : Fin 128) (q : Fin 8) (l : Fin 128) :
    res_main_v75 V (ix5 (0 : Fin 1) i r q l)
      = ((dsT (A.u i.val q.val) (A.d i.val q.val) r l : ℝ) : EReal) := by
  pointwise [res_main_v75, v24_at H, res_main_v72, H.D]
  rw [Nat.mul_comm i.val, Nat.mul_comm q.val, ← EReal.coe_mul, mul_comm (act _), ← Nat.add_assoc]; rfl

theorem v80_at (q : Fin 8) (i : Fin 16) (l r : Fin 128)  :
    res_main_v80 V (ix5 q (0 : Fin 1) i l r)
      = ((dsT (A.u i.val q.val) (A.d i.val q.val) r l : ℝ) : EReal) := by
  pointwise [res_main_v80, v75_at H]

theorem v85_at (r : Fin 2048) (q : Fin 8) (l : Fin 128) :
    res_main_v85 V (ix4 (0 : Fin 1) r q l)
      = ((dvnT (A.u (r.val / 128) q.val) (A.d (r.val / 128) q.val) (A.w q.val) ⟨r.val % 128, Nat.mod_lt _ (by decide)⟩ l : ℝ) : EReal) := by
  pointwise [res_main_v85, v80_at H, v63_at H]
  simp only [← EReal.coe_mul, coe_sum]
  exact congrArg _ (Finset.sum_congr rfl fun k _ => mul_comm _ _)

/-- The gradient of one group of one row's normalised lanes. -/
def pR (A : Reals) (R q : ℕ) (l : Fin 128) : ℝ :=
  dvnT (A.u (R / 128) q) (A.d (R / 128) q) (A.w q) ⟨R % 128, Nat.mod_lt _ (by decide)⟩ l * A.gg q l

theorem v94_at (r : Fin 2048) (q : Fin 8) (l : Fin 128) :
    res_main_v94 V (ix4 (0 : Fin 1) r q l) = ((pR A r.val q.val l : ℝ) : EReal) := by
  pointwise [res_main_v94, v85_at H, v51_at H]
  exact (EReal.coe_mul _ _).symm

theorem v101_at (r : Fin 2048) (q : Fin 8) (l : Fin 128) :
    res_main_v101 V (ix4 (0 : Fin 1) r q l) = ((pR A r.val q.val l * rs (aR A r.val q.val) : ℝ) : EReal) := by
  pointwise [res_main_v101, v94_at H, v44_at H]
  exact (EReal.coe_mul _ _).symm

/-- The part of the gradient that the variance passes on. -/
def byVar (a p : Fin 128 → ℝ) (l : Fin 128) : ℝ :=
  (∑ k : Fin 128, cen a k * p k) * (-1 / 2 * (rs a * (1 / (var a + eps)))) * (1 / 128) * (2 * cen a l)

theorem v43_one (x : Fin 1) (r : Fin 2048) (q : Fin 8) (y : Fin 1) :
    res_main_v43 V (ix4 x r q y) = ((var (aR A r.val q.val) + eps : ℝ) : EReal) := by
  obtain rfl : x = 0 := Subsingleton.elim _ _
  obtain rfl : y = 0 := Subsingleton.elim _ _
  exact v43_at H r q

theorem v44_one (x : Fin 1) (r : Fin 2048) (q : Fin 8) (y : Fin 1) :
    res_main_v44 V (ix4 x r q y) = ((rs (aR A r.val q.val) : ℝ) : EReal) := by
  obtain rfl : x = 0 := Subsingleton.elim _ _
  obtain rfl : y = 0 := Subsingleton.elim _ _
  exact v44_at H r q

theorem v111_at (r : Fin 2048) (q : Fin 8) (l : Fin 128) :
    res_main_v111 V (ix4 (0 : Fin 1) r q l) = ((byVar (aR A r.val q.val) (pR A r.val q.val) l : ℝ) : EReal) := by
  pointwise [res_main_v111, sum_r4_03, v94_at H, v41_at H, v44_one H, v43_one H, v32_at H]
  simp only [ofBits_128, ofBits_mhalf, ofBits_two, Ideal.div_coe (guard_pos _).ne', ← EReal.coe_mul, coe_sum, div128]
  simp only [Finset.univ_unique, Finset.sum_singleton]
  rfl

omit H in
theorem sum_cen (a : Fin 128 → ℝ) : ∑ k : Fin 128, cen a k = 0 := by
  unfold cen mean
  rw [Finset.sum_sub_distrib, Finset.sum_const, Finset.card_univ, Fintype.card_fin, nsmul_eq_mul]
  push_cast; ring

omit H in
theorem rs_sq (a : Fin 128 → ℝ) : 1 / (var a + eps) = rs a * rs a := by
  unfold rs
  rw [← mul_inv, Real.mul_self_sqrt (guard_pos a).le, one_div]

omit H in
theorem sum_byVar (a p : Fin 128 → ℝ) : ∑ k : Fin 128, byVar a p k = 0 := by
  unfold byVar
  rw [← Finset.mul_sum, ← Finset.mul_sum, sum_cen, mul_zero, mul_zero]

omit H in
/-- The gradient that the mean, the variance and the centred lane pass on is the gradient of the normalisation. -/
theorem ln_grad (a p : Fin 128 → ℝ) (l : Fin 128) :
    p l * rs a + byVar a p l + ((∑ k : Fin 128, -(p k * rs a)) + ∑ k : Fin 128, -byVar a p k) * (1 / 128) = lnBack a p l := by
  rw [Finset.sum_neg_distrib, Finset.sum_neg_distrib, sum_byVar, ← Finset.sum_mul]
  have h : mean (fun k => p k * xh a k) = rs a * (∑ k : Fin 128, cen a k * p k) * (1 / 128) := by
    unfold mean xh
    refine congrArg (· * _) ?_
    rw [Finset.mul_sum]
    exact Finset.sum_congr rfl fun k _ => by ring
  unfold lnBack
  rw [h]
  unfold byVar mean
  rw [rs_sq]
  unfold xh
  ring

theorem v126_lo (r : Fin 2048) (l : Fin 1024) :
    res_main_v126 V (ix3 (0 : Fin 1) r (⟨l.val, by omega⟩ : Fin 2048))
      = ((A.D r.val l.val * sT (A.v (r.val / 128) (l.val / 128)) (A.w (l.val / 128)) (A.gg (l.val / 128)) (A.bb (l.val / 128)) (A.c (l.val / 128))
          ⟨r.val % 128, Nat.mod_lt _ (by decide)⟩ ⟨l.val % 128, Nat.mod_lt _ (by decide)⟩ : ℝ) : EReal) := by
  unfold res_main_v126; clean_types
  pointwise [v101_at H, v111_at H, v70_at H, res_main_v72, H.D]
  rw [dif_neg (fun h => h.1), zero_add, EReal.coe_mul]

theorem v126_hi (r : Fin 2048) (l : Fin 1024) :
    res_main_v126 V (ix3 (0 : Fin 1) r (⟨1024 + l.val, by omega⟩ : Fin 2048))
      = ((lnBack (aR A r.val (l.val / 128)) (pR A r.val (l.val / 128)) ⟨l.val % 128, Nat.mod_lt _ (by decide)⟩ : ℝ) : EReal) := by
  unfold res_main_v126; clean_types
  pointwise [sum_r4_03, v101_at H, v111_at H, v70_at H, res_main_v72, H.D]
  simp only [Finset.univ_unique, Finset.sum_singleton]
  simp only [ofBits_128, ← EReal.coe_neg, coe_sum, ← EReal.coe_add, div128]
  rw [ln_grad]

theorem v138_at (r : Fin 2048) (l : Fin 2048) (y : ℝ) (hy : res_main_v126 V (ix3 (0 : Fin 1) r l) = (y : EReal)) :
    res_main_v138 V (ix3 (0 : Fin 1) r l) = ((y * slope (A.P r.val (1536 + l.val)) : ℝ) : EReal) := by
  pointwise [res_main_v138, res_main_v133, hy, v2_at, v22_at H, v13_at H, v1_at H]
  simp only [ofBits_kap, ofBits_half, ofBits_one, ofBits_three, ← EReal.coe_one, ← EReal.coe_mul, ← EReal.coe_add, ← EReal.coe_sub]
  refine congrArg _ ?_
  unfold slope
  ring

omit H in
theorem join (n : ℕ) : 128 * (n / 128) + n % 128 = n := Nat.div_add_mod n 128

/-- The gradient of the left half. -/
theorem du_at (r : Fin 2048) (l : Fin 1024) :
    res_main_v138 V (ix3 (0 : Fin 1) r (⟨l.val, by omega⟩ : Fin 2048)) = A.Du (ix2 r l) := by
  rw [v138_at H _ _ _ (v126_lo H r l)]
  unfold Reals.Du Reals.du
  refine congrArg _ ?_
  unfold duT
  dsimp only [Reals.u, Reals.d, ix2]
  simp only [Nat.add_assoc, join]

/-- The gradient of the right half. -/
theorem dv_at (r : Fin 2048) (l : Fin 1024) :
    res_main_v138 V (ix3 (0 : Fin 1) r (⟨1024 + l.val, by omega⟩ : Fin 2048)) = A.Dv (ix2 r l) := by
  rw [v138_at H _ _ _ (v126_hi H r l)]
  unfold Reals.Dv Reals.dv
  refine congrArg _ ?_
  unfold dvT
  have e : aR A r.val (l.val / 128) = fun k => act (A.v (r.val / 128) (l.val / 128) ⟨r.val % 128, Nat.mod_lt _ (by decide)⟩ k) := by
    funext k
    unfold aR Reals.v
    dsimp only
    rw [join]
  rw [e]
  have e2 : A.P r.val (1536 + (1024 + l.val)) = A.v (r.val / 128) (l.val / 128) ⟨r.val % 128, Nat.mod_lt _ (by decide)⟩ ⟨l.val % 128, Nat.mod_lt _ (by decide)⟩ := by
    unfold Reals.v
    dsimp only
    rw [join, Nat.add_assoc, join, ← Nat.add_assoc]
  dsimp only
  rw [e2]
  rfl

omit H in
/-- A sum over 2048 rows, chunk by chunk. -/
theorem sum_rows (f : ℕ → ℝ) : ∑ r : Fin 2048, f r.val = ∑ i ∈ Finset.range 16, ∑ r : Fin 128, f (128 * i + r.val) := by
  have h : ∀ n, ∑ r ∈ Finset.range (128 * n), f r = ∑ i ∈ Finset.range n, ∑ r : Fin 128, f (128 * i + r.val) := by
    intro n
    induction n with
    | zero => simp
    | succ n ih =>
      rw [Finset.sum_range_succ, ← ih, Nat.mul_succ, Finset.sum_range_add, Finset.sum_range (fun x => f (128 * n + x))]
  rw [← h 16, Finset.sum_range]

theorem r0_at (r : Fin 2048) (l : Fin 1024) :
    truncf .bf16 (shapeCast _ (extractStridedSlice S1x2048x1024 ![0, 0, 0] (res_main_v138 V) slices_S1x2048x2048_S1x2048x1024_0_0_0) shapeCasts_S1x2048x1024_S2048x1024) bitsLt_bf16_f32 (ix2 r l) = A.Du (ix2 r l) := by
  pointwise [du_at H]
theorem r1_at (r : Fin 2048) (l : Fin 1024) :
    truncf .bf16 (shapeCast _ (extractStridedSlice S1x2048x1024 ![0, 0, 1024] (res_main_v138 V) slices_S1x2048x2048_S1x2048x1024_0_0_1024) shapeCasts_S1x2048x1024_S2048x1024) bitsLt_bf16_f32 (ix2 r l) = A.Dv (ix2 r l) := by
  pointwise [dv_at H]
theorem r2_at (s : Fin 8) (l : Fin 1024) :
    broadcastInDim S8x1024 ![0, 1] bcast_S1x1024_S8x1024_0_1 (broadcastInDim S1x1024 ![1] bcast_S1024_S1x1024_1 (shapeCast _ (Host.reduceAdd (shapeCast _ (Host.reduceAdd (mulf (res_main_v49 V) (res_main_v85 V)) (constant S_ .f32 0x00000000#32) reducesTo_S1x2048x8x128_S1x8x128_d1 h_S_) shapeCasts_S1x8x128_S1x1x8x128) (constant S_ .f32 0x00000000#32) reducesTo_S1x1x8x128_S8x128_d0_1 h_S_) shapeCasts_S8x128_S1024)) (ix2 s l) = A.Dg (ix2 s l) := by
  clean_types
  pointwise [sum_r4_01, v49_at H, v85_at H]
  simp only [← EReal.coe_mul, coe_sum, Finset.univ_unique, Finset.sum_singleton]
  unfold Reals.Dg Reals.dg
  refine congrArg _ ?_
  refine (sum_rows fun n => xh (aR A n (l.val / 128)) ⟨l.val % 128, Nat.mod_lt _ (by decide)⟩ *
    dvnT (A.u (n / 128) (l.val / 128)) (A.d (n / 128) (l.val / 128)) (A.w (l.val / 128)) ⟨n % 128, Nat.mod_lt _ (by decide)⟩
      ⟨l.val % 128, Nat.mod_lt _ (by decide)⟩).trans ?_
  refine Finset.sum_congr rfl fun i _ => ?_
  unfold dgT
  refine Finset.sum_congr rfl fun r _ => ?_
  have e1 : (128 * i + r.val) / 128 = i := by omega
  have e2 : (⟨(128 * i + r.val) % 128, Nat.mod_lt _ (by decide)⟩ : Fin 128) = r := Fin.ext (by dsimp only; omega)
  simp only [e1, e2]
  rw [mul_comm]
  rfl
theorem r3_at (s : Fin 8) (l : Fin 1024) :
    broadcastInDim S8x1024 ![0, 1] bcast_S1x1024_S8x1024_0_1 (broadcastInDim S1x1024 ![1] bcast_S1024_S1x1024_1 (shapeCast _ (Host.reduceAdd (shapeCast _ (Host.reduceAdd (res_main_v85 V) (constant S_ .f32 0x00000000#32) reducesTo_S1x2048x8x128_S1x8x128_d1 h_S_) shapeCasts_S1x8x128_S1x1x8x128) (constant S_ .f32 0x00000000#32) reducesTo_S1x1x8x128_S8x128_d0_1 h_S_) shapeCasts_S8x128_S1024)) (ix2 s l) = A.Db (ix2 s l) := by
  clean_types
  pointwise [sum_r4_01, v49_at H, v85_at H]
  simp only [coe_sum, Finset.univ_unique, Finset.sum_singleton]
  unfold Reals.Db Reals.db
  refine congrArg _ ?_
  refine (sum_rows fun n => dvnT (A.u (n / 128) (l.val / 128)) (A.d (n / 128) (l.val / 128)) (A.w (l.val / 128))
      ⟨n % 128, Nat.mod_lt _ (by decide)⟩ ⟨l.val % 128, Nat.mod_lt _ (by decide)⟩).trans ?_
  refine Finset.sum_congr rfl fun i _ => ?_
  unfold dbT
  refine Finset.sum_congr rfl fun r _ => ?_
  have e1 : (128 * i + r.val) / 128 = i := by omega
  have e2 : (⟨(128 * i + r.val) % 128, Nat.mod_lt _ (by decide)⟩ : Fin 128) = r := Fin.ext (by dsimp only; omega)
  simp only [e1, e2]
  rfl
/-- The contraction of the gradient of the mixing matrices: over chunks and lanes. -/
abbrev dW := dot_S8x1x16x128x128_S1x16x128x8x128_S8x128x128_123_014_4_2_0_3

/-- The contraction index of a chunk and a lane. -/
def dWIdx (i : Fin 16) (k : Fin 128) : dW.contr.Idx := fun p =>
  match p with
  | ⟨0, _⟩ => (0 : Fin 1)
  | ⟨1, _⟩ => i
  | ⟨2, _⟩ => k

/-- The contraction indices are the pairs of a chunk and a lane. -/
def dWEquiv : Fin 16 × Fin 128 ≃ dW.contr.Idx where
  toFun k := dWIdx k.1 k.2
  invFun k := (k (1 : Fin 3), k (2 : Fin 3))
  left_inv _ := rfl
  right_inv k := by
    funext p
    match p with
    | ⟨0, _⟩ => exact Subsingleton.elim (α := Fin 1) _ _
    | ⟨1, _⟩ => rfl
    | ⟨2, _⟩ => rfl

omit H in
theorem dW_at (x : S8x1x16x128x128.Idx → EReal) (y : S1x16x128x8x128.Idx → EReal) (q : Fin 8) (r l : Fin 128) :
    Ideal.matmul dW x y (fun _ => 0) (ix3 q r l)
      = ∑ i : Fin 16, ∑ k : Fin 128, x (ix5 q (0 : Fin 1) i k r) * y (ix5 (0 : Fin 1) i l q k) := by
  unfold Ideal.matmul
  rw [zero_add, ← Fintype.sum_equiv dWEquiv (fun k => x (ix5 q (0 : Fin 1) k.1 k.2 r) * y (ix5 (0 : Fin 1) k.1 l q k.2))
    (fun k => x (dW.lhsIdx (ix3 q r l) k) * y (dW.rhsIdx (ix3 q r l) k)) fun k => ?_]
  · simp only [Fintype.sum_prod_type]
  · refine congrArg₂ (fun a b => x a * y b) ?_ ?_
    · funext a; fin_cases a <;> rfl
    · funext a; fin_cases a <;> rfl

theorem r4_at (q : Fin 8) (r l : Fin 128) :
    (select (res_main_v63_1 V) (Host.dotGeneral (φ₁ := .f32) (φ₂ := .f32) dot_S8x1x16x128x128_S1x16x128x8x128_S8x128x128_123_014_4_2_0_3 none (res_main_v80 V) (res_main_v58 V)) (broadcastInDim S8x128x128 ![] bcast_S_S8x128x128 (constant S_ .f32 0x00000000#32)) : FVec Ideal S8x128x128 .f32) (ix3 q r l) = A.Dw (ix3 q r l) := by
  clean_types
  pointwise [tri_at]
  rw [dW_at]
  simp only [v80_at H, v58_at H, ← EReal.coe_mul, coe_sum]
  unfold Reals.Dw Reals.dw
  by_cases h : l ≤ r
  · rw [if_pos h]
    change Real.toEReal _ = Real.toEReal _
    refine congrArg _ ?_
    refine (Finset.sum_range fun i => ∑ k : Fin 128, dsT (A.u i q.val) (A.d i q.val) r k * vnT (A.v i q.val) (A.gg q.val) (A.bb q.val) l k).symm.trans
      (Finset.sum_congr rfl fun i _ => ?_)
    unfold dwT
    exact (if_pos h).symm
  · rw [if_neg h]
    refine (EReal.coe_zero).symm.trans (congrArg _ ?_)
    refine (Finset.sum_eq_zero fun i _ => ?_).symm
    unfold dwT
    exact if_neg h
theorem r5_at (q s : Fin 8) (r : Fin 128) :
    broadcastInDim S8x8x128 ![0, 1, 2] bcast_S8x1x128_S8x8x128_0_1_2 (broadcastInDim S8x1x128 ![0, 2] bcast_S8x128_S8x1x128_0_2 (transpose S8x128 [1, 0] (Host.reduceAdd (shapeCast _ (Host.reduceAdd (res_main_v75 V) (constant S_ .f32 0x00000000#32) reducesTo_S1x16x128x8x128_S1x128x8_d1_4 h_S_) shapeCasts_S1x128x8_S1x1x128x8x1) (constant S_ .f32 0x00000000#32) reducesTo_S1x1x128x8x1_S128x8_d0_1_4 h_S_) transposes_S128x8_S8x128_1_0)) (ix3 q s r) = A.Dbs (ix3 q s r) := by
  clean_types
  pointwise [sum_r5_14, sum_r5_014, v75_at H]
  simp only [coe_sum, Finset.univ_unique, Finset.sum_singleton]
  unfold Reals.Dbs Reals.ds
  refine congrArg _ ?_
  rw [Finset.sum_comm]
  refine Finset.sum_congr rfl fun l _ => ?_
  exact (Finset.sum_range fun i => dsT (A.u i q.val) (A.d i q.val) r l).symm

end Cert.Sgu.Ref
-- ==== Proof.Sgu.Pre.lean ====
/- The precondition: arrays of finite entries are arrays of real numbers. -/
module

public import proofs.«01_k».proof.Defs
public import proofs.«01_k».proof.Proof.Sgu.Ref

@[expose] public section

set_option maxRecDepth 16384

noncomputable section

namespace Cert.Sgu

open Idealize.ShloMosaic Idealize.ShloMosaic.TcCoe

/-- The shape relations the precondition takes. -/
instance preFacts : Cert.Pre_finite.Facts where
  bcast_S_S2048x7680 := by decide
  bcast_S_S2048x1024 := by decide
  bcast_S_S1024 := by decide
  bcast_S_S8x128x128 := by decide
  bcast_S_S8x128 := by decide

theorem ofBits_inf : Ideal.ofBits .f32 0x7F800000#32 = (⊤ : EReal) := by
  simp [Ideal.ofBits, Ideal.ieee]

/-- A number whose absolute value is below infinity is real. -/
theorem real_of_lt {x : EReal} (h : max x (-x) < ⊤) : x = ((x.toReal : ℝ) : EReal) := by
  have h1 : x ≠ ⊤ := fun e => by subst e; simp at h
  have h2 : x ≠ ⊥ := fun e => by subst e; simp at h
  exact (EReal.coe_toReal h1 h2).symm

theorem real_at {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1)
    (i : s.Idx) : x i = (((x i).toReal : ℝ) : EReal) := by
  refine real_of_lt ?_
  have e := congrFun h i
  pointwise at e
  rw [ofBits_inf] at e
  by_contra hn
  rw [show FloatOps.absf (x i) = max (x i) (-x i) from rfl, decide_eq_false hn] at e
  exact absurd e (by decide)

/-- The number at `n`, `k` of a table, zero outside it. -/
def get2 {a b : ℕ} (x : (Shape.mk 2 ![a, b]).Idx → EReal) (n k : ℕ) : ℝ :=
  if h : n < a ∧ k < b then (x (ix2 (⟨n, h.1⟩ : Fin a) (⟨k, h.2⟩ : Fin b))).toReal else 0

theorem get2_at {a b : ℕ} (x : (Shape.mk 2 ![a, b]).Idx → EReal) (n : Fin a) (k : Fin b) :
    get2 x n.val k.val = (x (ix2 n k)).toReal := dif_pos ⟨n.isLt, k.isLt⟩

/-- The number at `n` of a list, zero outside it. -/
def get1 {a : ℕ} (x : (Shape.mk 1 ![a]).Idx → EReal) (n : ℕ) : ℝ :=
  if h : n < a then (x (ix1 (⟨n, h⟩ : Fin a))).toReal else 0

theorem get1_at {a : ℕ} (x : (Shape.mk 1 ![a]).Idx → EReal) (n : Fin a) : get1 x n.val = (x (ix1 n)).toReal :=
  dif_pos n.isLt

/-- The number at `q`, `n`, `k` of a stack of tables, zero outside it. -/
def get3 {a b d : ℕ} (x : (Shape.mk 3 ![a, b, d]).Idx → EReal) (q n k : ℕ) : ℝ :=
  if h : q < a ∧ n < b ∧ k < d then (x (ix3 (⟨q, h.1⟩ : Fin a) (⟨n, h.2.1⟩ : Fin b) (⟨k, h.2.2⟩ : Fin d))).toReal else 0

theorem get3_at {a b d : ℕ} (x : (Shape.mk 3 ![a, b, d]).Idx → EReal) (q : Fin a) (n : Fin b) (k : Fin d) :
    get3 x q.val n.val k.val = (x (ix3 q n k)).toReal := dif_pos ⟨q.isLt, n.isLt, k.isLt⟩

/-- The real numbers of six argument arrays. -/
def realsOf (x0 : (Shape.mk 2 ![2048, 7680]).Idx → EReal) (x1 : (Shape.mk 2 ![2048, 1024]).Idx → EReal)
    (x2 x3 : (Shape.mk 1 ![1024]).Idx → EReal) (x4 : (Shape.mk 3 ![8, 128, 128]).Idx → EReal)
    (x5 : (Shape.mk 2 ![8, 128]).Idx → EReal) : Reals where
  P := get2 x0
  D := get2 x1
  g := get1 x2
  b := get1 x3
  W := get3 x4
  C := get2 x5

/-- A device's six argument arrays as real numbers. -/
def readReals (m : (ℓ : Loc Cert.KernelIdeal.nD Cert.KernelIdeal.τ Cert.KernelIdeal.sig) → Buf (Elt Ideal) ℓ)
    (c : Dev Cert.KernelIdeal.nD) : Reals :=
  realsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- Under the precondition each device holds the real arrays read off its memory. -/
theorem holds_of_pre (m : (ℓ : Loc Cert.KernelIdeal.nD Cert.KernelIdeal.τ Cert.KernelIdeal.sig) → Buf (Elt Ideal) ℓ)
    (hpre : Cert.Pre_KernelIdeal_finite m) (c : Dev Cert.KernelIdeal.nD) : Holds m c (readReals m c) := by
  obtain ⟨h0, h1, h2, h3, h4, h5⟩ := hpre c
  refine ⟨fun r l => ?_, fun r l => ?_, fun l => ?_, fun l => ?_, fun q r l => ?_, fun q r => ?_⟩
  · exact (real_at _ _ h0 (ix2 r l)).trans (congrArg _ (get2_at _ r l).symm)
  · exact (real_at _ _ h1 (ix2 r l)).trans (congrArg _ (get2_at _ r l).symm)
  · exact (real_at _ _ h2 (ix1 l)).trans (congrArg _ (get1_at _ l).symm)
  · exact (real_at _ _ h3 (ix1 l)).trans (congrArg _ (get1_at _ l).symm)
  · exact (real_at _ _ h4 (ix3 q r l)).trans (congrArg _ (get3_at _ q r l).symm)
  · exact (real_at _ _ h5 (ix2 q r)).trans (congrArg _ (get2_at _ q r).symm)

end Cert.Sgu
-- ==== Proof.Sgu.Claims.lean ====
/- The claims about the backward pass of the spatial gating unit: frames, the named constants, and the equality of the
   kernel's six results with the reference's. -/
module

public import proofs.«01_k».proof.Proof.Sgu.Pre
public import proofs.«01_k».proof.Proof.Gen.Kernel
public import proofs.«01_k».proof.Proof.Gen.Kernel.Frame
public import proofs.«01_k».proof.Proof.Gen.KernelIdeal.Frame
public import Idealize.ShloMosaic.Adequacy
public import Idealize.ShloMosaic.Init

@[expose] public section

set_option maxRecDepth 16384

noncomputable section

namespace Cert.Sgu

open Idealize.ShloMosaic Idealize.ShloMosaic.TcCoe Idealize.ShloMosaic.StableHlo Idealize.SL.Sem

/-- The kernel terminates, keeps its arguments and leaves every semaphore at zero. -/
theorem frame_p : Cert.quiescent_Kernel := fun m ρ _ => Cert.Kernel.Gen.frame m ρ
/-- The same of the idealized kernel. -/
theorem frame_pi : Cert.quiescent_KernelIdeal := fun m ρ _ => Cert.KernelIdeal.Gen.frame m ρ
/-- The same under the precondition. -/
theorem frame_pi_pre : Cert.quiescent_KernelIdeal_pre_finite := fun m ρ _ => Cert.KernelIdeal.Gen.frame m ρ
/-- The same of the idealized reference. -/
theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)
/-- The same under the precondition. -/
theorem frame_ri_pre : Cert.quiescent_ReferenceIdeal_pre_finite := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The two named constants have the values the table gives them. -/
theorem preserves : Cert.preserves_Kernel_KernelIdeal :=
  ⟨IdealRules.named_const.statement Cert.KernelIdeal.κ "gelu_a" .f32 0x3D372713#32 ((8943 / 200000 : ℝ) : EReal) rfl,
   IdealRules.named_const.statement Cert.KernelIdeal.κ "gelu_3a" .f32 0x3E095D4F#32 ((26829 / 200000 : ℝ) : EReal) rfl⟩

theorem ext2 {a b : ℕ} {f g : (Shape.mk 2 ![a, b]).Idx → EReal} (h : ∀ r l, f (ix2 r l) = g (ix2 r l)) : f = g := by
  funext y
  rw [eq_ix2 y]
  exact h _ _

theorem ext3 {a b n : ℕ} {f g : (Shape.mk 3 ![a, b, n]).Idx → EReal} (h : ∀ q r l, f (ix3 q r l) = g (ix3 q r l)) : f = g := by
  funext y
  rw [eq_ix3 y]
  exact h _ _ _

/-- From finite arguments that agree, the kernel and the reference end with the same six results. -/
theorem algebraic : Cert.algebraic_KernelIdeal_ReferenceIdeal_pre_finite := by
  intro m ρ m' ρ' hpre hag
  have H := holds_of_pre m hpre
  have R : ∀ c, Ref.Args (launchContents m' c) (readReals m c) := fun c => by
    obtain ⟨a0, a1, a2, a3, a4, a5⟩ := hag c
    refine ⟨fun r l => ?_, fun r l => ?_, fun l => ?_, fun l => ?_, fun q r l => ?_, fun q r => ?_⟩
    · exact (congrFun a0 (ix2 r l)).trans ((H c).P r l)
    · exact (congrFun a1 (ix2 r l)).trans ((H c).D r l)
    · exact (congrFun a2 (ix1 l)).trans ((H c).g l)
    · exact (congrFun a3 (ix1 l)).trans ((H c).b l)
    · exact (congrFun a4 (ix3 q r l)).trans ((H c).W q r l)
    · exact (congrFun a5 (ix2 q r)).trans ((H c).C q r)
  refine ⟨fun c => (readReals m c).Du, fun c => (readReals m c).Dv, fun c => (readReals m c).Dg,
    fun c => (readReals m c).Db, fun c => (readReals m c).Dw, fun c => (readReals m c).Dbs,
    (θ_run _ _ _).mono (fun r h c => ?_) (Cert.KernelIdeal.Value.run_blocks (F := Ideal) m ρ),
    (θ_run _ _ _).mono (fun r h c => ?_) (Cert.ReferenceIdeal.Value.run (F := Ideal) m' ρ')⟩
  · obtain ⟨h0, h1, h2, h3, h4, h5, hk⟩ := h c
    exact ⟨h0.trans (arr_du (H c)), h1.trans (arr_dv (H c)), h2.trans (arr_dg (H c)), h3.trans (arr_db (H c)),
      h4.trans (arr_dw (H c)), h5.trans (arr_dbs (H c)), hk⟩
  · obtain ⟨h0, h1, h2, h3, h4, h5, hk⟩ := h c
    exact ⟨h0.trans (ext2 (Ref.r0_at (R c))), h1.trans (ext2 (Ref.r1_at (R c))), h2.trans (ext2 (Ref.r2_at (R c))),
      h3.trans (ext2 (Ref.r3_at (R c))), h4.trans (ext3 (Ref.r4_at (R c))), h5.trans (ext3 (Ref.r5_at (R c))), hk⟩

end Cert.Sgu
-- ==== Proof.Mm.Common.lean ====
/- What the products share: indices compared by their places, the products of two matrices, and a run of partial sums. -/
module

public import Idealize.ShloMosaic.Lib.Pointwise
public import Idealize.ShloMosaic.Lib.Pipeline.ValueKit
public import Idealize.ShloMosaic.Init

@[expose] public section

noncomputable section

namespace Cert.Common

open Idealize.ShloMosaic

/-- Two places in a matrix with equal coordinates are equal. -/
theorem ix2_ext {a b : ℕ} {p p' : Fin a} {q q' : Fin b} (hp : p.val = p'.val) (hq : q.val = q'.val) :
    ix2 p q = ix2 p' q' := by
  rw [Fin.ext hp, Fin.ext hq]

/-- Two places in a stack of matrices with equal coordinates are equal. -/
theorem ix3_ext {a b c : ℕ} {p p' : Fin a} {q q' : Fin b} {r r' : Fin c} (hp : p.val = p'.val) (hq : q.val = q'.val)
    (hr : r.val = r'.val) : ix3 p q r = ix3 p' q' r' := by
  rw [Fin.ext hp, Fin.ext hq, Fin.ext hr]

/-- The transpose of `a` times `b`. -/
def tn {K M N : ℕ} (a : (Shape.mk 2 ![K, M]).Idx → EReal) (b : (Shape.mk 2 ![K, N]).Idx → EReal)
    (y : (Shape.mk 2 ![M, N]).Idx) : EReal :=
  ∑ k : Fin K, a (ix2 k (y 0 : Fin M)) * b (ix2 k (y 1 : Fin N))

/-- `a` times the transpose of `b`. -/
def nt {K M N : ℕ} (a : (Shape.mk 2 ![M, K]).Idx → EReal) (b : (Shape.mk 2 ![N, K]).Idx → EReal)
    (y : (Shape.mk 2 ![M, N]).Idx) : EReal :=
  ∑ k : Fin K, a (ix2 (y 0 : Fin M) k) * b (ix2 (y 1 : Fin N) k)

/-- `a` times `b`. -/
def nn {K M N : ℕ} (a : (Shape.mk 2 ![M, K]).Idx → EReal) (b : (Shape.mk 2 ![K, N]).Idx → EReal)
    (y : (Shape.mk 2 ![M, N]).Idx) : EReal :=
  ∑ k : Fin K, a (ix2 (y 0 : Fin M) k) * b (ix2 k (y 1 : Fin N))

/-- A sum over `n * T` places is the sum over `n` stretches of `T` places each. -/
theorem sum_split {n T : ℕ} (f : Fin (n * T) → EReal) :
    ∑ k, f k = ∑ j : Fin n, ∑ k : Fin T, f (finProdFinEquiv (j, k)) := by
  rw [← Fintype.sum_prod_type']
  exact (Equiv.sum_comp finProdFinEquiv f).symm

/-- The share of stretch `j`, of `T` places, in row `R` and column `S` of `a` times the transpose of `b`. -/
def part {K M N : ℕ} (T : ℕ) (a : (Shape.mk 2 ![M, K]).Idx → EReal) (b : (Shape.mk 2 ![N, K]).Idx → EReal)
    (R : Fin M) (S : Fin N) (j : ℕ) (h : T * j + T ≤ K) : EReal :=
  ∑ k : Fin T, a (ix2 R (⟨T * j + k.val, by omega⟩ : Fin K)) * b (ix2 S (⟨T * j + k.val, by omega⟩ : Fin K))

theorem part_congr {K M N T : ℕ} {a : (Shape.mk 2 ![M, K]).Idx → EReal} {b : (Shape.mk 2 ![N, K]).Idx → EReal}
    {R R' : Fin M} {S S' : Fin N} {j j' : ℕ} {h : T * j + T ≤ K} {h' : T * j' + T ≤ K} (hR : R.val = R'.val)
    (hS : S.val = S'.val) (hj : j = j') : part T a b R S j h = part T a b R' S' j' h' := by
  subst hj
  rw [Fin.ext hR, Fin.ext hS]

/-- A product summed in two stretches. -/
theorem nt_two {K M N : ℕ} (T : ℕ) (hK : K = 2 * T) (a : (Shape.mk 2 ![M, K]).Idx → EReal)
    (b : (Shape.mk 2 ![N, K]).Idx → EReal) (y : (Shape.mk 2 ![M, N]).Idx) :
    nt a b y = part T a b (y 0 : Fin M) (y 1 : Fin N) 0 (by omega) + part T a b (y 0 : Fin M) (y 1 : Fin N) 1 (by omega) := by
  subst hK
  unfold nt part
  rw [sum_split, Fin.sum_univ_two]
  refine congrArg₂ (fun p q : EReal => p + q) (Finset.sum_congr rfl fun k _ => ?_) (Finset.sum_congr rfl fun k _ => ?_) <;>
    exact congrArg₂ (fun p q : EReal => p * q) (congrArg a (ix2_ext rfl (by simp [finProdFinEquiv] <;> omega)))
      (congrArg b (ix2_ext rfl (by simp [finProdFinEquiv] <;> omega)))

/-- A product summed in three stretches. -/
theorem nt_three {K M N : ℕ} (T : ℕ) (hK : K = 3 * T) (a : (Shape.mk 2 ![M, K]).Idx → EReal)
    (b : (Shape.mk 2 ![N, K]).Idx → EReal) (y : (Shape.mk 2 ![M, N]).Idx) :
    nt a b y = part T a b (y 0 : Fin M) (y 1 : Fin N) 0 (by omega) + part T a b (y 0 : Fin M) (y 1 : Fin N) 1 (by omega)
      + part T a b (y 0 : Fin M) (y 1 : Fin N) 2 (by omega) := by
  subst hK
  unfold nt part
  rw [sum_split, Fin.sum_univ_three]
  refine congrArg₂ (fun p q : EReal => p + q) (congrArg₂ (fun p q : EReal => p + q) (Finset.sum_congr rfl fun k _ => ?_)
      (Finset.sum_congr rfl fun k _ => ?_)) (Finset.sum_congr rfl fun k _ => ?_) <;>
    exact congrArg₂ (fun p q : EReal => p * q) (congrArg a (ix2_ext rfl (by simp [finProdFinEquiv] <;> omega)))
      (congrArg b (ix2_ext rfl (by simp [finProdFinEquiv] <;> omega)))

theorem ofBits_inf : Ideal.ofBits .f32 0x7F800000#32 = (⊤ : EReal) := by
  simp [Ideal.ofBits, Ideal.ieee]

/-- A number whose absolute value is below infinity is real. -/
theorem real_of_lt {x : EReal} (h : max x (-x) < ⊤) : ∃ r : ℝ, x = (r : EReal) := by
  have h1 : x ≠ ⊤ := fun e => by subst e; simp at h
  have h2 : x ≠ ⊥ := fun e => by subst e; simp at h
  exact ⟨_, (EReal.coe_toReal h1 h2).symm⟩

/-- An array whose entries all lie below infinity in absolute value has real entries. -/
theorem real_at {s : Shape} (x : FVec Ideal s .f32) (hb : (Shape.mk 0 ![]).BroadcastsInDim s (![] : Fin 0 → Fin s.rank))
    (h : cmpf .olt (Host.absf x) (broadcastInDim s ![] hb (constant (Shape.mk 0 ![]) .f32 0x7F800000#32)) = fun _ => 1#1)
    (i : s.Idx) : ∃ r : ℝ, x i = (r : EReal) := by
  refine real_of_lt ?_
  have e := congrFun h i
  pointwise at e
  rw [ofBits_inf] at e
  by_contra hn
  rw [show FloatOps.absf (x i) = max (x i) (-x i) from rfl, decide_eq_false hn] at e
  exact absurd e (by decide)

/-- A finite sum of real numbers is their sum as real numbers. -/
theorem coe_sum {K : ℕ} (g : Fin K → ℝ) : ∑ k, ((g k : ℝ) : EReal) = ((∑ k, g k : ℝ) : EReal) := by
  induction K with
  | zero => simp
  | succ n ih => rw [Fin.sum_univ_succ, Fin.sum_univ_succ, EReal.coe_add, ih]

/-- A finite sum of real numbers is real. -/
theorem real_sum {K : ℕ} (f : Fin K → EReal) (h : ∀ k, ∃ r : ℝ, f k = (r : EReal)) :
    ∃ r : ℝ, ∑ k, f k = (r : EReal) := by
  choose g hg using h
  exact ⟨∑ k, g k, by rw [Finset.sum_congr rfl fun k _ => hg k, coe_sum]⟩

/-- A product of real numbers is real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The logistic function. -/
def sg (x : EReal) : EReal := Ideal.div 1 (1 + Ideal.exp (0 - x))

theorem sg_neg (x : EReal) : Ideal.div 1 (1 + Ideal.exp (-x)) = sg x := by
  rw [sg, zero_sub]

/-- The logistic function of a real number is real. -/
theorem real_sg {a : EReal} (ha : ∃ r : ℝ, a = (r : EReal)) : ∃ r : ℝ, sg a = (r : EReal) := by
  obtain ⟨x, rfl⟩ := ha
  have e : (0 : EReal) - (x : EReal) = ((0 - x : ℝ) : EReal) := by simp
  have p : (1 + Real.exp (0 - x)) ≠ 0 := by positivity
  refine ⟨1 / (1 + Real.exp (0 - x)), ?_⟩
  rw [sg, e, Ideal.exp_coe, ← EReal.coe_one, ← EReal.coe_add, Ideal.div_coe p, EReal.coe_one, one_mul]

end Cert.Common
-- ==== Proof.Mm.DGateUp.lean ====
/- The gradient of the gated product: what the call leaves, and that the reference leaves the same over finite arguments. -/
module

public import proofs.«01_k».proof.Defs
public import proofs.«01_k».proof.Proof.Mm.Common
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DGateUp

open Cert.Common Cert.Kernel2Ideal Cert.Kernel2Ideal.Gen Cert.Kernel2Ideal.Value Idealize.ShloMosaic Idealize.ShloMosaic.TcCoe Idealize.SL.Sem

theorem place {R : ℕ} (P : Fin 2) {p : Fin 2} {x : S1x256x512.Idx} {r : Fin 1024} {l : Fin 512} (h0 : p.val = P.val + (x 0).val)
    (h1 : r.val = R + (x 1).val) (h2 : l.val = (x 2).val) :
    p = P ∧ ∃ (s : Fin 256) (h : R + s.val < 1024), r = ⟨R + s.val, h⟩ ∧ x = ix3 0 s l := by
  have e : (x 0).val < 1 := (x 0).isLt
  refine ⟨Fin.ext (by omega), x 1, lt_of_eq_of_lt h1.symm r.isLt, Fin.ext h1, funext fun a => Fin.ext ?_⟩
  fin_cases a
  · show (x 0).val = 0; omega
  · rfl
  · exact h2.symm

/-- The gradient of the two factors at slab `p`, row `r` and column `l`: of `silu(gate) * up` times the transpose of the weights. -/
def val {R L : ℕ} (a : (Shape.mk 2 ![R, 2048]).Idx → EReal) (b : (Shape.mk 2 ![L, 2048]).Idx → EReal)
    (g : (Shape.mk 3 ![2, R, L]).Idx → EReal) (p : Fin 2) (r : Fin R) (l : Fin L) : EReal :=
  if p = 0 then (∑ k : Fin 2048, a (ix2 r k) * b (ix2 l k)) * g (ix3 1 r l) * (sg (g (ix3 0 r l)) + g (ix3 0 r l) * sg (g (ix3 0 r l)) * (1 - sg (g (ix3 0 r l))))
  else (∑ k : Fin 2048, a (ix2 r k) * b (ix2 l k)) * g (ix3 0 r l) * sg (g (ix3 0 r l))

/-- One tile's result. -/
theorem tile (a : Vec Ideal S1024x2048 .bf16) (b : Vec Ideal S512x2048 .bf16) (g : Vec Ideal S2x1024x512 .f32) (p : Fin 2) (r : Fin 1024)
    (l : Fin 512) : out0_3 a b g (ix3 p r l) = val a b g p r l := by
  frame_out
  canon_tiles x h
  case piece0 =>
    obtain ⟨rfl, s, hs, rfl, rfl⟩ := place (R := 768) (l := l) 1 h0 h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece1 =>
    obtain ⟨rfl, s, hs, rfl, rfl⟩ := place (R := 768) (l := l) 0 (h0.trans (Nat.zero_add _).symm) h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece2 =>
    obtain ⟨rfl, s, hs, rfl, rfl⟩ := place (R := 512) (l := l) 1 h0 h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece3 =>
    obtain ⟨rfl, s, hs, rfl, rfl⟩ := place (R := 512) (l := l) 0 (h0.trans (Nat.zero_add _).symm) h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece4 =>
    obtain ⟨rfl, s, hs, rfl, rfl⟩ := place (R := 256) (l := l) 1 h0 h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece5 =>
    obtain ⟨rfl, s, hs, rfl, rfl⟩ := place (R := 256) (l := l) 0 (h0.trans (Nat.zero_add _).symm) h1 h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece6 =>
    obtain ⟨rfl, s, hs, rfl, rfl⟩ := place (R := 0) (l := l) 1 h0 (h1.trans (Nat.zero_add _).symm) h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  case piece7 =>
    obtain ⟨rfl, s, hs, rfl, rfl⟩ := place (R := 0) (l := l) 0 (h0.trans (Nat.zero_add _).symm) (h1.trans (Nat.zero_add _).symm) h2
    pointwise [val, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]

variable (m : (ℓ : Loc nD τ sig) → Buf (Elt Ideal) ℓ) (c : Dev nD)

theorem lt_N (t : Fin cfg0.N) : t.val < 22 := lt_of_lt_of_eq t.isLt (show cfg0.N = 22 from N_0)

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = t.val % 11 ∧ win0_1.index t (1 : Fin 2) = 0 :=
  (by decide +kernel : ∀ t : Fin grid0.N, _)
theorem idx2 : ∀ t : Fin cfg0.N, win0_2.index t (0 : Fin 3) = 0 ∧ win0_2.index t (1 : Fin 3) = t.val / 11
    ∧ win0_2.index t (2 : Fin 3) = t.val % 11 :=
  (by decide +kernel : ∀ t : Fin grid0.N, _)
theorem idx3 : ∀ t : Fin cfg0.N, win0_3.index t (0 : Fin 3) = 0 ∧ win0_3.index t (1 : Fin 3) = t.val / 11
    ∧ win0_3.index t (2 : Fin 3) = t.val % 11 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v1 : V m c main_v1 = (truncf (s := S5632x2048) (φ := .f32) .bf16 (m ((c : Thread nD τ).loc main_arg1)) bitsLt_bf16_f32 : FVec Ideal S5632x2048 .bf16) := by
  show StableHlo.after hostOps0 _ (Proc.devRef .tc main_v1) = _
  after_results
  try rfl

/-- A value depends on the entries it reads alone. -/
theorem val_congr {R L R' L' : ℕ} {a : (Shape.mk 2 ![R, 2048]).Idx → EReal} {b : (Shape.mk 2 ![L, 2048]).Idx → EReal}
    {g : (Shape.mk 3 ![2, R, L]).Idx → EReal} {a' : (Shape.mk 2 ![R', 2048]).Idx → EReal}
    {b' : (Shape.mk 2 ![L', 2048]).Idx → EReal} {g' : (Shape.mk 3 ![2, R', L']).Idx → EReal} {p p' : Fin 2} {r : Fin R} {l : Fin L}
    {r' : Fin R'} {l' : Fin L'} (hp : p = p') (ha : ∀ k, a (ix2 r k) = a' (ix2 r' k)) (hb : ∀ k, b (ix2 l k) = b' (ix2 l' k))
    (hg : ∀ q, g (ix3 q r l) = g' (ix3 q r' l')) : val a b g p r l = val a' b' g' p' r' l' := by
  subst hp
  unfold val
  simp only [ha, hb, hg]

/-- The gradient of both factors. -/
def G (d : (Shape.mk 2 ![2048, 2048]).Idx → EReal) (w : (Shape.mk 2 ![5632, 2048]).Idx → EReal)
    (g : (Shape.mk 3 ![2, 2048, 5632]).Idx → EReal) (y : (Shape.mk 3 ![2, 2048, 5632]).Idx) : EReal :=
  val d w g (y 0 : Fin 2) (y 1 : Fin 2048) (y 2 : Fin 5632)

/-- The call's result. -/
theorem arr : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h0 := idx0 t
  have h1 := idx1 t
  have h2 := idx2 t
  have h3 := idx3 t
  have ht := lt_N t
  have y0 : (y 0).val < 2 := (y 0).isLt
  have y1 : (y 1).val < 1024 := (y 1).isLt
  have y2 : (y 2).val < 512 := (y 2).isLt
  rw [show y = ix3 (y 0 : Fin 2) (y 1 : Fin 1024) (y 2 : Fin 512) from eq_ix3 y]
  refine (tile _ _ _ _ _ _).trans ?_
  unfold G
  refine val_congr (Fin.ext ?_) (fun k => ?_) (fun k => ?_) fun q => ?_
  · simp [h3]
  · have e : iblk m c 0 t (ix2 (y 1) k) = V m c main_v0 (ix2 (⟨1024 * (t.val / 11) + (y 1).val, by omega⟩ : Fin 2048) k) := by
      blk_ext [iblk, h0]
    rw [e, V_v0]
    pointwise
    exact congrArg _ (ix2_ext (by simp [h3, mul_comm]) rfl)
  · have e : iblk m c 1 t (ix2 (y 2) k) = V m c main_v1 (ix2 (⟨512 * (t.val % 11) + (y 2).val, by omega⟩ : Fin 5632) k) := by
      blk_ext [iblk, h1]
    rw [e, V_v1]
    pointwise
    exact congrArg _ (ix2_ext (by simp [h3, mul_comm]) rfl)
  · have e : iblk m c 2 t (ix3 q (y 1) (y 2)) = V m c main_arg2 (ix3 q (⟨1024 * (t.val / 11) + (y 1).val, by omega⟩ : Fin 2048) (⟨512 * (t.val % 11) + (y 2).val, by omega⟩ : Fin 5632)) := by
      blk_ext [iblk, h2]
    rw [e, V_main_arg2]
    exact congrArg _ (ix3_ext rfl (by simp [h3, mul_comm]) (by simp [h3, mul_comm]))

/-- The gradient by the chain rule, the derivative of the logistic function kept apart. -/
theorem val_rule {d u g : EReal} (hd : ∃ r : ℝ, d = (r : EReal)) (hu : ∃ r : ℝ, u = (r : EReal)) (hg : ∃ r : ℝ, g = (r : EReal)) :
    d * u * (sg g + g * sg g * (1 - sg g)) = d * u * sg g + g * (d * u) * (sg g * (1 - sg g)) := by
  have hs := real_sg hg
  generalize sg g = s at hs
  obtain ⟨d, rfl⟩ := hd
  obtain ⟨u, rfl⟩ := hu
  obtain ⟨g, rfl⟩ := hg
  obtain ⟨s, rfl⟩ := hs
  simp only [← EReal.coe_one, ← EReal.coe_sub, ← EReal.coe_mul, ← EReal.coe_add]
  refine congrArg _ ?_
  ring

theorem turn (g s d : EReal) : g * s * d = d * g * s := by
  rw [mul_comm, mul_assoc]

/-- The shape relations the precondition takes. -/
instance preFacts : Cert.Pre_finite2.Facts where
  bcast_S_S2048x2048 := by decide
  bcast_S_S5632x2048 := by decide
  bcast_S_S2x2048x5632 := by decide

/-- The kernel terminates, keeps its arguments and leaves every semaphore at zero. -/
theorem frame_p : Cert.quiescent_Kernel2 := fun m ρ _ => Cert.Kernel2.Gen.frame m ρ
/-- The same of the idealized kernel. -/
theorem frame_pi : Cert.quiescent_Kernel2Ideal := fun m ρ _ => Cert.Kernel2Ideal.Gen.frame m ρ
/-- The same under the precondition. -/
theorem frame_pi_pre : Cert.quiescent_Kernel2Ideal_pre_finite2 := fun m ρ _ => Cert.Kernel2Ideal.Gen.frame m ρ
/-- The same of the idealized reference. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
/-- The same under the precondition. -/
theorem frame_ri_pre : Cert.quiescent_Reference2Ideal_pre_finite2 := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- From finite arguments that agree, the kernel and the reference end with the same result. -/
theorem algebraic : Cert.algebraic_Kernel2Ideal_Reference2Ideal_pre_finite2 := by
  intro m ρ m' ρ' hpre hag
  refine ⟨fun c => G (m ((c.tc : Thread nD τ).loc main_arg0)) (m ((c.tc : Thread nD τ).loc main_arg1)) (m ((c.tc : Thread nD τ).loc main_arg2)),
    (θ_run _ _ _).mono (fun r h c => ?_) (Cert.Kernel2Ideal.Value.run_blocks (F := Ideal) m ρ),
    (θ_run _ _ _).mono (fun r h c => ?_) (Cert.Reference2Ideal.Value.run (F := Ideal) m' ρ')⟩
  · obtain ⟨h0, hk⟩ := h c
    exact ⟨h0.trans (arr m c), hk⟩
  · obtain ⟨h0, hk⟩ := h c
    obtain ⟨a0, a1, a2⟩ := hag c
    obtain ⟨p0, p1, p2⟩ := hpre c
    have f0 := real_at _ _ p0
    have f1 := real_at _ _ p1
    have f2 := real_at _ _ p2
    refine ⟨h0.trans ?_, hk⟩
    rw [a0, a1, a2]
    clear h0 hk a0 a1 a2 hag h p0 p1 p2 hpre
    funext y
    rw [eq_ix3 y]
    clean_types
    unfold G val
    pointwise
    simp only [sg_neg]
    by_cases hy : (y 0).val < 1
    · have h0 : y 0 = (0 : Fin 2) := Fin.ext (by show (y 0).val = 0; omega)
      rw [dif_pos hy]
      refine Eq.trans ?_ (if_pos h0).symm
      exact (val_rule (real_sum _ fun k => real_mul (f0 (ix2 (y 1) k)) (f1 (ix2 (y 2) k))) (f2 (ix3 1 (y 1) (y 2))) (f2 (ix3 0 (y 1) (y 2)))).symm
    · have h0 : ¬y 0 = (0 : Fin 2) := fun e => hy (by rw [e]; decide)
      rw [dif_neg hy]
      refine Eq.trans ?_ (if_neg h0).symm
      exact turn _ _ _

end Cert.DGateUp
-- ==== Proof.Mm.DHidden.lean ====
/- The gradient carried back through w_gate and w_up: what the call leaves, and that the reference leaves the same. -/
module

public import proofs.«01_k».proof.Defs
public import proofs.«01_k».proof.Proof.Mm.Common
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DHidden

open Cert.Kernel3Ideal Cert.Kernel3Ideal.Gen Cert.Kernel3Ideal.Value Idealize.ShloMosaic Idealize.ShloMosaic.TcCoe Idealize.SL.Sem

/-- Slab `p` of the stacked gradients. -/
def slab (d : (Shape.mk 3 ![2, 2048, 5632]).Idx → EReal) (p : Fin 2) (y : (Shape.mk 2 ![2048, 5632]).Idx) : EReal :=
  d (ix3 p (y 0 : Fin 2048) (y 1 : Fin 5632))

/-- Both slabs of the gradient, each times the transpose of its weights. -/
def G (d : (Shape.mk 3 ![2, 2048, 5632]).Idx → EReal) (g u : (Shape.mk 2 ![2048, 5632]).Idx → EReal)
    (y : (Shape.mk 2 ![2048, 2048]).Idx) : EReal :=
  Cert.Common.nt (slab d 0) g y + Cert.Common.nt (slab d 1) u y

variable (m : (ℓ : Loc nD τ sig) → Buf (Elt Ideal) ℓ) (c : Dev nD)

theorem lt_N (t : Fin cfg0.N) : t.val < 16 := lt_of_lt_of_eq t.isLt (show cfg0.N = 16 from N_0)

theorem idx0 : ∀ t : Fin cfg0.N, win0_0.index t (0 : Fin 3) = t.val % 4 / 2 ∧ win0_0.index t (1 : Fin 3) = t.val / 8
    ∧ win0_0.index t (2 : Fin 3) = t.val % 2 :=
  (by decide +kernel : ∀ t : Fin grid0.N, _)
theorem idx1 : ∀ t : Fin cfg0.N, win0_1.index t (0 : Fin 2) = t.val % 4 ∧ win0_1.index t (1 : Fin 2) = t.val / 4 % 2 :=
  (by decide +kernel : ∀ t : Fin grid0.N, _)
theorem idx2 : ∀ t : Fin cfg0.N, win0_2.index t (0 : Fin 2) = t.val / 8 ∧ win0_2.index t (1 : Fin 2) = t.val / 4 % 2 :=
  (by decide +kernel : ∀ t : Fin grid0.N, _)
theorem flush2 : ∀ t : Fin cfg0.N, (cfg0.win 2).flush t = true → t.val % 4 = 3 :=
  (by decide +kernel : ∀ t : Fin grid0.N, win0_2.flush t = true → t.val % 4 = 3)

theorem V_v4 : V m c main_v4 = (truncf (s := S2x2048x5632) (φ := .f32) .bf16 (m ((c : Thread nD τ).loc main_arg0)) bitsLt_bf16_f32 : FVec Ideal S2x2048x5632 .bf16) := by
  show StableHlo.after hostOps0 _ (Proc.devRef .tc main_v4) = _
  after_results
  try rfl
theorem V_v3 : V m c main_v3 = (truncf (s := S11264x2048) (φ := .f32) .bf16 (concatenate S11264x2048 0 [⟨S5632x2048, transpose S5632x2048 [1, 0] (m ((c : Thread nD τ).loc main_arg1)) transposes_S2048x5632_S5632x2048_1_0⟩, ⟨S5632x2048, transpose S5632x2048 [1, 0] (m ((c : Thread nD τ).loc main_arg2)) transposes_S2048x5632_S5632x2048_1_0⟩] concatenates_S5632x2048_S5632x2048_S11264x2048_d0) bitsLt_bf16_f32 : FVec Ideal S11264x2048 .bf16) := by
  show StableHlo.after hostOps0 _ (Proc.devRef .tc main_v3) = _
  after_results
  try rfl

/-- What point `t` adds at place `y` of its tile. -/
def add (t : Fin cfg0.N) (y : S1024x1024.Idx) : EReal :=
  have y0 : (y 0).val < 1024 := (y 0).isLt
  have y1 : (y 1).val < 1024 := (y 1).isLt
  have ht := lt_N t
  Cert.Common.part 2816 (slab (m ((c : Thread nD τ).loc main_arg0)) ⟨t.val % 4 / 2, by omega⟩)
    (if t.val % 4 < 2 then m ((c : Thread nD τ).loc main_arg1) else m ((c : Thread nD τ).loc main_arg2))
    (⟨1024 * (t.val / 8) + (y 0).val, by omega⟩ : Fin 2048) (⟨1024 * (t.val / 4 % 2) + (y 1).val, by omega⟩ : Fin 2048)
    (t.val % 2) (by omega)

/-- The product of the two blocks of point `t`. -/
theorem pay (t : Fin cfg0.N) (y : S1024x1024.Idx) : k0_pay1 (F := Ideal) (iblk m c 0 t) (iblk m c 1 t) y = add m c t y := by
  have h0 := idx0 t
  have h1 := idx1 t
  have ht := lt_N t
  have y0 : (y 0).val < 1024 := (y 0).isLt
  have y1 : (y 1).val < 1024 := (y 1).isLt
  unfold k0_pay1 add Cert.Common.part slab
  pointwise
  change @Eq EReal _ _
  refine Finset.sum_congr rfl fun k _ => congrArg₂ (fun a b : EReal => a * b) ?_ ?_
  · have e : iblk m c 0 t (ix3 0 (y 0) k) = V m c main_v4 (ix3 (⟨t.val % 4 / 2, by omega⟩ : Fin 2) (⟨1024 * (t.val / 8) + (y 0).val, by omega⟩ : Fin 2048) (⟨2816 * (t.val % 2) + k.val, by omega⟩ : Fin 5632)) := by
      blk_ext [iblk, h0]
    rw [e, V_v4]
    pointwise
  · have e : iblk m c 1 t (ix2 k (y 1)) = V m c main_v3 (ix2 (⟨2816 * (t.val % 4) + k.val, by omega⟩ : Fin 11264) (⟨1024 * (t.val / 4 % 2) + (y 1).val, by omega⟩ : Fin 2048)) := by
      blk_ext [iblk, h1]
    rw [e, V_v3]
    pointwise
    by_cases hq : t.val % 4 < 2
    · rw [dif_pos (by omega), if_pos hq]
      exact congrArg _ (Cert.Common.ix2_ext rfl (by show 2816 * (t.val % 4) + k.val = 2816 * (t.val % 2) + k.val; omega))
    · rw [dif_neg (by omega), if_neg hq]
      exact congrArg _ (Cert.Common.ix2_ext rfl (by show 2816 * (t.val % 4) + k.val - 5632 = 2816 * (t.val % 2) + k.val; omega))

theorem first (t : Fin cfg0.N) (h : t.val % 4 = 0) (y : S1024x1024.Idx) : (outsAt0 m c t.val t.isLt).2 y = add m c t y := by
  rw [outsAt0_A m c t h (by omega) (by omega)]
  frame_open
  simp (disch := decide) only [↓ View.readCov_skip, ↓ View.readCov_cons_toLoadRect, ↓ View.readCov_fill]
  frame_out
  unfold k0_pay2
  rw [← pay]
  pointwise

theorem next (t : Fin cfg0.N) (h : 1 ≤ t.val % 4 ∧ t.val % 4 ≤ 2) (y : S1024x1024.Idx) :
    (outsAt0 m c t.val t.isLt).2 y = (outsAt0 m c (t.val - 1) (Nat.lt_of_le_of_lt (Nat.sub_le _ _) t.isLt)).2 y + add m c t y := by
  rw [outsAt0_B m c t (by omega) (by omega) (by omega)]
  frame_open
  simp (disch := decide) only [↓ View.readCov_skip, ↓ View.readCov_cons_toLoadRect, ↓ View.readCov_fill]
  frame_out
  simp only [read_unread_whole]
  unfold k0_pay3
  rw [← pay]
  pointwise

theorem last (t : Fin cfg0.N) (h : t.val % 4 = 3) (y : S1024x1024.Idx) :
    (outsAt0 m c t.val t.isLt).1 y = (outsAt0 m c (t.val - 1) (Nat.lt_of_le_of_lt (Nat.sub_le _ _) t.isLt)).2 y + add m c t y := by
  rw [outsAt0_C m c t (by omega) (by omega) (by omega)]
  frame_open
  simp (disch := decide) only [↓ View.readCov_skip, ↓ View.readCov_cons_toLoadRect, ↓ View.readCov_fill]
  frame_out
  simp only [read_unread_whole]
  unfold k0_pay4
  rw [← pay]
  pointwise

/-- The call's result. -/
theorem arr : (dats m 0 c).arrAt 2 cfg0.N = G (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  have hm := flush2 t hf
  have h2 := idx2 t
  have ht := lt_N t
  have hN : cfg0.N = 16 := N_0
  have y0 : (y 0).val < 1024 := (y 0).isLt
  have y1 : (y 1).val < 1024 := (y 1).isLt
  unfold G
  rw [Cert.Common.nt_two 2816 rfl, Cert.Common.nt_two 2816 rfl]
  refine (last m c t hm y).trans ?_
  rw [next m c ⟨t.val - 1, by omega⟩ (by show 1 ≤ (t.val - 1) % 4 ∧ (t.val - 1) % 4 ≤ 2; omega) y,
    next m c ⟨t.val - 1 - 1, by omega⟩ (by show 1 ≤ (t.val - 1 - 1) % 4 ∧ (t.val - 1 - 1) % 4 ≤ 2; omega) y,
    first m c ⟨t.val - 1 - 1 - 1, by omega⟩ (by show (t.val - 1 - 1 - 1) % 4 = 0; omega) y]
  refine (add_assoc (G := EReal) _ _ _).trans ?_
  have e0 : (t.val - 1 - 1 - 1) % 4 = 0 := by omega
  have e1 : (t.val - 1 - 1) % 4 = 1 := by omega
  have e2 : (t.val - 1) % 4 = 2 := by omega
  refine congrArg₂ (fun a b : EReal => a + b) (congrArg₂ (fun a b : EReal => a + b) ?_ ?_) (congrArg₂ (fun a b : EReal => a + b) ?_ ?_) <;>
    unfold add <;> simp only [e0, e1, e2, hm] <;>
    refine Cert.Common.part_congr ?_ ?_ ?_ <;> first | omega | (simp [h2] <;> omega)

/-- The kernel terminates, keeps its arguments and leaves every semaphore at zero. -/
theorem frame_p : Cert.quiescent_Kernel3 := fun m ρ _ => Cert.Kernel3.Gen.frame m ρ
/-- The same of the idealized kernel. -/
theorem frame_pi : Cert.quiescent_Kernel3Ideal := fun m ρ _ => Cert.Kernel3Ideal.Gen.frame m ρ
/-- The same of the idealized reference. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- From arguments that agree, the kernel and the reference end with the same result. -/
theorem algebraic : Cert.algebraic_Kernel3Ideal_Reference3Ideal := by
  intro m ρ m' ρ' _ hag
  refine ⟨fun c => G (m ((c.tc : Thread nD τ).loc main_arg0)) (m ((c.tc : Thread nD τ).loc main_arg1)) (m ((c.tc : Thread nD τ).loc main_arg2)),
    (θ_run _ _ _).mono (fun r h c => ?_) (Cert.Kernel3Ideal.Value.run_blocks (F := Ideal) m ρ),
    (θ_run _ _ _).mono (fun r h c => ?_) (Cert.Reference3Ideal.Value.run (F := Ideal) m' ρ')⟩
  · obtain ⟨h0, hk⟩ := h c
    exact ⟨h0.trans (arr m c), hk⟩
  · obtain ⟨h0, hk⟩ := h c
    obtain ⟨a0, a1, a2⟩ := hag c
    refine ⟨h0.trans ?_, hk⟩
    rw [a0, a1, a2]
    clear h0 hk a0 a1 a2 hag h
    funext y
    rw [eq_ix2 y]
    clean_types
    pointwise
    exact add_comm (G := EReal) _ _

end Cert.DHidden
-- ==== Proof.Mm.GradGateUp.lean ====
/- The gradient of the stacked weights w_gate and w_up: what the call leaves, and that the reference leaves the same. -/
module

public import proofs.«01_k».proof.Defs
public import proofs.«01_k».proof.Proof.Mm.Common
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GradGateUp

open Cert.Kernel4Ideal Cert.Kernel4Ideal.Gen Cert.Kernel4Ideal.Value Idealize.ShloMosaic Idealize.ShloMosaic.TcCoe Idealize.SL.Sem

/-- Row `n` of the result is column `n % 5632` of slab `n / 5632` of the gradient, times the rows of `h`. -/
def G (d : (Shape.mk 3 ![2, 2048, 5632]).Idx → EReal) (h : (Shape.mk 2 ![2048, 2048]).Idx → EReal)
    (y : (Shape.mk 2 ![11264, 2048]).Idx) : EReal :=
  ∑ k : Fin 2048, d (ix3 (⟨(y 0).val / 5632, Nat.div_lt_of_lt_mul (y 0).isLt⟩ : Fin 2) k
    (⟨(y 0).val % 5632, Nat.mod_lt _ (by decide)⟩ : Fin 5632)) * h (ix2 k (y 1 : Fin 2048))

variable (m : (ℓ : Loc nD τ sig) → Buf (Elt Ideal) ℓ) (c : Dev nD)

theorem lt22 (t : Fin cfg0.N) : t.val < 22 := lt_of_lt_of_eq t.isLt (show cfg0.N = 22 from N_0)

theorem idx0 : ∀ t : Fin cfg0.N, win0_0.index t (0 : Fin 3) = t.val / 11 ∧ win0_0.index t (1 : Fin 3) = 0
    ∧ win0_0.index t (2 : Fin 3) = t.val % 11 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2x2048x5632) (φ := .f32) .bf16 (m ((c : Thread nD τ).loc main_arg0)) bitsLt_bf16_f32 : FVec Ideal S2x2048x5632 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl

/-- The call's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt22 t
  have y0 : (y 0).val < 512 := (y 0).isLt
  have y1 : (y 1).val < 2048 := (y 1).isLt
  unfold outsAt0
  frame_open
  frame_out
  unfold G
  blk_simp
  unfold k0_pay1
  pointwise
  change @Eq EReal _ _
  refine Finset.sum_congr rfl fun k _ => congrArg₂ (fun a b : EReal => a * b) ?_ ?_
  · have e : iblk m c 0 t (ix3 0 k (y 0)) = V m c main_v0 (ix3 (⟨t.val / 11, by omega⟩ : Fin 2) k (⟨512 * (t.val % 11) + (y 0).val, by omega⟩ : Fin 5632)) := by
      blk_ext [iblk, h0]
    rw [e, V_v0]
    pointwise
    blk_ext [h2]
  · have e : iblk m c 1 t (ix2 k (y 1)) = V m c main_v1 (ix2 k (y 1)) := by
      blk_ext [iblk, h1]
    rw [e, V_v1]
    pointwise
    blk_ext [h2]

/-- The kernel terminates, keeps its arguments and leaves every semaphore at zero. -/
theorem frame_p : Cert.quiescent_Kernel4 := fun m ρ _ => Cert.Kernel4.Gen.frame m ρ
/-- The same of the idealized kernel. -/
theorem frame_pi : Cert.quiescent_Kernel4Ideal := fun m ρ _ => Cert.Kernel4Ideal.Gen.frame m ρ
/-- The same of the idealized reference. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- From arguments that agree, the kernel and the reference end with the same result. -/
theorem algebraic : Cert.algebraic_Kernel4Ideal_Reference4Ideal := by
  intro m ρ m' ρ' _ hag
  refine ⟨fun c => G (m ((c.tc : Thread nD τ).loc main_arg0)) (m ((c.tc : Thread nD τ).loc main_arg1)),
    (θ_run _ _ _).mono (fun r h c => ?_) (Cert.Kernel4Ideal.Value.run_blocks (F := Ideal) m ρ),
    (θ_run _ _ _).mono (fun r h c => ?_) (Cert.Reference4Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    have hy : (y 0).val < 11264 := (y 0).isLt
    unfold G
    split_ifs with hlt
    · exact Finset.sum_congr rfl fun k _ => congrArg (fun e : EReal => e * _)
        (congrArg _ (Cert.Common.ix3_ext (by show 0 = (y 0).val / 5632; omega) rfl (by show (y 0).val = (y 0).val % 5632; omega)))
    · exact Finset.sum_congr rfl fun k _ => congrArg (fun e : EReal => e * _)
        (congrArg _ (Cert.Common.ix3_ext (by show 1 = (y 0).val / 5632; omega) rfl (by show (y 0).val - 5632 = (y 0).val % 5632; omega)))
    · exact absurd rfl (by assumption)

end Cert.GradGateUp
-- ==== Proof.Mm.GradDown.lean ====
/- The gradient of w_down: what the call leaves, and that the reference leaves the same. -/
module

public import proofs.«01_k».proof.Defs
public import proofs.«01_k».proof.Proof.Mm.Common
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GradDown

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ) (c : Dev nD)

theorem lt_N (t : Fin cfg0.N) : t.val < 11 := lt_of_lt_of_eq t.isLt (show cfg0.N = 11 from N_0)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2048x5632) (φ := .f32) .bf16 (m ((c : Thread nD τ).loc main_arg0)) bitsLt_bf16_f32 : FVec Ideal S2048x5632 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl

/-- The call's result. -/
theorem arr : (dats m 0 c).arrAt 2 cfg0.N = Cert.Common.tn (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 512 := (y 0).isLt
  have y1 : (y 1).val < 2048 := (y 1).isLt
  unfold outsAt0
  frame_open
  frame_out
  unfold Cert.Common.tn
  blk_simp
  unfold k0_pay1
  pointwise
  change @Eq EReal _ _
  refine Finset.sum_congr rfl fun k _ => congrArg₂ (fun a b : EReal => a * b) ?_ ?_
  · have e : iblk m c 0 t (ix2 k (y 0)) = V m c main_v0 (ix2 k (⟨512 * t.val + (y 0).val, by omega⟩ : Fin 5632)) := by
      blk_ext [iblk, h0]
    rw [e, V_v0]
    pointwise
    blk_ext [h2]
  · have e : iblk m c 1 t (ix2 k (y 1)) = V m c main_v1 (ix2 k (y 1)) := by
      blk_ext [iblk, h1]
    rw [e, V_v1]
    pointwise
    blk_ext [h2]

/-- The kernel terminates, keeps its arguments and leaves every semaphore at zero. -/
theorem frame_p : Cert.quiescent_Kernel5 := fun m ρ _ => Cert.Kernel5.Gen.frame m ρ
/-- The same of the idealized kernel. -/
theorem frame_pi : Cert.quiescent_Kernel5Ideal := fun m ρ _ => Cert.Kernel5Ideal.Gen.frame m ρ
/-- The same of the idealized reference. -/
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- From arguments that agree, the kernel and the reference end with the same result. -/
theorem algebraic : Cert.algebraic_Kernel5Ideal_Reference5Ideal := by
  intro m ρ m' ρ' _ hag
  refine ⟨fun c => Cert.Common.tn (m ((c.tc : Thread nD τ).loc main_arg0)) (m ((c.tc : Thread nD τ).loc main_arg1)),
    (θ_run _ _ _).mono (fun r h c => ?_) (Cert.Kernel5Ideal.Value.run_blocks (F := Ideal) m ρ),
    (θ_run _ _ _).mono (fun r h c => ?_) (Cert.Reference5Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    exact Finset.sum_congr rfl fun k _ => mul_comm (G := EReal) _ _

end Cert.GradDown
-- ==== Proof.Mm.DBranches.lean ====
/- The gradients of the merge of the two branches by both branches and both gates: what the call leaves, and that the reference leaves the same. -/
module

public import proofs.«01_k».proof.Defs
public import proofs.«01_k».proof.Proof.Mm.Common
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DBranches

open Cert.Common Cert.Kernel6Ideal Cert.Kernel6Ideal.Gen Cert.Kernel6Ideal.Value Idealize.ShloMosaic Idealize.ShloMosaic.TcCoe Idealize.SL.Sem

theorem place {R : ℕ} {x : S256x512.Idx} {r : Fin 1024} {l : Fin 512} (h0 : r.val = R + (x 0).val) (h1 : l.val = (x 1).val) :
    ∃ (s : Fin 256) (h : R + s.val < 1024), r = ⟨R + s.val, h⟩ ∧ x = ix2 s l := by
  refine ⟨x 0, lt_of_eq_of_lt h0.symm r.isLt, Fin.ext h0, funext fun a => Fin.ext ?_⟩
  fin_cases a
  · rfl
  · exact h1.symm

/-- The gradient of the merged branches at row `r` and column `l`. -/
def dm {R L : ℕ} (a : (Shape.mk 2 ![R, 2048]).Idx → EReal) (b : (Shape.mk 2 ![L, 2048]).Idx → EReal) (r : Fin R) (l : Fin L) : EReal :=
  ∑ k : Fin 2048, a (ix2 r k) * b (ix2 l k)

/-- The gradient of a gate's argument `g` beside the branch's value `x`. -/
def dl (d x g : EReal) : EReal := d * x * sg g * (1 - sg g)

section tiles
variable (a : Vec Ideal S1024x2048 .bf16) (b : Vec Ideal S512x2048 .bf16) (u v g h : Vec Ideal S1024x512 .f32) (r : Fin 1024) (l : Fin 512)

/-- One tile of the gradient by the first branch. -/
theorem tile6 : out0_6 a b u v g h (ix2 r l) = dm a b r l * sg (g (ix2 r l)) := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, dl, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]

/-- One tile of the gradient by the second branch. -/
theorem tile7 : out0_7 a b u v g h (ix2 r l) = dm a b r l * sg (h (ix2 r l)) := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, dl, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]

/-- One tile of the gradient by the first gate. -/
theorem tile8 : out0_8 a b u v g h (ix2 r l) = dl (dm a b r l) (u (ix2 r l)) (g (ix2 r l)) := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, dl, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]

/-- One tile of the gradient by the second gate. -/
theorem tile9 : out0_9 a b u v g h (ix2 r l) = dl (dm a b r l) (v (ix2 r l)) (h (ix2 r l)) := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, dl, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]

end tiles

variable (m : (ℓ : Loc nD τ sig) → Buf (Elt Ideal) ℓ) (c : Dev nD)

theorem lt_N (t : Fin cfg0.N) : t.val < 8 := lt_of_lt_of_eq t.isLt (show cfg0.N = 8 from N_0)

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = t.val % 4 :=
  (by decide +kernel : ∀ t : Fin grid0.N, _)
theorem idx3 : ∀ t : Fin cfg0.N, win0_3.index t (0 : Fin 2) = t.val / 4 ∧ win0_3.index t (1 : Fin 2) = t.val % 4 :=
  (by decide +kernel : ∀ t : Fin grid0.N, _)
theorem idx4 : ∀ t : Fin cfg0.N, win0_4.index t (0 : Fin 2) = t.val / 4 ∧ win0_4.index t (1 : Fin 2) = 7 + t.val % 4 :=
  (by decide +kernel : ∀ t : Fin grid0.N, _)
theorem idx5 : ∀ t : Fin cfg0.N, win0_5.index t (0 : Fin 2) = t.val / 4 ∧ win0_5.index t (1 : Fin 2) = 11 + t.val % 4 :=
  (by decide +kernel : ∀ t : Fin grid0.N, _)
theorem idx6 : ∀ t : Fin cfg0.N, win0_6.index t (0 : Fin 2) = t.val / 4 ∧ win0_6.index t (1 : Fin 2) = t.val % 4 :=
  (by decide +kernel : ∀ t : Fin grid0.N, _)
theorem idx7 : ∀ t : Fin cfg0.N, win0_7.index t (0 : Fin 2) = t.val / 4 ∧ win0_7.index t (1 : Fin 2) = t.val % 4 :=
  (by decide +kernel : ∀ t : Fin grid0.N, _)
theorem idx8 : ∀ t : Fin cfg0.N, win0_8.index t (0 : Fin 2) = t.val / 4 ∧ win0_8.index t (1 : Fin 2) = t.val % 4 :=
  (by decide +kernel : ∀ t : Fin grid0.N, _)
theorem idx9 : ∀ t : Fin cfg0.N, win0_9.index t (0 : Fin 2) = t.val / 4 ∧ win0_9.index t (1 : Fin 2) = t.val % 4 :=
  (by decide +kernel : ∀ t : Fin grid0.N, _)
theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl

section blocks
variable (t : Fin cfg0.N) (r : Fin 1024) (l : Fin 512)

/-- The row of the whole array that row `r` of point `t`'s blocks holds. -/
def row : Fin 2048 := ⟨1024 * (t.val / 4) + r.val, by have := lt_N t; omega⟩
/-- The column of the whole array that column `l` of point `t`'s blocks holds. -/
def col : Fin 2048 := ⟨512 * (t.val % 4) + l.val, by omega⟩

/-- The product's block. -/
theorem dm_blk : dm (iblk m c 0 t : Vec Ideal S1024x2048 .bf16) (iblk m c 1 t : Vec Ideal S512x2048 .bf16) r l
    = dm (R := 2048) (L := 2048) (m ((c : Thread nD τ).loc main_arg0)) (m ((c : Thread nD τ).loc main_arg1)) (row t r) (col t l) := by
  unfold dm
  have h0 := idx0 t
  have h1 := idx1 t
  have ht := lt_N t
  refine Finset.sum_congr rfl fun k _ => congrArg₂ (fun a b : EReal => a * b) ?_ ?_
  · have e : iblk m c 0 t (ix2 r k) = V m c main_v0 (ix2 (row t r) k) := by
      blk_ext [iblk, row, h0]
    rw [e, V_v0]
    pointwise
  · have e : iblk m c 1 t (ix2 l k) = V m c main_v1 (ix2 (col t l) k) := by
      blk_ext [iblk, col, h1]
    rw [e, V_v1]
    pointwise

theorem blk2 : iblk m c 2 t (ix2 r l) = m ((c : Thread nD τ).loc main_arg2) (ix2 (row t r) (col t l)) := by
  have h := idx2 t
  have e : iblk m c 2 t (ix2 r l) = V m c main_arg2 (ix2 (row t r) (col t l)) := by
    blk_ext [iblk, row, col, h]
  rw [e, V_main_arg2]
theorem blk3 : iblk m c 3 t (ix2 r l) = m ((c : Thread nD τ).loc main_arg3) (ix2 (row t r) (col t l)) := by
  have h := idx3 t
  have e : iblk m c 3 t (ix2 r l) = V m c main_arg3 (ix2 (row t r) (col t l)) := by
    blk_ext [iblk, row, col, h]
  rw [e, V_main_arg3]

/-- The column of the projection where the first gate's argument for column `l` lies. -/
def left (l : Fin 2048) : Fin 7680 := ⟨3584 + l.val, by omega⟩
/-- The column of the projection where the second gate's argument for column `l` lies. -/
def right (l : Fin 2048) : Fin 7680 := ⟨3584 + (2048 + l.val), by omega⟩

theorem blk4 : iblk m c 4 t (ix2 r l) = m ((c : Thread nD τ).loc main_arg4) (ix2 (row t r) (left (col t l))) := by
  have h := idx4 t
  have e : iblk m c 4 t (ix2 r l) = V m c main_arg4 (ix2 (row t r) (left (col t l))) := by
    blk_ext [iblk, row, col, left, h]
  rw [e, V_main_arg4]
theorem blk5 : iblk m c 5 t (ix2 r l) = m ((c : Thread nD τ).loc main_arg4) (ix2 (row t r) (right (col t l))) := by
  have h := idx5 t
  have e : iblk m c 5 t (ix2 r l) = V m c main_arg4 (ix2 (row t r) (right (col t l))) := by
    blk_ext [iblk, row, col, right, h]
  rw [e, V_main_arg4]

end blocks

section results
variable (d w u v : (Shape.mk 2 ![2048, 2048]).Idx → EReal) (p : (Shape.mk 2 ![2048, 7680]).Idx → EReal) (y : (Shape.mk 2 ![2048, 2048]).Idx)

/-- The gradient by the first branch. -/
def Ga : EReal := dm d w (y 0 : Fin 2048) (y 1 : Fin 2048) * sg (p (ix2 (y 0 : Fin 2048) (left (y 1 : Fin 2048))))
/-- The gradient by the second branch. -/
def Gb : EReal := dm d w (y 0 : Fin 2048) (y 1 : Fin 2048) * sg (p (ix2 (y 0 : Fin 2048) (right (y 1 : Fin 2048))))
/-- The gradient by the first gate's argument. -/
def Gla : EReal := dl (dm d w (y 0 : Fin 2048) (y 1 : Fin 2048)) (u (ix2 (y 0 : Fin 2048) (y 1 : Fin 2048))) (p (ix2 (y 0 : Fin 2048) (left (y 1 : Fin 2048))))
/-- The gradient by the second gate's argument. -/
def Glb : EReal := dl (dm d w (y 0 : Fin 2048) (y 1 : Fin 2048)) (v (ix2 (y 0 : Fin 2048) (y 1 : Fin 2048))) (p (ix2 (y 0 : Fin 2048) (right (y 1 : Fin 2048))))

end results

theorem out6 (t : Fin cfg0.N) (r : Fin 1024) (l : Fin 512) : out0_6 (iblk m c 0 t) (iblk m c 1 t) (iblk m c 2 t) (iblk m c 3 t) (iblk m c 4 t)
    (iblk m c 5 t) (ix2 r l) = Ga (m ((c : Thread nD τ).loc main_arg0)) (m ((c : Thread nD τ).loc main_arg1)) (m ((c : Thread nD τ).loc main_arg4)) (ix2 (row t r) (col t l)) := by
  refine (tile6 _ _ _ _ _ _ _ _).trans ?_
  rw [dm_blk, blk4]
  rfl
theorem arr6 : (dats m 0 c).arrAt 6 cfg0.N = Ga (m ((c : Thread nD τ).loc main_arg0)) (m ((c : Thread nD τ).loc main_arg1)) (m ((c : Thread nD τ).loc main_arg4)) := by
  refine (dats m 0 c).arrAt_eq_of_covers 6 _ (by decide +kernel) fun t hf y => ?_
  blk_simp
  rw [after0_6]
  have h := idx6 t
  have e0 : (((cfg0.win 6).blk t).view.emb y 0 : Fin 2048) = row t (y 0) := Fin.ext (by simp [row, h, mul_comm])
  have e1 : (((cfg0.win 6).blk t).view.emb y 1 : Fin 2048) = col t (y 1) := Fin.ext (by simp [col, h, mul_comm])
  have hy : y = ix2 (y 0 : Fin 1024) (y 1 : Fin 512) := eq_ix2 y
  refine (congrArg (out0_6 _ _ _ _ _ _) hy).trans ((out6 m c t (y 0) (y 1)).trans (congrArg _ ?_))
  exact (congrArg₂ ix2 e0.symm e1.symm).trans (eq_ix2 (show S2048x2048.Idx from ((cfg0.win 6).blk t).view.emb y)).symm

theorem out7 (t : Fin cfg0.N) (r : Fin 1024) (l : Fin 512) : out0_7 (iblk m c 0 t) (iblk m c 1 t) (iblk m c 2 t) (iblk m c 3 t) (iblk m c 4 t)
    (iblk m c 5 t) (ix2 r l) = Gb (m ((c : Thread nD τ).loc main_arg0)) (m ((c : Thread nD τ).loc main_arg1)) (m ((c : Thread nD τ).loc main_arg4)) (ix2 (row t r) (col t l)) := by
  refine (tile7 _ _ _ _ _ _ _ _).trans ?_
  rw [dm_blk, blk5]
  rfl
theorem arr7 : (dats m 0 c).arrAt 7 cfg0.N = Gb (m ((c : Thread nD τ).loc main_arg0)) (m ((c : Thread nD τ).loc main_arg1)) (m ((c : Thread nD τ).loc main_arg4)) := by
  refine (dats m 0 c).arrAt_eq_of_covers 7 _ (by decide +kernel) fun t hf y => ?_
  blk_simp
  rw [after0_7]
  have h := idx7 t
  have e0 : (((cfg0.win 7).blk t).view.emb y 0 : Fin 2048) = row t (y 0) := Fin.ext (by simp [row, h, mul_comm])
  have e1 : (((cfg0.win 7).blk t).view.emb y 1 : Fin 2048) = col t (y 1) := Fin.ext (by simp [col, h, mul_comm])
  have hy : y = ix2 (y 0 : Fin 1024) (y 1 : Fin 512) := eq_ix2 y
  refine (congrArg (out0_7 _ _ _ _ _ _) hy).trans ((out7 m c t (y 0) (y 1)).trans (congrArg _ ?_))
  exact (congrArg₂ ix2 e0.symm e1.symm).trans (eq_ix2 (show S2048x2048.Idx from ((cfg0.win 7).blk t).view.emb y)).symm

theorem out8 (t : Fin cfg0.N) (r : Fin 1024) (l : Fin 512) : out0_8 (iblk m c 0 t) (iblk m c 1 t) (iblk m c 2 t) (iblk m c 3 t) (iblk m c 4 t)
    (iblk m c 5 t) (ix2 r l) = Gla (m ((c : Thread nD τ).loc main_arg0)) (m ((c : Thread nD τ).loc main_arg1)) (m ((c : Thread nD τ).loc main_arg2)) (m ((c : Thread nD τ).loc main_arg4)) (ix2 (row t r) (col t l)) := by
  refine (tile8 _ _ _ _ _ _ _ _).trans ?_
  rw [dm_blk, blk2, blk4]
  rfl
theorem arr8 : (dats m 0 c).arrAt 8 cfg0.N = Gla (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  have h := idx8 t
  have e0 : (((cfg0.win 8).blk t).view.emb y 0 : Fin 2048) = row t (y 0) := Fin.ext (by simp [row, h, mul_comm])
  have e1 : (((cfg0.win 8).blk t).view.emb y 1 : Fin 2048) = col t (y 1) := Fin.ext (by simp [col, h, mul_comm])
  have hy : y = ix2 (y 0 : Fin 1024) (y 1 : Fin 512) := eq_ix2 y
  refine (congrArg (out0_8 _ _ _ _ _ _) hy).trans ((out8 m c t (y 0) (y 1)).trans (congrArg _ ?_))
  exact (congrArg₂ ix2 e0.symm e1.symm).trans (eq_ix2 (show S2048x2048.Idx from ((cfg0.win 8).blk t).view.emb y)).symm

theorem out9 (t : Fin cfg0.N) (r : Fin 1024) (l : Fin 512) : out0_9 (iblk m c 0 t) (iblk m c 1 t) (iblk m c 2 t) (iblk m c 3 t) (iblk m c 4 t)
    (iblk m c 5 t) (ix2 r l) = Glb (m ((c : Thread nD τ).loc main_arg0)) (m ((c : Thread nD τ).loc main_arg1)) (m ((c : Thread nD τ).loc main_arg3)) (m ((c : Thread nD τ).loc main_arg4)) (ix2 (row t r) (col t l)) := by
  refine (tile9 _ _ _ _ _ _ _ _).trans ?_
  rw [dm_blk, blk3, blk5]
  rfl
theorem arr9 : (dats m 0 c).arrAt 9 cfg0.N = Glb (m ((c : Thread nD τ).loc main_arg0)) (m ((c : Thread nD τ).loc main_arg1)) (m ((c : Thread nD τ).loc main_arg3)) (m ((c : Thread nD τ).loc main_arg4)) := by
  refine (dats m 0 c).arrAt_eq_of_covers 9 _ (by decide +kernel) fun t hf y => ?_
  blk_simp
  rw [after0_9]
  have h := idx9 t
  have e0 : (((cfg0.win 9).blk t).view.emb y 0 : Fin 2048) = row t (y 0) := Fin.ext (by simp [row, h, mul_comm])
  have e1 : (((cfg0.win 9).blk t).view.emb y 1 : Fin 2048) = col t (y 1) := Fin.ext (by simp [col, h, mul_comm])
  have hy : y = ix2 (y 0 : Fin 1024) (y 1 : Fin 512) := eq_ix2 y
  refine (congrArg (out0_9 _ _ _ _ _ _) hy).trans ((out9 m c t (y 0) (y 1)).trans (congrArg _ ?_))
  exact (congrArg₂ ix2 e0.symm e1.symm).trans (eq_ix2 (show S2048x2048.Idx from ((cfg0.win 9).blk t).view.emb y)).symm

/-- The kernel terminates, keeps its arguments and leaves every semaphore at zero. -/
theorem frame_p : Cert.quiescent_Kernel6 := fun m ρ _ => Cert.Kernel6.Gen.frame m ρ
/-- The same of the idealized kernel. -/
theorem frame_pi : Cert.quiescent_Kernel6Ideal := fun m ρ _ => Cert.Kernel6Ideal.Gen.frame m ρ
/-- The same of the idealized reference. -/
theorem frame_ri : Cert.quiescent_Reference6Ideal := fun m ρ _ =>
  (θ_run Cert.Reference6Ideal.defs _ _).mono (fun r h => ⟨fun c => (h c).2.2.2.2,
      Idealize.ShloMosaic.sem_eq_zero_of_no_sems (by decide) r.2⟩)
    (Cert.Reference6Ideal.Value.run (F := Ideal) m ρ)

/-- From arguments that agree, the kernel and the reference end with the same four results. -/
theorem algebraic : Cert.algebraic_Kernel6Ideal_Reference6Ideal := by
  intro m ρ m' ρ' _ hag
  refine ⟨fun c => Ga (m ((c.tc : Thread nD τ).loc main_arg0)) (m ((c.tc : Thread nD τ).loc main_arg1)) (m ((c.tc : Thread nD τ).loc main_arg4)),
    fun c => Gb (m ((c.tc : Thread nD τ).loc main_arg0)) (m ((c.tc : Thread nD τ).loc main_arg1)) (m ((c.tc : Thread nD τ).loc main_arg4)),
    fun c => Gla (m ((c.tc : Thread nD τ).loc main_arg0)) (m ((c.tc : Thread nD τ).loc main_arg1)) (m ((c.tc : Thread nD τ).loc main_arg2)) (m ((c.tc : Thread nD τ).loc main_arg4)),
    fun c => Glb (m ((c.tc : Thread nD τ).loc main_arg0)) (m ((c.tc : Thread nD τ).loc main_arg1)) (m ((c.tc : Thread nD τ).loc main_arg3)) (m ((c.tc : Thread nD τ).loc main_arg4)),
    (θ_run _ _ _).mono (fun r h c => ?_) (Cert.Kernel6Ideal.Value.run_blocks (F := Ideal) m ρ),
    (θ_run _ _ _).mono (fun r h c => ?_) (Cert.Reference6Ideal.Value.run (F := Ideal) m' ρ')⟩
  · obtain ⟨h0, h1, h2, h3, hk⟩ := h c
    exact ⟨h0.trans (arr6 m c), h1.trans (arr7 m c), h2.trans (arr8 m c), h3.trans (arr9 m c), hk⟩
  · obtain ⟨h0, h1, h2, h3, hk⟩ := h c
    obtain ⟨a0, a1, a2, a3, a4⟩ := hag c
    refine ⟨h0.trans ?_, h1.trans ?_, h2.trans ?_, h3.trans ?_, hk⟩
    all_goals
      rw [a0, a1, a4]
      first | rw [a2, a3] | rw [a2] | rw [a3] | skip
      clear h0 h1 h2 h3 hk a0 a1 a2 a3 a4 hag h
      funext y
      rw [eq_ix2 y]
      clean_types
    · unfold Ga dm
      pointwise
      simp only [sg_neg]
      exact mul_comm (G := EReal) _ _
    · unfold Gb dm
      pointwise
      simp only [sg_neg]
      exact mul_comm (G := EReal) _ _
    · unfold Gla dl dm
      pointwise
      simp only [sg_neg]
      rw [dif_neg fun h => h.1, zero_add]
      exact (mul_assoc (G := EReal) _ _ _).symm
    · unfold Glb dl dm
      pointwise
      simp only [sg_neg]
      exact (mul_assoc (G := EReal) _ _ _).symm

end Cert.DBranches
-- ==== Proof.Mm.GradOut.lean ====
/- The gradient of w_out: what the call leaves, and that the reference leaves the same. -/
module

public import proofs.«01_k».proof.Defs
public import proofs.«01_k».proof.Proof.Mm.Common
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GradOut

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ) (c : Dev nD)

theorem lt_N (t : Fin cfg0.N) : t.val < 4 := lt_of_lt_of_eq t.isLt (show cfg0.N = 4 from N_0)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl

/-- The call's result. -/
theorem arr : (dats m 0 c).arrAt 2 cfg0.N = Cert.Common.tn (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 512 := (y 0).isLt
  have y1 : (y 1).val < 2048 := (y 1).isLt
  unfold outsAt0
  frame_open
  frame_out
  unfold Cert.Common.tn
  blk_simp
  unfold k0_pay1
  pointwise
  change @Eq EReal _ _
  refine Finset.sum_congr rfl fun k _ => congrArg₂ (fun a b : EReal => a * b) ?_ ?_
  · have e : iblk m c 0 t (ix2 k (y 0)) = V m c main_v0 (ix2 k (⟨512 * t.val + (y 0).val, by omega⟩ : Fin 2048)) := by
      blk_ext [iblk, h0]
    rw [e, V_v0]
    pointwise
    blk_ext [h2]
  · have e : iblk m c 1 t (ix2 k (y 1)) = V m c main_v1 (ix2 k (y 1)) := by
      blk_ext [iblk, h1]
    rw [e, V_v1]
    pointwise
    blk_ext [h2]

/-- The kernel terminates, keeps its arguments and leaves every semaphore at zero. -/
theorem frame_p : Cert.quiescent_Kernel7 := fun m ρ _ => Cert.Kernel7.Gen.frame m ρ
/-- The same of the idealized kernel. -/
theorem frame_pi : Cert.quiescent_Kernel7Ideal := fun m ρ _ => Cert.Kernel7Ideal.Gen.frame m ρ
/-- The same of the idealized reference. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- From arguments that agree, the kernel and the reference end with the same result. -/
theorem algebraic : Cert.algebraic_Kernel7Ideal_Reference7Ideal := by
  intro m ρ m' ρ' _ hag
  refine ⟨fun c => Cert.Common.tn (m ((c.tc : Thread nD τ).loc main_arg0)) (m ((c.tc : Thread nD τ).loc main_arg1)),
    (θ_run _ _ _).mono (fun r h c => ?_) (Cert.Kernel7Ideal.Value.run_blocks (F := Ideal) m ρ),
    (θ_run _ _ _).mono (fun r h c => ?_) (Cert.Reference7Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    exact Finset.sum_congr rfl fun k _ => mul_comm (G := EReal) _ _

end Cert.GradOut
-- ==== Proof.Mm.DBranch.lean ====
/- The gradient carried back through w_branch_a or w_branch_b: what the call leaves, and that the reference leaves the same. -/
module

public import proofs.«01_k».proof.Defs
public import proofs.«01_k».proof.Proof.Mm.Common
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DBranch

open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ) (c : Dev nD)

theorem lt_N (t : Fin cfg0.N) : t.val < 2 := lt_of_lt_of_eq t.isLt (show cfg0.N = 2 from N_0)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v2 : V m c main_v2 = (truncf (s := S2048x1024) (φ := .f32) .bf16 (transpose S2048x1024 [1, 0] (m ((c : Thread nD τ).loc main_arg1)) transposes_S1024x2048_S2048x1024_1_0) bitsLt_bf16_f32 : FVec Ideal S2048x1024 .bf16) := by
  show StableHlo.after hostOps0 _ (Proc.devRef .tc main_v2) = _
  after_results
  try rfl

/-- The call's result. -/
theorem arr : (dats m 0 c).arrAt 2 cfg0.N = Cert.Common.nt (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 1024 := (y 0).isLt
  have y1 : (y 1).val < 1024 := (y 1).isLt
  unfold outsAt0
  frame_open
  frame_out
  unfold Cert.Common.nt
  blk_simp
  unfold k0_pay1
  pointwise
  change @Eq EReal _ _
  refine Finset.sum_congr rfl fun k _ => congrArg₂ (fun a b : EReal => a * b) ?_ ?_
  · have e : iblk m c 0 t (ix2 (y 0) k) = V m c main_v0 (ix2 (⟨1024 * t.val + (y 0).val, by omega⟩ : Fin 2048) k) := by
      blk_ext [iblk, h0]
    rw [e, V_v0]
    pointwise
    blk_ext [h2]
  · have e : iblk m c 1 t (ix2 k (y 1)) = V m c main_v2 (ix2 k (y 1)) := by
      blk_ext [iblk, h1]
    rw [e, V_v2]
    pointwise
    blk_ext [h2]

/-- The kernel terminates, keeps its arguments and leaves every semaphore at zero. -/
theorem frame_p : Cert.quiescent_Kernel8 := fun m ρ _ => Cert.Kernel8.Gen.frame m ρ
/-- The same of the idealized kernel. -/
theorem frame_pi : Cert.quiescent_Kernel8Ideal := fun m ρ _ => Cert.Kernel8Ideal.Gen.frame m ρ
/-- The same of the idealized reference. -/
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- From arguments that agree, the kernel and the reference end with the same result. -/
theorem algebraic : Cert.algebraic_Kernel8Ideal_Reference8Ideal := by
  intro m ρ m' ρ' _ hag
  refine ⟨fun c => Cert.Common.nt (m ((c.tc : Thread nD τ).loc main_arg0)) (m ((c.tc : Thread nD τ).loc main_arg1)),
    (θ_run _ _ _).mono (fun r h c => ?_) (Cert.Kernel8Ideal.Value.run_blocks (F := Ideal) m ρ),
    (θ_run _ _ _).mono (fun r h c => ?_) (Cert.Reference8Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    rfl

end Cert.DBranch
-- ==== Proof.Mm.GradBranch.lean ====
/- The gradient of w_branch_a or w_branch_b: what the call leaves, and that the reference leaves the same. -/
module

public import proofs.«01_k».proof.Defs
public import proofs.«01_k».proof.Proof.Mm.Common
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GradBranch

open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ) (c : Dev nD)

theorem lt_N (t : Fin cfg0.N) : t.val < 4 := lt_of_lt_of_eq t.isLt (show cfg0.N = 4 from N_0)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v1 : V m c main_v1 = (truncf (s := S2048x1024) (φ := .f32) .bf16 (m ((c : Thread nD τ).loc main_arg1)) bitsLt_bf16_f32 : FVec Ideal S2048x1024 .bf16) := by
  show StableHlo.after hostOps0 _ (Proc.devRef .tc main_v1) = _
  after_results
  try rfl

/-- The call's result. -/
theorem arr : (dats m 0 c).arrAt 2 cfg0.N = Cert.Common.tn (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 512 := (y 0).isLt
  have y1 : (y 1).val < 1024 := (y 1).isLt
  unfold outsAt0
  frame_open
  frame_out
  unfold Cert.Common.tn
  blk_simp
  unfold k0_pay1
  pointwise
  change @Eq EReal _ _
  refine Finset.sum_congr rfl fun k _ => congrArg₂ (fun a b : EReal => a * b) ?_ ?_
  · have e : iblk m c 0 t (ix2 k (y 0)) = V m c main_v0 (ix2 k (⟨512 * t.val + (y 0).val, by omega⟩ : Fin 2048)) := by
      blk_ext [iblk, h0]
    rw [e, V_v0]
    pointwise
    blk_ext [h2]
  · have e : iblk m c 1 t (ix2 k (y 1)) = V m c main_v1 (ix2 k (y 1)) := by
      blk_ext [iblk, h1]
    rw [e, V_v1]
    pointwise
    blk_ext [h2]

/-- The kernel terminates, keeps its arguments and leaves every semaphore at zero. -/
theorem frame_p : Cert.quiescent_Kernel9 := fun m ρ _ => Cert.Kernel9.Gen.frame m ρ
/-- The same of the idealized kernel. -/
theorem frame_pi : Cert.quiescent_Kernel9Ideal := fun m ρ _ => Cert.Kernel9Ideal.Gen.frame m ρ
/-- The same of the idealized reference. -/
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- From arguments that agree, the kernel and the reference end with the same result. -/
theorem algebraic : Cert.algebraic_Kernel9Ideal_Reference9Ideal := by
  intro m ρ m' ρ' _ hag
  refine ⟨fun c => Cert.Common.tn (m ((c.tc : Thread nD τ).loc main_arg0)) (m ((c.tc : Thread nD τ).loc main_arg1)),
    (θ_run _ _ _).mono (fun r h c => ?_) (Cert.Kernel9Ideal.Value.run_blocks (F := Ideal) m ρ),
    (θ_run _ _ _).mono (fun r h c => ?_) (Cert.Reference9Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    rfl

end Cert.GradBranch
-- ==== Proof.Mm.DIn.lean ====
/- The gradient carried back through w_in: what the call leaves, and that the reference leaves the same. -/
module

public import proofs.«01_k».proof.Defs
public import proofs.«01_k».proof.Proof.Mm.Common
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DIn

open Cert.Kernel10Ideal Cert.Kernel10Ideal.Gen Cert.Kernel10Ideal.Value Idealize.ShloMosaic Idealize.ShloMosaic.TcCoe Idealize.SL.Sem

variable (m : (ℓ : Loc nD τ sig) → Buf (Elt Ideal) ℓ) (c : Dev nD)

theorem lt_N (t : Fin cfg0.N) : t.val < 12 := lt_of_lt_of_eq t.isLt (show cfg0.N = 12 from N_0)

theorem idx0 : ∀ t : Fin cfg0.N, win0_0.index t (0 : Fin 2) = t.val / 6 ∧ win0_0.index t (1 : Fin 2) = t.val % 3 :=
  (by decide +kernel : ∀ t : Fin grid0.N, _)
theorem idx1 : ∀ t : Fin cfg0.N, win0_1.index t (0 : Fin 2) = t.val % 3 ∧ win0_1.index t (1 : Fin 2) = t.val / 3 % 2 :=
  (by decide +kernel : ∀ t : Fin grid0.N, _)
theorem idx2 : ∀ t : Fin cfg0.N, win0_2.index t (0 : Fin 2) = t.val / 6 ∧ win0_2.index t (1 : Fin 2) = t.val / 3 % 2 :=
  (by decide +kernel : ∀ t : Fin grid0.N, _)
theorem flush2 : ∀ t : Fin cfg0.N, (cfg0.win 2).flush t = true → t.val % 3 = 2 :=
  (by decide +kernel : ∀ t : Fin grid0.N, win0_2.flush t = true → t.val % 3 = 2)

theorem V_v0 : V m c main_v0 = (truncf (s := S2048x7680) (φ := .f32) .bf16 (m ((c : Thread nD τ).loc main_arg0)) bitsLt_bf16_f32 : FVec Ideal S2048x7680 .bf16) := by
  show StableHlo.after hostOps0 _ (Proc.devRef .tc main_v0) = _
  after_results
  try rfl
theorem V_v2 : V m c main_v2 = (truncf (s := S7680x2048) (φ := .f32) .bf16 (transpose S7680x2048 [1, 0] (m ((c : Thread nD τ).loc main_arg1)) transposes_S2048x7680_S7680x2048_1_0) bitsLt_bf16_f32 : FVec Ideal S7680x2048 .bf16) := by
  show StableHlo.after hostOps0 _ (Proc.devRef .tc main_v2) = _
  after_results
  try rfl

/-- What point `t` adds at place `y` of its tile. -/
def add (t : Fin cfg0.N) (y : S1024x1024.Idx) : EReal :=
  have y0 : (y 0).val < 1024 := (y 0).isLt
  have y1 : (y 1).val < 1024 := (y 1).isLt
  have ht := lt_N t
  Cert.Common.part 2560 (m ((c : Thread nD τ).loc main_arg0)) (m ((c : Thread nD τ).loc main_arg1))
    (⟨1024 * (t.val / 6) + (y 0).val, by omega⟩ : Fin 2048) (⟨1024 * (t.val / 3 % 2) + (y 1).val, by omega⟩ : Fin 2048)
    (t.val % 3) (by omega)

/-- The product of the two blocks of point `t`. -/
theorem pay (t : Fin cfg0.N) (y : S1024x1024.Idx) : k0_pay1 (F := Ideal) (iblk m c 0 t) (iblk m c 1 t) y = add m c t y := by
  have h0 := idx0 t
  have h1 := idx1 t
  have ht := lt_N t
  have y0 : (y 0).val < 1024 := (y 0).isLt
  have y1 : (y 1).val < 1024 := (y 1).isLt
  unfold k0_pay1 add Cert.Common.part
  pointwise
  change @Eq EReal _ _
  refine Finset.sum_congr rfl fun k _ => congrArg₂ (fun a b : EReal => a * b) ?_ ?_
  · have e : iblk m c 0 t (ix2 (y 0) k) = V m c main_v0 (ix2 (⟨1024 * (t.val / 6) + (y 0).val, by omega⟩ : Fin 2048) (⟨2560 * (t.val % 3) + k.val, by omega⟩ : Fin 7680)) := by
      blk_ext [iblk, h0]
    rw [e, V_v0]
    pointwise
  · have e : iblk m c 1 t (ix2 k (y 1)) = V m c main_v2 (ix2 (⟨2560 * (t.val % 3) + k.val, by omega⟩ : Fin 7680) (⟨1024 * (t.val / 3 % 2) + (y 1).val, by omega⟩ : Fin 2048)) := by
      blk_ext [iblk, h1]
    rw [e, V_v2]
    pointwise

theorem first (t : Fin cfg0.N) (h : t.val % 3 = 0) (y : S1024x1024.Idx) : (outsAt0 m c t.val t.isLt).2 y = add m c t y := by
  rw [outsAt0_A m c t h (by omega) (by omega)]
  frame_open
  simp (disch := decide) only [↓ View.readCov_skip, ↓ View.readCov_cons_toLoadRect, ↓ View.readCov_fill]
  frame_out
  unfold k0_pay2
  rw [← pay]
  pointwise

theorem next (t : Fin cfg0.N) (h : t.val % 3 = 1) (y : S1024x1024.Idx) :
    (outsAt0 m c t.val t.isLt).2 y = (outsAt0 m c (t.val - 1) (Nat.lt_of_le_of_lt (Nat.sub_le _ _) t.isLt)).2 y + add m c t y := by
  rw [outsAt0_B m c t (by omega) (by omega) (by omega)]
  frame_open
  simp (disch := decide) only [↓ View.readCov_skip, ↓ View.readCov_cons_toLoadRect, ↓ View.readCov_fill]
  frame_out
  simp only [read_unread_whole]
  unfold k0_pay3
  rw [← pay]
  pointwise

theorem last (t : Fin cfg0.N) (h : t.val % 3 = 2) (y : S1024x1024.Idx) :
    (outsAt0 m c t.val t.isLt).1 y = (outsAt0 m c (t.val - 1) (Nat.lt_of_le_of_lt (Nat.sub_le _ _) t.isLt)).2 y + add m c t y := by
  rw [outsAt0_C m c t (by omega) (by omega) (by omega)]
  frame_open
  simp (disch := decide) only [↓ View.readCov_skip, ↓ View.readCov_cons_toLoadRect, ↓ View.readCov_fill]
  frame_out
  simp only [read_unread_whole]
  unfold k0_pay4
  rw [← pay]
  pointwise

/-- The call's result. -/
theorem arr : (dats m 0 c).arrAt 2 cfg0.N = Cert.Common.nt (m ((c : Thread nD τ).loc main_arg0)) (m ((c : Thread nD τ).loc main_arg1)) := by
  refine (dats m 0 c).arrAt_eq_of_covers 2 _ (by decide +kernel) fun t hf y => ?_
  blk_simp
  rw [after0_2]
  have hm := flush2 t hf
  have h2 := idx2 t
  have ht := lt_N t
  have hN : cfg0.N = 12 := N_0
  have y0 : (y 0).val < 1024 := (y 0).isLt
  have y1 : (y 1).val < 1024 := (y 1).isLt
  rw [Cert.Common.nt_three 2560 rfl]
  refine (last m c t hm y).trans ?_
  rw [next m c ⟨t.val - 1, by omega⟩ (by show (t.val - 1) % 3 = 1; omega) y,
    first m c ⟨t.val - 1 - 1, by omega⟩ (by show (t.val - 1 - 1) % 3 = 0; omega) y]
  unfold add
  refine congrArg₂ (fun a b : EReal => a + b) (congrArg₂ (fun a b : EReal => a + b) ?_ ?_) ?_ <;>
    refine Cert.Common.part_congr ?_ ?_ ?_ <;> first | omega | (simp [h2] <;> omega)

/-- The kernel terminates, keeps its arguments and leaves every semaphore at zero. -/
theorem frame_p : Cert.quiescent_Kernel10 := fun m ρ _ => Cert.Kernel10.Gen.frame m ρ
/-- The same of the idealized kernel. -/
theorem frame_pi : Cert.quiescent_Kernel10Ideal := fun m ρ _ => Cert.Kernel10Ideal.Gen.frame m ρ
/-- The same of the idealized reference. -/
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- From arguments that agree, the kernel and the reference end with the same result. -/
theorem algebraic : Cert.algebraic_Kernel10Ideal_Reference10Ideal := by
  intro m ρ m' ρ' _ hag
  refine ⟨fun c => Cert.Common.nt (m ((c.tc : Thread nD τ).loc main_arg0)) (m ((c.tc : Thread nD τ).loc main_arg1)),
    (θ_run _ _ _).mono (fun r h c => ?_) (Cert.Kernel10Ideal.Value.run_blocks (F := Ideal) m ρ),
    (θ_run _ _ _).mono (fun r h c => ?_) (Cert.Reference10Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    rfl

end Cert.DIn
-- ==== Proof.Mm.GradIn.lean ====
/- The gradient of w_in: what the call leaves, and that the reference leaves the same. -/
module

public import proofs.«01_k».proof.Defs
public import proofs.«01_k».proof.Proof.Mm.Common
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GradIn

open Cert.Kernel11Ideal Cert.Kernel11Ideal.Gen Cert.Kernel11Ideal.Value Idealize.ShloMosaic Idealize.ShloMosaic.TcCoe Idealize.SL.Sem

variable (m : (ℓ : Loc nD τ sig) → Buf (Elt Ideal) ℓ) (c : Dev nD)

theorem lt_N (t : Fin cfg0.N) : t.val < 15 := lt_of_lt_of_eq t.isLt (show cfg0.N = 15 from N_0)

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (truncf (s := S2048x7680) (φ := .f32) .bf16 (m ((c : Thread nD τ).loc main_arg0)) bitsLt_bf16_f32 : FVec Ideal S2048x7680 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl

/-- The call's result. -/
theorem arr : (dats m 0 c).arrAt 2 cfg0.N = Cert.Common.tn (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 512 := (y 0).isLt
  have y1 : (y 1).val < 2048 := (y 1).isLt
  unfold outsAt0
  frame_open
  frame_out
  unfold Cert.Common.tn
  blk_simp
  unfold k0_pay1
  pointwise
  change @Eq EReal _ _
  refine Finset.sum_congr rfl fun k _ => congrArg₂ (fun a b : EReal => a * b) ?_ ?_
  · have e : iblk m c 0 t (ix2 k (y 0)) = V m c main_v0 (ix2 k (⟨512 * t.val + (y 0).val, by omega⟩ : Fin 7680)) := by
      blk_ext [iblk, h0]
    rw [e, V_v0]
    pointwise
    blk_ext [h2]
  · have e : iblk m c 1 t (ix2 k (y 1)) = V m c main_v1 (ix2 k (y 1)) := by
      blk_ext [iblk, h1]
    rw [e, V_v1]
    pointwise
    blk_ext [h2]

/-- The kernel terminates, keeps its arguments and leaves every semaphore at zero. -/
theorem frame_p : Cert.quiescent_Kernel11 := fun m ρ _ => Cert.Kernel11.Gen.frame m ρ
/-- The same of the idealized kernel. -/
theorem frame_pi : Cert.quiescent_Kernel11Ideal := fun m ρ _ => Cert.Kernel11Ideal.Gen.frame m ρ
/-- The same of the idealized reference. -/
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- From arguments that agree, the kernel and the reference end with the same result. -/
theorem algebraic : Cert.algebraic_Kernel11Ideal_Reference11Ideal := by
  intro m ρ m' ρ' _ hag
  refine ⟨fun c => Cert.Common.tn (m ((c.tc : Thread nD τ).loc main_arg0)) (m ((c.tc : Thread nD τ).loc main_arg1)),
    (θ_run _ _ _).mono (fun r h c => ?_) (Cert.Kernel11Ideal.Value.run_blocks (F := Ideal) m ρ),
    (θ_run _ _ _).mono (fun r h c => ?_) (Cert.Reference11Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    rfl

end Cert.GradIn
-- ==== Proof.Mm.NormBwd.lean ====
/- The gradient of an RMS norm, added to the gradient that passes it by: what the call leaves, and that the reference leaves the same over finite arguments. -/
module

public import proofs.«01_k».proof.Defs
public import proofs.«01_k».proof.Proof.Mm.Common
public import proofs.«01_k».proof.Proof.Sgu.Spec
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.NormBwd

open Cert.Common Cert.Kernel12Ideal Cert.Kernel12Ideal.Gen Cert.Kernel12Ideal.Value Idealize.ShloMosaic Idealize.ShloMosaic.TcCoe Idealize.SL.Sem

/-- The reciprocal root mean square of row `r`. -/
def rs {R : ℕ} (x : (Shape.mk 2 ![R, 2048]).Idx → EReal) (r : Fin R) : EReal :=
  Ideal.rsqrt (Ideal.div (∑ k : Fin 2048, x (ix2 r k) * x (ix2 r k)) (Ideal.ofBits .f32 0x45000000#32) + Ideal.ofBits .f32 0x358637BD#32)

/-- The gradient of the norm's argument at row `r` and column `l`, added to what passes the norm by. -/
def dxv {R : ℕ} (x d p : (Shape.mk 2 ![R, 2048]).Idx → EReal) (g : Fin 2048 → EReal) (r : Fin R) (l : Fin 2048) : EReal :=
  p (ix2 r l) + rs x r * (d (ix2 r l) * g l - x (ix2 r l) * rs x r * Ideal.div (∑ k : Fin 2048, d (ix2 r k) * g k * (x (ix2 r k) * rs x r)) (Ideal.ofBits .f32 0x45000000#32))

/-- Row `r`'s share of the gradient of the gain. -/
def dgv {R : ℕ} (x d : (Shape.mk 2 ![R, 2048]).Idx → EReal) (r : Fin R) (l : Fin 2048) : EReal := d (ix2 r l) * (x (ix2 r l) * rs x r)

theorem pay4 (x d p : Vec Ideal S256x2048 .f32) (g : Vec Ideal S1x2048 .f32) (r : Fin 256) (l : Fin 2048) :
    k0_pay4 (F := Ideal) x d g p (ix2 r l) = dxv x d p (fun k => g (ix2 0 k)) r l := by
  unfold k0_pay4 dxv rs
  pointwise [k0_pay3, k0_pay2]
theorem pay5 (x d p : Vec Ideal S256x2048 .f32) (g : Vec Ideal S1x2048 .f32) (r : Fin 256) (l : Fin 2048) :
    k0_pay5 (F := Ideal) x d g p (ix2 r l) = dxv x d p (fun k => g (ix2 0 k)) r l := by
  rw [← pay4]
  unfold k0_pay5
  pointwise
theorem pay6 (x d : Vec Ideal S256x2048 .f32) (p : Fin 8) (l : Fin 2048) :
    k0_pay6 (F := Ideal) x d (ix2 p l) = ∑ r : Fin 256, dgv x d r l := by
  unfold k0_pay6 dgv rs
  pointwise [k0_pay3, k0_pay2]

variable (m : (ℓ : Loc nD τ sig) → Buf (Elt Ideal) ℓ) (c : Dev nD)

theorem lt_N (t : Fin cfg0.N) : t.val < 8 := lt_of_lt_of_eq t.isLt (show cfg0.N = 8 from N_0)

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem flush6 : ∀ t : Fin cfg0.N, (cfg0.win 6).flush t = true → t.val = 7 :=
  (by decide +kernel : ∀ t : Fin grid0.N, win0_6.flush t = true → t.val = 7)

theorem V_v0 : V m c main_v0 = (broadcastInDim S1x2048 ![1] bcast_S2048_S1x2048_1 (m ((c : Thread nD τ).loc main_arg1)) : FVec Ideal S1x2048 .f32) := by
  show StableHlo.after hostOps0 _ (Proc.devRef .tc main_v0) = _
  after_results
  try rfl

/-- The row of the whole array that row `r` of point `t`'s blocks holds. -/
def row (t : Fin cfg0.N) (r : Fin 256) : Fin 2048 := ⟨256 * t.val + r.val, by have := lt_N t; omega⟩

theorem blk0 (t : Fin cfg0.N) (r : Fin 256) (l : Fin 2048) : iblk m c 0 t (ix2 r l) = m ((c : Thread nD τ).loc main_arg0) (ix2 (row t r) l) := by
  have h := idx0 t
  have e : iblk m c 0 t (ix2 r l) = V m c main_arg0 (ix2 (row t r) l) := by
    blk_ext [iblk, row, h]
  rw [e, V_main_arg0]
theorem blk2 (t : Fin cfg0.N) (r : Fin 256) (l : Fin 2048) : iblk m c 2 t (ix2 r l) = m ((c : Thread nD τ).loc main_arg2) (ix2 (row t r) l) := by
  have h := idx2 t
  have e : iblk m c 2 t (ix2 r l) = V m c main_arg2 (ix2 (row t r) l) := by
    blk_ext [iblk, row, h]
  rw [e, V_main_arg2]
theorem blk3 (t : Fin cfg0.N) (r : Fin 256) (l : Fin 2048) : iblk m c 3 t (ix2 r l) = m ((c : Thread nD τ).loc main_arg3) (ix2 (row t r) l) := by
  have h := idx3 t
  have e : iblk m c 3 t (ix2 r l) = V m c main_arg3 (ix2 (row t r) l) := by
    blk_ext [iblk, row, h]
  rw [e, V_main_arg3]
theorem blk1 (t : Fin cfg0.N) (l : Fin 2048) : iblk m c 1 t (ix2 0 l) = m ((c : Thread nD τ).loc main_arg1) (ix1 l) := by
  have h := idx1 t
  have e : iblk m c 1 t (ix2 0 l) = V m c main_v0 (ix2 0 l) := by
    blk_ext [iblk, h]
  rw [e, V_v0]
  pointwise

/-- The gradient of the whole argument. -/
def Gx (x d p : (Shape.mk 2 ![2048, 2048]).Idx → EReal) (g : (Shape.mk 1 ![2048]).Idx → EReal) (y : (Shape.mk 2 ![2048, 2048]).Idx) : EReal :=
  dxv x d p (fun k => g (ix1 k)) (y 0 : Fin 2048) (y 1 : Fin 2048)
/-- The gradient of the gain, repeated over eight rows. -/
def Gg (x d : (Shape.mk 2 ![2048, 2048]).Idx → EReal) (y : (Shape.mk 2 ![8, 2048]).Idx) : EReal :=
  ∑ r : Fin 2048, dgv x d r (y 1 : Fin 2048)

theorem rs_blk (t : Fin cfg0.N) (r : Fin 256) : rs (iblk m c 0 t) r = rs (m ((c : Thread nD τ).loc main_arg0)) (row t r) := by
  unfold rs
  simp only [blk0]
theorem dxv_blk (t : Fin cfg0.N) (r : Fin 256) (l : Fin 2048) :
    dxv (iblk m c 0 t) (iblk m c 2 t) (iblk m c 3 t) (fun k => iblk m c 1 t (ix2 0 k)) r l = Gx (m ((c : Thread nD τ).loc main_arg0)) (m ((c : Thread nD τ).loc main_arg2)) (m ((c : Thread nD τ).loc main_arg3)) (m ((c : Thread nD τ).loc main_arg1)) (ix2 (row t r) l) := by
  unfold Gx dxv
  simp only [rs_blk, blk0, blk1, blk2, blk3]
  rfl

/-- What point `t` leaves in window 4. -/
theorem out4 (t : Fin cfg0.N) (r : Fin 256) (l : Fin 2048) :
    (outsAt0 m c t.val t.isLt).1 (ix2 r l) = Gx (m ((c : Thread nD τ).loc main_arg0)) (m ((c : Thread nD τ).loc main_arg2)) (m ((c : Thread nD τ).loc main_arg3)) (m ((c : Thread nD τ).loc main_arg1)) (ix2 (row t r) l) := by
  rw [← dxv_blk, ← pay4]
  by_cases h : t.val % 8 = 0
  · rw [outsAt0_A m c t h (by have := lt_N t; omega)]
    frame_open
    frame_out
  · rw [outsAt0_B m c t h (by omega)]
    frame_open
    frame_out
/-- The call's result number 0. -/
theorem arr4 : (dats m 0 c).arrAt 4 cfg0.N = Gx (m ((c : Thread nD τ).loc main_arg0)) (m ((c : Thread nD τ).loc main_arg2)) (m ((c : Thread nD τ).loc main_arg3)) (m ((c : Thread nD τ).loc main_arg1)) := by
  refine (dats m 0 c).arrAt_eq_of_covers 4 _ (by decide +kernel) fun t hf y => ?_
  blk_simp
  rw [after0_4]
  have h := idx4 t
  have e0 : (((cfg0.win 4).blk t).view.emb y 0 : Fin 2048) = row t (y 0) := Fin.ext (by simp [row, h, mul_comm])
  have e1 : (((cfg0.win 4).blk t).view.emb y 1 : Fin 2048) = y 1 := Fin.ext (by simp [h])
  have hy : y = ix2 (y 0 : Fin 256) (y 1 : Fin 2048) := eq_ix2 y
  refine (congrArg ((outsAt0 m c t.val t.isLt).1) hy).trans ((out4 m c t (y 0) (y 1)).trans (congrArg _ ?_))
  exact (congrArg₂ ix2 e0.symm e1.symm).trans (eq_ix2 (show S2048x2048.Idx from ((cfg0.win 4).blk t).view.emb y)).symm

/-- What point `t` leaves in window 5. -/
theorem out5 (t : Fin cfg0.N) (r : Fin 256) (l : Fin 2048) :
    (outsAt0 m c t.val t.isLt).2.1 (ix2 r l) = Gx (m ((c : Thread nD τ).loc main_arg0)) (m ((c : Thread nD τ).loc main_arg2)) (m ((c : Thread nD τ).loc main_arg3)) (m ((c : Thread nD τ).loc main_arg1)) (ix2 (row t r) l) := by
  rw [← dxv_blk, ← pay5]
  by_cases h : t.val % 8 = 0
  · rw [outsAt0_A m c t h (by have := lt_N t; omega)]
    frame_open
    frame_out
  · rw [outsAt0_B m c t h (by omega)]
    frame_open
    frame_out
/-- The call's result number 1. -/
theorem arr5 : (dats m 0 c).arrAt 5 cfg0.N = Gx (m ((c : Thread nD τ).loc main_arg0)) (m ((c : Thread nD τ).loc main_arg2)) (m ((c : Thread nD τ).loc main_arg3)) (m ((c : Thread nD τ).loc main_arg1)) := by
  refine (dats m 0 c).arrAt_eq_of_covers 5 _ (by decide +kernel) fun t hf y => ?_
  blk_simp
  rw [after0_5]
  have h := idx5 t
  have e0 : (((cfg0.win 5).blk t).view.emb y 0 : Fin 2048) = row t (y 0) := Fin.ext (by simp [row, h, mul_comm])
  have e1 : (((cfg0.win 5).blk t).view.emb y 1 : Fin 2048) = y 1 := Fin.ext (by simp [h])
  have hy : y = ix2 (y 0 : Fin 256) (y 1 : Fin 2048) := eq_ix2 y
  refine (congrArg ((outsAt0 m c t.val t.isLt).2.1) hy).trans ((out5 m c t (y 0) (y 1)).trans (congrArg _ ?_))
  exact (congrArg₂ ix2 e0.symm e1.symm).trans (eq_ix2 (show S2048x2048.Idx from ((cfg0.win 5).blk t).view.emb y)).symm

/-- Block `n`'s share of the gradient of the gain. -/
def term (n : ℕ) (l : Fin 2048) : EReal :=
  ∑ r : Fin 256, if h : 256 * n + r.val < 2048 then dgv (m ((c : Thread nD τ).loc main_arg0)) (m ((c : Thread nD τ).loc main_arg2)) (⟨256 * n + r.val, h⟩ : Fin 2048) l else 0

theorem pay (t : Fin cfg0.N) (p : Fin 8) (l : Fin 2048) : k0_pay6 (F := Ideal) (iblk m c 0 t) (iblk m c 2 t) (ix2 p l) = term m c t.val l := by
  rw [pay6]
  unfold term dgv
  refine Finset.sum_congr rfl fun r _ => ?_
  rw [dif_pos (by have := lt_N t; omega), rs_blk, blk0, blk2]
  rfl

theorem first (t : Fin cfg0.N) (h : t.val = 0) (p : Fin 8) (l : Fin 2048) : (outsAt0 m c t.val t.isLt).2.2 (ix2 p l) = term m c t.val l := by
  rw [← pay m c t p l, outsAt0_A m c t (by omega) (by omega)]
  frame_open
  frame_out

theorem next (t : Fin cfg0.N) (h : 1 ≤ t.val) (p : Fin 8) (l : Fin 2048) :
    (outsAt0 m c t.val t.isLt).2.2 (ix2 p l) = (outsAt0 m c (t.val - 1) (Nat.lt_of_le_of_lt (Nat.sub_le _ _) t.isLt)).2.2 (ix2 p l) + term m c t.val l := by
  rw [← pay m c t p l, outsAt0_B m c t (by have := lt_N t; omega) h]
  frame_open
  frame_out
  unfold k0_pay1
  pointwise

/-- After point `n` the accumulator holds the shares of the first `n + 1` blocks. -/
theorem run (n : ℕ) (h : n < cfg0.N) (p : Fin 8) (l : Fin 2048) :
    (outsAt0 m c n h).2.2 (ix2 p l) = ∑ i ∈ Finset.range (n + 1), term m c i l := by
  induction n with
  | zero => rw [Finset.sum_range_one]; exact first m c ⟨0, h⟩ rfl p l
  | succ n ih =>
    rw [Finset.sum_range_succ, ← ih (Nat.lt_of_succ_lt h)]
    exact next m c ⟨n + 1, h⟩ (by show 1 ≤ n + 1; omega) p l

/-- The shares of all eight blocks are the sum over the rows. -/
theorem total (l : Fin 2048) : ∑ i ∈ Finset.range 8, term m c i l = ∑ r : Fin 2048, dgv (m ((c : Thread nD τ).loc main_arg0)) (m ((c : Thread nD τ).loc main_arg2)) r l := by
  rw [Finset.sum_range]
  refine Eq.trans ?_ (sum_split (n := 8) (T := 256) fun r : Fin 2048 => dgv (m ((c : Thread nD τ).loc main_arg0)) (m ((c : Thread nD τ).loc main_arg2)) r l).symm
  refine Finset.sum_congr rfl fun i _ => Finset.sum_congr rfl fun r _ => ?_
  rw [dif_pos (by omega)]
  exact congrArg (fun r : Fin 2048 => dgv (m ((c : Thread nD τ).loc main_arg0)) (m ((c : Thread nD τ).loc main_arg2)) r l) (Fin.ext (by simp [finProdFinEquiv] <;> omega))

/-- The call's third result. -/
theorem arr6 : (dats m 0 c).arrAt 6 cfg0.N = Gg (m ((c : Thread nD τ).loc main_arg0)) (m ((c : Thread nD τ).loc main_arg2)) := by
  refine (dats m 0 c).arrAt_eq_of_covers 6 _ (by decide +kernel) fun t hf y => ?_
  blk_simp
  rw [after0_6]
  have h := idx6 t
  have h7 := flush6 t hf
  have e1 : (((cfg0.win 6).blk t).view.emb y 1 : Fin 2048) = y 1 := Fin.ext (by simp [h])
  have hy : y = ix2 (y 0 : Fin 8) (y 1 : Fin 2048) := eq_ix2 y
  refine (congrArg ((outsAt0 m c t.val t.isLt).2.2) hy).trans ((run m c t.val t.isLt (y 0) (y 1)).trans ?_)
  rw [h7]
  refine (total m c (y 1)).trans ?_
  unfold Gg
  rw [e1]

theorem ofBits_2048 : Ideal.ofBits .f32 0x45000000#32 = ((2048 : ℝ) : EReal) := by
  simp [Ideal.ofBits, Ideal.ieee, -EReal.coe_mul]; norm_num

/-- Over finite numbers the two forms of the norm's gradient agree. -/
theorem val_rule {x d g : Fin 2048 → EReal} (hx : ∀ k, ∃ r : ℝ, x k = (r : EReal)) (hd : ∀ k, ∃ r : ℝ, d k = (r : EReal)) (hg : ∀ k, ∃ r : ℝ, g k = (r : EReal)) (l : Fin 2048) {W S : EReal}
    (hW : W = Ideal.div (∑ k : Fin 2048, x k * x k) (Ideal.ofBits .f32 0x45000000#32) + Ideal.ofBits .f32 0x358637BD#32)
    (hS : S = Ideal.div ((∑ k : Fin 2048, x k * (d k * g k)) * (Ideal.ofBits .f32 0xBF000000#32 * Ideal.div (Ideal.rsqrt W) W)) (Ideal.ofBits .f32 0x45000000#32)) :
    d l * g l * Ideal.rsqrt W + x l * S + S * x l = Ideal.rsqrt W * (d l * g l - x l * Ideal.rsqrt W * Ideal.div (∑ k : Fin 2048, d k * g k * (x k * Ideal.rsqrt W)) (Ideal.ofBits .f32 0x45000000#32)) := by
  choose x' hx using hx
  choose d' hd using hd
  choose g' hg using hg
  obtain rfl : x = fun k => (x' k : EReal) := funext hx
  obtain rfl : d = fun k => (d' k : EReal) := funext hd
  obtain rfl : g = fun k => (g' k : EReal) := funext hg
  have h2 : (2048 : ℝ) ≠ 0 := by norm_num
  have hv : 0 < (∑ k : Fin 2048, x' k * x' k) / 2048 + Cert.Sgu.eps :=
    add_pos_of_nonneg_of_pos (div_nonneg (Finset.sum_nonneg fun k _ => mul_self_nonneg _) (by norm_num)) Cert.Sgu.eps_pos
  have hW' : W = (((∑ k : Fin 2048, x' k * x' k) / 2048 + Cert.Sgu.eps : ℝ) : EReal) := by
    rw [hW, ofBits_2048, Cert.Sgu.ofBits_eps]
    simp only [← EReal.coe_mul, Cert.Common.coe_sum, Ideal.div_coe h2, ← EReal.coe_add]
    first | done | rfl | (congr 2; ring)
  generalize (∑ k : Fin 2048, x' k * x' k) / 2048 + Cert.Sgu.eps = v at hv hW'
  have hs : (Real.sqrt v)⁻¹ * (Real.sqrt v)⁻¹ = 1 / v := by
    rw [← mul_inv, Real.mul_self_sqrt hv.le, one_div]
  rw [hS, hW', ofBits_2048, Cert.Sgu.ofBits_mhalf, Cert.Sgu.rsqrt_pos hv]
  generalize (Real.sqrt v)⁻¹ = s at hs
  simp only [← EReal.coe_mul, Cert.Common.coe_sum, Ideal.div_coe h2, Ideal.div_coe hv.ne', ← EReal.coe_add, ← EReal.coe_sub]
  refine congrArg _ ?_
  have e1 : ∑ k : Fin 2048, d' k * g' k * (x' k * s) = (∑ k : Fin 2048, x' k * (d' k * g' k)) * s := by
    rw [Finset.sum_mul]
    exact Finset.sum_congr rfl fun k _ => by ring
  rw [e1]
  generalize ∑ k : Fin 2048, x' k * (d' k * g' k) = T
  linear_combination (x' l * T * s / 2048) * hs

/-- The shape relations the precondition takes. -/
instance preFacts : Cert.Pre_finite12.Facts where
  bcast_S_S2048x2048 := by decide
  bcast_S_S2048 := by decide

/-- The kernel terminates, keeps its arguments and leaves every semaphore at zero. -/
theorem frame_p : Cert.quiescent_Kernel12 := fun m ρ _ => Cert.Kernel12.Gen.frame m ρ
/-- The same of the idealized kernel. -/
theorem frame_pi : Cert.quiescent_Kernel12Ideal := fun m ρ _ => Cert.Kernel12Ideal.Gen.frame m ρ
/-- The same under the precondition. -/
theorem frame_pi_pre : Cert.quiescent_Kernel12Ideal_pre_finite12 := fun m ρ _ => Cert.Kernel12Ideal.Gen.frame m ρ
/-- The same of the idealized reference. -/
theorem frame_ri : Cert.quiescent_Reference12Ideal := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)
/-- The same under the precondition. -/
theorem frame_ri_pre : Cert.quiescent_Reference12Ideal_pre_finite12 := fun m ρ _ =>
  (θ_run Cert.Reference12Ideal.defs _ _).mono (fun r h => ⟨fun c => (h c).2.2.2,
      Idealize.ShloMosaic.sem_eq_zero_of_no_sems (by decide) r.2⟩)
    (Cert.Reference12Ideal.Value.run (F := Ideal) m ρ)

/-- The sum over the one row there is. -/
theorem sum_one (f : Fin 1 → EReal) : ∑ k : Fin 1, f k = f 0 := by simp

/-- From finite arguments that agree, the kernel and the reference end with the same results. -/
theorem algebraic : Cert.algebraic_Kernel12Ideal_Reference12Ideal_pre_finite12 := by
  intro m ρ m' ρ' hpre hag
  refine ⟨fun c => Gx (m ((c.tc : Thread nD τ).loc main_arg0)) (m ((c.tc : Thread nD τ).loc main_arg2)) (m ((c.tc : Thread nD τ).loc main_arg3)) (m ((c.tc : Thread nD τ).loc main_arg1)),
    fun c => Gx (m ((c.tc : Thread nD τ).loc main_arg0)) (m ((c.tc : Thread nD τ).loc main_arg2)) (m ((c.tc : Thread nD τ).loc main_arg3)) (m ((c.tc : Thread nD τ).loc main_arg1)),
    fun c => Gg (m ((c.tc : Thread nD τ).loc main_arg0)) (m ((c.tc : Thread nD τ).loc main_arg2)),
    (θ_run _ _ _).mono (fun r h c => ?_) (Cert.Kernel12Ideal.Value.run_blocks (F := Ideal) m ρ),
    (θ_run _ _ _).mono (fun r h c => ?_) (Cert.Reference12Ideal.Value.run (F := Ideal) m' ρ')⟩
  · obtain ⟨h0, h1, h2, hk⟩ := h c
    exact ⟨h0.trans (arr4 m c), h1.trans (arr5 m c), h2.trans (arr6 m c), hk⟩
  · obtain ⟨h0, h1, h2, hk⟩ := h c
    obtain ⟨a0, a1, a2, a3⟩ := hag c
    obtain ⟨p0, p1, p2⟩ := hpre c
    have f0 := real_at _ _ p0
    have f1 := real_at _ _ p1
    have f2 := real_at _ _ p2
    refine ⟨h0.trans ?_, h1.trans ?_, h2.trans ?_, hk⟩
    · rw [a0, a1, a2, a3]
      clear h0 h1 h2 hk a0 a1 a2 a3 hag h p0 p1 p2 hpre
      funext y
      obtain ⟨p, l, rfl⟩ : ∃ p l : Fin 2048, y = ix2 p l := ⟨y 0, y 1, eq_ix2 y⟩
      clean_types
      unfold Gx dxv rs
      pointwise
      simp only [sum_one]
      refine congrArg _ ?_
      exact val_rule (fun k => f0 (ix2 p k)) (fun k => f2 (ix2 p k)) (fun k => f1 (ix1 k)) l rfl rfl
    · rw [a0, a1, a2, a3]
      clear h0 h1 h2 hk a0 a1 a2 a3 hag h p0 p1 p2 hpre
      funext y
      obtain ⟨p, l, rfl⟩ : ∃ p l : Fin 2048, y = ix2 p l := ⟨y 0, y 1, eq_ix2 y⟩
      clean_types
      unfold Gx dxv rs
      pointwise
      simp only [sum_one]
      refine congrArg _ ?_
      exact val_rule (fun k => f0 (ix2 p k)) (fun k => f2 (ix2 p k)) (fun k => f1 (ix1 k)) l rfl rfl
    · rw [a0, a2]
      clear h0 h1 h2 hk a0 a1 a2 a3 hag h p0 p1 p2 hpre f0 f1 f2
      funext y
      rw [eq_ix2 y]
      clean_types
      unfold Gg dgv rs
      pointwise
      refine (sum_one _).trans ?_
      exact Finset.sum_congr rfl fun k _ => mul_comm _ _

end Cert.NormBwd
-- ==== Proof.Mm.GateUp.lean ====
/- The feed-forward network's gate and up products and silu(gate) * up: what the call leaves, and that the reference leaves the same. -/
module

public import proofs.«01_k».proof.Defs
public import proofs.«01_k».proof.Proof.Mm.Common
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.GateUp

open Cert.Common Cert.Kernel13Ideal Cert.Kernel13Ideal.Gen Cert.Kernel13Ideal.Value Idealize.ShloMosaic Idealize.ShloMosaic.TcCoe Idealize.SL.Sem

/-- Where a place of a chunk lies in the whole block. -/
theorem place {R : ℕ} {x : S256x512.Idx} {r : Fin 1024} {l : Fin 512} (h0 : r.val = R + (x 0).val) (h1 : l.val = (x 1).val) :
    ∃ (s : Fin 256) (h : R + s.val < 1024), r = ⟨R + s.val, h⟩ ∧ x = ix2 s l := by
  refine ⟨x 0, lt_of_eq_of_lt h0.symm r.isLt, Fin.ext h0, funext fun a => Fin.ext ?_⟩
  fin_cases a
  · rfl
  · exact h1.symm

/-- Where a place of a chunk of one slab lies in the whole block. -/
theorem place3 {R : ℕ} (P : Fin 2) {p : Fin 2} {x : S1x256x512.Idx} {r : Fin 1024} {l : Fin 512} (h0 : p.val = P.val + (x 0).val)
    (h1 : r.val = R + (x 1).val) (h2 : l.val = (x 2).val) :
    p = P ∧ ∃ (s : Fin 256) (h : R + s.val < 1024), r = ⟨R + s.val, h⟩ ∧ x = ix3 0 s l := by
  have e : (x 0).val < 1 := (x 0).isLt
  refine ⟨Fin.ext (by omega), x 1, lt_of_eq_of_lt h1.symm r.isLt, Fin.ext h1, funext fun a => Fin.ext ?_⟩
  fin_cases a
  · show (x 0).val = 0; omega
  · rfl
  · exact h2.symm

/-- The product of row `r` of `a` and row `l` of `b`. -/
def dm {R L : ℕ} (a : (Shape.mk 2 ![R, 2048]).Idx → EReal) (b : (Shape.mk 2 ![L, 2048]).Idx → EReal) (r : Fin R) (l : Fin L) : EReal :=
  ∑ k : Fin 2048, a (ix2 r k) * b (ix2 l k)

section tiles
variable (a : Vec Ideal S1024x2048 .bf16) (g u : Vec Ideal S512x2048 .bf16) (r : Fin 1024) (l : Fin 512)

/-- One tile of the two products. -/
theorem tile3 (p : Fin 2) : out0_3 a g u (ix3 p r l) = if p = 0 then dm a g r l else dm a u r l := by
  frame_out
  canon_tiles x h
  case piece0 =>
    obtain ⟨rfl, s, hs, rfl, rfl⟩ := place3 (R := 768) (l := l) 1 h0 h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece1 =>
    obtain ⟨rfl, s, hs, rfl, rfl⟩ := place3 (R := 768) (l := l) 0 (h0.trans (Nat.zero_add _).symm) h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece2 =>
    obtain ⟨rfl, s, hs, rfl, rfl⟩ := place3 (R := 512) (l := l) 1 h0 h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece3 =>
    obtain ⟨rfl, s, hs, rfl, rfl⟩ := place3 (R := 512) (l := l) 0 (h0.trans (Nat.zero_add _).symm) h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece4 =>
    obtain ⟨rfl, s, hs, rfl, rfl⟩ := place3 (R := 256) (l := l) 1 h0 h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece5 =>
    obtain ⟨rfl, s, hs, rfl, rfl⟩ := place3 (R := 256) (l := l) 0 (h0.trans (Nat.zero_add _).symm) h1 h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece6 =>
    obtain ⟨rfl, s, hs, rfl, rfl⟩ := place3 (R := 0) (l := l) 1 h0 (h1.trans (Nat.zero_add _).symm) h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  case piece7 =>
    obtain ⟨rfl, s, hs, rfl, rfl⟩ := place3 (R := 0) (l := l) 0 (h0.trans (Nat.zero_add _).symm) (h1.trans (Nat.zero_add _).symm) h2
    pointwise [dm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]

/-- One tile of the gated value. -/
theorem tile4 : out0_4 a g u (ix2 r l) = dm a g r l * sg (dm a g r l) * dm a u r l := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]

end tiles

variable (m : (ℓ : Loc nD τ sig) → Buf (Elt Ideal) ℓ) (c : Dev nD)

theorem lt_N (t : Fin cfg0.N) : t.val < 22 := lt_of_lt_of_eq t.isLt (show cfg0.N = 22 from N_0)

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = t.val % 11 ∧ win0_1.index t (1 : Fin 2) = 0 :=
  (by decide +kernel : ∀ t : Fin grid0.N, _)
theorem idx2 : ∀ t : Fin cfg0.N, win0_2.index t (0 : Fin 2) = t.val % 11 + 11 ∧ win0_2.index t (1 : Fin 2) = 0 :=
  (by decide +kernel : ∀ t : Fin grid0.N, _)
theorem idx3 : ∀ t : Fin cfg0.N, win0_3.index t (0 : Fin 3) = 0 ∧ win0_3.index t (1 : Fin 3) = t.val / 11 ∧ win0_3.index t (2 : Fin 3) = t.val % 11 :=
  (by decide +kernel : ∀ t : Fin grid0.N, _)
theorem idx4 : ∀ t : Fin cfg0.N, win0_4.index t (0 : Fin 2) = t.val / 11 ∧ win0_4.index t (1 : Fin 2) = t.val % 11 :=
  (by decide +kernel : ∀ t : Fin grid0.N, _)
theorem V_v4 : V m c main_v4 = (truncf (s := S2048x2048) (φ := .f32) .bf16 (m ((c : Thread nD τ).loc main_arg0)) bitsLt_bf16_f32 : FVec Ideal S2048x2048 .bf16) := by
  show StableHlo.after hostOps0 _ (Proc.devRef .tc main_v4) = _
  after_results
  try rfl
/-- The stacked weights: the transpose of `w_gate` over that of `w_up`. -/
theorem V_v3 : V m c main_v3 = (truncf (s := S11264x2048) (φ := .f32) .bf16 (concatenate S11264x2048 0
    [⟨S5632x2048, transpose S5632x2048 [1, 0] (m ((c : Thread nD τ).loc main_arg1)) transposes_S2048x5632_S5632x2048_1_0⟩,
      ⟨S5632x2048, transpose S5632x2048 [1, 0] (m ((c : Thread nD τ).loc main_arg2)) transposes_S2048x5632_S5632x2048_1_0⟩]
    concatenates_S5632x2048_S5632x2048_S11264x2048_d0) bitsLt_bf16_f32 : FVec Ideal S11264x2048 .bf16) := by
  show StableHlo.after hostOps0 _ (Proc.devRef .tc main_v3) = _
  after_results
  try rfl

section blocks
variable (t : Fin cfg0.N) (r : Fin 1024) (l : Fin 512)

/-- The row of the whole array that row `r` of point `t`'s blocks holds. -/
def row : Fin 2048 := ⟨1024 * (t.val / 11) + r.val, by have := lt_N t; omega⟩
/-- The column of the whole array that column `l` of point `t`'s blocks holds. -/
def col : Fin 5632 := ⟨512 * (t.val % 11) + l.val, by omega⟩

theorem stacked_low (k : Fin 2048) (h : (col t l).val < 11264) : V m c main_v3 (ix2 (⟨(col t l).val, h⟩ : Fin 11264) k) = m ((c : Thread nD τ).loc main_arg1) (ix2 k (col t l)) := by
  rw [V_v3]
  pointwise

theorem stacked_high (k : Fin 2048) (h : 5632 + (col t l).val < 11264) : V m c main_v3 (ix2 (⟨5632 + (col t l).val, h⟩ : Fin 11264) k) = m ((c : Thread nD τ).loc main_arg2) (ix2 k (col t l)) := by
  rw [V_v3]
  pointwise

/-- The gate product's block. -/
theorem dmg : dm (iblk m c 0 t : Vec Ideal S1024x2048 .bf16) (iblk m c 1 t : Vec Ideal S512x2048 .bf16) r l
    = nn (m ((c : Thread nD τ).loc main_arg0)) (m ((c : Thread nD τ).loc main_arg1)) (ix2 (row t r) (col t l)) := by
  unfold dm nn
  have h0 := idx0 t
  have h1 := idx1 t
  have ht := lt_N t
  have hc : (col t l).val < 11264 := by have := (col t l).isLt; omega
  refine Finset.sum_congr rfl fun k _ => congrArg₂ (fun a b : EReal => a * b) ?_ ?_
  · have e : iblk m c 0 t (ix2 r k) = V m c main_v4 (ix2 (row t r) k) := by
      blk_ext [iblk, row, h0]
    rw [e, V_v4]
    pointwise
  · have e : iblk m c 1 t (ix2 l k) = V m c main_v3 (ix2 (⟨(col t l).val, hc⟩ : Fin 11264) k) := by
      blk_ext [iblk, col, h1]
    exact e.trans (stacked_low m c t l k hc)

/-- The up product's block. -/
theorem dmu : dm (iblk m c 0 t : Vec Ideal S1024x2048 .bf16) (iblk m c 2 t : Vec Ideal S512x2048 .bf16) r l
    = nn (m ((c : Thread nD τ).loc main_arg0)) (m ((c : Thread nD τ).loc main_arg2)) (ix2 (row t r) (col t l)) := by
  unfold dm nn
  have h0 := idx0 t
  have h1 := idx2 t
  have ht := lt_N t
  have hc : 5632 + (col t l).val < 11264 := by have := (col t l).isLt; omega
  refine Finset.sum_congr rfl fun k _ => congrArg₂ (fun a b : EReal => a * b) ?_ ?_
  · have e : iblk m c 0 t (ix2 r k) = V m c main_v4 (ix2 (row t r) k) := by
      blk_ext [iblk, row, h0]
    rw [e, V_v4]
    pointwise
  · have e : iblk m c 2 t (ix2 l k) = V m c main_v3 (ix2 (⟨5632 + (col t l).val, hc⟩ : Fin 11264) k) := by
      blk_ext [iblk, col, h1]
    exact e.trans (stacked_high m c t l k hc)

end blocks

/-- The product by `g` in the first slab, by `u` in the second. -/
def slab (x : (Shape.mk 2 ![2048, 2048]).Idx → EReal) (g u : (Shape.mk 2 ![2048, 5632]).Idx → EReal) (p : Fin 2) (r : Fin 2048) (l : Fin 5632) : EReal :=
  if p = 0 then nn x g (ix2 r l) else nn x u (ix2 r l)
/-- The two products, stacked. -/
def Gs (x : (Shape.mk 2 ![2048, 2048]).Idx → EReal) (g u : (Shape.mk 2 ![2048, 5632]).Idx → EReal) (y : (Shape.mk 3 ![2, 2048, 5632]).Idx) : EReal :=
  slab x g u (y 0 : Fin 2) (y 1 : Fin 2048) (y 2 : Fin 5632)
/-- The gated value. -/
def Ga (x : (Shape.mk 2 ![2048, 2048]).Idx → EReal) (g u : (Shape.mk 2 ![2048, 5632]).Idx → EReal) (y : (Shape.mk 2 ![2048, 5632]).Idx) : EReal :=
  nn x g y * sg (nn x g y) * nn x u y

theorem out3 (t : Fin cfg0.N) (p : Fin 2) (r : Fin 1024) (l : Fin 512) : out0_3 (iblk m c 0 t) (iblk m c 1 t) (iblk m c 2 t) (ix3 p r l)
    = Gs (m ((c : Thread nD τ).loc main_arg0)) (m ((c : Thread nD τ).loc main_arg1)) (m ((c : Thread nD τ).loc main_arg2)) (ix3 p (row t r) (col t l)) := by
  refine (tile3 _ _ _ _ _ _).trans ?_
  rw [dmg, dmu]
  rfl
theorem arr3 : (dats m 0 c).arrAt 3 cfg0.N = Gs (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h := idx3 t
  have e0 : (((cfg0.win 3).blk t).view.emb y 0 : Fin 2) = y 0 := Fin.ext (by simp [h])
  have e1 : (((cfg0.win 3).blk t).view.emb y 1 : Fin 2048) = row t (y 1) := Fin.ext (by simp [row, h, mul_comm])
  have e2 : (((cfg0.win 3).blk t).view.emb y 2 : Fin 5632) = col t (y 2) := Fin.ext (by simp [col, h, mul_comm])
  have hy : y = ix3 (y 0 : Fin 2) (y 1 : Fin 1024) (y 2 : Fin 512) := eq_ix3 y
  refine (congrArg (out0_3 _ _ _) hy).trans ((out3 m c t (y 0) (y 1) (y 2)).trans (congrArg _ ?_))
  refine Eq.trans ?_ (eq_ix3 (show S2x2048x5632.Idx from ((cfg0.win 3).blk t).view.emb y)).symm
  exact ix3_ext (congrArg Fin.val e0.symm) (congrArg Fin.val e1.symm) (congrArg Fin.val e2.symm)

theorem out4 (t : Fin cfg0.N) (r : Fin 1024) (l : Fin 512) : out0_4 (iblk m c 0 t) (iblk m c 1 t) (iblk m c 2 t) (ix2 r l)
    = Ga (m ((c : Thread nD τ).loc main_arg0)) (m ((c : Thread nD τ).loc main_arg1)) (m ((c : Thread nD τ).loc main_arg2)) (ix2 (row t r) (col t l)) := by
  refine (tile4 _ _ _ _ _).trans ?_
  rw [dmg, dmu]
  rfl
theorem arr4 : (dats m 0 c).arrAt 4 cfg0.N = Ga (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have h := idx4 t
  have e0 : (((cfg0.win 4).blk t).view.emb y 0 : Fin 2048) = row t (y 0) := Fin.ext (by simp [row, h, mul_comm])
  have e1 : (((cfg0.win 4).blk t).view.emb y 1 : Fin 5632) = col t (y 1) := Fin.ext (by simp [col, h, mul_comm])
  have hy : y = ix2 (y 0 : Fin 1024) (y 1 : Fin 512) := eq_ix2 y
  refine (congrArg (out0_4 _ _ _) hy).trans ((out4 m c t (y 0) (y 1)).trans (congrArg _ ?_))
  exact (congrArg₂ ix2 e0.symm e1.symm).trans (eq_ix2 (show S2048x5632.Idx from ((cfg0.win 4).blk t).view.emb y)).symm

/-- The kernel terminates, keeps its arguments and leaves every semaphore at zero. -/
theorem frame_p : Cert.quiescent_Kernel13 := fun m ρ _ => Cert.Kernel13.Gen.frame m ρ
/-- The same of the idealized kernel. -/
theorem frame_pi : Cert.quiescent_Kernel13Ideal := fun m ρ _ => Cert.Kernel13Ideal.Gen.frame m ρ
/-- The same of the idealized reference. -/
theorem frame_ri : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

/-- From arguments that agree, the kernel and the reference end with the same two results. -/
theorem algebraic : Cert.algebraic_Kernel13Ideal_Reference13Ideal := by
  intro m ρ m' ρ' _ hag
  refine ⟨fun c => Gs (m ((c.tc : Thread nD τ).loc main_arg0)) (m ((c.tc : Thread nD τ).loc main_arg1)) (m ((c.tc : Thread nD τ).loc main_arg2)),
    fun c => Ga (m ((c.tc : Thread nD τ).loc main_arg0)) (m ((c.tc : Thread nD τ).loc main_arg1)) (m ((c.tc : Thread nD τ).loc main_arg2)),
    (θ_run _ _ _).mono (fun r h c => ?_) (Cert.Kernel13Ideal.Value.run_blocks (F := Ideal) m ρ),
    (θ_run _ _ _).mono (fun r h c => ?_) (Cert.Reference13Ideal.Value.run (F := Ideal) m' ρ')⟩
  · obtain ⟨h0, h1, hk⟩ := h c
    exact ⟨h0.trans (arr3 m c), h1.trans (arr4 m c), hk⟩
  · obtain ⟨h0, h1, hk⟩ := h c
    obtain ⟨a0, a1, a2⟩ := hag c
    refine ⟨h0.trans ?_, h1.trans ?_, hk⟩
    all_goals
      rw [a0, a1, a2]
      clear h0 h1 hk a0 a1 a2 hag h
      funext y
    · obtain ⟨p, r, l, rfl⟩ : ∃ (p : Fin 2) (r : Fin 2048) (l : Fin 5632), y = ix3 p r l := ⟨y 0, y 1, y 2, eq_ix3 y⟩
      clean_types
      unfold Gs slab nn
      pointwise
      by_cases hp : p.val < 1
      · rw [dif_pos hp, if_pos (Fin.ext (by omega) : p = 0)]
      · rw [dif_neg hp, if_neg (fun h => hp (by rw [h]; decide))]
    · rw [eq_ix2 y]
      clean_types
      unfold Ga nn
      pointwise
      simp only [sg_neg]

end Cert.GateUp
-- ==== Proof.Mm.InProj.lean ====
/- The product with w_in: what the call leaves, and that the reference leaves the same. -/
module

public import proofs.«01_k».proof.Defs
public import proofs.«01_k».proof.Proof.Mm.Common
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.InProj

open Cert.Common Cert.Kernel14Ideal Cert.Kernel14Ideal.Gen Cert.Kernel14Ideal.Value Idealize.ShloMosaic Idealize.ShloMosaic.TcCoe Idealize.SL.Sem

variable (m : (ℓ : Loc nD τ sig) → Buf (Elt Ideal) ℓ) (c : Dev nD)

theorem lt_N (t : Fin cfg0.N) : t.val < 20 := lt_of_lt_of_eq t.isLt (show cfg0.N = 20 from N_0)

theorem idx0 : ∀ t : Fin cfg0.N, win0_0.index t (0 : Fin 2) = t.val / 10 ∧ win0_0.index t (1 : Fin 2) = 0 :=
  (by decide +kernel : ∀ t : Fin grid0.N, _)
theorem idx1 : ∀ t : Fin cfg0.N, win0_1.index t (0 : Fin 2) = t.val % 10 ∧ win0_1.index t (1 : Fin 2) = 0 :=
  (by decide +kernel : ∀ t : Fin grid0.N, _)
theorem idx2 : ∀ t : Fin cfg0.N, win0_2.index t (0 : Fin 2) = t.val / 10 ∧ win0_2.index t (1 : Fin 2) = t.val % 10 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v2 : V m c main_v2 = (truncf (s := S7680x2048) (φ := .f32) .bf16 (transpose S7680x2048 [1, 0] (m ((c : Thread nD τ).loc main_arg1)) transposes_S2048x7680_S7680x2048_1_0) bitsLt_bf16_f32 : FVec Ideal S7680x2048 .bf16) := by
  show StableHlo.after hostOps0 _ (Proc.devRef .tc main_v2) = _
  after_results
  try rfl

/-- The call's result. -/
theorem arr : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  blk_simp
  rw [after0_2]
  have h0 := idx0 t
  have h1 := idx1 t
  have h2 := idx2 t
  have ht := lt_N t
  have y0 : (y 0).val < 1024 := (y 0).isLt
  have y1 : (y 1).val < 768 := (y 1).isLt
  unfold outsAt0
  frame_open
  frame_out
  unfold nn
  blk_simp
  unfold k0_pay1
  pointwise
  change @Eq EReal _ _
  refine Finset.sum_congr rfl fun k _ => congrArg₂ (fun a b : EReal => a * b) ?_ ?_
  · have e : iblk m c 0 t (ix2 (y 0) k) = V m c main_v0 (ix2 (⟨1024 * (t.val / 10) + (y 0).val, by omega⟩ : Fin 2048) k) := by
      blk_ext [iblk, h0]
    rw [e, V_v0]
    pointwise
    blk_ext [h2]
  · have e : iblk m c 1 t (ix2 (y 1) k) = V m c main_v2 (ix2 (⟨768 * (t.val % 10) + (y 1).val, by omega⟩ : Fin 7680) k) := by
      blk_ext [iblk, h1]
    rw [e, V_v2]
    pointwise
    blk_ext [h2]

/-- The kernel terminates, keeps its arguments and leaves every semaphore at zero. -/
theorem frame_p : Cert.quiescent_Kernel14 := fun m ρ _ => Cert.Kernel14.Gen.frame m ρ
/-- The same of the idealized kernel. -/
theorem frame_pi : Cert.quiescent_Kernel14Ideal := fun m ρ _ => Cert.Kernel14Ideal.Gen.frame m ρ
/-- The same of the idealized reference. -/
theorem frame_ri : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- From arguments that agree, the kernel and the reference end with the same result. -/
theorem algebraic : Cert.algebraic_Kernel14Ideal_Reference14Ideal := by
  intro m ρ m' ρ' _ hag
  refine ⟨fun c => nn (m ((c.tc : Thread nD τ).loc main_arg0)) (m ((c.tc : Thread nD τ).loc main_arg1)),
    (θ_run _ _ _).mono (fun r h c => ?_) (Cert.Kernel14Ideal.Value.run_blocks (F := Ideal) m ρ),
    (θ_run _ _ _).mono (fun r h c => ?_) (Cert.Reference14Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    pointwise
    rfl

end Cert.InProj
-- ==== Proof.Mm.OutProj.lean ====
/- The product with w_out, added to the residual: what the call leaves, and that the reference leaves the same. -/
module

public import proofs.«01_k».proof.Defs
public import proofs.«01_k».proof.Proof.Mm.Common
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.OutProj

open Cert.Common Cert.Kernel15Ideal Cert.Kernel15Ideal.Gen Cert.Kernel15Ideal.Value Idealize.ShloMosaic Idealize.ShloMosaic.TcCoe Idealize.SL.Sem

/-- The residual and the product. -/
def G (a b x : (Shape.mk 2 ![2048, 2048]).Idx → EReal) (y : (Shape.mk 2 ![2048, 2048]).Idx) : EReal :=
  x y + nn a b y

variable (m : (ℓ : Loc nD τ sig) → Buf (Elt Ideal) ℓ) (c : Dev nD)

theorem lt_N (t : Fin cfg0.N) : t.val < 4 := lt_of_lt_of_eq t.isLt (show cfg0.N = 4 from N_0)

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)
theorem idx3 : ∀ t : Fin cfg0.N, win0_3.index t (0 : Fin 2) = t.val / 2 ∧ win0_3.index t (1 : Fin 2) = t.val % 2 :=
  (by decide +kernel : ∀ t : Fin grid0.N, _)

theorem V_v0 : V m c main_v0 = (truncf (s := S2048x2048) (φ := .f32) .bf16 (m ((c : Thread nD τ).loc main_arg0)) bitsLt_bf16_f32 : FVec Ideal S2048x2048 .bf16) := by
  show StableHlo.after hostOps0 _ (Proc.devRef .tc main_v0) = _
  after_results
  try rfl
theorem V_v1 : V m c main_v1 = (truncf (s := S2048x2048) (φ := .f32) .bf16 (m ((c : Thread nD τ).loc main_arg1)) bitsLt_bf16_f32 : FVec Ideal S2048x2048 .bf16) := by
  show StableHlo.after hostOps0 _ (Proc.devRef .tc main_v1) = _
  after_results
  try rfl
theorem V_arg2 : V m c main_arg2 = m ((c : Thread nD τ).loc main_arg2) := by
  show StableHlo.after hostOps0 _ (Proc.devRef .tc main_arg2) = _
  after_results
  try rfl

/-- The call's result. -/
theorem arr : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have h0 := idx0 t
  have h1 := idx1 t
  have h2 := idx2 t
  have h3 := idx3 t
  have ht := lt_N t
  have y0 : (y 0).val < 1024 := (y 0).isLt
  have y1 : (y 1).val < 1024 := (y 1).isLt
  unfold outsAt0
  frame_open
  frame_out
  unfold G nn
  blk_simp
  unfold k0_pay1
  pointwise
  change @Eq EReal _ _
  rw [add_comm (G := EReal)]
  refine congrArg₂ (fun a b : EReal => a + b) ?_ (Finset.sum_congr rfl fun k _ => congrArg₂ (fun a b : EReal => a * b) ?_ ?_)
  · have e : iblk m c 2 t y = V m c main_arg2 (ix2 (⟨1024 * (t.val / 2) + (y 0).val, by omega⟩ : Fin 2048) (⟨1024 * (t.val % 2) + (y 1).val, by omega⟩ : Fin 2048)) := by
      blk_ext [iblk, h2]
    refine e.trans ?_
    rw [V_arg2]
    blk_ext [h3]
  · have e : iblk m c 0 t (ix2 (y 0) k) = V m c main_v0 (ix2 (⟨1024 * (t.val / 2) + (y 0).val, by omega⟩ : Fin 2048) k) := by
      blk_ext [iblk, h0]
    rw [e, V_v0]
    pointwise
    blk_ext [h3]
  · have e : iblk m c 1 t (ix2 k (y 1)) = V m c main_v1 (ix2 k (⟨1024 * (t.val % 2) + (y 1).val, by omega⟩ : Fin 2048)) := by
      blk_ext [iblk, h1]
    rw [e, V_v1]
    pointwise
    blk_ext [h3]

/-- The kernel terminates, keeps its arguments and leaves every semaphore at zero. -/
theorem frame_p : Cert.quiescent_Kernel15 := fun m ρ _ => Cert.Kernel15.Gen.frame m ρ
/-- The same of the idealized kernel. -/
theorem frame_pi : Cert.quiescent_Kernel15Ideal := fun m ρ _ => Cert.Kernel15Ideal.Gen.frame m ρ
/-- The same of the idealized reference. -/
theorem frame_ri : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- From arguments that agree, the kernel and the reference end with the same result. -/
theorem algebraic : Cert.algebraic_Kernel15Ideal_Reference15Ideal := by
  intro m ρ m' ρ' _ hag
  refine ⟨fun c => G (m ((c.tc : Thread nD τ).loc main_arg0)) (m ((c.tc : Thread nD τ).loc main_arg1)) (m ((c.tc : Thread nD τ).loc main_arg2)),
    (θ_run _ _ _).mono (fun r h c => ?_) (Cert.Kernel15Ideal.Value.run_blocks (F := Ideal) m ρ),
    (θ_run _ _ _).mono (fun r h c => ?_) (Cert.Reference15Ideal.Value.run (F := Ideal) m' ρ')⟩
  · obtain ⟨h0, hk⟩ := h c
    exact ⟨h0.trans (arr m c), hk⟩
  · obtain ⟨h0, hk⟩ := h c
    obtain ⟨a0, a1, a2⟩ := hag c
    refine ⟨h0.trans ?_, hk⟩
    rw [a0, a1, a2]
    clear h0 hk a0 a1 a2 hag h
    funext y
    rw [eq_ix2 y]
    clean_types
    pointwise
    rfl

end Cert.OutProj
-- ==== Proof.Mm.Branches.lean ====
/- Both branches' products and their merge by the gates: what the call leaves, and that the reference leaves the same. -/
module

public import proofs.«01_k».proof.Defs
public import proofs.«01_k».proof.Proof.Mm.Common
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.Branches

open Cert.Common Cert.Kernel16Ideal Cert.Kernel16Ideal.Gen Cert.Kernel16Ideal.Value Idealize.ShloMosaic Idealize.ShloMosaic.TcCoe Idealize.SL.Sem

/-- Where a place of a chunk lies in the whole block. -/
theorem place {R : ℕ} {x : S256x512.Idx} {r : Fin 1024} {l : Fin 512} (h0 : r.val = R + (x 0).val) (h1 : l.val = (x 1).val) :
    ∃ (s : Fin 256) (h : R + s.val < 1024), r = ⟨R + s.val, h⟩ ∧ x = ix2 s l := by
  refine ⟨x 0, lt_of_eq_of_lt h0.symm r.isLt, Fin.ext h0, funext fun a => Fin.ext ?_⟩
  fin_cases a
  · rfl
  · exact h1.symm

/-- The product of row `r` of `a` and row `l` of `b`. -/
def dm {R L : ℕ} (a : (Shape.mk 2 ![R, 1024]).Idx → EReal) (b : (Shape.mk 2 ![L, 1024]).Idx → EReal) (r : Fin R) (l : Fin L) : EReal :=
  ∑ k : Fin 1024, a (ix2 r k) * b (ix2 l k)

section tiles
variable (a b : Vec Ideal S1024x1024 .bf16) (u v : Vec Ideal S512x1024 .bf16) (g h : Vec Ideal S1024x512 .f32) (r : Fin 1024) (l : Fin 512)

/-- One tile of the first branch's product. -/
theorem tile6 : out0_6 a b u v g h (ix2 r l) = dm a u r l := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]

/-- One tile of the second branch's product. -/
theorem tile7 : out0_7 a b u v g h (ix2 r l) = dm b v r l := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]

/-- One tile of the merge. -/
theorem tile8 : out0_8 a b u v g h (ix2 r l) = sg (g (ix2 r l)) * dm a u r l + sg (h (ix2 r l)) * dm b v r l := by
  frame_out
  canon_tiles x hx
  all_goals
    first
      | obtain ⟨s, hs, rfl, rfl⟩ := place (r := r) (l := l) hx0 hx1
      | obtain ⟨s, hs, rfl, rfl⟩ := place (r := r) (l := l) (hx0.trans (Nat.zero_add _).symm) hx1
    pointwise [dm, sg, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]

end tiles

variable (m : (ℓ : Loc nD τ sig) → Buf (Elt Ideal) ℓ) (c : Dev nD)

theorem lt_N (t : Fin cfg0.N) : t.val < 8 := lt_of_lt_of_eq t.isLt (show cfg0.N = 8 from N_0)

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = t.val / 4 ∧ win0_1.index t (1 : Fin 2) = 0 :=
  (by decide +kernel : ∀ t : Fin grid0.N, _)
theorem idx2 : ∀ t : Fin cfg0.N, win0_2.index t (0 : Fin 2) = t.val % 4 ∧ win0_2.index t (1 : Fin 2) = 0 :=
  (by decide +kernel : ∀ t : Fin grid0.N, _)
theorem idx3 : ∀ t : Fin cfg0.N, win0_3.index t (0 : Fin 2) = t.val % 4 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 7 + t.val % 4 :=
  (by decide +kernel : ∀ t : Fin grid0.N, _)
theorem idx5 : ∀ t : Fin cfg0.N, win0_5.index t (0 : Fin 2) = t.val / 4 ∧ win0_5.index t (1 : Fin 2) = 11 + t.val % 4 :=
  (by decide +kernel : ∀ t : Fin grid0.N, _)
theorem idx6 : ∀ t : Fin cfg0.N, win0_6.index t (0 : Fin 2) = t.val / 4 ∧ win0_6.index t (1 : Fin 2) = t.val % 4 :=
  (by decide +kernel : ∀ t : Fin grid0.N, _)
theorem idx7 : ∀ t : Fin cfg0.N, win0_7.index t (0 : Fin 2) = t.val / 4 ∧ win0_7.index t (1 : Fin 2) = t.val % 4 :=
  (by decide +kernel : ∀ t : Fin grid0.N, _)
theorem idx8 : ∀ t : Fin cfg0.N, win0_8.index t (0 : Fin 2) = t.val / 4 ∧ win0_8.index t (1 : Fin 2) = t.val % 4 :=
  (by decide +kernel : ∀ t : Fin grid0.N, _)
theorem V_v0 : V m c main_v0 = (truncf (s := S2048x1024) (φ := .f32) .bf16 (m ((c : Thread nD τ).loc main_arg0)) bitsLt_bf16_f32 : FVec Ideal S2048x1024 .bf16) := by
  show StableHlo.after hostOps0 _ (Proc.devRef .tc main_v0) = _
  after_results
  try rfl
theorem V_v1 : V m c main_v1 = (truncf (s := S2048x1024) (φ := .f32) .bf16 (m ((c : Thread nD τ).loc main_arg1)) bitsLt_bf16_f32 : FVec Ideal S2048x1024 .bf16) := by
  show StableHlo.after hostOps0 _ (Proc.devRef .tc main_v1) = _
  after_results
  try rfl
theorem V_v3 : V m c main_v3 = (truncf (s := S2048x1024) (φ := .f32) .bf16 (transpose S2048x1024 [1, 0] (m ((c : Thread nD τ).loc main_arg2)) transposes_S1024x2048_S2048x1024_1_0) bitsLt_bf16_f32 : FVec Ideal S2048x1024 .bf16) := by
  show StableHlo.after hostOps0 _ (Proc.devRef .tc main_v3) = _
  after_results
  try rfl
theorem V_v5 : V m c main_v5 = (truncf (s := S2048x1024) (φ := .f32) .bf16 (transpose S2048x1024 [1, 0] (m ((c : Thread nD τ).loc main_arg3)) transposes_S1024x2048_S2048x1024_1_0) bitsLt_bf16_f32 : FVec Ideal S2048x1024 .bf16) := by
  show StableHlo.after hostOps0 _ (Proc.devRef .tc main_v5) = _
  after_results
  try rfl

section blocks
variable (t : Fin cfg0.N) (r : Fin 1024) (l : Fin 512)

/-- The row of the whole array that row `r` of point `t`'s blocks holds. -/
def row : Fin 2048 := ⟨1024 * (t.val / 4) + r.val, by have := lt_N t; omega⟩
/-- The column of the whole array that column `l` of point `t`'s blocks holds. -/
def col : Fin 2048 := ⟨512 * (t.val % 4) + l.val, by omega⟩

/-- The first product's block. -/
theorem dma : dm (iblk m c 0 t : Vec Ideal S1024x1024 .bf16) (iblk m c 2 t : Vec Ideal S512x1024 .bf16) r l
    = nn (m ((c : Thread nD τ).loc main_arg0)) (m ((c : Thread nD τ).loc main_arg2)) (ix2 (row t r) (col t l)) := by
  unfold dm nn
  have h0 := idx0 t
  have h1 := idx2 t
  have ht := lt_N t
  refine Finset.sum_congr rfl fun k _ => congrArg₂ (fun a b : EReal => a * b) ?_ ?_
  · have e : iblk m c 0 t (ix2 r k) = V m c main_v0 (ix2 (row t r) k) := by
      blk_ext [iblk, row, h0]
    rw [e, V_v0]
    pointwise
  · have e : iblk m c 2 t (ix2 l k) = V m c main_v3 (ix2 (col t l) k) := by
      blk_ext [iblk, col, h1]
    rw [e, V_v3]
    pointwise

/-- The second product's block. -/
theorem dmb : dm (iblk m c 1 t : Vec Ideal S1024x1024 .bf16) (iblk m c 3 t : Vec Ideal S512x1024 .bf16) r l
    = nn (m ((c : Thread nD τ).loc main_arg1)) (m ((c : Thread nD τ).loc main_arg3)) (ix2 (row t r) (col t l)) := by
  unfold dm nn
  have h0 := idx1 t
  have h1 := idx3 t
  have ht := lt_N t
  refine Finset.sum_congr rfl fun k _ => congrArg₂ (fun a b : EReal => a * b) ?_ ?_
  · have e : iblk m c 1 t (ix2 r k) = V m c main_v1 (ix2 (row t r) k) := by
      blk_ext [iblk, row, h0]
    rw [e, V_v1]
    pointwise
  · have e : iblk m c 3 t (ix2 l k) = V m c main_v5 (ix2 (col t l) k) := by
      blk_ext [iblk, col, h1]
    rw [e, V_v5]
    pointwise

/-- The column of the projection where the first gate's argument for column `l` lies. -/
def left (l : Fin 2048) : Fin 7680 := ⟨3584 + l.val, by omega⟩
/-- The column of the projection where the second gate's argument for column `l` lies. -/
def right (l : Fin 2048) : Fin 7680 := ⟨3584 + (2048 + l.val), by omega⟩

theorem blk4 : iblk m c 4 t (ix2 r l) = m ((c : Thread nD τ).loc main_arg4) (ix2 (row t r) (left (col t l))) := by
  have h := idx4 t
  have e : iblk m c 4 t (ix2 r l) = V m c main_arg4 (ix2 (row t r) (left (col t l))) := by
    blk_ext [iblk, row, col, left, h]
  rw [e, V_main_arg4]

theorem blk5 : iblk m c 5 t (ix2 r l) = m ((c : Thread nD τ).loc main_arg4) (ix2 (row t r) (right (col t l))) := by
  have h := idx5 t
  have e : iblk m c 5 t (ix2 r l) = V m c main_arg4 (ix2 (row t r) (right (col t l))) := by
    blk_ext [iblk, row, col, right, h]
  rw [e, V_main_arg4]

end blocks

/-- The merge of the branches by the gates. -/
def G (a b : (Shape.mk 2 ![2048, 1024]).Idx → EReal) (u v : (Shape.mk 2 ![1024, 2048]).Idx → EReal)
    (p : (Shape.mk 2 ![2048, 7680]).Idx → EReal) (y : (Shape.mk 2 ![2048, 2048]).Idx) : EReal :=
  sg (p (ix2 (y 0 : Fin 2048) (left (y 1 : Fin 2048)))) * nn a u y + sg (p (ix2 (y 0 : Fin 2048) (right (y 1 : Fin 2048)))) * nn b v y

theorem out6 (t : Fin cfg0.N) (r : Fin 1024) (l : Fin 512) : out0_6 (iblk m c 0 t) (iblk m c 1 t) (iblk m c 2 t) (iblk m c 3 t) (iblk m c 4 t) (iblk m c 5 t) (ix2 r l)
    = nn (m ((c : Thread nD τ).loc main_arg0)) (m ((c : Thread nD τ).loc main_arg2)) (ix2 (row t r) (col t l)) := by
  refine (tile6 _ _ _ _ _ _ _ _).trans ?_
  exact dma m c t r l
theorem arr6 : (dats m 0 c).arrAt 6 cfg0.N = nn (m ((c : Thread nD τ).loc main_arg0)) (m ((c : Thread nD τ).loc main_arg2)) := by
  refine (dats m 0 c).arrAt_eq_of_covers 6 _ (by decide +kernel) fun t hf y => ?_
  blk_simp
  rw [after0_6]
  have h := idx6 t
  have e0 : (((cfg0.win 6).blk t).view.emb y 0 : Fin 2048) = row t (y 0) := Fin.ext (by simp [row, h, mul_comm])
  have e1 : (((cfg0.win 6).blk t).view.emb y 1 : Fin 2048) = col t (y 1) := Fin.ext (by simp [col, h, mul_comm])
  have hy : y = ix2 (y 0 : Fin 1024) (y 1 : Fin 512) := eq_ix2 y
  refine (congrArg (out0_6 _ _ _ _ _ _) hy).trans ((out6 m c t (y 0) (y 1)).trans (congrArg _ ?_))
  exact (congrArg₂ ix2 e0.symm e1.symm).trans (eq_ix2 (show S2048x2048.Idx from ((cfg0.win 6).blk t).view.emb y)).symm

theorem out7 (t : Fin cfg0.N) (r : Fin 1024) (l : Fin 512) : out0_7 (iblk m c 0 t) (iblk m c 1 t) (iblk m c 2 t) (iblk m c 3 t) (iblk m c 4 t) (iblk m c 5 t) (ix2 r l)
    = nn (m ((c : Thread nD τ).loc main_arg1)) (m ((c : Thread nD τ).loc main_arg3)) (ix2 (row t r) (col t l)) := by
  refine (tile7 _ _ _ _ _ _ _ _).trans ?_
  exact dmb m c t r l
theorem arr7 : (dats m 0 c).arrAt 7 cfg0.N = nn (m ((c : Thread nD τ).loc main_arg1)) (m ((c : Thread nD τ).loc main_arg3)) := by
  refine (dats m 0 c).arrAt_eq_of_covers 7 _ (by decide +kernel) fun t hf y => ?_
  blk_simp
  rw [after0_7]
  have h := idx7 t
  have e0 : (((cfg0.win 7).blk t).view.emb y 0 : Fin 2048) = row t (y 0) := Fin.ext (by simp [row, h, mul_comm])
  have e1 : (((cfg0.win 7).blk t).view.emb y 1 : Fin 2048) = col t (y 1) := Fin.ext (by simp [col, h, mul_comm])
  have hy : y = ix2 (y 0 : Fin 1024) (y 1 : Fin 512) := eq_ix2 y
  refine (congrArg (out0_7 _ _ _ _ _ _) hy).trans ((out7 m c t (y 0) (y 1)).trans (congrArg _ ?_))
  exact (congrArg₂ ix2 e0.symm e1.symm).trans (eq_ix2 (show S2048x2048.Idx from ((cfg0.win 7).blk t).view.emb y)).symm

theorem out8 (t : Fin cfg0.N) (r : Fin 1024) (l : Fin 512) : out0_8 (iblk m c 0 t) (iblk m c 1 t) (iblk m c 2 t) (iblk m c 3 t) (iblk m c 4 t) (iblk m c 5 t) (ix2 r l)
    = G (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) (col t l)) := by
  refine (tile8 _ _ _ _ _ _ _ _).trans ?_
  rw [dma, dmb, blk4, blk5]
  rfl
theorem arr8 : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  have h := idx8 t
  have e0 : (((cfg0.win 8).blk t).view.emb y 0 : Fin 2048) = row t (y 0) := Fin.ext (by simp [row, h, mul_comm])
  have e1 : (((cfg0.win 8).blk t).view.emb y 1 : Fin 2048) = col t (y 1) := Fin.ext (by simp [col, h, mul_comm])
  have hy : y = ix2 (y 0 : Fin 1024) (y 1 : Fin 512) := eq_ix2 y
  refine (congrArg (out0_8 _ _ _ _ _ _) hy).trans ((out8 m c t (y 0) (y 1)).trans (congrArg _ ?_))
  exact (congrArg₂ ix2 e0.symm e1.symm).trans (eq_ix2 (show S2048x2048.Idx from ((cfg0.win 8).blk t).view.emb y)).symm

/-- The kernel terminates, keeps its arguments and leaves every semaphore at zero. -/
theorem frame_p : Cert.quiescent_Kernel16 := fun m ρ _ => Cert.Kernel16.Gen.frame m ρ
/-- The same of the idealized kernel. -/
theorem frame_pi : Cert.quiescent_Kernel16Ideal := fun m ρ _ => Cert.Kernel16Ideal.Gen.frame m ρ
/-- The same of the idealized reference. -/
theorem frame_ri : Cert.quiescent_Reference16Ideal := fun m ρ _ =>
  (θ_run Cert.Reference16Ideal.defs _ _).mono (fun r h => ⟨fun c => (h c).2.2.2,
      Idealize.ShloMosaic.sem_eq_zero_of_no_sems (by decide) r.2⟩)
    (Cert.Reference16Ideal.Value.run (F := Ideal) m ρ)

/-- From arguments that agree, the kernel and the reference end with the same three results. -/
theorem algebraic : Cert.algebraic_Kernel16Ideal_Reference16Ideal := by
  intro m ρ m' ρ' _ hag
  refine ⟨fun c => nn (m ((c.tc : Thread nD τ).loc main_arg0)) (m ((c.tc : Thread nD τ).loc main_arg2)),
    fun c => nn (m ((c.tc : Thread nD τ).loc main_arg1)) (m ((c.tc : Thread nD τ).loc main_arg3)),
    fun c => G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun r h c => ?_) (Cert.Kernel16Ideal.Value.run_blocks (F := Ideal) m ρ),
    (θ_run _ _ _).mono (fun r h c => ?_) (Cert.Reference16Ideal.Value.run (F := Ideal) m' ρ')⟩
  · obtain ⟨h0, h1, h2, hk⟩ := h c
    exact ⟨h0.trans (arr6 m c), h1.trans (arr7 m c), h2.trans (arr8 m c), hk⟩
  · obtain ⟨h0, h1, h2, hk⟩ := h c
    obtain ⟨a0, a1, a2, a3, a4⟩ := hag c
    refine ⟨h0.trans ?_, h1.trans ?_, h2.trans ?_, hk⟩
    · rw [a0, a2]
      clear h0 h1 h2 hk a0 a1 a2 a3 a4 hag h
      funext y
      rw [eq_ix2 y]
      clean_types
      pointwise
      rfl
    · rw [a1, a3]
      clear h0 h1 h2 hk a0 a1 a2 a3 a4 hag h
      funext y
      rw [eq_ix2 y]
      clean_types
      pointwise
      rfl
    · rw [a0, a1, a2, a3, a4]
      clear h0 h1 h2 hk a0 a1 a2 a3 a4 hag h
      funext y
      rw [eq_ix2 y]
      clean_types
      unfold G nn
      pointwise
      simp only [sg_neg]
      rfl

end Cert.Branches
-- ==== Proof.Mm.DownProj.lean ====
/- The product with w_down, added to the residual: what the call leaves, and that the reference leaves the same. -/
module

public import proofs.«01_k».proof.Defs
public import proofs.«01_k».proof.Proof.Mm.Common
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.DownProj

open Cert.Common Cert.Kernel17Ideal Cert.Kernel17Ideal.Gen Cert.Kernel17Ideal.Value Idealize.ShloMosaic Idealize.ShloMosaic.TcCoe Idealize.SL.Sem

/-- The residual and the product. -/
def G (a : (Shape.mk 2 ![2048, 5632]).Idx → EReal) (b : (Shape.mk 2 ![5632, 2048]).Idx → EReal) (x : (Shape.mk 2 ![2048, 2048]).Idx → EReal)
    (y : (Shape.mk 2 ![2048, 2048]).Idx) : EReal :=
  x y + nn a b y

/-- The share of stretch `j`, of 2816 places, in row `R` and column `S` of `a` times `b`. -/
def share (a : (Shape.mk 2 ![2048, 5632]).Idx → EReal) (b : (Shape.mk 2 ![5632, 2048]).Idx → EReal) (R S : Fin 2048)
    (j : ℕ) (h : 2816 * j + 2816 ≤ 5632) : EReal :=
  ∑ k : Fin 2816, a (ix2 R (⟨2816 * j + k.val, by omega⟩ : Fin 5632)) * b (ix2 (⟨2816 * j + k.val, by omega⟩ : Fin 5632) S)

theorem share_congr {a : (Shape.mk 2 ![2048, 5632]).Idx → EReal} {b : (Shape.mk 2 ![5632, 2048]).Idx → EReal} {R R' S S' : Fin 2048}
    {j j' : ℕ} {h : 2816 * j + 2816 ≤ 5632} {h' : 2816 * j' + 2816 ≤ 5632} (hR : R.val = R'.val) (hS : S.val = S'.val)
    (hj : j = j') : share a b R S j h = share a b R' S' j' h' := by
  subst hj
  rw [Fin.ext hR, Fin.ext hS]

/-- The product summed in two stretches. -/
theorem nn_two (a : (Shape.mk 2 ![2048, 5632]).Idx → EReal) (b : (Shape.mk 2 ![5632, 2048]).Idx → EReal)
    (y : (Shape.mk 2 ![2048, 2048]).Idx) :
    nn a b y = share a b (y 0 : Fin 2048) (y 1 : Fin 2048) 0 (by omega) + share a b (y 0 : Fin 2048) (y 1 : Fin 2048) 1 (by omega) := by
  unfold nn share
  refine (sum_split (n := 2) (T := 2816) fun k => a (ix2 (y 0 : Fin 2048) k) * b (ix2 k (y 1 : Fin 2048))).trans ?_
  rw [Fin.sum_univ_two]
  refine congrArg₂ (fun p q : EReal => p + q) (Finset.sum_congr rfl fun k _ => ?_) (Finset.sum_congr rfl fun k _ => ?_) <;>
    exact congrArg₂ (fun p q : EReal => p * q) (congrArg a (ix2_ext rfl (by simp [finProdFinEquiv] <;> omega)))
      (congrArg b (ix2_ext (by simp [finProdFinEquiv] <;> omega) rfl))

variable (m : (ℓ : Loc nD τ sig) → Buf (Elt Ideal) ℓ) (c : Dev nD)

theorem lt_N (t : Fin cfg0.N) : t.val < 8 := lt_of_lt_of_eq t.isLt (show cfg0.N = 8 from N_0)

theorem idx0 : ∀ t : Fin cfg0.N, win0_0.index t (0 : Fin 2) = t.val / 4 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = t.val / 2 % 2 :=
  (by decide +kernel : ∀ t : Fin grid0.N, _)
theorem idx2 : ∀ t : Fin cfg0.N, win0_2.index t (0 : Fin 2) = t.val / 4 ∧ win0_2.index t (1 : Fin 2) = t.val / 2 % 2 :=
  (by decide +kernel : ∀ t : Fin grid0.N, _)
theorem idx3 : ∀ t : Fin cfg0.N, win0_3.index t (0 : Fin 2) = t.val / 4 ∧ win0_3.index t (1 : Fin 2) = t.val / 2 % 2 :=
  (by decide +kernel : ∀ t : Fin grid0.N, _)
theorem flush3 : ∀ t : Fin cfg0.N, (cfg0.win 3).flush t = true → t.val % 2 = 1 :=
  (by decide +kernel : ∀ t : Fin grid0.N, win0_3.flush t = true → t.val % 2 = 1)

theorem V_v0 : V m c main_v0 = (truncf (s := S2048x5632) (φ := .f32) .bf16 (m ((c : Thread nD τ).loc main_arg0)) bitsLt_bf16_f32 : FVec Ideal S2048x5632 .bf16) := by
  show StableHlo.after hostOps0 _ (Proc.devRef .tc main_v0) = _
  after_results
  try rfl
theorem V_v1 : V m c main_v1 = (truncf (s := S5632x2048) (φ := .f32) .bf16 (m ((c : Thread nD τ).loc main_arg1)) bitsLt_bf16_f32 : FVec Ideal S5632x2048 .bf16) := by
  show StableHlo.after hostOps0 _ (Proc.devRef .tc main_v1) = _
  after_results
  try rfl
theorem V_arg2 : V m c main_arg2 = m ((c : Thread nD τ).loc main_arg2) := by
  show StableHlo.after hostOps0 _ (Proc.devRef .tc main_arg2) = _
  after_results
  try rfl

/-- What point `t` adds at place `y` of its tile. -/
def add (t : Fin cfg0.N) (y : S1024x1024.Idx) : EReal :=
  have y0 : (y 0).val < 1024 := (y 0).isLt
  have y1 : (y 1).val < 1024 := (y 1).isLt
  have ht := lt_N t
  share (m ((c : Thread nD τ).loc main_arg0)) (m ((c : Thread nD τ).loc main_arg1))
    (⟨1024 * (t.val / 4) + (y 0).val, by omega⟩ : Fin 2048) (⟨1024 * (t.val / 2 % 2) + (y 1).val, by omega⟩ : Fin 2048)
    (t.val % 2) (by omega)

/-- The product of the two blocks of point `t`. -/
theorem pay (t : Fin cfg0.N) (y : S1024x1024.Idx) : k0_pay1 (F := Ideal) (iblk m c 0 t) (iblk m c 1 t) y = add m c t y := by
  have h0 := idx0 t
  have h1 := idx1 t
  have ht := lt_N t
  have y0 : (y 0).val < 1024 := (y 0).isLt
  have y1 : (y 1).val < 1024 := (y 1).isLt
  unfold k0_pay1 add share
  pointwise
  change @Eq EReal _ _
  refine Finset.sum_congr rfl fun k _ => congrArg₂ (fun a b : EReal => a * b) ?_ ?_
  · have e : iblk m c 0 t (ix2 (y 0) k) = V m c main_v0 (ix2 (⟨1024 * (t.val / 4) + (y 0).val, by omega⟩ : Fin 2048) (⟨2816 * (t.val % 2) + k.val, by omega⟩ : Fin 5632)) := by
      blk_ext [iblk, h0]
    rw [e, V_v0]
    pointwise
  · have e : iblk m c 1 t (ix2 k (y 1)) = V m c main_v1 (ix2 (⟨2816 * (t.val % 2) + k.val, by omega⟩ : Fin 5632) (⟨1024 * (t.val / 2 % 2) + (y 1).val, by omega⟩ : Fin 2048)) := by
      blk_ext [iblk, h1]
    rw [e, V_v1]
    pointwise

theorem first (t : Fin cfg0.N) (h : t.val % 2 = 0) (y : S1024x1024.Idx) : (outsAt0 m c t.val t.isLt).2 y = add m c t y := by
  rw [outsAt0_A m c t h (by omega)]
  frame_open
  simp (disch := decide) only [↓ View.readCov_skip, ↓ View.readCov_cons_toLoadRect, ↓ View.readCov_fill]
  frame_out
  unfold k0_pay2
  rw [← pay]
  pointwise

/-- The residual's block. -/
theorem blk2 (t : Fin cfg0.N) (y : S1024x1024.Idx) (h0 : 1024 * (t.val / 4) + (y 0).val < 2048)
    (h1 : 1024 * (t.val / 2 % 2) + (y 1).val < 2048) :
    iblk m c 2 t y = m ((c : Thread nD τ).loc main_arg2) (ix2 (⟨1024 * (t.val / 4) + (y 0).val, h0⟩ : Fin 2048) (⟨1024 * (t.val / 2 % 2) + (y 1).val, h1⟩ : Fin 2048)) := by
  have h2 := idx2 t
  have e : iblk m c 2 t y = V m c main_arg2 (ix2 (⟨1024 * (t.val / 4) + (y 0).val, h0⟩ : Fin 2048) (⟨1024 * (t.val / 2 % 2) + (y 1).val, h1⟩ : Fin 2048)) := by
    blk_ext [iblk, h2]
  rw [e, V_arg2]

theorem last (t : Fin cfg0.N) (h : t.val % 2 = 1) (y : S1024x1024.Idx) :
    (outsAt0 m c t.val t.isLt).1 y = (outsAt0 m c (t.val - 1) (Nat.lt_of_le_of_lt (Nat.sub_le _ _) t.isLt)).2 y + add m c t y + iblk m c 2 t y := by
  rw [outsAt0_B m c t (by omega) (by omega)]
  frame_open
  simp (disch := decide) only [↓ View.readCov_skip, ↓ View.readCov_cons_toLoadRect, ↓ View.readCov_fill]
  frame_out
  simp only [read_unread_whole]
  unfold k0_pay4
  rw [← pay]
  pointwise

/-- The call's result. -/
theorem arr : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hm := flush3 t hf
  have h3 := idx3 t
  have ht := lt_N t
  have hN : cfg0.N = 8 := N_0
  have y0 : (y 0).val < 1024 := (y 0).isLt
  have y1 : (y 1).val < 1024 := (y 1).isLt
  unfold G
  rw [nn_two]
  refine (last m c t hm y).trans ?_
  rw [first m c ⟨t.val - 1, by omega⟩ (by show (t.val - 1) % 2 = 0; omega) y, blk2 m c t y (by omega) (by omega), add_comm (G := EReal)]
  unfold add
  refine congrArg₂ (fun a b : EReal => a + b) ?_ (congrArg₂ (fun a b : EReal => a + b) ?_ ?_)
  · blk_ext [h3]
  all_goals
    refine share_congr ?_ ?_ ?_ <;> first | omega | (simp [h3] <;> omega)

/-- The kernel terminates, keeps its arguments and leaves every semaphore at zero. -/
theorem frame_p : Cert.quiescent_Kernel17 := fun m ρ _ => Cert.Kernel17.Gen.frame m ρ
/-- The same of the idealized kernel. -/
theorem frame_pi : Cert.quiescent_Kernel17Ideal := fun m ρ _ => Cert.Kernel17Ideal.Gen.frame m ρ
/-- The same of the idealized reference. -/
theorem frame_ri : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

/-- From arguments that agree, the kernel and the reference end with the same result. -/
theorem algebraic : Cert.algebraic_Kernel17Ideal_Reference17Ideal := by
  intro m ρ m' ρ' _ hag
  refine ⟨fun c => G (m ((c.tc : Thread nD τ).loc main_arg0)) (m ((c.tc : Thread nD τ).loc main_arg1)) (m ((c.tc : Thread nD τ).loc main_arg2)),
    (θ_run _ _ _).mono (fun r h c => ?_) (Cert.Kernel17Ideal.Value.run_blocks (F := Ideal) m ρ),
    (θ_run _ _ _).mono (fun r h c => ?_) (Cert.Reference17Ideal.Value.run (F := Ideal) m' ρ')⟩
  · obtain ⟨h0, hk⟩ := h c
    exact ⟨h0.trans (arr m c), hk⟩
  · obtain ⟨h0, hk⟩ := h c
    obtain ⟨a0, a1, a2⟩ := hag c
    refine ⟨h0.trans ?_, hk⟩
    rw [a0, a1, a2]
    clear h0 hk a0 a1 a2 hag h
    funext y
    rw [eq_ix2 y]
    clean_types
    pointwise
    rfl

end Cert.DownProj
-- ==== Proof.Mm.SguFwd.lean ====
/- The spatial gating unit forward: what the call leaves, and that the reference leaves the same. -/
module

public import proofs.«01_k».proof.Defs
public import proofs.«01_k».proof.Proof.Mm.Common
public import proofs.«01_k».proof.Proof.Sgu.Stages
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ReadBack
public import Idealize.ShloMosaic.Lib.Pipeline.ValueKit
public import Idealize.ShloMosaic.Lib.Pointwise
public import Idealize.ShloMosaic.Lib.WordCmp
public import Idealize.ShloMosaic.Lib.Tactic.CleanTypes
public import Idealize.ShloMosaic.Adequacy
public import Idealize.ShloMosaic.Init

@[expose] public section

set_option maxRecDepth 16384

noncomputable section

namespace Cert.SguFwd

open Cert.Common Cert.Kernel18Ideal Cert.Kernel18Ideal.Gen Cert.Kernel18Ideal.Value Idealize.ShloMosaic Idealize.ShloMosaic.TcCoe Idealize.SL.Sem
open Cert.Sgu (Tile bc kS kVn kXh kRow kCen kMean kRs kSpread kBias kW kTri bc_at kSpread_at kTri_at)

/-- GELU with the hyperbolic tangent. -/
def ga (x : EReal) : EReal :=
  Ideal.ofBits .f32 0x3F000000#32 * x * (Ideal.ofBits .f32 0x3F800000#32 + Ideal.tanh (Ideal.ofBits .f32 0x3F4C422A#32 * (x + Ideal.ofBits .f32 0x3D372713#32 * x * x * x)))
/-- The same with the products in the reference's order. -/
theorem ga_ref (x : EReal) : x * (Ideal.ofBits .f32 0x3F000000#32 * (1 + Ideal.tanh (Ideal.ofBits .f32 0x3F4C422A#32 * (x + Ideal.ofBits .f32 0x3D372713#32 * (x * x * x))))) = ga x := by
  unfold ga
  rw [Cert.Sgu.ofBits_one, EReal.coe_one, ← mul_assoc x, mul_comm x, ← mul_assoc (Ideal.ofBits .f32 0x3D372713#32), ← mul_assoc (Ideal.ofBits .f32 0x3D372713#32)]
/-- The mean of a row of one group. -/
def mean (a : Fin 128 → EReal) : EReal := Ideal.div (∑ k, a k) (Ideal.ofBits .f32 0x43000000#32)
/-- The reciprocal root of the guarded variance of a row of one group. -/
def rst (a : Fin 128 → EReal) : EReal :=
  Ideal.rsqrt (Ideal.div (∑ k, (a k - mean a) * (a k - mean a)) (Ideal.ofBits .f32 0x43000000#32) + Ideal.ofBits .f32 0x358637BD#32)
/-- The layer norm of a row of one group. -/
def nrm (a g b : Fin 128 → EReal) (l : Fin 128) : EReal := (a l - mean a) * rst a * g l + b l
/-- The gated entry: GELU of the left half times the mixed rows of the normalised right half. -/
def val (u : EReal) (v : Fin 128 → Fin 128 → EReal) (g b w : Fin 128 → EReal) (c : EReal) (i l : Fin 128) : EReal :=
  ga u * ((∑ k : Fin 128, (if k ≤ i then w k else 0) * nrm (fun j => ga (v k j)) g b l) + c)

/-- GELU of a tile. -/
def act (x : Tile) : Tile :=
  mulf (mulf (bc 0x3F000000#32) x) (addf (bc 0x3F800000#32) (tanh (mulf (bc 0x3F4C422A#32) (addf x (mulf (mulf (mulf (bc 0x3D372713#32) x) x) x)))))

/-- One group of one chunk. -/
def grp (q : BitVec 32) (u v : Tile) (g b : Vec Ideal S1x128 .f32) (w : Vec Ideal S1x128x128 .f32) (c : Vec Ideal S128x8 .f32) : FVec Ideal S128x128 .bf16 :=
  truncf .bf16 (mulf (act u) (kS (act v) g b w q c)) bitsLt_bf16_f32

theorem act_at (x : Tile) (r l : Fin 128) : act x (ix2 r l) = ga (x (ix2 r l)) := by
  unfold act ga
  pointwise [bc_at]
theorem mean_at (x : Tile) (r : Fin 128) : kMean x (ix2 r (0 : Fin 1)) = mean fun k => x (ix2 r k) := by
  unfold mean
  pointwise [kMean]
theorem cen_at (x : Tile) (r l : Fin 128) : kCen x (ix2 r l) = x (ix2 r l) - mean fun k => x (ix2 r k) := by
  pointwise [kCen, kSpread_at, mean_at]
theorem rs_at (x : Tile) (r : Fin 128) : kRs x (ix2 r (0 : Fin 1)) = rst fun k => x (ix2 r k) := by
  have hm := mean_at (mulf (kCen x) (kCen x)) r
  unfold rst
  pointwise [kRs, hm]
  unfold mean
  pointwise [cen_at]
  rfl
theorem vn_at (x : Tile) (g b : Vec Ideal S1x128 .f32) (r l : Fin 128) :
    kVn x g b (ix2 r l) = nrm (fun k => x (ix2 r k)) (fun k => g (ix2 0 k)) (fun k => b (ix2 0 k)) l := by
  unfold nrm
  pointwise [kVn, kXh, kSpread_at, rs_at, cen_at, kRow]
theorem w_at (w : Vec Ideal S1x128x128 .f32) (r l : Fin 128) : kW w (ix2 r l) = if l ≤ r then w (ix3 0 r l) else 0 := by
  pointwise [kW, kTri_at, bc_at]
  split_ifs <;> rfl
theorem bias_at (c : Vec Ideal S128x8 .f32) (q : Fin 8) (r : Fin 128) : kBias (BitVec.ofNat 32 q.val) c (ix2 r (0 : Fin 1)) = c (ix2 r q) := by
  pointwise [kBias]
  rw [Finset.sum_eq_single q]
  · rw [WordCmp.cmpi_eq_ofNat (by omega) (by omega)]; simp; rfl
  · intro k _ hk
    rw [WordCmp.cmpi_eq_ofNat (by omega) (by omega), decide_eq_false (fun h => hk (Fin.ext h))]; rfl
  · intro h; exact absurd (Finset.mem_univ q) h
theorem grp_at (q : Fin 8) (u v : Tile) (g b : Vec Ideal S1x128 .f32) (w : Vec Ideal S1x128x128 .f32) (c : Vec Ideal S128x8 .f32) (i l : Fin 128) :
    grp (BitVec.ofNat 32 q.val) u v g b w c (ix2 i l)
      = val (u (ix2 i l)) (fun k j => v (ix2 k j)) (fun j => g (ix2 0 j)) (fun j => b (ix2 0 j)) (fun k => w (ix3 0 i k)) (c (ix2 i q)) i l := by
  unfold grp kS val
  pointwise [act_at, kSpread_at, bias_at, vn_at, w_at]

theorem piece0 (a : BitVec 32) (u v : Vec Ideal S128x128 .f32) (g b : Vec Ideal S1x128 .f32) (w : Vec Ideal S1x128x128 .f32) (c : Vec Ideal S128x8 .f32) :
    k0_pay4 (F := Ideal) a (iota .tc S128x8 32 [1] iota_S128x8_d1_w32) (k0_pay2 v g b) k0_pay3 w c u = grp (Scalar.addi (Scalar.muli a 4#32) 0#32) u v g b w c := rfl
theorem piece1 (a : BitVec 32) (u v : Vec Ideal S128x128 .f32) (g b : Vec Ideal S1x128 .f32) (w : Vec Ideal S1x128x128 .f32) (c : Vec Ideal S128x8 .f32) :
    k0_pay8 (F := Ideal) (iota .tc S128x8 32 [1] iota_S128x8_d1_w32) (k0_pay6 v k0_pay5 g b) (k0_pay7 (iota .tc S128x128 32 [0] iota_S128x128_d0_w32) (iota .tc S128x128 32 [1] iota_S128x128_d1_w32) w) (Scalar.muli a 4#32) c u
      = grp (Scalar.addi (Scalar.muli a 4#32) 1#32) u v g b w c := rfl
theorem piece2 (a : BitVec 32) (u v : Vec Ideal S128x128 .f32) (g b : Vec Ideal S1x128 .f32) (w : Vec Ideal S1x128x128 .f32) (c : Vec Ideal S128x8 .f32) :
    k0_pay16 (F := Ideal) (k0_pay11 (k0_pay9 v) (k0_pay10 v) g b) (k0_pay12 (iota .tc S128x128 32 [0] iota_S128x128_d0_w32) (iota .tc S128x128 32 [1] iota_S128x128_d1_w32) w) (k0_pay13 a (iota .tc S128x8 32 [1] iota_S128x8_d1_w32)) (k0_pay14 c) (k0_pay15 (F := Ideal)) u
      = grp (Scalar.addi (Scalar.muli a 4#32) 2#32) u v g b w c := rfl
theorem piece3 (a : BitVec 32) (u v : Vec Ideal S128x128 .f32) (g b : Vec Ideal S1x128 .f32) (w : Vec Ideal S1x128x128 .f32) (c : Vec Ideal S128x8 .f32) :
    k0_pay1 (F := Ideal) (k0_pay20 a (iota .tc S128x128 32 [0] iota_S128x128_d0_w32) (iota .tc S128x128 32 [1] iota_S128x128_d1_w32) (iota .tc S128x8 32 [1] iota_S128x8_d1_w32) (k0_pay17 v) (k0_pay18 v) (k0_pay19 (F := Ideal)) g b w c) u
      = grp (Scalar.addi (Scalar.muli a 4#32) 3#32) u v g b w c := rfl

/-- The gated entry at row `i` of chunk `n` and lane `l` of group `q`. -/
def G0 (P : (Shape.mk 2 ![2048, 7680]).Idx → EReal) (g b : (Shape.mk 1 ![1024]).Idx → EReal) (W : (Shape.mk 3 ![8, 128, 128]).Idx → EReal) (C : (Shape.mk 2 ![8, 128]).Idx → EReal)
    (n : Fin 16) (q : Fin 8) (i l : Fin 128) : EReal :=
  val (P (ix2 (⟨128 * n.val + i.val, by omega⟩ : Fin 2048) (⟨1536 + 128 * q.val + l.val, by omega⟩ : Fin 7680)))
    (fun k j => P (ix2 (⟨128 * n.val + k.val, by omega⟩ : Fin 2048) (⟨2560 + 128 * q.val + j.val, by omega⟩ : Fin 7680)))
    (fun j => g (ix1 (⟨128 * q.val + j.val, by omega⟩ : Fin 1024))) (fun j => b (ix1 (⟨128 * q.val + j.val, by omega⟩ : Fin 1024)))
    (fun k => W (ix3 q i k)) (C (ix2 q i)) i l
/-- The gated entry at a row and a column of the whole array. -/
def G1 (P : (Shape.mk 2 ![2048, 7680]).Idx → EReal) (g b : (Shape.mk 1 ![1024]).Idx → EReal) (W : (Shape.mk 3 ![8, 128, 128]).Idx → EReal) (C : (Shape.mk 2 ![8, 128]).Idx → EReal)
    (R : Fin 2048) (L : Fin 1024) : EReal :=
  G0 P g b W C ⟨R.val / 128, by omega⟩ ⟨L.val / 128, by omega⟩ ⟨R.val % 128, Nat.mod_lt _ (by decide)⟩ ⟨L.val % 128, Nat.mod_lt _ (by decide)⟩
/-- The gated unit over the whole array. -/
def G (P : (Shape.mk 2 ![2048, 7680]).Idx → EReal) (g b : (Shape.mk 1 ![1024]).Idx → EReal) (W : (Shape.mk 3 ![8, 128, 128]).Idx → EReal) (C : (Shape.mk 2 ![8, 128]).Idx → EReal)
    (y : (Shape.mk 2 ![2048, 1024]).Idx) : EReal := G1 P g b W C (y 0) (y 1)

theorem G_at (P : (Shape.mk 2 ![2048, 7680]).Idx → EReal) (g b : (Shape.mk 1 ![1024]).Idx → EReal) (W : (Shape.mk 3 ![8, 128, 128]).Idx → EReal) (C : (Shape.mk 2 ![8, 128]).Idx → EReal)
    (n : Fin 16) (q : Fin 8) (i l : Fin 128) (R : Fin 2048) (L : Fin 1024) (hR : R.val = 128 * n.val + i.val) (hL : L.val = 128 * q.val + l.val) :
    G P g b W C (ix2 R L) = G0 P g b W C n q i l := by
  have e1 : (⟨R.val / 128, by omega⟩ : Fin 16) = n := Fin.ext (by show R.val / 128 = _; omega)
  have e2 : (⟨L.val / 128, by omega⟩ : Fin 8) = q := Fin.ext (by show L.val / 128 = _; omega)
  have e3 : (⟨R.val % 128, Nat.mod_lt _ (by decide)⟩ : Fin 128) = i := Fin.ext (by show R.val % 128 = _; omega)
  have e4 : (⟨L.val % 128, Nat.mod_lt _ (by decide)⟩ : Fin 128) = l := Fin.ext (by show L.val % 128 = _; omega)
  show G1 P g b W C R L = _
  unfold G1
  rw [e1, e2, e3, e4]

/-- What the reference leaves at row `R` and column `L`, as its operations give it, is the gated entry. -/
theorem ref_at (P : (Shape.mk 2 ![2048, 7680]).Idx → EReal) (g b : (Shape.mk 1 ![1024]).Idx → EReal) (W : (Shape.mk 3 ![8, 128, 128]).Idx → EReal) (C : (Shape.mk 2 ![8, 128]).Idx → EReal) (R : Fin 2048) (L : Fin 1024) :
    ga (P (ix2 R (⟨1536 + L.val, by omega⟩ : Fin 7680))) *
      ((∑ x : Fin 128, Scalar.select (Scalar.select (IntOp.cmpi CmpIPredicate.sge (IntOp.addi (BitVec.ofNat 32 (R.val % 128)) 0#32) (BitVec.ofNat 32 x.val)) 1#1 0#1)
        (((ga (P (ix2 (⟨R.val / 128 * 128 + x.val, by omega⟩ : Fin 2048) (⟨1536 + (1024 + L.val), by omega⟩ : Fin 7680)))
              - mean fun j => ga (P (ix2 (⟨R.val / 128 * 128 + x.val, by omega⟩ : Fin 2048) (⟨1536 + (1024 + (L.val / 128 * 128 + j.val)), by omega⟩ : Fin 7680))))
            * (rst fun j => ga (P (ix2 (⟨R.val / 128 * 128 + x.val, by omega⟩ : Fin 2048) (⟨1536 + (1024 + (L.val / 128 * 128 + j.val)), by omega⟩ : Fin 7680))))
            * g (ix1 L) + b (ix1 L)) * W (ix3 (⟨L.val / 128, by omega⟩ : Fin 8) (⟨R.val % 128, by omega⟩ : Fin 128) x)) 0)
        + C (ix2 (⟨L.val / 128, by omega⟩ : Fin 8) (⟨R.val % 128, by omega⟩ : Fin 128)))
      = G P g b W C (ix2 R L) := by
  have hv : ∀ (x j : Fin 128) (h1 : R.val / 128 * 128 + x.val < 2048) (h2 : 1536 + (1024 + (L.val / 128 * 128 + j.val)) < 7680),
      P (ix2 (⟨R.val / 128 * 128 + x.val, h1⟩ : Fin 2048) (⟨1536 + (1024 + (L.val / 128 * 128 + j.val)), h2⟩ : Fin 7680))
        = P (ix2 (⟨128 * (R.val / 128) + x.val, by omega⟩ : Fin 2048) (⟨2560 + 128 * (L.val / 128) + j.val, by omega⟩ : Fin 7680)) :=
    fun x j h1 h2 => congrArg P (ix2_ext (by dsimp only; omega) (by dsimp only; omega))
  have hc : ∀ (x : Fin 128) (h1 : R.val / 128 * 128 + x.val < 2048) (h2 : 1536 + (1024 + L.val) < 7680),
      P (ix2 (⟨R.val / 128 * 128 + x.val, h1⟩ : Fin 2048) (⟨1536 + (1024 + L.val), h2⟩ : Fin 7680))
        = P (ix2 (⟨128 * (R.val / 128) + x.val, by omega⟩ : Fin 2048) (⟨2560 + 128 * (L.val / 128) + L.val % 128, by omega⟩ : Fin 7680)) :=
    fun x h1 h2 => congrArg P (ix2_ext (by dsimp only; omega) (by dsimp only; omega))
  have hu : P (ix2 R (⟨1536 + L.val, by omega⟩ : Fin 7680))
      = P (ix2 (⟨128 * (R.val / 128) + R.val % 128, by omega⟩ : Fin 2048) (⟨1536 + 128 * (L.val / 128) + L.val % 128, by omega⟩ : Fin 7680)) :=
    congrArg P (ix2_ext (by dsimp only; omega) (by dsimp only; omega))
  have hL : L = (⟨128 * (L.val / 128) + L.val % 128, by omega⟩ : Fin 1024) := Fin.ext (by dsimp only; omega)
  have hg : g (ix1 L) = g (ix1 (⟨128 * (L.val / 128) + L.val % 128, by omega⟩ : Fin 1024)) := congrArg (fun l : Fin 1024 => g (ix1 l)) hL
  have hb : b (ix1 L) = b (ix1 (⟨128 * (L.val / 128) + L.val % 128, by omega⟩ : Fin 1024)) := congrArg (fun l : Fin 1024 => b (ix1 l)) hL
  simp only [hv, hc, hu, hg, hb]
  show _ = G1 P g b W C R L
  unfold G1 G0 val
  refine congrArg _ (congrArg (· + _) (Finset.sum_congr rfl fun x _ => ?_))
  rw [show IntOp.addi (BitVec.ofNat 32 (R.val % 128)) 0#32 = BitVec.ofNat 32 (R.val % 128) from BitVec.add_zero _,
    WordCmp.cmpi_sge_ofNat (by omega) (by omega)]
  by_cases h : x ≤ (⟨R.val % 128, Nat.mod_lt _ (by decide)⟩ : Fin 128)
  · rw [if_pos h, decide_eq_true (Fin.le_def.mp h)]
    exact mul_comm _ _
  · rw [if_neg h, decide_eq_false (fun h' => h (Fin.le_def.mpr h')), zero_mul]
    rfl

variable (m : (ℓ : Loc nD τ sig) → Buf (Elt Ideal) ℓ) (c : Dev nD)

theorem lt_N (t : Fin cfg0.N) : t.val < 32 := lt_of_lt_of_eq t.isLt (show cfg0.N = 32 from N_0)

theorem idx0 : ∀ t : Fin cfg0.N, win0_0.index t (0 : Fin 2) = t.val % 16 ∧ win0_0.index t (1 : Fin 2) = 3 + t.val / 16 :=
  (by decide +kernel : ∀ t : Fin grid0.N, _)
theorem idx1 : ∀ t : Fin cfg0.N, win0_1.index t (0 : Fin 2) = t.val % 16 ∧ win0_1.index t (1 : Fin 2) = 5 + t.val / 16 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)
theorem idx3 : ∀ t : Fin cfg0.N, win0_3.index t (0 : Fin 2) = 0 ∧ win0_3.index t (1 : Fin 2) = t.val / 16 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = t.val / 16 :=
  (by decide +kernel : ∀ t : Fin grid0.N, _)
theorem coord : ∀ t : Fin cfg0.N, ((grid0.coords t 0 : Fin _) : ℕ) = t.val / 16 :=
  (by decide +kernel : ∀ t : Fin grid0.N, _)

theorem V_v0 : V m c main_v0 = (broadcastInDim S1x1024 ![1] bcast_S1024_S1x1024_1 (m ((c : Thread nD τ).loc main_arg1)) : FVec Ideal S1x1024 .f32) := by
  show StableHlo.after hostOps0 _ (Proc.devRef .tc main_v0) = _
  after_results
  try rfl
theorem V_v1 : V m c main_v1 = (broadcastInDim S1x1024 ![1] bcast_S1024_S1x1024_1 (m ((c : Thread nD τ).loc main_arg2)) : FVec Ideal S1x1024 .f32) := by
  show StableHlo.after hostOps0 _ (Proc.devRef .tc main_v1) = _
  after_results
  try rfl
theorem V_v2 : V m c main_v2 = (transpose S128x8 [1, 0] (m ((c : Thread nD τ).loc main_arg4)) transposes_S8x128_S128x8_1_0 : FVec Ideal S128x8 .f32) := by
  show StableHlo.after hostOps0 _ (Proc.devRef .tc main_v2) = _
  after_results
  try rfl

/-- The chunk of a point. -/
def chunk (t : Fin cfg0.N) : Fin 16 := ⟨t.val % 16, by omega⟩
/-- Group `k` of a point's half. -/
def group (t : Fin cfg0.N) (k : Fin 4) : Fin 8 := ⟨4 * (t.val / 16) + k.val, by have := lt_N t; omega⟩

/-- The word by which the kernel names a group. -/
theorem word (t : Fin cfg0.N) (k : Fin 4) :
    Scalar.addi (Scalar.muli (BitVec.ofNat 32 ((grid0.coords t 0 : Fin _) : ℕ)) 4#32) (BitVec.ofNat 32 k.val) = BitVec.ofNat 32 (group t k).val := by
  have ht := lt_N t
  unfold group
  rw [coord t]
  have h : t.val / 16 = 0 ∨ t.val / 16 = 1 := by omega
  rcases h with h | h <;> simp only [h] <;> fin_cases k <;> rfl

section Loads
variable (t : Fin cfg0.N) (k : Fin 4)

theorem ld0 (inb) (r l : Fin 128) :
    View.ld (iblk m c 0 t) (Rect.unit ![0, 128 * k.val] ![128, 128] inb) (ix2 r l)
      = m ((c : Thread nD τ).loc main_arg0) (ix2 (⟨128 * (chunk t).val + r.val, by omega⟩ : Fin 2048) (⟨1536 + 128 * (group t k).val + l.val, by omega⟩ : Fin 7680)) := by
  have hx := idx0 t
  rw [View.ld_unit_apply_of _ _ _ _ _ (ix2 r (⟨128 * k.val + l.val, by omega⟩ : Fin 512)) (fun a => by fin_cases a <;> simp)]
  blk_ext [iblk, V_main_arg0, hx, chunk, group]

theorem ld1 (inb) (r l : Fin 128) :
    View.ld (iblk m c 1 t) (Rect.unit ![0, 128 * k.val] ![128, 128] inb) (ix2 r l)
      = m ((c : Thread nD τ).loc main_arg0) (ix2 (⟨128 * (chunk t).val + r.val, by omega⟩ : Fin 2048) (⟨2560 + 128 * (group t k).val + l.val, by omega⟩ : Fin 7680)) := by
  have hx := idx1 t
  rw [View.ld_unit_apply_of _ _ _ _ _ (ix2 r (⟨128 * k.val + l.val, by omega⟩ : Fin 512)) (fun a => by fin_cases a <;> simp)]
  blk_ext [iblk, V_main_arg0, hx, chunk, group]

theorem ld2 (inb) (l : Fin 128) :
    View.ld (iblk m c 2 t) (Rect.unit ![0, 128 * k.val] ![1, 128] inb) (ix2 (0 : Fin 1) l) = m ((c : Thread nD τ).loc main_arg1) (ix1 (⟨128 * (group t k).val + l.val, by omega⟩ : Fin 1024)) := by
  have hx := idx2 t
  rw [View.ld_unit_apply_of _ _ _ _ _ (ix2 (0 : Fin 1) (⟨128 * k.val + l.val, by omega⟩ : Fin 512)) (fun a => by fin_cases a <;> simp)]
  have e : iblk m c 2 t (ix2 (0 : Fin 1) (⟨128 * k.val + l.val, by omega⟩ : Fin 512)) = V m c main_v0 (ix2 (0 : Fin 1) (⟨128 * (group t k).val + l.val, by omega⟩ : Fin 1024)) := by
    blk_ext [iblk, hx, group]
  rw [e, V_v0]
  pointwise

theorem ld3 (inb) (l : Fin 128) :
    View.ld (iblk m c 3 t) (Rect.unit ![0, 128 * k.val] ![1, 128] inb) (ix2 (0 : Fin 1) l) = m ((c : Thread nD τ).loc main_arg2) (ix1 (⟨128 * (group t k).val + l.val, by omega⟩ : Fin 1024)) := by
  have hx := idx3 t
  rw [View.ld_unit_apply_of _ _ _ _ _ (ix2 (0 : Fin 1) (⟨128 * k.val + l.val, by omega⟩ : Fin 512)) (fun a => by fin_cases a <;> simp)]
  have e : iblk m c 3 t (ix2 (0 : Fin 1) (⟨128 * k.val + l.val, by omega⟩ : Fin 512)) = V m c main_v1 (ix2 (0 : Fin 1) (⟨128 * (group t k).val + l.val, by omega⟩ : Fin 1024)) := by
    blk_ext [iblk, hx, group]
  rw [e, V_v1]
  pointwise

theorem ld4 (inb) (r l : Fin 128) :
    View.ld (iblk m c 4 t) (Rect.unit ![k.val, 0, 0] ![1, 128, 128] inb) (ix3 (0 : Fin 1) r l) = m ((c : Thread nD τ).loc main_arg3) (ix3 (group t k) r l) := by
  have hx := idx4 t
  rw [View.ld_unit_apply_of _ _ _ _ _ (ix3 k r l) (fun a => by fin_cases a <;> simp)]
  blk_ext [iblk, V_main_arg3, hx, group]

theorem ld5 (inb) (r : Fin 128) (q : Fin 8) :
    View.ld (iblk m c 5 t) (Rect.unit ![0, 0] ![128, 8] inb) (ix2 r q) = m ((c : Thread nD τ).loc main_arg4) (ix2 q r) := by
  have hx := idx5 t
  rw [View.ld_unit_apply_of _ _ _ _ _ (ix2 r q) (fun a => by fin_cases a <;> simp)]
  have e : iblk m c 5 t (ix2 r q) = V m c main_v2 (ix2 r q) := by
    blk_ext [iblk, hx]
  rw [e, V_v2]
  pointwise

/-- One group of a point's blocks. -/
theorem grp_blk (i0 i1 i2 i3 i4 i5) (i l : Fin 128) :
    grp (Scalar.addi (Scalar.muli (BitVec.ofNat 32 ((grid0.coords t 0 : Fin _) : ℕ)) 4#32) (BitVec.ofNat 32 k.val))
        (View.ld (iblk m c 0 t) (Rect.unit ![0, 128 * k.val] ![128, 128] i0)) (View.ld (iblk m c 1 t) (Rect.unit ![0, 128 * k.val] ![128, 128] i1))
        (View.ld (iblk m c 2 t) (Rect.unit ![0, 128 * k.val] ![1, 128] i2)) (View.ld (iblk m c 3 t) (Rect.unit ![0, 128 * k.val] ![1, 128] i3))
        (View.ld (iblk m c 4 t) (Rect.unit ![k.val, 0, 0] ![1, 128, 128] i4)) (View.ld (iblk m c 5 t) (Rect.unit ![0, 0] ![128, 8] i5)) (ix2 i l)
      = G0 (m ((c : Thread nD τ).loc main_arg0)) (m ((c : Thread nD τ).loc main_arg1)) (m ((c : Thread nD τ).loc main_arg2)) (m ((c : Thread nD τ).loc main_arg3)) (m ((c : Thread nD τ).loc main_arg4)) (chunk t) (group t k) i l := by
  rw [word, grp_at]
  unfold G0
  simp only [ld0, ld1, ld2, ld3, ld4, ld5]

end Loads

/-- Where a place of one group's tile lies in the whole block. -/
theorem place {R : ℕ} {x : S128x128.Idx} {r : Fin 128} {l : Fin 512} (h0 : r.val = (x 0).val) (h1 : l.val = R + (x 1).val) :
    ∃ (s : Fin 128) (h : R + s.val < 512), l = ⟨R + s.val, h⟩ ∧ x = ix2 r s := by
  refine ⟨x 1, lt_of_eq_of_lt h1.symm l.isLt, Fin.ext h1, funext fun a => Fin.ext ?_⟩
  fin_cases a
  · exact h0.symm
  · rfl

/-- What point `t` leaves in the result's block. -/
theorem tile (t : Fin cfg0.N) (r : Fin 128) (l : Fin 512) :
    out0_6 (grid0.coords t) (iblk m c 0 t) (iblk m c 1 t) (iblk m c 2 t) (iblk m c 3 t) (iblk m c 4 t) (iblk m c 5 t) (ix2 r l)
      = G (m ((c : Thread nD τ).loc main_arg0)) (m ((c : Thread nD τ).loc main_arg1)) (m ((c : Thread nD τ).loc main_arg2)) (m ((c : Thread nD τ).loc main_arg3)) (m ((c : Thread nD τ).loc main_arg4))
          (ix2 (⟨128 * (t.val % 16) + r.val, by omega⟩ : Fin 2048) (⟨512 * (t.val / 16) + l.val, by have := lt_N t; omega⟩ : Fin 1024)) := by
  unfold out0_6
  canon_tiles x h
  case piece0 =>
    obtain ⟨s, hs, rfl, rfl⟩ := place (r := r) (l := l) h0 h1
    refine (congrFun (piece3 _ _ _ _ _ _ _) _).trans ((grp_blk m c t 3 _ _ _ _ _ _ r s).trans (G_at _ _ _ _ _ _ _ _ _ _ _ rfl ?_).symm)
    show 512 * (t.val / 16) + (384 + s.val) = 128 * (4 * (t.val / 16) + 3) + s.val
    omega
  case piece1 =>
    obtain ⟨s, hs, rfl, rfl⟩ := place (r := r) (l := l) h0 h1
    refine (congrFun (piece2 _ _ _ _ _ _ _) _).trans ((grp_blk m c t 2 _ _ _ _ _ _ r s).trans (G_at _ _ _ _ _ _ _ _ _ _ _ rfl ?_).symm)
    show 512 * (t.val / 16) + (256 + s.val) = 128 * (4 * (t.val / 16) + 2) + s.val
    omega
  case piece2 =>
    obtain ⟨s, hs, rfl, rfl⟩ := place (r := r) (l := l) h0 h1
    refine (congrFun (piece1 _ _ _ _ _ _ _) _).trans ((grp_blk m c t 1 _ _ _ _ _ _ r s).trans (G_at _ _ _ _ _ _ _ _ _ _ _ rfl ?_).symm)
    show 512 * (t.val / 16) + (128 + s.val) = 128 * (4 * (t.val / 16) + 1) + s.val
    omega
  case piece3 =>
    obtain ⟨s, hs, rfl, rfl⟩ := place (r := r) (l := l) h0 (h1.trans (Nat.zero_add _).symm)
    refine (congrFun (piece0 _ _ _ _ _ _ _) _).trans ((grp_blk m c t 0 _ _ _ _ _ _ r s).trans (G_at _ _ _ _ _ _ _ _ _ _ _ rfl ?_).symm)
    show 512 * (t.val / 16) + (0 + s.val) = 128 * (4 * (t.val / 16) + 0) + s.val
    omega

/-- The call's result. -/
theorem arr : (dats m 0 c).arrAt 6 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have h := idx6 t
  have e0 : (((cfg0.win 6).blk t).view.emb y 0 : Fin 2048) = (⟨128 * (t.val % 16) + (y 0 : Fin 128).val, by have : (y 0).val < 128 := (y 0).isLt; omega⟩ : Fin 2048) := Fin.ext (by simp [h, mul_comm])
  have e1 : (((cfg0.win 6).blk t).view.emb y 1 : Fin 1024) = (⟨512 * (t.val / 16) + (y 1 : Fin 512).val, by have := lt_N t; have : (y 1).val < 512 := (y 1).isLt; omega⟩ : Fin 1024) := Fin.ext (by simp [h, mul_comm])
  have hy : y = ix2 (y 0 : Fin 128) (y 1 : Fin 512) := eq_ix2 y
  refine (congrArg (out0_6 _ _ _ _ _ _ _) hy).trans ((tile m c t (y 0) (y 1)).trans (congrArg _ ?_))
  exact (congrArg₂ ix2 e0.symm e1.symm).trans (eq_ix2 (show S2048x1024.Idx from ((cfg0.win 6).blk t).view.emb y)).symm

/-- The kernel terminates, keeps its arguments and leaves every semaphore at zero. -/
theorem frame_p : Cert.quiescent_Kernel18 := fun m ρ _ => Cert.Kernel18.Gen.frame m ρ
/-- The same of the idealized kernel. -/
theorem frame_pi : Cert.quiescent_Kernel18Ideal := fun m ρ _ => Cert.Kernel18Ideal.Gen.frame m ρ
/-- The same of the idealized reference. -/
theorem frame_ri : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

/-- From arguments that agree, the kernel and the reference end with the same result. -/
theorem algebraic : Cert.algebraic_Kernel18Ideal_Reference18Ideal := by
  intro m ρ m' ρ' _ hag
  refine ⟨fun c => G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    (θ_run _ _ _).mono (fun r h c => ?_) (Cert.Kernel18Ideal.Value.run_blocks (F := Ideal) m ρ),
    (θ_run _ _ _).mono (fun r h c => ?_) (Cert.Reference18Ideal.Value.run (F := Ideal) m' ρ')⟩
  · obtain ⟨h0, hk⟩ := h c
    exact ⟨h0.trans (arr m c), hk⟩
  · obtain ⟨h0, hk⟩ := h c
    obtain ⟨a0, a1, a2, a3, a4⟩ := hag c
    refine ⟨h0.trans ?_, hk⟩
    unfold Cert.Reference18Ideal.Value.res_main_v59
    rw [a0, a1, a2, a3, a4]
    clear h0 hk a0 a1 a2 a3 a4 hag h
    funext y
    obtain ⟨R, L, rfl⟩ : ∃ (R : Fin 2048) (L : Fin 1024), y = ix2 R L := ⟨y 0, y 1, eq_ix2 y⟩
    clean_types
    pointwise
    simp only [ga_ref]
    exact ref_at _ _ _ _ _ R L

end Cert.SguFwd
-- ==== Proof.Mm.NormFwd.lean ====
/- An RMS norm: what the call leaves, and that the reference leaves the same. -/
module

public import proofs.«01_k».proof.Defs
public import proofs.«01_k».proof.Proof.Mm.Common
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.NormFwd

open Cert.Common Cert.Kernel19Ideal Cert.Kernel19Ideal.Gen Cert.Kernel19Ideal.Value Idealize.ShloMosaic Idealize.ShloMosaic.TcCoe Idealize.SL.Sem

/-- What the norm leaves at row `r`: the entry over the root mean square, times the gain. -/
def val {R : ℕ} (x : (Shape.mk 2 ![R, 2048]).Idx → EReal) (g : EReal) (r : Fin R) (l : Fin 2048) : EReal :=
  x (ix2 r l) * Ideal.rsqrt (Ideal.div (∑ k : Fin 2048, x (ix2 r k) * x (ix2 r k)) (Ideal.ofBits .f32 0x45000000#32) + Ideal.ofBits .f32 0x358637BD#32) * g

/-- One tile's result. -/
theorem tile (x : Vec Ideal S512x2048 .f32) (g : Vec Ideal S1x2048 .f32) (r : Fin 512) (l : Fin 2048) :
    out0_2 x g (ix2 r l) = val x (g (ix2 0 l)) r l := by
  frame_out
  unfold k0_pay1 val
  pointwise

/-- The norm of the whole array. -/
def G (x : (Shape.mk 2 ![2048, 2048]).Idx → EReal) (g : (Shape.mk 1 ![2048]).Idx → EReal) (y : (Shape.mk 2 ![2048, 2048]).Idx) : EReal :=
  val x (g (ix1 (y 1 : Fin 2048))) (y 0 : Fin 2048) (y 1 : Fin 2048)

variable (m : (ℓ : Loc nD τ sig) → Buf (Elt Ideal) ℓ) (c : Dev nD)

theorem lt_N (t : Fin cfg0.N) : t.val < 4 := lt_of_lt_of_eq t.isLt (show cfg0.N = 4 from N_0)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)

theorem V_v0 : V m c main_v0 = (broadcastInDim S1x2048 ![1] bcast_S2048_S1x2048_1 (m ((c : Thread nD τ).loc main_arg1)) : FVec Ideal S1x2048 .f32) := by
  show StableHlo.after hostOps0 _ (Proc.devRef .tc main_v0) = _
  after_results
  try rfl

/-- The row of the whole array that row `r` of point `t`'s blocks holds. -/
def row (t : Fin cfg0.N) (r : Fin 512) : Fin 2048 := ⟨512 * t.val + r.val, by have := lt_N t; omega⟩

theorem blk0 (t : Fin cfg0.N) (r : Fin 512) (l : Fin 2048) : iblk m c 0 t (ix2 r l) = m ((c : Thread nD τ).loc main_arg0) (ix2 (row t r) l) := by
  have h := idx0 t
  have e : iblk m c 0 t (ix2 r l) = V m c main_arg0 (ix2 (row t r) l) := by
    blk_ext [iblk, row, h]
  rw [e, V_main_arg0]
theorem blk1 (t : Fin cfg0.N) (l : Fin 2048) : iblk m c 1 t (ix2 0 l) = m ((c : Thread nD τ).loc main_arg1) (ix1 l) := by
  have h := idx1 t
  have e : iblk m c 1 t (ix2 0 l) = V m c main_v0 (ix2 0 l) := by
    blk_ext [iblk, h]
  rw [e, V_v0]
  pointwise

theorem out2 (t : Fin cfg0.N) (r : Fin 512) (l : Fin 2048) : out0_2 (iblk m c 0 t) (iblk m c 1 t) (ix2 r l) = G (m ((c : Thread nD τ).loc main_arg0)) (m ((c : Thread nD τ).loc main_arg1)) (ix2 (row t r) l) := by
  refine (tile _ _ _ _).trans ?_
  unfold val
  simp only [blk0, blk1]
  rfl

/-- The call's result. -/
theorem arr : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  have h := idx2 t
  have e0 : (((cfg0.win 2).blk t).view.emb y 0 : Fin 2048) = row t (y 0) := Fin.ext (by simp [row, h, mul_comm])
  have e1 : (((cfg0.win 2).blk t).view.emb y 1 : Fin 2048) = y 1 := Fin.ext (by simp [h])
  have hy : y = ix2 (y 0 : Fin 512) (y 1 : Fin 2048) := eq_ix2 y
  refine (congrArg (out0_2 _ _) hy).trans ((out2 m c t (y 0) (y 1)).trans (congrArg _ ?_))
  exact (congrArg₂ ix2 e0.symm e1.symm).trans (eq_ix2 (show S2048x2048.Idx from ((cfg0.win 2).blk t).view.emb y)).symm

/-- The kernel terminates, keeps its arguments and leaves every semaphore at zero. -/
theorem frame_p : Cert.quiescent_Kernel19 := fun m ρ _ => Cert.Kernel19.Gen.frame m ρ
/-- The same of the idealized kernel. -/
theorem frame_pi : Cert.quiescent_Kernel19Ideal := fun m ρ _ => Cert.Kernel19Ideal.Gen.frame m ρ
/-- The same of the idealized reference. -/
theorem frame_ri : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

/-- From arguments that agree, the kernel and the reference end with the same result. -/
theorem algebraic : Cert.algebraic_Kernel19Ideal_Reference19Ideal := by
  intro m ρ m' ρ' _ hag
  refine ⟨fun c => G (m ((c.tc : Thread nD τ).loc main_arg0)) (m ((c.tc : Thread nD τ).loc main_arg1)),
    (θ_run _ _ _).mono (fun r h c => ?_) (Cert.Kernel19Ideal.Value.run_blocks (F := Ideal) m ρ),
    (θ_run _ _ _).mono (fun r h c => ?_) (Cert.Reference19Ideal.Value.run (F := Ideal) m' ρ')⟩
  · obtain ⟨h0, hk⟩ := h c
    exact ⟨h0.trans (arr m c), hk⟩
  · obtain ⟨h0, hk⟩ := h c
    obtain ⟨a0, a1⟩ := hag c
    refine ⟨h0.trans ?_, hk⟩
    rw [a0, a1]
    clear h0 hk a0 a1 hag h
    funext y
    rw [eq_ix2 y]
    clean_types
    unfold G val
    pointwise

end Cert.NormFwd
-- ==== Proof.Mm.Loss.lean ====
/- The loss and its gradient: what the call leaves, and that the reference leaves the same. -/
module

public import proofs.«01_k».proof.Defs
public import proofs.«01_k».proof.Proof.Mm.Common
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.Loss

open Cert.Common Cert.Kernel20Ideal Cert.Kernel20Ideal.Gen Cert.Kernel20Ideal.Value Idealize.ShloMosaic Idealize.ShloMosaic.TcCoe Idealize.SL.Sem

/-- The gradient of the loss by one entry: the difference over the row's length. -/
def dv (y t : EReal) : EReal := (y - t) * Ideal.ofBits .f32 0x3A000000#32

/-- The squared differences of a run of rows, summed, halved and divided by the row's length. -/
def part {R : ℕ} (y t : (Shape.mk 2 ![R, 2048]).Idx → EReal) : EReal :=
  Ideal.ofBits .f32 0x3F000000#32 * (∑ r : Fin R, ∑ k : Fin 2048, (y (ix2 r k) - t (ix2 r k)) * (y (ix2 r k) - t (ix2 r k))) * Ideal.ofBits .f32 0x3A000000#32

theorem pay2 (y t : Vec Ideal S512x2048 .f32) (r : Fin 512) (l : Fin 2048) :
    k0_pay2 (F := Ideal) y t (ix2 r l) = dv (y (ix2 r l)) (t (ix2 r l)) := by
  unfold k0_pay2 dv
  pointwise [k0_pay1]
theorem pay3 (y t : Vec Ideal S512x2048 .f32) (r : Fin 512) (l : Fin 2048) :
    k0_pay3 (F := Ideal) y t (ix2 r l) = dv (y (ix2 r l)) (t (ix2 r l)) := by
  unfold k0_pay3 dv
  pointwise [k0_pay1]
theorem pay4 (y t : Vec Ideal S512x2048 .f32) (p : Fin 8) (l : Fin 128) :
    k0_pay4 (F := Ideal) y t (ix2 p l) = part y t := by
  unfold k0_pay4 part
  pointwise [k0_pay1]

variable (m : (ℓ : Loc nD τ sig) → Buf (Elt Ideal) ℓ) (c : Dev nD)

theorem lt_N (t : Fin cfg0.N) : t.val < 4 := lt_of_lt_of_eq t.isLt (show cfg0.N = 4 from N_0)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem flush2 : ∀ t : Fin cfg0.N, (cfg0.win 2).flush t = true → t.val = 3 :=
  (by decide +kernel : ∀ t : Fin grid0.N, win0_2.flush t = true → t.val = 3)

/-- The row of the whole array that row `r` of point `t`'s blocks holds. -/
def row (t : Fin cfg0.N) (r : Fin 512) : Fin 2048 := ⟨512 * t.val + r.val, by have := lt_N t; omega⟩

theorem blk0 (t : Fin cfg0.N) (r : Fin 512) (l : Fin 2048) : iblk m c 0 t (ix2 r l) = m ((c : Thread nD τ).loc main_arg0) (ix2 (row t r) l) := by
  have h := idx0 t
  have e : iblk m c 0 t (ix2 r l) = V m c main_arg0 (ix2 (row t r) l) := by
    blk_ext [iblk, row, h]
  rw [e, V_main_arg0]
theorem blk1 (t : Fin cfg0.N) (r : Fin 512) (l : Fin 2048) : iblk m c 1 t (ix2 r l) = m ((c : Thread nD τ).loc main_arg1) (ix2 (row t r) l) := by
  have h := idx1 t
  have e : iblk m c 1 t (ix2 r l) = V m c main_arg1 (ix2 (row t r) l) := by
    blk_ext [iblk, row, h]
  rw [e, V_main_arg1]

/-- The gradient of the whole array. -/
def Gd (y t : (Shape.mk 2 ![2048, 2048]).Idx → EReal) (i : (Shape.mk 2 ![2048, 2048]).Idx) : EReal := dv (y i) (t i)
/-- The loss, repeated over a tile. -/
def Gl (y t : (Shape.mk 2 ![2048, 2048]).Idx → EReal) (_ : (Shape.mk 2 ![8, 128]).Idx) : EReal := part y t

/-- What point `t` leaves in window 3. -/
theorem out3 (t : Fin cfg0.N) (r : Fin 512) (l : Fin 2048) :
    (outsAt0 m c t.val t.isLt).2.1 (ix2 r l) = Gd (m ((c : Thread nD τ).loc main_arg0)) (m ((c : Thread nD τ).loc main_arg1)) (ix2 (row t r) l) := by
  unfold Gd
  rw [← blk0 m c, ← blk1 m c, ← pay2]
  by_cases h : t.val % 4 = 0
  · rw [outsAt0_A m c t h (by have := lt_N t; omega)]
    frame_open
    frame_out
  · rw [outsAt0_B m c t h (by omega)]
    frame_open
    frame_out
/-- The call's second result. -/
theorem arr3 : (dats m 0 c).arrAt 3 cfg0.N = Gd (m ((c : Thread nD τ).loc main_arg0)) (m ((c : Thread nD τ).loc main_arg1)) := by
  refine (dats m 0 c).arrAt_eq_of_covers 3 _ (by decide +kernel) fun t hf y => ?_
  blk_simp
  rw [after0_3]
  have h := idx3 t
  have e0 : (((cfg0.win 3).blk t).view.emb y 0 : Fin 2048) = row t (y 0) := Fin.ext (by simp [row, h, mul_comm])
  have e1 : (((cfg0.win 3).blk t).view.emb y 1 : Fin 2048) = y 1 := Fin.ext (by simp [h])
  have hy : y = ix2 (y 0 : Fin 512) (y 1 : Fin 2048) := eq_ix2 y
  refine (congrArg ((outsAt0 m c t.val t.isLt).2.1) hy).trans ((out3 m c t (y 0) (y 1)).trans (congrArg _ ?_))
  exact (congrArg₂ ix2 e0.symm e1.symm).trans (eq_ix2 (show S2048x2048.Idx from ((cfg0.win 3).blk t).view.emb y)).symm

/-- What point `t` leaves in window 4. -/
theorem out4 (t : Fin cfg0.N) (r : Fin 512) (l : Fin 2048) :
    (outsAt0 m c t.val t.isLt).2.2 (ix2 r l) = Gd (m ((c : Thread nD τ).loc main_arg0)) (m ((c : Thread nD τ).loc main_arg1)) (ix2 (row t r) l) := by
  unfold Gd
  rw [← blk0 m c, ← blk1 m c, ← pay3]
  by_cases h : t.val % 4 = 0
  · rw [outsAt0_A m c t h (by have := lt_N t; omega)]
    frame_open
    frame_out
  · rw [outsAt0_B m c t h (by omega)]
    frame_open
    frame_out
/-- The call's third result. -/
theorem arr4 : (dats m 0 c).arrAt 4 cfg0.N = Gd (m ((c : Thread nD τ).loc main_arg0)) (m ((c : Thread nD τ).loc main_arg1)) := by
  refine (dats m 0 c).arrAt_eq_of_covers 4 _ (by decide +kernel) fun t hf y => ?_
  blk_simp
  rw [after0_4]
  have h := idx4 t
  have e0 : (((cfg0.win 4).blk t).view.emb y 0 : Fin 2048) = row t (y 0) := Fin.ext (by simp [row, h, mul_comm])
  have e1 : (((cfg0.win 4).blk t).view.emb y 1 : Fin 2048) = y 1 := Fin.ext (by simp [h])
  have hy : y = ix2 (y 0 : Fin 512) (y 1 : Fin 2048) := eq_ix2 y
  refine (congrArg ((outsAt0 m c t.val t.isLt).2.2) hy).trans ((out4 m c t (y 0) (y 1)).trans (congrArg _ ?_))
  exact (congrArg₂ ix2 e0.symm e1.symm).trans (eq_ix2 (show S2048x2048.Idx from ((cfg0.win 4).blk t).view.emb y)).symm

/-- The squared differences of row `r`, summed. -/
def sq (y t : (Shape.mk 2 ![2048, 2048]).Idx → EReal) (r : Fin 2048) : EReal :=
  ∑ k : Fin 2048, (y (ix2 r k) - t (ix2 r k)) * (y (ix2 r k) - t (ix2 r k))

/-- Block `n`'s share of the loss. -/
def term (n : ℕ) : EReal :=
  Ideal.ofBits .f32 0x3F000000#32 * (∑ r : Fin 512, if h : 512 * n + r.val < 2048 then sq (m ((c : Thread nD τ).loc main_arg0)) (m ((c : Thread nD τ).loc main_arg1)) (⟨512 * n + r.val, h⟩ : Fin 2048) else 0) * Ideal.ofBits .f32 0x3A000000#32

theorem pay (t : Fin cfg0.N) (p : Fin 8) (l : Fin 128) : k0_pay4 (F := Ideal) (iblk m c 0 t) (iblk m c 1 t) (ix2 p l) = term m c t.val := by
  rw [pay4]
  unfold term part sq
  refine congrArg (fun s => Ideal.ofBits .f32 0x3F000000#32 * s * Ideal.ofBits .f32 0x3A000000#32) (Finset.sum_congr rfl fun r _ => ?_)
  rw [dif_pos (by have := lt_N t; omega)]
  simp only [blk0, blk1]
  rfl

theorem first (t : Fin cfg0.N) (h : t.val = 0) (p : Fin 8) (l : Fin 128) : (outsAt0 m c t.val t.isLt).1 (ix2 p l) = term m c t.val := by
  rw [← pay m c t p l, outsAt0_A m c t (by omega) (by omega)]
  frame_open
  frame_out

theorem next (t : Fin cfg0.N) (h : 1 ≤ t.val) (p : Fin 8) (l : Fin 128) :
    (outsAt0 m c t.val t.isLt).1 (ix2 p l) = (outsAt0 m c (t.val - 1) (Nat.lt_of_le_of_lt (Nat.sub_le _ _) t.isLt)).1 (ix2 p l) + term m c t.val := by
  rw [← pay m c t p l, outsAt0_B m c t (by have := lt_N t; omega) h]
  frame_open
  frame_out
  unfold k0_pay5
  pointwise

/-- After point `n` the accumulator holds the shares of the first `n + 1` blocks. -/
theorem run (n : ℕ) (h : n < cfg0.N) (p : Fin 8) (l : Fin 128) :
    (outsAt0 m c n h).1 (ix2 p l) = ∑ i ∈ Finset.range (n + 1), term m c i := by
  induction n with
  | zero => rw [Finset.sum_range_one]; exact first m c ⟨0, h⟩ rfl p l
  | succ n ih =>
    rw [Finset.sum_range_succ, ← ih (Nat.lt_of_succ_lt h)]
    exact next m c ⟨n + 1, h⟩ (by show 1 ≤ n + 1; omega) p l

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_inv : Ideal.ofBits .f32 0x3A000000#32 = ((1 / 2048 : ℝ) : EReal) := by
  simp [Ideal.ofBits, Ideal.ieee, -EReal.coe_mul]; norm_num

/-- A nonnegative real factor may be taken out of a sum. -/
theorem mul_sum {K : ℕ} {a : ℝ} (ha : 0 ≤ a) (f : Fin K → EReal) : (a : EReal) * ∑ k, f k = ∑ k, (a : EReal) * f k := by
  induction K with
  | zero => simp
  | succ n ih => rw [Fin.sum_univ_succ, Fin.sum_univ_succ, EReal.left_distrib_of_nonneg_of_ne_top (by exact_mod_cast ha) (EReal.coe_ne_top a), ih]

/-- Halving and dividing by the row's length may be done to each summand. -/
theorem scale_sum {K : ℕ} (f : Fin K → EReal) :
    Ideal.ofBits .f32 0x3F000000#32 * (∑ k, f k) * Ideal.ofBits .f32 0x3A000000#32
      = ∑ k, Ideal.ofBits .f32 0x3F000000#32 * f k * Ideal.ofBits .f32 0x3A000000#32 := by
  rw [ofBits_half, ofBits_inv, mul_sum (by norm_num), mul_comm, mul_sum (by norm_num)]
  exact Finset.sum_congr rfl fun k _ => mul_comm _ _

/-- The shares of all four blocks are the loss. -/
theorem total : ∑ i ∈ Finset.range 4, term m c i = part (m ((c : Thread nD τ).loc main_arg0)) (m ((c : Thread nD τ).loc main_arg1)) := by
  rw [Finset.sum_range]
  unfold term part
  rw [← scale_sum]
  refine congrArg (fun s => Ideal.ofBits .f32 0x3F000000#32 * s * Ideal.ofBits .f32 0x3A000000#32) ?_
  refine Eq.trans ?_ (sum_split (n := 4) (T := 512) fun r : Fin 2048 => sq (m ((c : Thread nD τ).loc main_arg0)) (m ((c : Thread nD τ).loc main_arg1)) r).symm
  refine Finset.sum_congr rfl fun i _ => Finset.sum_congr rfl fun r _ => ?_
  rw [dif_pos (by omega)]
  exact congrArg (fun r : Fin 2048 => sq (m ((c : Thread nD τ).loc main_arg0)) (m ((c : Thread nD τ).loc main_arg1)) r) (Fin.ext (by simp [finProdFinEquiv] <;> omega))

/-- The call's first result. -/
theorem arr2 : (dats m 0 c).arrAt 2 cfg0.N = Gl (m ((c : Thread nD τ).loc main_arg0)) (m ((c : Thread nD τ).loc main_arg1)) := by
  refine (dats m 0 c).arrAt_eq_of_covers 2 _ (by decide +kernel) fun t hf y => ?_
  blk_simp
  rw [after0_2]
  have h3 := flush2 t hf
  have hy : y = ix2 (y 0 : Fin 8) (y 1 : Fin 128) := eq_ix2 y
  refine (congrArg ((outsAt0 m c t.val t.isLt).1) hy).trans ((run m c t.val t.isLt (y 0) (y 1)).trans ?_)
  rw [h3]
  exact total m c

/-- The reference's form of the gradient. -/
theorem dv_ref (y t : EReal) : Ideal.div (Ideal.ofBits .f32 0x3F000000#32 * Ideal.ofBits .f32 0x3F800000#32) (Ideal.ofBits .f32 0x45000000#32) * (Ideal.ofBits .f32 0x40000000#32 * (y - t)) = dv y t := by
  unfold dv
  rw [ofBits_half, ofBits_one, ofBits_two, ofBits_2048, ofBits_inv, ← EReal.coe_mul, Ideal.div_coe (by norm_num), ← EReal.coe_mul, ← mul_assoc, ← EReal.coe_mul, mul_comm]
  congr 2
  norm_num

/-- The reference's form of the loss. -/
theorem part_ref (y t : (Shape.mk 2 ![2048, 2048]).Idx → EReal) :
    Ideal.ofBits .f32 0x3F000000#32 * ∑ r : Fin 2048, Ideal.div (∑ k : Fin 2048, (y (ix2 r k) - t (ix2 r k)) * (y (ix2 r k) - t (ix2 r k))) (Ideal.ofBits .f32 0x45000000#32) = part y t := by
  unfold part
  rw [scale_sum, ofBits_half, mul_sum (by norm_num)]
  refine Finset.sum_congr rfl fun r _ => ?_
  rw [ofBits_2048, ofBits_inv, Ideal.div_coe (by norm_num), mul_assoc]

/-- The kernel terminates, keeps its arguments and leaves every semaphore at zero. -/
theorem frame_p : Cert.quiescent_Kernel20 := fun m ρ _ => Cert.Kernel20.Gen.frame m ρ
/-- The same of the idealized kernel. -/
theorem frame_pi : Cert.quiescent_Kernel20Ideal := fun m ρ _ => Cert.Kernel20Ideal.Gen.frame m ρ
/-- The same of the idealized reference. -/
theorem frame_ri : Cert.quiescent_Reference20Ideal := fun m ρ _ =>
  (θ_run Cert.Reference20Ideal.defs _ _).mono (fun r h => ⟨fun c => (h c).2.2.2,
      Idealize.ShloMosaic.sem_eq_zero_of_no_sems (by decide) r.2⟩)
    (Cert.Reference20Ideal.Value.run (F := Ideal) m ρ)

/-- From arguments that agree, the kernel and the reference end with the same results. -/
theorem algebraic : Cert.algebraic_Kernel20Ideal_Reference20Ideal := by
  intro m ρ m' ρ' _ hag
  refine ⟨fun c => Gl (m ((c.tc : Thread nD τ).loc main_arg0)) (m ((c.tc : Thread nD τ).loc main_arg1)),
    fun c => Gd (m ((c.tc : Thread nD τ).loc main_arg0)) (m ((c.tc : Thread nD τ).loc main_arg1)),
    fun c => Gd (m ((c.tc : Thread nD τ).loc main_arg0)) (m ((c.tc : Thread nD τ).loc main_arg1)),
    (θ_run _ _ _).mono (fun r h c => ?_) (Cert.Kernel20Ideal.Value.run_blocks (F := Ideal) m ρ),
    (θ_run _ _ _).mono (fun r h c => ?_) (Cert.Reference20Ideal.Value.run (F := Ideal) m' ρ')⟩
  · obtain ⟨h0, h1, h2, hk⟩ := h c
    exact ⟨h0.trans (arr2 m c), h1.trans (arr3 m c), h2.trans (arr4 m c), hk⟩
  · obtain ⟨h0, h1, h2, hk⟩ := h c
    obtain ⟨a0, a1⟩ := hag c
    refine ⟨h0.trans ?_, h1.trans ?_, h2.trans ?_, hk⟩
    · rw [a0, a1]
      clear h0 h1 h2 hk a0 a1 hag h
      funext y
      rw [eq_ix2 y]
      clean_types
      refine Eq.trans ?_ (part_ref (m ((c.tc : Thread nD τ).loc main_arg0)) (m ((c.tc : Thread nD τ).loc main_arg1)))
      pointwise
    · rw [a0, a1]
      clear h0 h1 h2 hk a0 a1 hag h
      funext y
      rw [eq_ix2 y]
      clean_types
      refine Eq.trans ?_ (dv_ref ((m ((c.tc : Thread nD τ).loc main_arg0)) (ix2 (y 0 : Fin 2048) (y 1 : Fin 2048))) ((m ((c.tc : Thread nD τ).loc main_arg1)) (ix2 (y 0 : Fin 2048) (y 1 : Fin 2048))))
      pointwise
    · rw [a0, a1]
      clear h0 h1 h2 hk a0 a1 hag h
      funext y
      rw [eq_ix2 y]
      clean_types
      refine Eq.trans ?_ (dv_ref ((m ((c.tc : Thread nD τ).loc main_arg0)) (ix2 (y 0 : Fin 2048) (y 1 : Fin 2048))) ((m ((c.tc : Thread nD τ).loc main_arg1)) (ix2 (y 0 : Fin 2048) (y 1 : Fin 2048))))
      pointwise

end Cert.Loss
-- ==== Proof.Mm.SmallAdam.lean ====
/- The summed gradient and Adam of the packed small weights: what the call leaves, and that the reference leaves the same. -/
module

public import proofs.«01_k».proof.Defs
public import proofs.«01_k».proof.Proof.Mm.Common
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.SmallAdam

open Cert.Common Cert.Kernel21Ideal Cert.Kernel21Ideal.Gen Cert.Kernel21Ideal.Value Idealize.ShloMosaic Idealize.ShloMosaic.TcCoe Idealize.SL.Sem

/-- The gradient, summed over the eight packed arrays. -/
theorem sum8 (g : Vec Ideal S8x2176x128 .f32) (w m v : Vec Ideal S2176x128 .f32) (r : Fin 2176) (l : Fin 128) :
    G4 g w m v (ix2 r l) = ∑ k : Fin 8, g (ix3 k r l) := by
  rw [Fin.sum_univ_eight, ← out4_eq]
  frame_out
  unfold k0_pay4
  pointwise

/-- The kernel terminates, keeps its arguments and leaves every semaphore at zero. -/
theorem frame_p : Cert.quiescent_Kernel21 := fun m ρ _ => Cert.Kernel21.Gen.frame m ρ
/-- The same of the idealized kernel. -/
theorem frame_pi : Cert.quiescent_Kernel21Ideal := fun m ρ _ => Cert.Kernel21Ideal.Gen.frame m ρ
/-- The same of the idealized reference. -/
theorem frame_ri : Cert.quiescent_Reference21Ideal := fun m ρ _ =>
  (θ_run Cert.Reference21Ideal.defs _ _).mono (fun r h => ⟨fun c => (h c).2.2.2.2,
      Idealize.ShloMosaic.sem_eq_zero_of_no_sems (by decide) r.2⟩)
    (Cert.Reference21Ideal.Value.run (F := Ideal) m ρ)

/-- From arguments that agree, the kernel and the reference end with the same results. -/
theorem algebraic : Cert.algebraic_Kernel21Ideal_Reference21Ideal := by
  intro m ρ m' ρ' _ hag
  refine ⟨fun c => G4 (m ((c.tc : Thread nD τ).loc main_arg0)) (m ((c.tc : Thread nD τ).loc main_arg1)) (m ((c.tc : Thread nD τ).loc main_arg2)) (m ((c.tc : Thread nD τ).loc main_arg3)),
    fun c => G5 (m ((c.tc : Thread nD τ).loc main_arg0)) (m ((c.tc : Thread nD τ).loc main_arg1)) (m ((c.tc : Thread nD τ).loc main_arg2)) (m ((c.tc : Thread nD τ).loc main_arg3)),
    fun c => G6 (m ((c.tc : Thread nD τ).loc main_arg0)) (m ((c.tc : Thread nD τ).loc main_arg1)) (m ((c.tc : Thread nD τ).loc main_arg2)) (m ((c.tc : Thread nD τ).loc main_arg3)),
    fun c => G7 (m ((c.tc : Thread nD τ).loc main_arg0)) (m ((c.tc : Thread nD τ).loc main_arg1)) (m ((c.tc : Thread nD τ).loc main_arg2)) (m ((c.tc : Thread nD τ).loc main_arg3)),
    Cert.Kernel21Ideal.Value.run (F := Ideal) m ρ,
    (θ_run _ _ _).mono (fun r h c => ?_) (Cert.Reference21Ideal.Value.run (F := Ideal) m' ρ')⟩
  obtain ⟨h0, h1, h2, h3, hk⟩ := h c
  obtain ⟨a0, a1, a2, a3⟩ := hag c
  have e : ∀ y, Host.reduceAdd (F := Ideal) (m ((c.tc : Thread nD τ).loc main_arg0)) (constant Cert.Reference21Ideal.S_ .f32 0x00000000#32) Cert.Reference21Ideal.Gen.reducesTo_S8x2176x128_S2176x128_d0 Cert.Reference21Ideal.Gen.h_S_ y = G4 (m ((c.tc : Thread nD τ).loc main_arg0)) (m ((c.tc : Thread nD τ).loc main_arg1)) (m ((c.tc : Thread nD τ).loc main_arg2)) (m ((c.tc : Thread nD τ).loc main_arg3)) y := by
    intro y
    rw [eq_ix2 y]
    refine Eq.trans ?_ (sum8 _ _ _ _ (y 0) (y 1)).symm
    pointwise
  refine ⟨h0.trans ?_, h1.trans ?_, h2.trans ?_, h3.trans ?_, hk⟩
  · rw [a0]
    funext y
    exact e y
  · rw [a0, a1, a2, a3]
    rw [funext e]
    rfl
  · rw [a0, a2]
    rw [funext e]
    rfl
  · rw [a0, a3]
    rw [funext e]
    rfl

end Cert.SmallAdam
-- ==== Proof.Mm.Word.lean ====
/- The words of a table: what a comparison with a bound gives of one, and the sum in which one of them picks a term. -/
module

public import proofs.«01_k».proof.Proof.Mm.Common
public import Idealize.ShloMosaic.Lib.Pointwise

@[expose] public section

noncomputable section

namespace Cert.Word

open Idealize.ShloMosaic

/-- A word that is not negative and lies below `n`, both read signed, is one of the first `n` numbers. -/
theorem of_bounds {n : ℕ} (hn : n < 2 ^ 31) (v : BitVec 32) (h0 : IntOp.cmpi .sge v 0#32 = 1#1)
    (h1 : IntOp.cmpi .slt v (BitVec.ofNat 32 n) = 1#1) : ∃ j : Fin n, v = BitVec.ofNat 32 j.val := by
  have one (p : Bool) : (BitVec.ofBool p = 1#1) ↔ p = true := by cases p <;> decide
  simp only [IntOp.cmpi, one, BitVec.sle_eq_decide, BitVec.slt_eq_decide, decide_eq_true_eq, BitVec.toInt_eq_toNat_cond,
    BitVec.toNat_ofNat, Nat.reducePow, Nat.reduceMod] at h0 h1
  rw [Nat.mod_eq_of_lt (show n < 4294967296 by omega)] at h1
  have h : v.toNat < n := by split at h1 <;> split at h1 <;> split at h0 <;> omega
  refine ⟨⟨v.toNat, h⟩, BitVec.eq_of_toNat_eq ?_⟩
  rw [BitVec.toNat_ofNat, Nat.mod_eq_of_lt v.isLt]

/-- Of `n` numbers, all but the `j`-th replaced by zero, the sum is the `j`-th. -/
theorem pick {n : ℕ} (hn : n < 2 ^ 31) (j : Fin n) {w : BitVec 32} (hw : w = BitVec.ofNat 32 j.val) (f : Fin n → EReal) :
    (∑ k : Fin n, if BitVec.ofNat 32 k.val = w then f k else 0) = f j := by
  subst hw
  refine (Finset.sum_eq_single j (fun k _ hk => if_neg fun e => hk (Fin.ext ?_)) (fun h => absurd (Finset.mem_univ _) h)).trans (if_pos rfl)
  have := congrArg BitVec.toNat e
  rw [BitVec.toNat_ofNat, BitVec.toNat_ofNat, Nat.mod_eq_of_lt (by omega), Nat.mod_eq_of_lt (by omega)] at this
  exact this

/-- A choice between a number and zero by whether two words agree. -/
theorem sel (u w : BitVec 32) (a : EReal) :
    Scalar.select (IntOp.cmpi .eq u w) a (id (constant (F := Ideal) (⟨0, ![]⟩ : Shape) .f32 0#32) ix0) = if u = w then a else 0 := by
  by_cases h : u = w
  · simp [Scalar.select, IntOp.cmpi, h]
  · simp [Scalar.select, IntOp.cmpi, h, constant, beq_false_of_ne h]

end Cert.Word
-- ==== Proof.Mm.AdamDown.lean ====
/- The optimiser's step on one device's rows of the weights of the feed-forward part's second product, in both layers: what the call leaves, and that the reference leaves the same. -/
module

public import proofs.«01_k».proof.Defs
public import proofs.«01_k».proof.Proof.Mm.Common
public import proofs.«01_k».proof.Proof.Mm.Word
public import proofs.«01_k».proof.Proof.Gen.Kernel22
public import proofs.«01_k».proof.Proof.Gen.Kernel22.Frame
public import proofs.«01_k».proof.Proof.Gen.Kernel22Ideal.Frame
public import proofs.«01_k».proof.Proof.Gen.Reference22Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.AdamDown

open Cert.Common Cert.Kernel22Ideal Cert.Kernel22Ideal.Gen Idealize.ShloMosaic Idealize.ShloMosaic.TcCoe Idealize.SL.Sem

/-- The shape relations the precondition takes. -/
instance preFacts : Cert.Pre_on_chip.Facts where
  bcast_S_S1 := by decide

section Tables
variable {F : FTy → Type} [FloatOps F]

set_option backward.proofsInPublic true in
/-- The table whose word is `j`. -/
def tab (j : Fin 4) : pre0.Contents (Elt F) := fun | ⟨0, _⟩ => fun _ => BitVec.ofNat 32 j.val | ⟨_ + 1, h⟩ => absurd h (by simp)

theorem tab_ok (j : Fin 4) : ok0 (F := F) (tab j) := ⟨fun i => ⟨(by decide +kernel : ∀ (j : Fin 4) (i : grid0.Coords) a, (cc0_transform_3 (F := Bits) inb_S1_S1_0 numel1_S1 (tab j) i a + 1) * S1x1x176x2048.size a ≤ S1x4x704x2048.size a) j i,
    .inr (Affine.block_words_dvd (of_decide_eq_true rfl) (by decide))⟩,
  fun i => ⟨(by decide +kernel : ∀ (j : Fin 4) (i : grid0.Coords) a, (cc0_transform_7 (F := Bits) inb_S1_S1_0 numel1_S1 (tab j) i a + 1) * S1x1x176x2048.size a ≤ S1x4x704x2048.size a) j i,
    .inr (Affine.block_words_dvd (of_decide_eq_true rfl) (by decide))⟩⟩

end Tables

variable (m : (ℓ : Loc nD τ sig) → Buf (Elt Ideal) ℓ)

/-- A table of one word has one place. -/
theorem one (x y : S1.Idx) : x = y := funext fun a => by
  obtain rfl : a = (0 : Fin 1) := Subsingleton.elim _ _
  exact Subsingleton.elim (α := Fin 1) (x 0) (y 0)

/-- The precondition says what the table holds. -/
theorem tbl_of_pre (h : Cert.Pre_Kernel22Ideal m) : ∃ j : Fin 4, tbl m = tab j := by
  have key : ∀ x : S1.Idx, ∃ j : Fin 4, tbl m 0 x = BitVec.ofNat 32 j.val := fun x => by
    have e0 := congrFun (h 0).1 x
    have e1 := congrFun (h 0).2 x
    simp only [Pre_on_chip.fn, cmpi, broadcastInDim, constantI] at e0 e1
    exact Cert.Word.of_bounds (by decide) _ e0 e1
  obtain ⟨j, hj⟩ := key fun a => ⟨0, by fin_cases a; decide⟩
  refine ⟨j, funext fun k => ?_⟩
  match k with
  | ⟨0, _⟩ => exact funext fun x => (congrArg (tbl m 0) (one x _)).trans hj

/-- Its block lies inside the array it is cut from. -/
theorem ok_of_pre (h : Cert.Pre_Kernel22Ideal m) : Ok m := by
  obtain ⟨j, hj⟩ := tbl_of_pre m h
  unfold Ok
  rw [hj]
  exact tab_ok j

/-- The same of the kernel before it is idealized. -/
theorem okB (m : (ℓ : Loc Cert.Kernel22.nD Cert.Kernel22.τ Cert.Kernel22.sig) → Buf (Elt Bits) ℓ) (h : Cert.Pre_Kernel22 m) : Cert.Kernel22.Gen.Ok m := by
  have key : ∀ x : S1.Idx, ∃ j : Fin 4, Cert.Kernel22.Gen.tbl m 0 x = BitVec.ofNat 32 j.val := fun x => by
    have e0 := congrFun (h 0).1 x
    have e1 := congrFun (h 0).2 x
    simp only [Pre_on_chip.fn, cmpi, broadcastInDim, constantI] at e0 e1
    exact Cert.Word.of_bounds (by decide) _ e0 e1
  obtain ⟨j, hj⟩ := key fun a => ⟨0, by fin_cases a; decide⟩
  have e : Cert.Kernel22.Gen.tbl m = tab (F := Bits) j := funext fun k => by
    match k with
    | ⟨0, _⟩ => exact funext fun x => (congrArg (Cert.Kernel22.Gen.tbl m 0) (one x _)).trans hj
  unfold Cert.Kernel22.Gen.Ok
  rw [e]
  exact tab_ok (F := Bits) j

variable (hO : Ok m) (c : Dev nD)

/-- Point `t`'s layer. -/
def lay (t : Fin grid0.N) : Fin 2 := ⟨t.val / 4, by have := t.isLt; have : grid0.N = 8 := (by decide); omega⟩
/-- Row `r` of point `t`'s block. -/
def row (t : Fin grid0.N) (r : Fin 176) : Fin 704 := ⟨176 * (t.val % 4) + r.val, by omega⟩

theorem idx0 (t : Fin (cfgM m hO).N) : ((cfgM m hO).win 0).index t (0 : Fin 3) = t.val / 4 ∧ ((cfgM m hO).win 0).index t (1 : Fin 3) = t.val % 4 ∧ ((cfgM m hO).win 0).index t (2 : Fin 3) = 0 :=
  (by decide +kernel : ∀ t : Fin grid0.N, cc0_transform_0 (grid0.coords t) 0 = t.val / 4 ∧ cc0_transform_0 (grid0.coords t) 1 = t.val % 4 ∧ cc0_transform_0 (grid0.coords t) 2 = 0) t
theorem idx1 (t : Fin (cfgM m hO).N) : ((cfgM m hO).win 1).index t (0 : Fin 3) = t.val / 4 ∧ ((cfgM m hO).win 1).index t (1 : Fin 3) = t.val % 4 ∧ ((cfgM m hO).win 1).index t (2 : Fin 3) = 0 :=
  (by decide +kernel : ∀ t : Fin grid0.N, cc0_transform_1 (grid0.coords t) 0 = t.val / 4 ∧ cc0_transform_1 (grid0.coords t) 1 = t.val % 4 ∧ cc0_transform_1 (grid0.coords t) 2 = 0) t
theorem idx2 (t : Fin (cfgM m hO).N) : ((cfgM m hO).win 2).index t (0 : Fin 3) = t.val / 4 ∧ ((cfgM m hO).win 2).index t (1 : Fin 3) = t.val % 4 ∧ ((cfgM m hO).win 2).index t (2 : Fin 3) = 0 :=
  (by decide +kernel : ∀ t : Fin grid0.N, cc0_transform_2 (grid0.coords t) 0 = t.val / 4 ∧ cc0_transform_2 (grid0.coords t) 1 = t.val % 4 ∧ cc0_transform_2 (grid0.coords t) 2 = 0) t
theorem idx11 (t : Fin (cfgM m hO).N) : ((cfgM m hO).win 11).index t (0 : Fin 3) = t.val / 4 ∧ ((cfgM m hO).win 11).index t (1 : Fin 3) = t.val % 4 ∧ ((cfgM m hO).win 11).index t (2 : Fin 3) = 0 :=
  (by decide +kernel : ∀ t : Fin grid0.N, cc0_transform_11 (grid0.coords t) 0 = t.val / 4 ∧ cc0_transform_11 (grid0.coords t) 1 = t.val % 4 ∧ cc0_transform_11 (grid0.coords t) 2 = 0) t
theorem idx12 (t : Fin (cfgM m hO).N) : ((cfgM m hO).win 12).index t (0 : Fin 3) = t.val / 4 ∧ ((cfgM m hO).win 12).index t (1 : Fin 3) = t.val % 4 ∧ ((cfgM m hO).win 12).index t (2 : Fin 3) = 0 :=
  (by decide +kernel : ∀ t : Fin grid0.N, cc0_transform_12 (grid0.coords t) 0 = t.val / 4 ∧ cc0_transform_12 (grid0.coords t) 1 = t.val % 4 ∧ cc0_transform_12 (grid0.coords t) 2 = 0) t
theorem idx13 (t : Fin (cfgM m hO).N) : ((cfgM m hO).win 13).index t (0 : Fin 3) = t.val / 4 ∧ ((cfgM m hO).win 13).index t (1 : Fin 3) = t.val % 4 ∧ ((cfgM m hO).win 13).index t (2 : Fin 3) = 0 :=
  (by decide +kernel : ∀ t : Fin grid0.N, cc0_transform_13 (grid0.coords t) 0 = t.val / 4 ∧ cc0_transform_13 (grid0.coords t) 1 = t.val % 4 ∧ cc0_transform_13 (grid0.coords t) 2 = 0) t
theorem idx14 (t : Fin (cfgM m hO).N) : ((cfgM m hO).win 14).index t (0 : Fin 3) = t.val / 4 ∧ ((cfgM m hO).win 14).index t (1 : Fin 3) = t.val % 4 ∧ ((cfgM m hO).win 14).index t (2 : Fin 3) = 0 :=
  (by decide +kernel : ∀ t : Fin grid0.N, cc0_transform_14 (grid0.coords t) 0 = t.val / 4 ∧ cc0_transform_14 (grid0.coords t) 1 = t.val % 4 ∧ cc0_transform_14 (grid0.coords t) 2 = 0) t
theorem idx3 (j : Fin 4) (hj : tbl m = tab j) (t : Fin (cfgM m hO).N) (ht : t.val / 4 = 0) : ((cfgM m hO).win 3).index t (0 : Fin 4) = 0 ∧ ((cfgM m hO).win 3).index t (1 : Fin 4) = j.val
    ∧ ((cfgM m hO).win 3).index t (2 : Fin 4) = t.val % 4 ∧ ((cfgM m hO).win 3).index t (3 : Fin 4) = 0 := by
  have e : ∀ a : Fin 4, ((cfgM m hO).win 3).index t a = cc0_transform_3 (F := Bits) inb_S1_S1_0 numel1_S1 (tab j) (grid0.coords t) a := fun a =>
    congrArg (fun T => cc0_transform_3 (F := Ideal) inb_S1_S1_0 numel1_S1 T (grid0.coords t) a) hj
  have d := (by decide +kernel : ∀ (j : Fin 4) (t : Fin grid0.N), t.val / 4 = 0 → cc0_transform_3 (F := Bits) inb_S1_S1_0 numel1_S1 (tab j) (grid0.coords t) = ![0, j.val, t.val % 4, 0]) j t ht
  exact ⟨(e 0).trans (congrFun d 0), (e 1).trans (congrFun d 1), (e 2).trans (congrFun d 2), (e 3).trans (congrFun d 3)⟩
theorem idx7 (j : Fin 4) (hj : tbl m = tab j) (t : Fin (cfgM m hO).N) (ht : t.val / 4 = 1) : ((cfgM m hO).win 7).index t (0 : Fin 4) = 0 ∧ ((cfgM m hO).win 7).index t (1 : Fin 4) = j.val
    ∧ ((cfgM m hO).win 7).index t (2 : Fin 4) = t.val % 4 ∧ ((cfgM m hO).win 7).index t (3 : Fin 4) = 0 := by
  have e : ∀ a : Fin 4, ((cfgM m hO).win 7).index t a = cc0_transform_7 (F := Bits) inb_S1_S1_0 numel1_S1 (tab j) (grid0.coords t) a := fun a =>
    congrArg (fun T => cc0_transform_7 (F := Ideal) inb_S1_S1_0 numel1_S1 T (grid0.coords t) a) hj
  have d := (by decide +kernel : ∀ (j : Fin 4) (t : Fin grid0.N), t.val / 4 = 1 → cc0_transform_7 (F := Bits) inb_S1_S1_0 numel1_S1 (tab j) (grid0.coords t) = ![0, j.val, t.val % 4, 0]) j t ht
  exact ⟨(e 0).trans (congrFun d 0), (e 1).trans (congrFun d 1), (e 2).trans (congrFun d 2), (e 3).trans (congrFun d 3)⟩
theorem idx4 (t : Fin (cfgM m hO).N) (ht : t.val / 4 = 0) : ((cfgM m hO).win 4).index t (0 : Fin 4) = 0 ∧ ((cfgM m hO).win 4).index t (1 : Fin 4) = 0
    ∧ ((cfgM m hO).win 4).index t (2 : Fin 4) = t.val % 4 ∧ ((cfgM m hO).win 4).index t (3 : Fin 4) = 0 :=
  (by decide +kernel : ∀ t : Fin grid0.N, t.val / 4 = 0 → cc0_transform_4 (grid0.coords t) 0 = 0 ∧ cc0_transform_4 (grid0.coords t) 1 = 0
    ∧ cc0_transform_4 (grid0.coords t) 2 = t.val % 4 ∧ cc0_transform_4 (grid0.coords t) 3 = 0) t ht
theorem idx5 (t : Fin (cfgM m hO).N) (ht : t.val / 4 = 0) : ((cfgM m hO).win 5).index t (0 : Fin 4) = 0 ∧ ((cfgM m hO).win 5).index t (1 : Fin 4) = 0
    ∧ ((cfgM m hO).win 5).index t (2 : Fin 4) = t.val % 4 ∧ ((cfgM m hO).win 5).index t (3 : Fin 4) = 0 :=
  (by decide +kernel : ∀ t : Fin grid0.N, t.val / 4 = 0 → cc0_transform_5 (grid0.coords t) 0 = 0 ∧ cc0_transform_5 (grid0.coords t) 1 = 0
    ∧ cc0_transform_5 (grid0.coords t) 2 = t.val % 4 ∧ cc0_transform_5 (grid0.coords t) 3 = 0) t ht
theorem idx6 (t : Fin (cfgM m hO).N) (ht : t.val / 4 = 0) : ((cfgM m hO).win 6).index t (0 : Fin 4) = 0 ∧ ((cfgM m hO).win 6).index t (1 : Fin 4) = 0
    ∧ ((cfgM m hO).win 6).index t (2 : Fin 4) = t.val % 4 ∧ ((cfgM m hO).win 6).index t (3 : Fin 4) = 0 :=
  (by decide +kernel : ∀ t : Fin grid0.N, t.val / 4 = 0 → cc0_transform_6 (grid0.coords t) 0 = 0 ∧ cc0_transform_6 (grid0.coords t) 1 = 0
    ∧ cc0_transform_6 (grid0.coords t) 2 = t.val % 4 ∧ cc0_transform_6 (grid0.coords t) 3 = 0) t ht
theorem idx8 (t : Fin (cfgM m hO).N) (ht : t.val / 4 = 1) : ((cfgM m hO).win 8).index t (0 : Fin 4) = 0 ∧ ((cfgM m hO).win 8).index t (1 : Fin 4) = 0
    ∧ ((cfgM m hO).win 8).index t (2 : Fin 4) = t.val % 4 ∧ ((cfgM m hO).win 8).index t (3 : Fin 4) = 0 :=
  (by decide +kernel : ∀ t : Fin grid0.N, t.val / 4 = 1 → cc0_transform_8 (grid0.coords t) 0 = 0 ∧ cc0_transform_8 (grid0.coords t) 1 = 0
    ∧ cc0_transform_8 (grid0.coords t) 2 = t.val % 4 ∧ cc0_transform_8 (grid0.coords t) 3 = 0) t ht
theorem idx9 (t : Fin (cfgM m hO).N) (ht : t.val / 4 = 1) : ((cfgM m hO).win 9).index t (0 : Fin 4) = 0 ∧ ((cfgM m hO).win 9).index t (1 : Fin 4) = 0
    ∧ ((cfgM m hO).win 9).index t (2 : Fin 4) = t.val % 4 ∧ ((cfgM m hO).win 9).index t (3 : Fin 4) = 0 :=
  (by decide +kernel : ∀ t : Fin grid0.N, t.val / 4 = 1 → cc0_transform_9 (grid0.coords t) 0 = 0 ∧ cc0_transform_9 (grid0.coords t) 1 = 0
    ∧ cc0_transform_9 (grid0.coords t) 2 = t.val % 4 ∧ cc0_transform_9 (grid0.coords t) 3 = 0) t ht
theorem idx10 (t : Fin (cfgM m hO).N) (ht : t.val / 4 = 1) : ((cfgM m hO).win 10).index t (0 : Fin 4) = 0 ∧ ((cfgM m hO).win 10).index t (1 : Fin 4) = 0
    ∧ ((cfgM m hO).win 10).index t (2 : Fin 4) = t.val % 4 ∧ ((cfgM m hO).win 10).index t (3 : Fin 4) = 0 :=
  (by decide +kernel : ∀ t : Fin grid0.N, t.val / 4 = 1 → cc0_transform_10 (grid0.coords t) 0 = 0 ∧ cc0_transform_10 (grid0.coords t) 1 = 0
    ∧ cc0_transform_10 (grid0.coords t) 2 = t.val % 4 ∧ cc0_transform_10 (grid0.coords t) 3 = 0) t ht

theorem blk0 (t : Fin (cfgM m hO).N) (r : Fin 176) (l : Fin 2048) :
    iblk m hO c 0 t (ix3 (0 : Fin 1) r l) = m ((c : Thread nD τ).loc main_arg1) (ix3 (lay t) (row t r) l) := by
  have h := idx0 m hO t
  have e : iblk m hO c 0 t (ix3 (0 : Fin 1) r l) = V m c main_arg1 (ix3 (lay t) (row t r) l) := by
    blk_ext [iblk, h, lay, row, mul_comm]
  rw [e, V_main_arg1]
theorem blk1 (t : Fin (cfgM m hO).N) (r : Fin 176) (l : Fin 2048) :
    iblk m hO c 1 t (ix3 (0 : Fin 1) r l) = m ((c : Thread nD τ).loc main_arg2) (ix3 (lay t) (row t r) l) := by
  have h := idx1 m hO t
  have e : iblk m hO c 1 t (ix3 (0 : Fin 1) r l) = V m c main_arg2 (ix3 (lay t) (row t r) l) := by
    blk_ext [iblk, h, lay, row, mul_comm]
  rw [e, V_main_arg2]
theorem blk2 (t : Fin (cfgM m hO).N) (r : Fin 176) (l : Fin 2048) :
    iblk m hO c 2 t (ix3 (0 : Fin 1) r l) = m ((c : Thread nD τ).loc main_arg3) (ix3 (lay t) (row t r) l) := by
  have h := idx2 m hO t
  have e : iblk m hO c 2 t (ix3 (0 : Fin 1) r l) = V m c main_arg3 (ix3 (lay t) (row t r) l) := by
    blk_ext [iblk, h, lay, row, mul_comm]
  rw [e, V_main_arg3]
theorem blk3 (j : Fin 4) (hj : tbl m = tab j) (t : Fin (cfgM m hO).N) (ht : t.val / 4 = 0) (r : Fin 176) (l : Fin 2048) :
    iblk m hO c 3 t (ix4 (0 : Fin 1) (0 : Fin 1) r l) = m ((c : Thread nD τ).loc main_arg4) (ix4 (0 : Fin 1) j (row t r) l) := by
  have h := idx3 m hO j hj t ht
  have e : iblk m hO c 3 t (ix4 (0 : Fin 1) (0 : Fin 1) r l) = V m c main_arg4 (ix4 (0 : Fin 1) j (row t r) l) := by
    blk_ext [iblk, h, row, mul_comm]
  rw [e, V_main_arg4]
theorem blk4 (t : Fin (cfgM m hO).N) (ht : t.val / 4 = 0) (r : Fin 176) (l : Fin 2048) :
    iblk m hO c 4 t (ix4 (0 : Fin 1) (0 : Fin 1) r l) = m ((c : Thread nD τ).loc main_arg5) (ix4 (0 : Fin 1) (0 : Fin 1) (row t r) l) := by
  have h := idx4 m hO t ht
  have e : iblk m hO c 4 t (ix4 (0 : Fin 1) (0 : Fin 1) r l) = V m c main_arg5 (ix4 (0 : Fin 1) (0 : Fin 1) (row t r) l) := by
    blk_ext [iblk, h, row, mul_comm]
  rw [e, V_main_arg5]
theorem blk5 (t : Fin (cfgM m hO).N) (ht : t.val / 4 = 0) (r : Fin 176) (l : Fin 2048) :
    iblk m hO c 5 t (ix4 (0 : Fin 1) (0 : Fin 1) r l) = m ((c : Thread nD τ).loc main_arg6) (ix4 (0 : Fin 1) (0 : Fin 1) (row t r) l) := by
  have h := idx5 m hO t ht
  have e : iblk m hO c 5 t (ix4 (0 : Fin 1) (0 : Fin 1) r l) = V m c main_arg6 (ix4 (0 : Fin 1) (0 : Fin 1) (row t r) l) := by
    blk_ext [iblk, h, row, mul_comm]
  rw [e, V_main_arg6]
theorem blk6 (t : Fin (cfgM m hO).N) (ht : t.val / 4 = 0) (r : Fin 176) (l : Fin 2048) :
    iblk m hO c 6 t (ix4 (0 : Fin 1) (0 : Fin 1) r l) = m ((c : Thread nD τ).loc main_arg7) (ix4 (0 : Fin 1) (0 : Fin 1) (row t r) l) := by
  have h := idx6 m hO t ht
  have e : iblk m hO c 6 t (ix4 (0 : Fin 1) (0 : Fin 1) r l) = V m c main_arg7 (ix4 (0 : Fin 1) (0 : Fin 1) (row t r) l) := by
    blk_ext [iblk, h, row, mul_comm]
  rw [e, V_main_arg7]
theorem blk7 (j : Fin 4) (hj : tbl m = tab j) (t : Fin (cfgM m hO).N) (ht : t.val / 4 = 1) (r : Fin 176) (l : Fin 2048) :
    iblk m hO c 7 t (ix4 (0 : Fin 1) (0 : Fin 1) r l) = m ((c : Thread nD τ).loc main_arg8) (ix4 (0 : Fin 1) j (row t r) l) := by
  have h := idx7 m hO j hj t ht
  have e : iblk m hO c 7 t (ix4 (0 : Fin 1) (0 : Fin 1) r l) = V m c main_arg8 (ix4 (0 : Fin 1) j (row t r) l) := by
    blk_ext [iblk, h, row, mul_comm]
  rw [e, V_main_arg8]
theorem blk8 (t : Fin (cfgM m hO).N) (ht : t.val / 4 = 1) (r : Fin 176) (l : Fin 2048) :
    iblk m hO c 8 t (ix4 (0 : Fin 1) (0 : Fin 1) r l) = m ((c : Thread nD τ).loc main_arg9) (ix4 (0 : Fin 1) (0 : Fin 1) (row t r) l) := by
  have h := idx8 m hO t ht
  have e : iblk m hO c 8 t (ix4 (0 : Fin 1) (0 : Fin 1) r l) = V m c main_arg9 (ix4 (0 : Fin 1) (0 : Fin 1) (row t r) l) := by
    blk_ext [iblk, h, row, mul_comm]
  rw [e, V_main_arg9]
theorem blk9 (t : Fin (cfgM m hO).N) (ht : t.val / 4 = 1) (r : Fin 176) (l : Fin 2048) :
    iblk m hO c 9 t (ix4 (0 : Fin 1) (0 : Fin 1) r l) = m ((c : Thread nD τ).loc main_arg10) (ix4 (0 : Fin 1) (0 : Fin 1) (row t r) l) := by
  have h := idx9 m hO t ht
  have e : iblk m hO c 9 t (ix4 (0 : Fin 1) (0 : Fin 1) r l) = V m c main_arg10 (ix4 (0 : Fin 1) (0 : Fin 1) (row t r) l) := by
    blk_ext [iblk, h, row, mul_comm]
  rw [e, V_main_arg10]
theorem blk10 (t : Fin (cfgM m hO).N) (ht : t.val / 4 = 1) (r : Fin 176) (l : Fin 2048) :
    iblk m hO c 10 t (ix4 (0 : Fin 1) (0 : Fin 1) r l) = m ((c : Thread nD τ).loc main_arg11) (ix4 (0 : Fin 1) (0 : Fin 1) (row t r) l) := by
  have h := idx10 m hO t ht
  have e : iblk m hO c 10 t (ix4 (0 : Fin 1) (0 : Fin 1) r l) = V m c main_arg11 (ix4 (0 : Fin 1) (0 : Fin 1) (row t r) l) := by
    blk_ext [iblk, h, row, mul_comm]
  rw [e, V_main_arg11]

/-- The four chips' gradients of one layer, summed, at a row and a column. -/
def own (j : Fin 4) (s : S1x4x704x2048.Idx → EReal) (a b d : S1x1x704x2048.Idx → EReal) (r : Fin 704) (l : Fin 2048) : EReal :=
  s (ix4 (0 : Fin 1) j r l) + a (ix4 (0 : Fin 1) (0 : Fin 1) r l) + b (ix4 (0 : Fin 1) (0 : Fin 1) r l) + d (ix4 (0 : Fin 1) (0 : Fin 1) r l)
/-- The gradient in both layers. -/
def gg (j : Fin 4) (k : Fin 2) (r : Fin 704) (l : Fin 2048) : EReal :=
  if k.val = 1 then own j (m ((c : Thread nD τ).loc main_arg8)) (m ((c : Thread nD τ).loc main_arg9)) (m ((c : Thread nD τ).loc main_arg10)) (m ((c : Thread nD τ).loc main_arg11)) r l
  else own j (m ((c : Thread nD τ).loc main_arg4)) (m ((c : Thread nD τ).loc main_arg5)) (m ((c : Thread nD τ).loc main_arg6)) (m ((c : Thread nD τ).loc main_arg7)) r l
/-- The first moment. -/
def mom (g m : EReal) : EReal := Ideal.ofBits .f32 0x3F666666#32 * m + Ideal.ofBits .f32 0x3DCCCCCD#32 * g
/-- The second moment. -/
def var (g v : EReal) : EReal := Ideal.ofBits .f32 0x3F7FBE77#32 * v + Ideal.ofBits .f32 0x3A83126F#32 * (g * g)
/-- The step. -/
def step (g w m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

section Payloads
variable (i : grid0.Coords) (w0 w1 w2 : Vec Ideal S1x176x2048 .f32) (x3 x4 x5 x6 x7 x8 x9 x10 : Vec Ideal S1x1x176x2048 .bf16)

/-- The gradient a point computes. -/
def gb (r : Fin 176) (l : Fin 2048) : EReal := k0_pay6 (F := Ideal) (BitVec.ofNat 32 (i 0).val) (k0_pay4 x3 x4 x5 x6) (k0_pay5 x7 x8 x9) x10 (ix2 r l)
theorem gb_one (h : (i 0).val = 1) (r : Fin 176) (l : Fin 2048) : gb i x3 x4 x5 x6 x7 x8 x9 x10 r l = x7 (ix4 (0 : Fin 1) (0 : Fin 1) r l) + x8 (ix4 (0 : Fin 1) (0 : Fin 1) r l) + x9 (ix4 (0 : Fin 1) (0 : Fin 1) r l) + x10 (ix4 (0 : Fin 1) (0 : Fin 1) r l) := by
  unfold gb k0_pay6 k0_pay5
  rw [h]
  refine (congrFun (if_pos (show Scalar.cmpi .eq (BitVec.ofNat 32 1) 1#32 = 1 by decide)) (ix2 r l)).trans ?_
  pointwise
theorem gb_zero (h : (i 0).val = 0) (r : Fin 176) (l : Fin 2048) : gb i x3 x4 x5 x6 x7 x8 x9 x10 r l = x3 (ix4 (0 : Fin 1) (0 : Fin 1) r l) + x4 (ix4 (0 : Fin 1) (0 : Fin 1) r l) + x5 (ix4 (0 : Fin 1) (0 : Fin 1) r l) + x6 (ix4 (0 : Fin 1) (0 : Fin 1) r l) := by
  unfold gb k0_pay6 k0_pay4
  rw [h]
  refine (congrFun (if_neg (show ¬ Scalar.cmpi .eq (BitVec.ofNat 32 0) 1#32 = 1 by decide)) (ix2 r l)).trans ?_
  pointwise

variable (xt : TbBuf0 (F := Ideal) c tbM0_0)
variable (arg3 : Memref sig .tc .vmem S1x176x2048 .f32) (h3 : arg3.IsWhole) (arg4 : Memref sig .tc .vmem S1x176x2048 .f32) (h4 : arg4.IsWhole) (arg5 : Memref sig .tc .vmem S1x176x2048 .f32) (h5 : arg5.IsWhole) (arg6 : Memref sig .tc .vmem S1x1x176x2048 .bf16) (h6 : arg6.IsWhole) (arg7 : Memref sig .tc .vmem S1x1x176x2048 .bf16) (h7 : arg7.IsWhole) (arg8 : Memref sig .tc .vmem S1x1x176x2048 .bf16) (h8 : arg8.IsWhole) (arg9 : Memref sig .tc .vmem S1x1x176x2048 .bf16) (h9 : arg9.IsWhole) (arg10 : Memref sig .tc .vmem S1x1x176x2048 .bf16) (h10 : arg10.IsWhole) (arg11 : Memref sig .tc .vmem S1x1x176x2048 .bf16) (h11 : arg11.IsWhole) (arg12 : Memref sig .tc .vmem S1x1x176x2048 .bf16) (h12 : arg12.IsWhole) (arg13 : Memref sig .tc .vmem S1x1x176x2048 .bf16) (h13 : arg13.IsWhole) (arg14 : Memref sig .tc .vmem S1x176x2048 .f32) (h14 : arg14.IsWhole) (arg15 : Memref sig .tc .vmem S1x176x2048 .f32) (h15 : arg15.IsWhole) (arg16 : Memref sig .tc .vmem S1x176x2048 .f32) (h16 : arg16.IsWhole) (arg17 : Memref sig .tc .vmem S1x176x2048 .f32) (h17 : arg17.IsWhole)

theorem out11 (r : Fin 176) (l : Fin 2048) : out0_A_11 c i arg3 h3 arg4 h4 arg5 h5 arg6 h6 arg7 h7 arg8 h8 arg9 h9 arg10 h10 arg11 h11 arg12 h12 arg13 h13 arg14 h14 arg15 h15 arg16 h16 arg17 h17 w0 w1 w2 x3 x4 x5 x6 x7 x8 x9 x10 xt (ix3 (0 : Fin 1) r l) = gb i x3 x4 x5 x6 x7 x8 x9 x10 r l := by
  frame_open
  frame_out
  unfold gb k0_pay7
  pointwise
theorem out12 (r : Fin 176) (l : Fin 2048) : out0_A_12 c i arg3 h3 arg4 h4 arg5 h5 arg6 h6 arg7 h7 arg8 h8 arg9 h9 arg10 h10 arg11 h11 arg12 h12 arg13 h13 arg14 h14 arg15 h15 arg16 h16 arg17 h17 w0 w1 w2 x3 x4 x5 x6 x7 x8 x9 x10 xt (ix3 (0 : Fin 1) r l) = step (gb i x3 x4 x5 x6 x7 x8 x9 x10 r l) (w0 (ix3 (0 : Fin 1) r l)) (w1 (ix3 (0 : Fin 1) r l)) (w2 (ix3 (0 : Fin 1) r l)) := by
  frame_open
  frame_out
  unfold gb step mom var k0_pay1 k0_pay10 k0_pay9 k0_pay8
  pointwise
theorem out13 (r : Fin 176) (l : Fin 2048) : out0_A_13 c i arg3 h3 arg4 h4 arg5 h5 arg6 h6 arg7 h7 arg8 h8 arg9 h9 arg10 h10 arg11 h11 arg12 h12 arg13 h13 arg14 h14 arg15 h15 arg16 h16 arg17 h17 w0 w1 w2 x3 x4 x5 x6 x7 x8 x9 x10 xt (ix3 (0 : Fin 1) r l) = mom (gb i x3 x4 x5 x6 x7 x8 x9 x10 r l) (w1 (ix3 (0 : Fin 1) r l)) := by
  frame_open
  frame_out
  unfold gb mom k0_pay2 k0_pay8
  pointwise
theorem out14 (r : Fin 176) (l : Fin 2048) : out0_A_14 c i arg3 h3 arg4 h4 arg5 h5 arg6 h6 arg7 h7 arg8 h8 arg9 h9 arg10 h10 arg11 h11 arg12 h12 arg13 h13 arg14 h14 arg15 h15 arg16 h16 arg17 h17 w0 w1 w2 x3 x4 x5 x6 x7 x8 x9 x10 xt (ix3 (0 : Fin 1) r l) = var (gb i x3 x4 x5 x6 x7 x8 x9 x10 r l) (w2 (ix3 (0 : Fin 1) r l)) := by
  frame_open
  frame_out
  unfold gb var k0_pay3 k0_pay9
  pointwise
end Payloads

/-- What a point computes is the gradient at its layer and rows. -/
theorem gb_eq (j : Fin 4) (hj : tbl m = tab j) (t : Fin (cfgM m hO).N) (r : Fin 176) (l : Fin 2048) :
    gb (grid0.coords t) (iblk m hO c 3 t) (iblk m hO c 4 t) (iblk m hO c 5 t) (iblk m hO c 6 t) (iblk m hO c 7 t) (iblk m hO c 8 t) (iblk m hO c 9 t) (iblk m hO c 10 t) r l
      = gg m c j (lay t) (row t r) l := by
  have hc : (grid0.coords t 0).val = t.val / 4 := (by decide +kernel : ∀ t : Fin grid0.N, (grid0.coords t 0).val = t.val / 4) t
  have hl : t.val / 4 = 0 ∨ t.val / 4 = 1 := by have := (lay t).isLt; unfold lay at this; dsimp only at this; omega
  rcases hl with h | h
  · refine (gb_zero _ _ _ _ _ _ _ _ _ (hc.trans h) r l).trans (Eq.trans ?_ (if_neg (by simp [lay, h])).symm)
    exact congrArg₂ (fun p q : EReal => p + q) (congrArg₂ (fun p q : EReal => p + q) (congrArg₂ (fun p q : EReal => p + q) (blk3 m hO c j hj t h r l) (blk4 m hO c t h r l)) (blk5 m hO c t h r l)) (blk6 m hO c t h r l)
  · refine (gb_one _ _ _ _ _ _ _ _ _ (hc.trans h) r l).trans (Eq.trans ?_ (if_pos (by simp [lay, h])).symm)
    exact congrArg₂ (fun p q : EReal => p + q) (congrArg₂ (fun p q : EReal => p + q) (congrArg₂ (fun p q : EReal => p + q) (blk7 m hO c j hj t h r l) (blk8 m hO c t h r l)) (blk9 m hO c t h r l)) (blk10 m hO c t h r l)

theorem step_congr {g g' w w' p p' v v' : EReal} (h1 : g = g') (h2 : w = w') (h3 : p = p') (h4 : v = v') : step g w p v = step g' w' p' v' := by
  rw [h1, h2, h3, h4]

/-- The gradient, at a layer, a row and a column. -/
def f11 (j : Fin 4) (a : Fin 2) (b : Fin 704) (d : Fin 2048) : EReal := gg m c j a b d
/-- The array of these. -/
def G11 (j : Fin 4) (y : S2x704x2048.Idx) : EReal := f11 m c j (y 0 : Fin 2) (y 1 : Fin 704) (y 2 : Fin 2048)
/-- Every block of the array is written. -/
theorem cover11 : ((cfgM m hO).win 11).Covers :=
  (by decide +kernel : ((cfg0 (F := Bits) ⟨tab 0, tab_ok 0⟩).win 11).Covers)
/-- What a point leaves. -/
theorem at11 (j : Fin 4) (hj : tbl m = tab j) (t : Fin (cfgM m hO).N) (r : Fin 176) (l : Fin 2048) : (outsAt0 m hO c t).1 (ix3 (0 : Fin 1) r l) = f11 m c j (lay t) (row t r) l := by
  have k := gb_eq m hO c j hj t r l
  unfold outsAt0
  dsimp only
  refine (out11 ..).trans ?_
  exact k
/-- The call leaves it. -/
theorem arr11 (j : Fin 4) (hj : tbl m = tab j) : (dats m hO 0 c).arrAt 11 (cfgM m hO).N = G11 m c j := by
  refine (dats m hO 0 c).arrAt_eq_of_covers 11 _ (cover11 m hO) fun t hf y => ?_
  blk_simp
  rw [after0_11]
  have h := idx11 m hO t
  have e0 : ((((cfgM m hO).win 11).blk t).view.emb y (0 : Fin 3) : Fin 2) = lay t := Fin.ext (by simp [h, lay])
  have e1 : ((((cfgM m hO).win 11).blk t).view.emb y (1 : Fin 3) : Fin 704) = row t (y (1 : Fin 3) : Fin 176) := Fin.ext (by simp [h, row, mul_comm])
  have e2 : ((((cfgM m hO).win 11).blk t).view.emb y (2 : Fin 3) : Fin 2048) = (y (2 : Fin 3) : Fin 2048) := Fin.ext (by simp [h])
  have e : (show S1x176x2048.Idx from y) = ix3 (0 : Fin 1) (y (1 : Fin 3) : Fin 176) (y (2 : Fin 3) : Fin 2048) :=
    (eq_ix3 (show S1x176x2048.Idx from y)).trans (congrArg (fun z : Fin 1 => ix3 z (y (1 : Fin 3) : Fin 176) (y (2 : Fin 3) : Fin 2048)) (Subsingleton.elim _ _))
  refine (congrArg (outsAt0 m hO c t).1 e).trans ((at11 m hO c j hj t (y (1 : Fin 3)) (y (2 : Fin 3))).trans ?_)
  exact (congrArg₂ (fun (q : Fin 2) (p : Fin 704 × Fin 2048) => f11 m c j q p.1 p.2) e0 (congrArg₂ Prod.mk e1 e2)).symm

/-- The step, at a layer, a row and a column. -/
def f12 (j : Fin 4) (a : Fin 2) (b : Fin 704) (d : Fin 2048) : EReal := step (gg m c j a b d) ((m ((c : Thread nD τ).loc main_arg1)) (ix3 a b d)) ((m ((c : Thread nD τ).loc main_arg2)) (ix3 a b d)) ((m ((c : Thread nD τ).loc main_arg3)) (ix3 a b d))
/-- The array of these. -/
def G12 (j : Fin 4) (y : S2x704x2048.Idx) : EReal := f12 m c j (y 0 : Fin 2) (y 1 : Fin 704) (y 2 : Fin 2048)
/-- Every block of the array is written. -/
theorem cover12 : ((cfgM m hO).win 12).Covers :=
  (by decide +kernel : ((cfg0 (F := Bits) ⟨tab 0, tab_ok 0⟩).win 12).Covers)
/-- What a point leaves. -/
theorem at12 (j : Fin 4) (hj : tbl m = tab j) (t : Fin (cfgM m hO).N) (r : Fin 176) (l : Fin 2048) : (outsAt0 m hO c t).2.1 (ix3 (0 : Fin 1) r l) = f12 m c j (lay t) (row t r) l := by
  have k := step_congr (gb_eq m hO c j hj t r l) (blk0 m hO c t r l) (blk1 m hO c t r l) (blk2 m hO c t r l)
  unfold outsAt0
  dsimp only
  refine (out12 ..).trans ?_
  exact k
/-- The call leaves it. -/
theorem arr12 (j : Fin 4) (hj : tbl m = tab j) : (dats m hO 0 c).arrAt 12 (cfgM m hO).N = G12 m c j := by
  refine (dats m hO 0 c).arrAt_eq_of_covers 12 _ (cover12 m hO) fun t hf y => ?_
  blk_simp
  rw [after0_12]
  have h := idx12 m hO t
  have e0 : ((((cfgM m hO).win 12).blk t).view.emb y (0 : Fin 3) : Fin 2) = lay t := Fin.ext (by simp [h, lay])
  have e1 : ((((cfgM m hO).win 12).blk t).view.emb y (1 : Fin 3) : Fin 704) = row t (y (1 : Fin 3) : Fin 176) := Fin.ext (by simp [h, row, mul_comm])
  have e2 : ((((cfgM m hO).win 12).blk t).view.emb y (2 : Fin 3) : Fin 2048) = (y (2 : Fin 3) : Fin 2048) := Fin.ext (by simp [h])
  have e : (show S1x176x2048.Idx from y) = ix3 (0 : Fin 1) (y (1 : Fin 3) : Fin 176) (y (2 : Fin 3) : Fin 2048) :=
    (eq_ix3 (show S1x176x2048.Idx from y)).trans (congrArg (fun z : Fin 1 => ix3 z (y (1 : Fin 3) : Fin 176) (y (2 : Fin 3) : Fin 2048)) (Subsingleton.elim _ _))
  refine (congrArg (outsAt0 m hO c t).2.1 e).trans ((at12 m hO c j hj t (y (1 : Fin 3)) (y (2 : Fin 3))).trans ?_)
  exact (congrArg₂ (fun (q : Fin 2) (p : Fin 704 × Fin 2048) => f12 m c j q p.1 p.2) e0 (congrArg₂ Prod.mk e1 e2)).symm

/-- The first moment, at a layer, a row and a column. -/
def f13 (j : Fin 4) (a : Fin 2) (b : Fin 704) (d : Fin 2048) : EReal := mom (gg m c j a b d) ((m ((c : Thread nD τ).loc main_arg2)) (ix3 a b d))
/-- The array of these. -/
def G13 (j : Fin 4) (y : S2x704x2048.Idx) : EReal := f13 m c j (y 0 : Fin 2) (y 1 : Fin 704) (y 2 : Fin 2048)
/-- Every block of the array is written. -/
theorem cover13 : ((cfgM m hO).win 13).Covers :=
  (by decide +kernel : ((cfg0 (F := Bits) ⟨tab 0, tab_ok 0⟩).win 13).Covers)
/-- What a point leaves. -/
theorem at13 (j : Fin 4) (hj : tbl m = tab j) (t : Fin (cfgM m hO).N) (r : Fin 176) (l : Fin 2048) : (outsAt0 m hO c t).2.2.1 (ix3 (0 : Fin 1) r l) = f13 m c j (lay t) (row t r) l := by
  have k := congrArg₂ mom (gb_eq m hO c j hj t r l) (blk1 m hO c t r l)
  unfold outsAt0
  dsimp only
  refine (out13 ..).trans ?_
  exact k
/-- The call leaves it. -/
theorem arr13 (j : Fin 4) (hj : tbl m = tab j) : (dats m hO 0 c).arrAt 13 (cfgM m hO).N = G13 m c j := by
  refine (dats m hO 0 c).arrAt_eq_of_covers 13 _ (cover13 m hO) fun t hf y => ?_
  blk_simp
  rw [after0_13]
  have h := idx13 m hO t
  have e0 : ((((cfgM m hO).win 13).blk t).view.emb y (0 : Fin 3) : Fin 2) = lay t := Fin.ext (by simp [h, lay])
  have e1 : ((((cfgM m hO).win 13).blk t).view.emb y (1 : Fin 3) : Fin 704) = row t (y (1 : Fin 3) : Fin 176) := Fin.ext (by simp [h, row, mul_comm])
  have e2 : ((((cfgM m hO).win 13).blk t).view.emb y (2 : Fin 3) : Fin 2048) = (y (2 : Fin 3) : Fin 2048) := Fin.ext (by simp [h])
  have e : (show S1x176x2048.Idx from y) = ix3 (0 : Fin 1) (y (1 : Fin 3) : Fin 176) (y (2 : Fin 3) : Fin 2048) :=
    (eq_ix3 (show S1x176x2048.Idx from y)).trans (congrArg (fun z : Fin 1 => ix3 z (y (1 : Fin 3) : Fin 176) (y (2 : Fin 3) : Fin 2048)) (Subsingleton.elim _ _))
  refine (congrArg (outsAt0 m hO c t).2.2.1 e).trans ((at13 m hO c j hj t (y (1 : Fin 3)) (y (2 : Fin 3))).trans ?_)
  exact (congrArg₂ (fun (q : Fin 2) (p : Fin 704 × Fin 2048) => f13 m c j q p.1 p.2) e0 (congrArg₂ Prod.mk e1 e2)).symm

/-- The second moment, at a layer, a row and a column. -/
def f14 (j : Fin 4) (a : Fin 2) (b : Fin 704) (d : Fin 2048) : EReal := var (gg m c j a b d) ((m ((c : Thread nD τ).loc main_arg3)) (ix3 a b d))
/-- The array of these. -/
def G14 (j : Fin 4) (y : S2x704x2048.Idx) : EReal := f14 m c j (y 0 : Fin 2) (y 1 : Fin 704) (y 2 : Fin 2048)
/-- Every block of the array is written. -/
theorem cover14 : ((cfgM m hO).win 14).Covers :=
  (by decide +kernel : ((cfg0 (F := Bits) ⟨tab 0, tab_ok 0⟩).win 14).Covers)
/-- What a point leaves. -/
theorem at14 (j : Fin 4) (hj : tbl m = tab j) (t : Fin (cfgM m hO).N) (r : Fin 176) (l : Fin 2048) : (outsAt0 m hO c t).2.2.2 (ix3 (0 : Fin 1) r l) = f14 m c j (lay t) (row t r) l := by
  have k := congrArg₂ var (gb_eq m hO c j hj t r l) (blk2 m hO c t r l)
  unfold outsAt0
  dsimp only
  refine (out14 ..).trans ?_
  exact k
/-- The call leaves it. -/
theorem arr14 (j : Fin 4) (hj : tbl m = tab j) : (dats m hO 0 c).arrAt 14 (cfgM m hO).N = G14 m c j := by
  refine (dats m hO 0 c).arrAt_eq_of_covers 14 _ (cover14 m hO) fun t hf y => ?_
  blk_simp
  rw [after0_14]
  have h := idx14 m hO t
  have e0 : ((((cfgM m hO).win 14).blk t).view.emb y (0 : Fin 3) : Fin 2) = lay t := Fin.ext (by simp [h, lay])
  have e1 : ((((cfgM m hO).win 14).blk t).view.emb y (1 : Fin 3) : Fin 704) = row t (y (1 : Fin 3) : Fin 176) := Fin.ext (by simp [h, row, mul_comm])
  have e2 : ((((cfgM m hO).win 14).blk t).view.emb y (2 : Fin 3) : Fin 2048) = (y (2 : Fin 3) : Fin 2048) := Fin.ext (by simp [h])
  have e : (show S1x176x2048.Idx from y) = ix3 (0 : Fin 1) (y (1 : Fin 3) : Fin 176) (y (2 : Fin 3) : Fin 2048) :=
    (eq_ix3 (show S1x176x2048.Idx from y)).trans (congrArg (fun z : Fin 1 => ix3 z (y (1 : Fin 3) : Fin 176) (y (2 : Fin 3) : Fin 2048)) (Subsingleton.elim _ _))
  refine (congrArg (outsAt0 m hO c t).2.2.2 e).trans ((at14 m hO c j hj t (y (1 : Fin 3)) (y (2 : Fin 3))).trans ?_)
  exact (congrArg₂ (fun (q : Fin 2) (p : Fin 704 × Fin 2048) => f14 m c j q p.1 p.2) e0 (congrArg₂ Prod.mk e1 e2)).symm

/-- The kernel terminates, keeps its arguments and leaves every semaphore at zero. -/
theorem frame_p : Cert.quiescent_Kernel22 := fun m ρ h => Cert.Kernel22.Gen.frame m ρ (okB m h)
/-- The same of the idealized kernel. -/
theorem frame_pi : Cert.quiescent_Kernel22Ideal := fun m ρ h => Cert.Kernel22Ideal.Gen.frame m ρ (ok_of_pre m h)
/-- The same of the idealized reference. -/
theorem frame_ri : Cert.quiescent_Reference22Ideal := fun m ρ _ =>
  (θ_run Cert.Reference22Ideal.defs _ _).mono (fun r h => ⟨fun c => (h c).2.2.2.2,
      Idealize.ShloMosaic.sem_eq_zero_of_no_sems (by decide) r.2⟩)
    (Cert.Reference22Ideal.Value.run (F := Ideal) m ρ)
/-- The same under the precondition. -/
theorem frame_ri_pre : Cert.quiescent_Reference22Ideal_pre_on_chip := fun m ρ _ => frame_ri m ρ trivial

/-- From arguments that agree, the kernel and the reference end with the same results. -/
theorem algebraic : Cert.algebraic_Kernel22Ideal_Reference22Ideal := by
  intro m ρ m' ρ' hp hag
  obtain ⟨j, hj⟩ := tbl_of_pre m hp
  have hO := ok_of_pre m hp
  refine ⟨fun c => G11 m c j, fun c => G12 m c j, fun c => G13 m c j, fun c => G14 m c j,
    (θ_run _ _ _).mono (fun r h c => ⟨((h.2 c).1 11).trans (arr11 m hO c j hj), ((h.2 c).1 12).trans (arr12 m hO c j hj), ((h.2 c).1 13).trans (arr13 m hO c j hj), ((h.2 c).1 14).trans (arr14 m hO c j hj), h.1 c⟩)
      (θ_run_and (unchanged m ρ hO) (run_main m ρ hO)),
    (θ_run _ _ _).mono (fun r h c => ?_) (Cert.Reference22Ideal.Value.run (F := Ideal) m' ρ')⟩
  obtain ⟨h0, h1, h2, h3, hk⟩ := h c
  obtain ⟨a0, a1, a2, a3, a4, a5, a6, a7, a8, a9, a10, a11⟩ := hag c
  unfold Cert.Reference22Ideal.Value.res_main_v57 at h1
  unfold Cert.Reference22Ideal.Value.res_main_v44 at h3
  rw [← h0] at h1 h2 h3
  obtain rfl : c = 0 := Subsingleton.elim _ _
  have hw : ∀ x, m ((0 : Dev nD).tc.loc main_arg0) x = BitVec.ofNat 32 j.val := fun x => congrFun (congrFun hj 0) x
  have hE := h0
  rw [a0, a4, a5, a6, a7, a8, a9, a10, a11] at hE
  replace hE := hE.trans (c := G11 m 0 j) (by
    clear h0 h1 h2 h3 hk a0 a1 a2 a3 a4 a5 a6 a7 a8 a9 a10 a11 hag h hE
    funext y
    rw [eq_ix3 y]
    clean_types
    unfold G11 f11 gg own
    obtain h | h : (y 0).val = 0 ∨ (y 0).val = 1 := by have : (y 0).val < 2 := (y 0).isLt; omega
    · have hy : (y 0 : Fin 2) = (0 : Fin 2) := Fin.ext h
      rw [hy]
      pointwise
      rw [hw, Finset.sum_congr rfl fun x _ => Cert.Word.sel _ _ _, Cert.Word.pick (by decide) j rfl]
    · have hy : (y 0 : Fin 2) = (1 : Fin 2) := Fin.ext h
      rw [hy]
      pointwise
      rw [hw, Finset.sum_congr rfl fun x _ => Cert.Word.sel _ _ _, Cert.Word.pick (by decide) j rfl])
  rw [hE] at h1 h2 h3
  refine ⟨hE, h1.trans ?_, h2.trans ?_, h3.trans ?_, hk⟩
  · rw [a1, a2, a3]
    clear h0 h1 h2 h3 hk a0 a1 a2 a3 a4 a5 a6 a7 a8 a9 a10 a11 hag h hE
    funext y
    rw [eq_ix3 y]
    rfl
  · rw [a2]
    clear h0 h1 h2 h3 hk a0 a1 a2 a3 a4 a5 a6 a7 a8 a9 a10 a11 hag h hE
    funext y
    rw [eq_ix3 y]
    rfl
  · rw [a3]
    clear h0 h1 h2 h3 hk a0 a1 a2 a3 a4 a5 a6 a7 a8 a9 a10 a11 hag h hE
    funext y
    rw [eq_ix3 y]
    rfl

end Cert.AdamDown
-- ==== Proof.Mm.SumSibling.lean ====
/- The sum of a device's and its sibling's gradient of one product's weights: what the call leaves, and that the reference leaves the same. -/
module

public import proofs.«01_k».proof.Defs
public import proofs.«01_k».proof.Proof.Mm.Common
public import proofs.«01_k».proof.Proof.Mm.Word
public import proofs.«01_k».proof.Proof.Gen.Kernel24
public import proofs.«01_k».proof.Proof.Gen.Kernel24.Frame
public import proofs.«01_k».proof.Proof.Gen.Kernel24Ideal.Frame
public import proofs.«01_k».proof.Proof.Gen.Reference24Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.SumSibling

open Cert.Common Cert.Kernel24Ideal Cert.Kernel24Ideal.Gen Idealize.ShloMosaic Idealize.ShloMosaic.TcCoe Idealize.SL.Sem

/-- The shape relations the precondition takes. -/
instance preFacts : Cert.Pre_on_core.Facts where
  bcast_S_S1 := by decide

section Tables
variable {F : FTy → Type} [FloatOps F]

set_option backward.proofsInPublic true in
/-- The table whose word is `j`. -/
def tab (j : Fin 2) : pre0.Contents (Elt F) := fun | ⟨0, _⟩ => fun _ => BitVec.ofNat 32 j.val | ⟨_ + 1, h⟩ => absurd h (by simp)

theorem tab_ok (j : Fin 2) : ok0 (F := F) (tab j) := fun i => ⟨(by decide +kernel : ∀ (j : Fin 2) (i : grid0.Coords) a, (cc0_transform_0 (F := Bits) inb_S1_S1_0 numel1_S1 (tab j) i a + 1) * S1x1x1x352x2048.size a ≤ S1x4x2x704x2048.size a) j i,
    .inr (Affine.block_words_dvd (of_decide_eq_true rfl) (by decide))⟩

end Tables

variable (m : (ℓ : Loc nD τ sig) → Buf (Elt Ideal) ℓ)

/-- A table of one word has one place. -/
theorem one (x y : S1.Idx) : x = y := funext fun a => by
  obtain rfl : a = (0 : Fin 1) := Subsingleton.elim _ _
  exact Subsingleton.elim (α := Fin 1) (x 0) (y 0)

/-- The precondition says what the table holds. -/
theorem tbl_of_pre (h : Cert.Pre_Kernel24Ideal m) : ∃ j : Fin 2, tbl m = tab j := by
  have key : ∀ x : S1.Idx, ∃ j : Fin 2, tbl m 0 x = BitVec.ofNat 32 j.val := fun x => by
    have e0 := congrFun (h 0).1 x
    have e1 := congrFun (h 0).2 x
    simp only [Pre_on_core.fn, cmpi, broadcastInDim, constantI] at e0 e1
    exact Cert.Word.of_bounds (by decide) _ e0 e1
  obtain ⟨j, hj⟩ := key fun a => ⟨0, by fin_cases a; decide⟩
  refine ⟨j, funext fun k => ?_⟩
  match k with
  | ⟨0, _⟩ => exact funext fun x => (congrArg (tbl m 0) (one x _)).trans hj

/-- Its block lies inside the array it is cut from. -/
theorem ok_of_pre (h : Cert.Pre_Kernel24Ideal m) : Ok m := by
  obtain ⟨j, hj⟩ := tbl_of_pre m h
  unfold Ok
  rw [hj]
  exact tab_ok j

/-- The same of the kernel before it is idealized. -/
theorem okB (m : (ℓ : Loc Cert.Kernel24.nD Cert.Kernel24.τ Cert.Kernel24.sig) → Buf (Elt Bits) ℓ) (h : Cert.Pre_Kernel24 m) : Cert.Kernel24.Gen.Ok m := by
  have key : ∀ x : S1.Idx, ∃ j : Fin 2, Cert.Kernel24.Gen.tbl m 0 x = BitVec.ofNat 32 j.val := fun x => by
    have e0 := congrFun (h 0).1 x
    have e1 := congrFun (h 0).2 x
    simp only [Pre_on_core.fn, cmpi, broadcastInDim, constantI] at e0 e1
    exact Cert.Word.of_bounds (by decide) _ e0 e1
  obtain ⟨j, hj⟩ := key fun a => ⟨0, by fin_cases a; decide⟩
  have e : Cert.Kernel24.Gen.tbl m = tab (F := Bits) j := funext fun k => by
    match k with
    | ⟨0, _⟩ => exact funext fun x => (congrArg (Cert.Kernel24.Gen.tbl m 0) (one x _)).trans hj
  unfold Cert.Kernel24.Gen.Ok
  rw [e]
  exact tab_ok (F := Bits) j

variable (hO : Ok m) (c : Dev nD)

/-- Point `t`'s quarter. -/
def quarter (t : Fin grid0.N) : Fin 4 := ⟨t.val / 2, by have := t.isLt; have : grid0.N = 8 := (by decide); omega⟩
/-- Row `r` of point `t`'s block. -/
def row (t : Fin grid0.N) (r : Fin 352) : Fin 704 := ⟨352 * (t.val % 2) + r.val, by omega⟩

theorem idx0 (j : Fin 2) (hj : tbl m = tab j) (t : Fin (cfgM m hO).N) : ((cfgM m hO).win 0).index t (0 : Fin 5) = 0 ∧ ((cfgM m hO).win 0).index t (1 : Fin 5) = t.val / 2
    ∧ ((cfgM m hO).win 0).index t (2 : Fin 5) = j.val ∧ ((cfgM m hO).win 0).index t (3 : Fin 5) = t.val % 2 ∧ ((cfgM m hO).win 0).index t (4 : Fin 5) = 0 := by
  have e : ∀ a : Fin 5, ((cfgM m hO).win 0).index t a = cc0_transform_0 (F := Bits) inb_S1_S1_0 numel1_S1 (tab j) (grid0.coords t) a := fun a =>
    congrArg (fun T => cc0_transform_0 (F := Ideal) inb_S1_S1_0 numel1_S1 T (grid0.coords t) a) hj
  have d := (by decide +kernel : ∀ (j : Fin 2) (t : Fin grid0.N), cc0_transform_0 (F := Bits) inb_S1_S1_0 numel1_S1 (tab j) (grid0.coords t) = ![0, t.val / 2, j.val, t.val % 2, 0]) j t
  exact ⟨(e 0).trans (congrFun d 0), (e 1).trans (congrFun d 1), (e 2).trans (congrFun d 2), (e 3).trans (congrFun d 3), (e 4).trans (congrFun d 4)⟩
theorem idx1 (t : Fin (cfgM m hO).N) : ((cfgM m hO).win 1).index t (0 : Fin 5) = 0 ∧ ((cfgM m hO).win 1).index t (1 : Fin 5) = t.val / 2
    ∧ ((cfgM m hO).win 1).index t (2 : Fin 5) = 0 ∧ ((cfgM m hO).win 1).index t (3 : Fin 5) = t.val % 2 ∧ ((cfgM m hO).win 1).index t (4 : Fin 5) = 0 :=
  (by decide +kernel : ∀ t : Fin grid0.N, cc0_transform_1 (grid0.coords t) 0 = 0 ∧ cc0_transform_1 (grid0.coords t) 1 = t.val / 2 ∧ cc0_transform_1 (grid0.coords t) 2 = 0
    ∧ cc0_transform_1 (grid0.coords t) 3 = t.val % 2 ∧ cc0_transform_1 (grid0.coords t) 4 = 0) t
theorem idx2 (t : Fin (cfgM m hO).N) : ((cfgM m hO).win 2).index t (0 : Fin 4) = 0 ∧ ((cfgM m hO).win 2).index t (1 : Fin 4) = t.val / 2
    ∧ ((cfgM m hO).win 2).index t (2 : Fin 4) = t.val % 2 ∧ ((cfgM m hO).win 2).index t (3 : Fin 4) = 0 :=
  (by decide +kernel : ∀ t : Fin grid0.N, cc0_transform_2 (grid0.coords t) 0 = 0 ∧ cc0_transform_2 (grid0.coords t) 1 = t.val / 2 ∧ cc0_transform_2 (grid0.coords t) 2 = t.val % 2
    ∧ cc0_transform_2 (grid0.coords t) 3 = 0) t

theorem blk0 (j : Fin 2) (hj : tbl m = tab j) (t : Fin (cfgM m hO).N) (r : Fin 352) (l : Fin 2048) :
    iblk m hO c 0 t (ix5 (0 : Fin 1) (0 : Fin 1) (0 : Fin 1) r l) = m ((c : Thread nD τ).loc main_arg1) (ix5 (0 : Fin 1) (quarter t) j (row t r) l) := by
  have h := idx0 m hO j hj t
  have e : iblk m hO c 0 t (ix5 (0 : Fin 1) (0 : Fin 1) (0 : Fin 1) r l) = V m c main_arg1 (ix5 (0 : Fin 1) (quarter t) j (row t r) l) := by
    blk_ext [iblk, h, quarter, row, mul_comm]
  rw [e, V_main_arg1]
theorem blk1 (t : Fin (cfgM m hO).N) (r : Fin 352) (l : Fin 2048) :
    iblk m hO c 1 t (ix5 (0 : Fin 1) (0 : Fin 1) (0 : Fin 1) r l) = m ((c : Thread nD τ).loc main_arg2) (ix5 (0 : Fin 1) (quarter t) (0 : Fin 1) (row t r) l) := by
  have h := idx1 m hO t
  have e : iblk m hO c 1 t (ix5 (0 : Fin 1) (0 : Fin 1) (0 : Fin 1) r l) = V m c main_arg2 (ix5 (0 : Fin 1) (quarter t) (0 : Fin 1) (row t r) l) := by
    blk_ext [iblk, h, quarter, row, mul_comm]
  rw [e, V_main_arg2]

/-- The sum of the two gradients, at a quarter, a row and a column. -/
def g (j : Fin 2) (s : S1x4x2x704x2048.Idx → EReal) (a : S1x4x1x704x2048.Idx → EReal) (q : Fin 4) (r : Fin 704) (l : Fin 2048) : EReal :=
  s (ix5 (0 : Fin 1) q j r l) + a (ix5 (0 : Fin 1) q (0 : Fin 1) r l)
/-- The array of these sums. -/
def G (j : Fin 2) (s : S1x4x2x704x2048.Idx → EReal) (a : S1x4x1x704x2048.Idx → EReal) (y : S1x4x704x2048.Idx) : EReal :=
  g j s a (y 1 : Fin 4) (y 2 : Fin 704) (y 3 : Fin 2048)

theorem pay (s a : Vec Ideal S1x1x1x352x2048 .bf16) (r : Fin 352) (l : Fin 2048) :
    k0_pay1 (F := Ideal) s a (ix4 (0 : Fin 1) (0 : Fin 1) r l) = s (ix5 (0 : Fin 1) (0 : Fin 1) (0 : Fin 1) r l) + a (ix5 (0 : Fin 1) (0 : Fin 1) (0 : Fin 1) r l) := by
  unfold k0_pay1
  pointwise

theorem out (i : grid0.Coords) (arg4 : Memref sig .tc .vmem S1x1x1x352x2048 .bf16) (h4 : arg4.IsWhole) (arg5 : Memref sig .tc .vmem S1x1x1x352x2048 .bf16) (h5 : arg5.IsWhole)
    (arg6 : Memref sig .tc .vmem S1x1x352x2048 .bf16) (h6 : arg6.IsWhole) (s a : Vec Ideal S1x1x1x352x2048 .bf16) (xt : TbBuf0 (F := Ideal) c tbM0_0) :
    out0_A_2 c i arg4 h4 arg5 h5 arg6 h6 s a xt = k0_pay1 (F := Ideal) s a := by
  frame_open
  frame_out

/-- Every block of the result is written. -/
theorem cover : ((cfgM m hO).win 2).Covers :=
  (by decide +kernel : ((cfg0 (F := Bits) ⟨tab 0, tab_ok 0⟩).win 2).Covers)

/-- The call's result. -/
theorem arr (j : Fin 2) (hj : tbl m = tab j) : (dats m hO 0 c).arrAt 2 (cfgM m hO).N = G j (m ((c : Thread nD τ).loc main_arg1)) (m ((c : Thread nD τ).loc main_arg2)) := by
  refine (dats m hO 0 c).arrAt_eq_of_covers 2 _ (cover m hO) fun t hf y => ?_
  blk_simp
  rw [after0_2]
  have h := idx2 m hO t
  have e1 : ((((cfgM m hO).win 2).blk t).view.emb y (1 : Fin 4) : Fin 4) = quarter t := Fin.ext (by simp [h, quarter])
  have e2 : ((((cfgM m hO).win 2).blk t).view.emb y (2 : Fin 4) : Fin 704) = row t (y (2 : Fin 4) : Fin 352) := Fin.ext (by simp [h, row, mul_comm])
  have e3 : ((((cfgM m hO).win 2).blk t).view.emb y (3 : Fin 4) : Fin 2048) = (y (3 : Fin 4) : Fin 2048) := Fin.ext (by simp [h])
  have e : (show S1x1x352x2048.Idx from y) = ix4 (0 : Fin 1) (0 : Fin 1) (y (2 : Fin 4) : Fin 352) (y (3 : Fin 4) : Fin 2048) :=
    (eq_ix4 (show S1x1x352x2048.Idx from y)).trans (congrArg₂ (fun z w : Fin 1 => ix4 z w (y (2 : Fin 4) : Fin 352) (y (3 : Fin 4) : Fin 2048)) (Subsingleton.elim _ _) (Subsingleton.elim _ _))
  have k := congrArg₂ (fun p q : EReal => p + q) (blk0 m hO c j hj t (y (2 : Fin 4)) (y (3 : Fin 4))) (blk1 m hO c t (y (2 : Fin 4)) (y (3 : Fin 4)))
  refine (congrArg (outsAt0 m hO c t) e).trans (Eq.trans (congrFun (out ..) _) ((pay _ _ (y (2 : Fin 4)) (y (3 : Fin 4))).trans (k.trans ?_)))
  exact (congrArg₂ (fun (q : Fin 4) (p : Fin 704 × Fin 2048) => g j (m ((c : Thread nD τ).loc main_arg1)) (m ((c : Thread nD τ).loc main_arg2)) q p.1 p.2) e1 (congrArg₂ Prod.mk e2 e3)).symm

/-- The kernel terminates, keeps its arguments and leaves every semaphore at zero. -/
theorem frame_p : Cert.quiescent_Kernel24 := fun m ρ h => Cert.Kernel24.Gen.frame m ρ (okB m h)
/-- The same of the idealized kernel. -/
theorem frame_pi : Cert.quiescent_Kernel24Ideal := fun m ρ h => Cert.Kernel24Ideal.Gen.frame m ρ (ok_of_pre m h)
/-- The same of the idealized reference. -/
theorem frame_ri : Cert.quiescent_Reference24Ideal := fun m ρ _ =>
  (θ_run Cert.Reference24Ideal.defs _ _).mono (fun r h => ⟨fun c => (h c).2,
      Idealize.ShloMosaic.sem_eq_zero_of_no_sems (by decide) r.2⟩)
    (Cert.Reference24Ideal.Value.run (F := Ideal) m ρ)
/-- The same under the precondition. -/
theorem frame_ri_pre : Cert.quiescent_Reference24Ideal_pre_on_core := fun m ρ _ => frame_ri m ρ trivial

/-- From arguments that agree, the kernel and the reference end with the same result. -/
theorem algebraic : Cert.algebraic_Kernel24Ideal_Reference24Ideal := by
  intro m ρ m' ρ' hp hag
  obtain ⟨j, hj⟩ := tbl_of_pre m hp
  have hO := ok_of_pre m hp
  refine ⟨fun c => G j (m ((c.tc : Thread nD τ).loc main_arg1)) (m ((c.tc : Thread nD τ).loc main_arg2)),
    (θ_run _ _ _).mono (fun r h c => ⟨((h.2 c).1 2).trans (arr m hO c j hj), h.1 c⟩) (θ_run_and (unchanged m ρ hO) (run_main m ρ hO)),
    (θ_run _ _ _).mono (fun r h c => ?_) (Cert.Reference24Ideal.Value.run (F := Ideal) m' ρ')⟩
  obtain ⟨h0, hk⟩ := h c
  obtain ⟨a0, a1, a2⟩ := hag c
  refine ⟨h0.trans ?_, hk⟩
  rw [a0, a1, a2]
  obtain rfl : c = 0 := Subsingleton.elim _ _
  have hw : ∀ x, m ((0 : Dev nD).tc.loc main_arg0) x = BitVec.ofNat 32 j.val := fun x => congrFun (congrFun hj 0) x
  clear h0 hk a0 a1 a2 hag h
  funext y
  rw [eq_ix4 y]
  clean_types
  unfold G g
  pointwise
  rw [hw, Finset.sum_congr rfl fun x _ => Cert.Word.sel _ _ _, Cert.Word.pick (by decide) j rfl]

end Cert.SumSibling
-- ==== Proof.Mm.SumChips.lean ====
/- The sum of the four chips' gradients of a branch's weights: what the call leaves, and that the reference leaves the same. -/
module

public import proofs.«01_k».proof.Defs
public import proofs.«01_k».proof.Proof.Mm.Common
public import proofs.«01_k».proof.Proof.Mm.Word
public import proofs.«01_k».proof.Proof.Gen.Kernel25
public import proofs.«01_k».proof.Proof.Gen.Kernel25.Frame
public import proofs.«01_k».proof.Proof.Gen.Kernel25Ideal.Frame
public import proofs.«01_k».proof.Proof.Gen.Reference25Ideal.Run
public import Idealize.ShloMosaic.Lib.Pipeline.ReadBack
public import Idealize.ShloMosaic.Lib.Pipeline.ValueKit
public import Idealize.ShloMosaic.Lib.Pointwise
public import Idealize.ShloMosaic.Lib.Tactic.CleanTypes
public import Idealize.ShloMosaic.Adequacy
public import Idealize.ShloMosaic.Init

@[expose] public section

set_option maxRecDepth 16384

noncomputable section

namespace Cert.SumChips

open Cert.Common Cert.Kernel25Ideal Cert.Kernel25Ideal.Gen Idealize.ShloMosaic Idealize.ShloMosaic.TcCoe Idealize.SL.Sem

/-- The shape relations the precondition takes. -/
instance preFacts : Cert.Pre_on_chip25.Facts where
  bcast_S_S1 := by decide

section Tables
variable {F : FTy → Type} [FloatOps F]

set_option backward.proofsInPublic true in
/-- The table whose word is `j`. -/
def tab (j : Fin 4) : pre0.Contents (Elt F) := fun | ⟨0, _⟩ => fun _ => BitVec.ofNat 32 j.val | ⟨_ + 1, h⟩ => absurd h (by simp)

theorem tab_ok (j : Fin 4) : ok0 (F := F) (tab j) := fun i =>
  ⟨(by decide +kernel : ∀ (j : Fin 4) (i : grid0.Coords) a, (cc0_transform_0 (F := Bits) inb_S1_S1_0 numel1_S1 (tab j) i a + 1) * S1x1x256x1024.size a ≤ S1x4x256x1024.size a) j i,
    .inr (Affine.block_words_dvd (of_decide_eq_true rfl) (by decide))⟩

end Tables

variable (m : (ℓ : Loc nD τ sig) → Buf (Elt Ideal) ℓ)

/-- A table of one word has one place. -/
theorem one (x y : S1.Idx) : x = y := funext fun a => by
  obtain rfl : a = (0 : Fin 1) := Subsingleton.elim _ _
  exact Subsingleton.elim (α := Fin 1) (x 0) (y 0)

/-- The precondition says what the table holds. -/
theorem tbl_of_pre (h : Cert.Pre_Kernel25Ideal m) : ∃ j : Fin 4, tbl m = tab j := by
  have key : ∀ x : S1.Idx, ∃ j : Fin 4, tbl m 0 x = BitVec.ofNat 32 j.val := fun x => by
    have e0 := congrFun (h 0).1 x
    have e1 := congrFun (h 0).2 x
    simp only [Pre_on_chip25.fn, cmpi, broadcastInDim, constantI] at e0 e1
    exact Cert.Word.of_bounds (by decide) _ e0 e1
  obtain ⟨j, hj⟩ := key fun a => ⟨0, by fin_cases a; decide⟩
  refine ⟨j, funext fun k => ?_⟩
  match k with
  | ⟨0, _⟩ => exact funext fun x => (congrArg (tbl m 0) (one x _)).trans hj

/-- Its block lies inside the array it is cut from. -/
theorem ok_of_pre (h : Cert.Pre_Kernel25Ideal m) : Ok m := by
  obtain ⟨j, hj⟩ := tbl_of_pre m h
  unfold Ok
  rw [hj]
  exact tab_ok j

/-- The same of the kernel before it is idealized. -/
theorem okB (m : (ℓ : Loc Cert.Kernel25.nD Cert.Kernel25.τ Cert.Kernel25.sig) → Buf (Elt Bits) ℓ) (h : Cert.Pre_Kernel25 m) : Cert.Kernel25.Gen.Ok m := by
  have key : ∀ x : S1.Idx, ∃ j : Fin 4, Cert.Kernel25.Gen.tbl m 0 x = BitVec.ofNat 32 j.val := fun x => by
    have e0 := congrFun (h 0).1 x
    have e1 := congrFun (h 0).2 x
    simp only [Pre_on_chip25.fn, cmpi, broadcastInDim, constantI] at e0 e1
    exact Cert.Word.of_bounds (by decide) _ e0 e1
  obtain ⟨j, hj⟩ := key fun a => ⟨0, by fin_cases a; decide⟩
  have e : Cert.Kernel25.Gen.tbl m = tab (F := Bits) j := funext fun k => by
    match k with
    | ⟨0, _⟩ => exact funext fun x => (congrArg (Cert.Kernel25.Gen.tbl m 0) (one x _)).trans hj
  unfold Cert.Kernel25.Gen.Ok
  rw [e]
  exact tab_ok (F := Bits) j

variable (hO : Ok m) (c : Dev nD)

theorem flush (t : Fin (cfgM m hO).N) : ((cfgM m hO).win 4).flush t = true := flush0_4 (adm m hO) t

theorem idx0 (j : Fin 4) (hj : tbl m = tab j) (t : Fin (cfgM m hO).N) : ((cfgM m hO).win 0).index t (0 : Fin 4) = 0 ∧ ((cfgM m hO).win 0).index t (1 : Fin 4) = j.val
    ∧ ((cfgM m hO).win 0).index t (2 : Fin 4) = 0 ∧ ((cfgM m hO).win 0).index t (3 : Fin 4) = 0 := by
  have e : ∀ a : Fin 4, ((cfgM m hO).win 0).index t a = cc0_transform_0 (F := Bits) inb_S1_S1_0 numel1_S1 (tab j) (grid0.coords t) a := fun a =>
    congrArg (fun T => cc0_transform_0 (F := Ideal) inb_S1_S1_0 numel1_S1 T (grid0.coords t) a) hj
  have d := (by decide +kernel : ∀ (j : Fin 4) (t : Fin grid0.N), cc0_transform_0 (F := Bits) inb_S1_S1_0 numel1_S1 (tab j) (grid0.coords t) 0 = 0
    ∧ cc0_transform_0 (F := Bits) inb_S1_S1_0 numel1_S1 (tab j) (grid0.coords t) 1 = j.val ∧ cc0_transform_0 (F := Bits) inb_S1_S1_0 numel1_S1 (tab j) (grid0.coords t) 2 = 0
    ∧ cc0_transform_0 (F := Bits) inb_S1_S1_0 numel1_S1 (tab j) (grid0.coords t) 3 = 0) j t
  exact ⟨(e 0).trans d.1, (e 1).trans d.2.1, (e 2).trans d.2.2.1, (e 3).trans d.2.2.2⟩
theorem idx1 (t : Fin (cfgM m hO).N) (a : Fin 4) : ((cfgM m hO).win 1).index t a = 0 :=
  (by decide +kernel : ∀ (t : Fin grid0.N) (a : Fin 4), cc0_transform_1 (grid0.coords t) a = 0) t a
theorem idx2 (t : Fin (cfgM m hO).N) (a : Fin 4) : ((cfgM m hO).win 2).index t a = 0 :=
  (by decide +kernel : ∀ (t : Fin grid0.N) (a : Fin 4), cc0_transform_2 (grid0.coords t) a = 0) t a
theorem idx3 (t : Fin (cfgM m hO).N) (a : Fin 4) : ((cfgM m hO).win 3).index t a = 0 :=
  (by decide +kernel : ∀ (t : Fin grid0.N) (a : Fin 4), cc0_transform_3 (grid0.coords t) a = 0) t a
theorem idx4 (t : Fin (cfgM m hO).N) (a : Fin 3) : ((cfgM m hO).win 4).index t a = 0 :=
  (by decide +kernel : ∀ (t : Fin grid0.N) (a : Fin 3), cc0_transform_4 (grid0.coords t) a = 0) t a

theorem blk0 (j : Fin 4) (hj : tbl m = tab j) (t : Fin (cfgM m hO).N) (r : Fin 256) (l : Fin 1024) :
    iblk m hO c 0 t (ix4 (0 : Fin 1) (0 : Fin 1) r l) = m ((c : Thread nD τ).loc main_arg1) (ix4 (0 : Fin 1) j r l) := by
  have h := idx0 m hO j hj t
  have e : iblk m hO c 0 t (ix4 (0 : Fin 1) (0 : Fin 1) r l) = V m c main_arg1 (ix4 (0 : Fin 1) j r l) := by
    blk_ext [iblk, h]
  rw [e, V_main_arg1]
theorem blk1 (t : Fin (cfgM m hO).N) (r : Fin 256) (l : Fin 1024) :
    iblk m hO c 1 t (ix4 (0 : Fin 1) (0 : Fin 1) r l) = m ((c : Thread nD τ).loc main_arg2) (ix4 (0 : Fin 1) (0 : Fin 1) r l) := by
  have h := idx1 m hO t
  have e : iblk m hO c 1 t (ix4 (0 : Fin 1) (0 : Fin 1) r l) = V m c main_arg2 (ix4 (0 : Fin 1) (0 : Fin 1) r l) := by
    blk_ext [iblk, h]
  rw [e, V_main_arg2]
theorem blk2 (t : Fin (cfgM m hO).N) (r : Fin 256) (l : Fin 1024) :
    iblk m hO c 2 t (ix4 (0 : Fin 1) (0 : Fin 1) r l) = m ((c : Thread nD τ).loc main_arg3) (ix4 (0 : Fin 1) (0 : Fin 1) r l) := by
  have h := idx2 m hO t
  have e : iblk m hO c 2 t (ix4 (0 : Fin 1) (0 : Fin 1) r l) = V m c main_arg3 (ix4 (0 : Fin 1) (0 : Fin 1) r l) := by
    blk_ext [iblk, h]
  rw [e, V_main_arg3]
theorem blk3 (t : Fin (cfgM m hO).N) (r : Fin 256) (l : Fin 1024) :
    iblk m hO c 3 t (ix4 (0 : Fin 1) (0 : Fin 1) r l) = m ((c : Thread nD τ).loc main_arg4) (ix4 (0 : Fin 1) (0 : Fin 1) r l) := by
  have h := idx3 m hO t
  have e : iblk m hO c 3 t (ix4 (0 : Fin 1) (0 : Fin 1) r l) = V m c main_arg4 (ix4 (0 : Fin 1) (0 : Fin 1) r l) := by
    blk_ext [iblk, h]
  rw [e, V_main_arg4]

/-- The sum of the four chips' gradients, at a row and a column. -/
def g (j : Fin 4) (s : S1x4x256x1024.Idx → EReal) (a b d : S1x1x256x1024.Idx → EReal) (r : Fin 256) (l : Fin 1024) : EReal :=
  s (ix4 (0 : Fin 1) j r l) + a (ix4 (0 : Fin 1) (0 : Fin 1) r l) + b (ix4 (0 : Fin 1) (0 : Fin 1) r l) + d (ix4 (0 : Fin 1) (0 : Fin 1) r l)
/-- The array of these sums. -/
def G (j : Fin 4) (s : S1x4x256x1024.Idx → EReal) (a b d : S1x1x256x1024.Idx → EReal) (y : S1x256x1024.Idx) : EReal :=
  g j s a b d (y 1 : Fin 256) (y 2 : Fin 1024)

theorem pay (s a b d : Vec Ideal S1x1x256x1024 .bf16) (r : Fin 256) (l : Fin 1024) :
    k0_pay1 (F := Ideal) s a b d (ix3 (0 : Fin 1) r l) = s (ix4 (0 : Fin 1) (0 : Fin 1) r l) + a (ix4 (0 : Fin 1) (0 : Fin 1) r l)
      + b (ix4 (0 : Fin 1) (0 : Fin 1) r l) + d (ix4 (0 : Fin 1) (0 : Fin 1) r l) := by
  unfold k0_pay1
  pointwise

theorem out (i : grid0.Coords) (arg3 : Memref sig .tc .vmem S1x1x256x1024 .bf16) (h3 : arg3.IsWhole) (arg4 : Memref sig .tc .vmem S1x1x256x1024 .bf16) (h4 : arg4.IsWhole)
    (arg5 : Memref sig .tc .vmem S1x1x256x1024 .bf16) (h5 : arg5.IsWhole) (arg6 : Memref sig .tc .vmem S1x1x256x1024 .bf16) (h6 : arg6.IsWhole)
    (arg7 : Memref sig .tc .vmem S1x256x1024 .f32) (h7 : arg7.IsWhole) (s a b d : Vec Ideal S1x1x256x1024 .bf16) (xt : TbBuf0 (F := Ideal) c tbM0_0) :
    out0_A_4 c i arg3 h3 arg4 h4 arg5 h5 arg6 h6 arg7 h7 s a b d xt = k0_pay1 (F := Ideal) s a b d := by
  frame_open
  frame_out

/-- Every block of the result is written. -/
theorem cover : ((cfgM m hO).win 4).Covers :=
  (by decide +kernel : ((cfg0 (F := Bits) ⟨tab 0, tab_ok 0⟩).win 4).Covers)

/-- The call's result. -/
theorem arr (j : Fin 4) (hj : tbl m = tab j) : (dats m hO 0 c).arrAt 4 (cfgM m hO).N = G j (m ((c : Thread nD τ).loc main_arg1)) (m ((c : Thread nD τ).loc main_arg2)) (m ((c : Thread nD τ).loc main_arg3)) (m ((c : Thread nD τ).loc main_arg4)) := by
  refine (dats m hO 0 c).arrAt_eq_of_covers 4 _ (cover m hO) fun t hf y => ?_
  blk_simp
  rw [after0_4]
  have h := idx4 m hO t
  have e1 : ((((cfgM m hO).win 4).blk t).view.emb y (1 : Fin 3) : Fin 256) = (y (1 : Fin 3) : Fin 256) := Fin.ext (by simp [h])
  have e2 : ((((cfgM m hO).win 4).blk t).view.emb y (2 : Fin 3) : Fin 1024) = (y (2 : Fin 3) : Fin 1024) := Fin.ext (by simp [h])
  have e : (show S1x256x1024.Idx from y) = ix3 (0 : Fin 1) (y (1 : Fin 3) : Fin 256) (y (2 : Fin 3) : Fin 1024) :=
    (eq_ix3 (show S1x256x1024.Idx from y)).trans (congrArg (fun z : Fin 1 => ix3 z (y (1 : Fin 3) : Fin 256) (y (2 : Fin 3) : Fin 1024)) (Subsingleton.elim _ _))
  have k := congrArg₂ (fun p q : EReal => p + q) (congrArg₂ (fun p q : EReal => p + q) (congrArg₂ (fun p q : EReal => p + q) (blk0 m hO c j hj t (y (1 : Fin 3)) (y (2 : Fin 3))) (blk1 m hO c t (y (1 : Fin 3)) (y (2 : Fin 3))))
    (blk2 m hO c t (y (1 : Fin 3)) (y (2 : Fin 3)))) (blk3 m hO c t (y (1 : Fin 3)) (y (2 : Fin 3)))
  refine (congrArg (outsAt0 m hO c t) e).trans (Eq.trans (congrFun (out ..) _) ((pay _ _ _ _ (y (1 : Fin 3)) (y (2 : Fin 3))).trans (k.trans ?_)))
  exact congrArg₂ (g j (m ((c : Thread nD τ).loc main_arg1)) (m ((c : Thread nD τ).loc main_arg2)) (m ((c : Thread nD τ).loc main_arg3)) (m ((c : Thread nD τ).loc main_arg4))) e1.symm e2.symm

/-- The kernel terminates, keeps its arguments and leaves every semaphore at zero. -/
theorem frame_p : Cert.quiescent_Kernel25 := fun m ρ h => Cert.Kernel25.Gen.frame m ρ (okB m h)
/-- The same of the idealized kernel. -/
theorem frame_pi : Cert.quiescent_Kernel25Ideal := fun m ρ h => Cert.Kernel25Ideal.Gen.frame m ρ (ok_of_pre m h)
/-- The same of the idealized reference. -/
theorem frame_ri : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)
/-- The same under the precondition. -/
theorem frame_ri_pre : Cert.quiescent_Reference25Ideal_pre_on_chip25 := fun m ρ _ => frame_ri m ρ trivial

/-- From arguments that agree, the kernel and the reference end with the same result. -/
theorem algebraic : Cert.algebraic_Kernel25Ideal_Reference25Ideal := by
  intro m ρ m' ρ' hp hag
  obtain ⟨j, hj⟩ := tbl_of_pre m hp
  have hO := ok_of_pre m hp
  refine ⟨fun c => G j (m ((c.tc : Thread nD τ).loc main_arg1)) (m ((c.tc : Thread nD τ).loc main_arg2)) (m ((c.tc : Thread nD τ).loc main_arg3)) (m ((c.tc : Thread nD τ).loc main_arg4)),
    (θ_run _ _ _).mono (fun r h c => ⟨((h.2 c).1 4).trans (arr m hO c j hj), h.1 c⟩) (θ_run_and (unchanged m ρ hO) (run_main m ρ hO)),
    (θ_run _ _ _).mono (fun r h c => ?_) (Cert.Reference25Ideal.Value.run (F := Ideal) m' ρ')⟩
  obtain ⟨h0, hk⟩ := h c
  obtain ⟨a0, a1, a2, a3, a4⟩ := hag c
  refine ⟨h0.trans ?_, hk⟩
  rw [a0, a1, a2, a3, a4]
  obtain rfl : c = 0 := Subsingleton.elim _ _
  have hw : ∀ x, m ((0 : Dev nD).tc.loc main_arg0) x = BitVec.ofNat 32 j.val := fun x => congrFun (congrFun hj 0) x
  clear h0 hk a0 a1 a2 a3 a4 hag h
  funext y
  rw [eq_ix3 y]
  clean_types
  unfold G g
  pointwise
  rw [hw, Finset.sum_congr rfl fun x _ => Cert.Word.sel _ _ _, Cert.Word.pick (by decide) j rfl]

end Cert.SumChips
-- ==== Proof.lean ====
module

public import proofs.«01_k».proof.Defs
public import proofs.«01_k».proof.Proof.Sgu.Claims
public import proofs.«01_k».proof.Proof.Mm.DGateUp
public import proofs.«01_k».proof.Proof.Mm.DHidden
public import proofs.«01_k».proof.Proof.Mm.GradGateUp
public import proofs.«01_k».proof.Proof.Mm.GradDown
public import proofs.«01_k».proof.Proof.Mm.DBranches
public import proofs.«01_k».proof.Proof.Mm.GradOut
public import proofs.«01_k».proof.Proof.Mm.DBranch
public import proofs.«01_k».proof.Proof.Mm.GradBranch
public import proofs.«01_k».proof.Proof.Mm.DIn
public import proofs.«01_k».proof.Proof.Mm.GradIn
public import proofs.«01_k».proof.Proof.Mm.NormBwd
public import proofs.«01_k».proof.Proof.Mm.GateUp
public import proofs.«01_k».proof.Proof.Mm.InProj
public import proofs.«01_k».proof.Proof.Mm.OutProj
public import proofs.«01_k».proof.Proof.Mm.Branches
public import proofs.«01_k».proof.Proof.Mm.DownProj
public import proofs.«01_k».proof.Proof.Mm.SguFwd
public import proofs.«01_k».proof.Proof.Mm.NormFwd
public import proofs.«01_k».proof.Proof.Mm.Loss
public import proofs.«01_k».proof.Proof.Mm.SmallAdam
public import proofs.«01_k».proof.Proof.Mm.AdamDown
public import proofs.«01_k».proof.Proof.Mm.SumSibling
public import proofs.«01_k».proof.Proof.Mm.SumChips
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel24
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal.Frame

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts,
    Cert.Reference10Ideal.Gen.facts, Cert.Kernel11.Gen.facts, Cert.Kernel11Ideal.Gen.facts,
    Cert.Reference11Ideal.Gen.facts, Cert.Kernel12.Gen.facts, Cert.Kernel12Ideal.Gen.facts,
    Cert.Reference12Ideal.Gen.facts, Cert.Kernel13.Gen.facts, Cert.Kernel13Ideal.Gen.facts,
    Cert.Reference13Ideal.Gen.facts, Cert.Kernel14.Gen.facts, Cert.Kernel14Ideal.Gen.facts,
    Cert.Reference14Ideal.Gen.facts, Cert.Kernel15.Gen.facts, Cert.Kernel15Ideal.Gen.facts,
    Cert.Reference15Ideal.Gen.facts, Cert.Kernel16.Gen.facts, Cert.Kernel16Ideal.Gen.facts,
    Cert.Reference16Ideal.Gen.facts, Cert.Kernel17.Gen.facts, Cert.Kernel17Ideal.Gen.facts,
    Cert.Reference17Ideal.Gen.facts, Cert.Kernel18.Gen.facts, Cert.Kernel18Ideal.Gen.facts,
    Cert.Reference18Ideal.Gen.facts, Cert.Kernel19.Gen.facts, Cert.Kernel19Ideal.Gen.facts,
    Cert.Reference19Ideal.Gen.facts, Cert.Kernel20.Gen.facts, Cert.Kernel20Ideal.Gen.facts,
    Cert.Reference20Ideal.Gen.facts, Cert.Kernel21.Gen.facts, Cert.Kernel21Ideal.Gen.facts,
    Cert.Reference21Ideal.Gen.facts, Cert.Kernel26.Gen.facts, Cert.Kernel26Ideal.Gen.facts, Cert.Kernel25.Gen.facts,
    Cert.Kernel25Ideal.Gen.facts, Cert.Reference25Ideal.Gen.facts, Cert.Kernel24.Gen.facts,
    Cert.Kernel24Ideal.Gen.facts, Cert.Reference24Ideal.Gen.facts, Cert.Kernel22.Gen.facts,
    Cert.Kernel22Ideal.Gen.facts, Cert.Reference22Ideal.Gen.facts, Cert.Sgu.preFacts, Cert.DGateUp.preFacts,
    Cert.NormBwd.preFacts, Cert.SumChips.preFacts, Cert.SumSibling.preFacts, Cert.AdamDown.preFacts,
    Cert.Sgu.frame_p, Cert.Sgu.frame_pi, Cert.Sgu.frame_pi_pre, Cert.Sgu.frame_ri, Cert.Sgu.frame_ri_pre,
    Cert.DGateUp.frame_p, Cert.DGateUp.frame_pi, Cert.DGateUp.frame_pi_pre, Cert.DGateUp.frame_ri,
    Cert.DGateUp.frame_ri_pre, Cert.DHidden.frame_p, Cert.DHidden.frame_pi, Cert.DHidden.frame_ri,
    Cert.GradGateUp.frame_p, Cert.GradGateUp.frame_pi, Cert.GradGateUp.frame_ri, Cert.GradDown.frame_p,
    Cert.GradDown.frame_pi, Cert.GradDown.frame_ri, Cert.DBranches.frame_p, Cert.DBranches.frame_pi,
    Cert.DBranches.frame_ri, Cert.GradOut.frame_p, Cert.GradOut.frame_pi, Cert.GradOut.frame_ri,
    Cert.DBranch.frame_p, Cert.DBranch.frame_pi, Cert.DBranch.frame_ri, Cert.GradBranch.frame_p,
    Cert.GradBranch.frame_pi, Cert.GradBranch.frame_ri, Cert.DIn.frame_p, Cert.DIn.frame_pi, Cert.DIn.frame_ri,
    Cert.GradIn.frame_p, Cert.GradIn.frame_pi, Cert.GradIn.frame_ri, Cert.NormBwd.frame_p, Cert.NormBwd.frame_pi,
    Cert.NormBwd.frame_pi_pre, Cert.NormBwd.frame_ri, Cert.NormBwd.frame_ri_pre, Cert.GateUp.frame_p,
    Cert.GateUp.frame_pi, Cert.GateUp.frame_ri, Cert.InProj.frame_p, Cert.InProj.frame_pi, Cert.InProj.frame_ri,
    Cert.OutProj.frame_p, Cert.OutProj.frame_pi, Cert.OutProj.frame_ri, Cert.Branches.frame_p,
    Cert.Branches.frame_pi, Cert.Branches.frame_ri, Cert.DownProj.frame_p, Cert.DownProj.frame_pi,
    Cert.DownProj.frame_ri, Cert.SguFwd.frame_p, Cert.SguFwd.frame_pi, Cert.SguFwd.frame_ri, Cert.NormFwd.frame_p,
    Cert.NormFwd.frame_pi, Cert.NormFwd.frame_ri, Cert.Loss.frame_p, Cert.Loss.frame_pi, Cert.Loss.frame_ri,
    Cert.SmallAdam.frame_p, Cert.SmallAdam.frame_pi, Cert.SmallAdam.frame_ri,
    fun m ρ _ => Cert.Kernel26.Gen.frame m ρ, fun m ρ _ => Cert.Kernel26Ideal.Gen.frame m ρ, Cert.SumChips.frame_p,
    Cert.SumChips.frame_pi, Cert.SumChips.frame_ri, Cert.SumChips.frame_ri_pre, Cert.SumSibling.frame_p,
    Cert.SumSibling.frame_pi, Cert.SumSibling.frame_ri, Cert.SumSibling.frame_ri_pre, Cert.AdamDown.frame_p,
    Cert.AdamDown.frame_pi, Cert.AdamDown.frame_ri, Cert.AdamDown.frame_ri_pre, Cert.Sgu.preserves,
    Cert.Sgu.algebraic, trivial, Cert.DGateUp.algebraic, trivial, Cert.DHidden.algebraic, trivial,
    Cert.GradGateUp.algebraic, trivial, Cert.GradDown.algebraic, trivial, Cert.DBranches.algebraic, trivial,
    Cert.GradOut.algebraic, trivial, Cert.DBranch.algebraic, trivial, Cert.GradBranch.algebraic, trivial,
    Cert.DIn.algebraic, trivial, Cert.GradIn.algebraic, trivial, Cert.NormBwd.algebraic, trivial,
    Cert.GateUp.algebraic, trivial, Cert.InProj.algebraic, trivial, Cert.OutProj.algebraic, trivial,
    Cert.Branches.algebraic, trivial, Cert.DownProj.algebraic, trivial, Cert.SguFwd.algebraic, trivial,
    Cert.NormFwd.algebraic, trivial, Cert.Loss.algebraic, trivial, Cert.SmallAdam.algebraic, trivial, trivial,
    Cert.SumChips.algebraic, trivial, Cert.SumSibling.algebraic, trivial, Cert.AdamDown.algebraic⟩

end Cert.Proof

end
